-- ==== Defs.lean ====
def Pre_Kernel [hPre_table : Cert.Pre_table.Facts] (m : (ℓ : Loc Cert.Kernel.nD Cert.Kernel.τ Cert.Kernel.sig) → Buf (Elt Bits) ℓ) : Prop :=
  ∀ c : Dev Cert.Kernel.nD,
    (Cert.Pre_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_table : Cert.Pre_table.Facts] (m : (ℓ : Loc Cert.KernelIdeal.nD Cert.KernelIdeal.τ Cert.KernelIdeal.sig) → Buf (Elt Ideal) ℓ) : Prop :=
  ∀ c : Dev Cert.KernelIdeal.nD,
    (Cert.Pre_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_within [hPre_within : Cert.Pre_within.Facts] (m : (ℓ : Loc Cert.KernelIdeal.nD Cert.KernelIdeal.τ Cert.KernelIdeal.sig) → Buf (Elt Ideal) ℓ) : Prop :=
  ∀ c : Dev Cert.KernelIdeal.nD,
    (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within [hPre_within : Cert.Pre_within.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelAdamNorm (m : (ℓ : Loc Cert.KernelAdamNorm.nD Cert.KernelAdamNorm.τ Cert.KernelAdamNorm.sig) → Buf (Elt Bits) ℓ) : Prop :=
  True

def Pre_KernelAdamNormIdeal (m : (ℓ : Loc Cert.KernelAdamNormIdeal.nD Cert.KernelAdamNormIdeal.τ Cert.KernelAdamNormIdeal.sig) → Buf (Elt Ideal) ℓ) : Prop :=
  True

def Pre_ReferenceAdamNormIdeal (m : (ℓ : Loc Cert.ReferenceAdamNormIdeal.nD Cert.ReferenceAdamNormIdeal.τ Cert.ReferenceAdamNormIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamAttnNorm (m : (ℓ : Loc Cert.KernelAdamAttnNorm.nD Cert.KernelAdamAttnNorm.τ Cert.KernelAdamAttnNorm.sig) → Buf (Elt Bits) ℓ) : Prop :=
  True

def Pre_KernelAdamAttnNormIdeal (m : (ℓ : Loc Cert.KernelAdamAttnNormIdeal.nD Cert.KernelAdamAttnNormIdeal.τ Cert.KernelAdamAttnNormIdeal.sig) → Buf (Elt Ideal) ℓ) : Prop :=
  True

def Pre_ReferenceAdamAttnNormIdeal (m : (ℓ : Loc Cert.ReferenceAdamAttnNormIdeal.nD Cert.ReferenceAdamAttnNormIdeal.τ Cert.ReferenceAdamAttnNormIdeal.sig) → Buf (Elt Ideal) ℓ) : Prop :=
  True

def Pre_KernelAdamForget (m : (ℓ : Loc Cert.KernelAdamForget.nD Cert.KernelAdamForget.τ Cert.KernelAdamForget.sig) → Buf (Elt Bits) ℓ) : Prop :=
  True

def Pre_KernelAdamForgetIdeal (m : (ℓ : Loc Cert.KernelAdamForgetIdeal.nD Cert.KernelAdamForgetIdeal.τ Cert.KernelAdamForgetIdeal.sig) → Buf (Elt Ideal) ℓ) : Prop :=
  True

def Pre_ReferenceAdamForgetIdeal (m : (ℓ : Loc Cert.ReferenceAdamForgetIdeal.nD Cert.ReferenceAdamForgetIdeal.τ Cert.ReferenceAdamForgetIdeal.sig) → Buf (Elt Ideal) ℓ) : Prop :=
  True

def Pre_KernelAdamHead (m : (ℓ : Loc Cert.KernelAdamHead.nD Cert.KernelAdamHead.τ Cert.KernelAdamHead.sig) → Buf (Elt Bits) ℓ) : Prop :=
  True

def Pre_KernelAdamHeadIdeal (m : (ℓ : Loc Cert.KernelAdamHeadIdeal.nD Cert.KernelAdamHeadIdeal.τ Cert.KernelAdamHeadIdeal.sig) → Buf (Elt Ideal) ℓ) : Prop :=
  True

def Pre_ReferenceAdamHeadIdeal (m : (ℓ : Loc Cert.ReferenceAdamHeadIdeal.nD Cert.ReferenceAdamHeadIdeal.τ Cert.ReferenceAdamHeadIdeal.sig) → Buf (Elt Ideal) ℓ) : Prop :=
  True

def Pre_KernelHalfIn (m : (ℓ : Loc Cert.KernelHalfIn.nD Cert.KernelHalfIn.τ Cert.KernelHalfIn.sig) → Buf (Elt Bits) ℓ) : Prop :=
  True

def Pre_KernelHalfInIdeal (m : (ℓ : Loc Cert.KernelHalfInIdeal.nD Cert.KernelHalfInIdeal.τ Cert.KernelHalfInIdeal.sig) → Buf (Elt Ideal) ℓ) : Prop :=
  True

def Pre_ReferenceHalfInIdeal (m : (ℓ : Loc Cert.ReferenceHalfInIdeal.nD Cert.ReferenceHalfInIdeal.τ Cert.ReferenceHalfInIdeal.sig) → Buf (Elt Ideal) ℓ) : Prop :=
  True

def Pre_KernelHalfAttn (m : (ℓ : Loc Cert.KernelHalfAttn.nD Cert.KernelHalfAttn.τ Cert.KernelHalfAttn.sig) → Buf (Elt Bits) ℓ) : Prop :=
  True

def Pre_KernelHalfAttnIdeal (m : (ℓ : Loc Cert.KernelHalfAttnIdeal.nD Cert.KernelHalfAttnIdeal.τ Cert.KernelHalfAttnIdeal.sig) → Buf (Elt Ideal) ℓ) : Prop :=
  True

def Pre_ReferenceHalfAttnIdeal (m : (ℓ : Loc Cert.ReferenceHalfAttnIdeal.nD Cert.ReferenceHalfAttnIdeal.τ Cert.ReferenceHalfAttnIdeal.sig) → Buf (Elt Ideal) ℓ) : Prop :=
  True

def Pre_KernelHalfOut (m : (ℓ : Loc Cert.KernelHalfOut.nD Cert.KernelHalfOut.τ Cert.KernelHalfOut.sig) → Buf (Elt Bits) ℓ) : Prop :=
  True

def Pre_KernelHalfOutIdeal (m : (ℓ : Loc Cert.KernelHalfOutIdeal.nD Cert.KernelHalfOutIdeal.τ Cert.KernelHalfOutIdeal.sig) → Buf (Elt Ideal) ℓ) : Prop :=
  True

def Pre_ReferenceHalfOutIdeal (m : (ℓ : Loc Cert.ReferenceHalfOutIdeal.nD Cert.ReferenceHalfOutIdeal.τ Cert.ReferenceHalfOutIdeal.sig) → Buf (Elt Ideal) ℓ) : Prop :=
  True

def quiescent_Kernel [hKernel : Cert.Kernel.Facts] [hPre_table : Cert.Pre_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_table : Cert.Pre_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_within [hKernelIdeal : Cert.KernelIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_within [hReferenceIdeal : Cert.ReferenceIdeal.Facts] [hPre_within : Cert.Pre_within.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1))
      ∧ r.2.sem = fun _ => 0)

def quiescent_KernelAdamNorm [hKernelAdamNorm : Cert.KernelAdamNorm.Facts] : Prop :=
  ∀ (m : (ℓ : Loc Cert.KernelAdamNorm.nD Cert.KernelAdamNorm.τ Cert.KernelAdamNorm.sig) → Buf (Elt Bits) ℓ) (g : Dev Cert.KernelAdamNorm.nD → PrngReg), Pre_KernelAdamNorm m →
    θ_run (Cert.KernelAdamNorm.defs (F := Bits)) (onTc (τ := Cert.KernelAdamNorm.τ) (Cert.KernelAdamNorm.main (F := Bits))) ⟨m, fun _ => 0, g⟩ (fun r => (∀ c : Dev Cert.KernelAdamNorm.nD,
      r.2.mem ((c.tc : Thread Cert.KernelAdamNorm.nD Cert.KernelAdamNorm.τ).loc Cert.KernelAdamNorm.main_arg0) = m ((c.tc : Thread Cert.KernelAdamNorm.nD Cert.KernelAdamNorm.τ).loc Cert.KernelAdamNorm.main_arg0)
      ∧ r.2.mem ((c.tc : Thread Cert.KernelAdamNorm.nD Cert.KernelAdamNorm.τ).loc Cert.KernelAdamNorm.main_arg1) = m ((c.tc : Thread Cert.KernelAdamNorm.nD Cert.KernelAdamNorm.τ).loc Cert.KernelAdamNorm.main_arg1)
      ∧ r.2.mem ((c.tc : Thread Cert.KernelAdamNorm.nD Cert.KernelAdamNorm.τ).loc Cert.KernelAdamNorm.main_arg2) = m ((c.tc : Thread Cert.KernelAdamNorm.nD Cert.KernelAdamNorm.τ).loc Cert.KernelAdamNorm.main_arg2)
      ∧ r.2.mem ((c.tc : Thread Cert.KernelAdamNorm.nD Cert.KernelAdamNorm.τ).loc Cert.KernelAdamNorm.main_arg3) = m ((c.tc : Thread Cert.KernelAdamNorm.nD Cert.KernelAdamNorm.τ).loc Cert.KernelAdamNorm.main_arg3))
      ∧ r.2.sem = fun _ => 0)

def quiescent_KernelAdamNormIdeal [hKernelAdamNormIdeal : Cert.KernelAdamNormIdeal.Facts] : Prop :=
  ∀ (m : (ℓ : Loc Cert.KernelAdamNormIdeal.nD Cert.KernelAdamNormIdeal.τ Cert.KernelAdamNormIdeal.sig) → Buf (Elt Ideal) ℓ) (g : Dev Cert.KernelAdamNormIdeal.nD → PrngReg), Pre_KernelAdamNormIdeal m →
    θ_run (Cert.KernelAdamNormIdeal.defs (F := Ideal)) (onTc (τ := Cert.KernelAdamNormIdeal.τ) (Cert.KernelAdamNormIdeal.main (F := Ideal))) ⟨m, fun _ => 0, g⟩ (fun r => (∀ c : Dev Cert.KernelAdamNormIdeal.nD,
      r.2.mem ((c.tc : Thread Cert.KernelAdamNormIdeal.nD Cert.KernelAdamNormIdeal.τ).loc Cert.KernelAdamNormIdeal.main_arg0) = m ((c.tc : Thread Cert.KernelAdamNormIdeal.nD Cert.KernelAdamNormIdeal.τ).loc Cert.KernelAdamNormIdeal.main_arg0)
      ∧ r.2.mem ((c.tc : Thread Cert.KernelAdamNormIdeal.nD Cert.KernelAdamNormIdeal.τ).loc Cert.KernelAdamNormIdeal.main_arg1) = m ((c.tc : Thread Cert.KernelAdamNormIdeal.nD Cert.KernelAdamNormIdeal.τ).loc Cert.KernelAdamNormIdeal.main_arg1)
      ∧ r.2.mem ((c.tc : Thread Cert.KernelAdamNormIdeal.nD Cert.KernelAdamNormIdeal.τ).loc Cert.KernelAdamNormIdeal.main_arg2) = m ((c.tc : Thread Cert.KernelAdamNormIdeal.nD Cert.KernelAdamNormIdeal.τ).loc Cert.KernelAdamNormIdeal.main_arg2)
      ∧ r.2.mem ((c.tc : Thread Cert.KernelAdamNormIdeal.nD Cert.KernelAdamNormIdeal.τ).loc Cert.KernelAdamNormIdeal.main_arg3) = m ((c.tc : Thread Cert.KernelAdamNormIdeal.nD Cert.KernelAdamNormIdeal.τ).loc Cert.KernelAdamNormIdeal.main_arg3))
      ∧ r.2.sem = fun _ => 0)

def quiescent_ReferenceAdamNormIdeal [hReferenceAdamNormIdeal : Cert.ReferenceAdamNormIdeal.Facts] : Prop :=
  ∀ (m : (ℓ : Loc Cert.ReferenceAdamNormIdeal.nD Cert.ReferenceAdamNormIdeal.τ Cert.ReferenceAdamNormIdeal.sig) → Buf (Elt Ideal) ℓ) (g : Dev Cert.ReferenceAdamNormIdeal.nD → PrngReg), Pre_ReferenceAdamNormIdeal m →
    θ_run (Cert.ReferenceAdamNormIdeal.defs (F := Ideal)) (onTc (τ := Cert.ReferenceAdamNormIdeal.τ) (Cert.ReferenceAdamNormIdeal.main (F := Ideal))) ⟨m, fun _ => 0, g⟩ (fun r => (∀ c : Dev Cert.ReferenceAdamNormIdeal.nD,
      r.2.mem ((c.tc : Thread Cert.ReferenceAdamNormIdeal.nD Cert.ReferenceAdamNormIdeal.τ).loc Cert.ReferenceAdamNormIdeal.main_arg0) = m ((c.tc : Thread Cert.ReferenceAdamNormIdeal.nD Cert.ReferenceAdamNormIdeal.τ).loc Cert.ReferenceAdamNormIdeal.main_arg0)
      ∧ r.2.mem ((c.tc : Thread Cert.ReferenceAdamNormIdeal.nD Cert.ReferenceAdamNormIdeal.τ).loc Cert.ReferenceAdamNormIdeal.main_arg1) = m ((c.tc : Thread Cert.ReferenceAdamNormIdeal.nD Cert.ReferenceAdamNormIdeal.τ).loc Cert.ReferenceAdamNormIdeal.main_arg1)
      ∧ r.2.mem ((c.tc : Thread Cert.ReferenceAdamNormIdeal.nD Cert.ReferenceAdamNormIdeal.τ).loc Cert.ReferenceAdamNormIdeal.main_arg2) = m ((c.tc : Thread Cert.ReferenceAdamNormIdeal.nD Cert.ReferenceAdamNormIdeal.τ).loc Cert.ReferenceAdamNormIdeal.main_arg2)
      ∧ r.2.mem ((c.tc : Thread Cert.ReferenceAdamNormIdeal.nD Cert.ReferenceAdamNormIdeal.τ).loc Cert.ReferenceAdamNormIdeal.main_arg3) = m ((c.tc : Thread Cert.ReferenceAdamNormIdeal.nD Cert.ReferenceAdamNormIdeal.τ).loc Cert.ReferenceAdamNormIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamAttnNorm [hKernelAdamAttnNorm : Cert.KernelAdamAttnNorm.Facts] : Prop :=
  ∀ (m : (ℓ : Loc Cert.KernelAdamAttnNorm.nD Cert.KernelAdamAttnNorm.τ Cert.KernelAdamAttnNorm.sig) → Buf (Elt Bits) ℓ) (g : Dev Cert.KernelAdamAttnNorm.nD → PrngReg), Pre_KernelAdamAttnNorm m →
    θ_run (Cert.KernelAdamAttnNorm.defs (F := Bits)) (onTc (τ := Cert.KernelAdamAttnNorm.τ) (Cert.KernelAdamAttnNorm.main (F := Bits))) ⟨m, fun _ => 0, g⟩ (fun r => (∀ c : Dev Cert.KernelAdamAttnNorm.nD,
      r.2.mem ((c.tc : Thread Cert.KernelAdamAttnNorm.nD Cert.KernelAdamAttnNorm.τ).loc Cert.KernelAdamAttnNorm.main_arg0) = m ((c.tc : Thread Cert.KernelAdamAttnNorm.nD Cert.KernelAdamAttnNorm.τ).loc Cert.KernelAdamAttnNorm.main_arg0)
      ∧ r.2.mem ((c.tc : Thread Cert.KernelAdamAttnNorm.nD Cert.KernelAdamAttnNorm.τ).loc Cert.KernelAdamAttnNorm.main_arg1) = m ((c.tc : Thread Cert.KernelAdamAttnNorm.nD Cert.KernelAdamAttnNorm.τ).loc Cert.KernelAdamAttnNorm.main_arg1)
      ∧ r.2.mem ((c.tc : Thread Cert.KernelAdamAttnNorm.nD Cert.KernelAdamAttnNorm.τ).loc Cert.KernelAdamAttnNorm.main_arg2) = m ((c.tc : Thread Cert.KernelAdamAttnNorm.nD Cert.KernelAdamAttnNorm.τ).loc Cert.KernelAdamAttnNorm.main_arg2)
      ∧ r.2.mem ((c.tc : Thread Cert.KernelAdamAttnNorm.nD Cert.KernelAdamAttnNorm.τ).loc Cert.KernelAdamAttnNorm.main_arg3) = m ((c.tc : Thread Cert.KernelAdamAttnNorm.nD Cert.KernelAdamAttnNorm.τ).loc Cert.KernelAdamAttnNorm.main_arg3))
      ∧ r.2.sem = fun _ => 0)

def quiescent_KernelAdamAttnNormIdeal [hKernelAdamAttnNormIdeal : Cert.KernelAdamAttnNormIdeal.Facts] : Prop :=
  ∀ (m : (ℓ : Loc Cert.KernelAdamAttnNormIdeal.nD Cert.KernelAdamAttnNormIdeal.τ Cert.KernelAdamAttnNormIdeal.sig) → Buf (Elt Ideal) ℓ) (g : Dev Cert.KernelAdamAttnNormIdeal.nD → PrngReg), Pre_KernelAdamAttnNormIdeal m →
    θ_run (Cert.KernelAdamAttnNormIdeal.defs (F := Ideal)) (onTc (τ := Cert.KernelAdamAttnNormIdeal.τ) (Cert.KernelAdamAttnNormIdeal.main (F := Ideal))) ⟨m, fun _ => 0, g⟩ (fun r => (∀ c : Dev Cert.KernelAdamAttnNormIdeal.nD,
      r.2.mem ((c.tc : Thread Cert.KernelAdamAttnNormIdeal.nD Cert.KernelAdamAttnNormIdeal.τ).loc Cert.KernelAdamAttnNormIdeal.main_arg0) = m ((c.tc : Thread Cert.KernelAdamAttnNormIdeal.nD Cert.KernelAdamAttnNormIdeal.τ).loc Cert.KernelAdamAttnNormIdeal.main_arg0)
      ∧ r.2.mem ((c.tc : Thread Cert.KernelAdamAttnNormIdeal.nD Cert.KernelAdamAttnNormIdeal.τ).loc Cert.KernelAdamAttnNormIdeal.main_arg1) = m ((c.tc : Thread Cert.KernelAdamAttnNormIdeal.nD Cert.KernelAdamAttnNormIdeal.τ).loc Cert.KernelAdamAttnNormIdeal.main_arg1)
      ∧ r.2.mem ((c.tc : Thread Cert.KernelAdamAttnNormIdeal.nD Cert.KernelAdamAttnNormIdeal.τ).loc Cert.KernelAdamAttnNormIdeal.main_arg2) = m ((c.tc : Thread Cert.KernelAdamAttnNormIdeal.nD Cert.KernelAdamAttnNormIdeal.τ).loc Cert.KernelAdamAttnNormIdeal.main_arg2)
      ∧ r.2.mem ((c.tc : Thread Cert.KernelAdamAttnNormIdeal.nD Cert.KernelAdamAttnNormIdeal.τ).loc Cert.KernelAdamAttnNormIdeal.main_arg3) = m ((c.tc : Thread Cert.KernelAdamAttnNormIdeal.nD Cert.KernelAdamAttnNormIdeal.τ).loc Cert.KernelAdamAttnNormIdeal.main_arg3))
      ∧ r.2.sem = fun _ => 0)

def quiescent_ReferenceAdamAttnNormIdeal [hReferenceAdamAttnNormIdeal : Cert.ReferenceAdamAttnNormIdeal.Facts] : Prop :=
  ∀ (m : (ℓ : Loc Cert.ReferenceAdamAttnNormIdeal.nD Cert.ReferenceAdamAttnNormIdeal.τ Cert.ReferenceAdamAttnNormIdeal.sig) → Buf (Elt Ideal) ℓ) (g : Dev Cert.ReferenceAdamAttnNormIdeal.nD → PrngReg), Pre_ReferenceAdamAttnNormIdeal m →
    θ_run (Cert.ReferenceAdamAttnNormIdeal.defs (F := Ideal)) (onTc (τ := Cert.ReferenceAdamAttnNormIdeal.τ) (Cert.ReferenceAdamAttnNormIdeal.main (F := Ideal))) ⟨m, fun _ => 0, g⟩ (fun r => (∀ c : Dev Cert.ReferenceAdamAttnNormIdeal.nD,
      r.2.mem ((c.tc : Thread Cert.ReferenceAdamAttnNormIdeal.nD Cert.ReferenceAdamAttnNormIdeal.τ).loc Cert.ReferenceAdamAttnNormIdeal.main_arg0) = m ((c.tc : Thread Cert.ReferenceAdamAttnNormIdeal.nD Cert.ReferenceAdamAttnNormIdeal.τ).loc Cert.ReferenceAdamAttnNormIdeal.main_arg0)
      ∧ r.2.mem ((c.tc : Thread Cert.ReferenceAdamAttnNormIdeal.nD Cert.ReferenceAdamAttnNormIdeal.τ).loc Cert.ReferenceAdamAttnNormIdeal.main_arg1) = m ((c.tc : Thread Cert.ReferenceAdamAttnNormIdeal.nD Cert.ReferenceAdamAttnNormIdeal.τ).loc Cert.ReferenceAdamAttnNormIdeal.main_arg1)
      ∧ r.2.mem ((c.tc : Thread Cert.ReferenceAdamAttnNormIdeal.nD Cert.ReferenceAdamAttnNormIdeal.τ).loc Cert.ReferenceAdamAttnNormIdeal.main_arg2) = m ((c.tc : Thread Cert.ReferenceAdamAttnNormIdeal.nD Cert.ReferenceAdamAttnNormIdeal.τ).loc Cert.ReferenceAdamAttnNormIdeal.main_arg2)
      ∧ r.2.mem ((c.tc : Thread Cert.ReferenceAdamAttnNormIdeal.nD Cert.ReferenceAdamAttnNormIdeal.τ).loc Cert.ReferenceAdamAttnNormIdeal.main_arg3) = m ((c.tc : Thread Cert.ReferenceAdamAttnNormIdeal.nD Cert.ReferenceAdamAttnNormIdeal.τ).loc Cert.ReferenceAdamAttnNormIdeal.main_arg3))
      ∧ r.2.sem = fun _ => 0)

def quiescent_KernelAdamForget [hKernelAdamForget : Cert.KernelAdamForget.Facts] : Prop :=
  ∀ (m : (ℓ : Loc Cert.KernelAdamForget.nD Cert.KernelAdamForget.τ Cert.KernelAdamForget.sig) → Buf (Elt Bits) ℓ) (g : Dev Cert.KernelAdamForget.nD → PrngReg), Pre_KernelAdamForget m →
    θ_run (Cert.KernelAdamForget.defs (F := Bits)) (onTc (τ := Cert.KernelAdamForget.τ) (Cert.KernelAdamForget.main (F := Bits))) ⟨m, fun _ => 0, g⟩ (fun r => (∀ c : Dev Cert.KernelAdamForget.nD,
      r.2.mem ((c.tc : Thread Cert.KernelAdamForget.nD Cert.KernelAdamForget.τ).loc Cert.KernelAdamForget.main_arg0) = m ((c.tc : Thread Cert.KernelAdamForget.nD Cert.KernelAdamForget.τ).loc Cert.KernelAdamForget.main_arg0)
      ∧ r.2.mem ((c.tc : Thread Cert.KernelAdamForget.nD Cert.KernelAdamForget.τ).loc Cert.KernelAdamForget.main_arg1) = m ((c.tc : Thread Cert.KernelAdamForget.nD Cert.KernelAdamForget.τ).loc Cert.KernelAdamForget.main_arg1)
      ∧ r.2.mem ((c.tc : Thread Cert.KernelAdamForget.nD Cert.KernelAdamForget.τ).loc Cert.KernelAdamForget.main_arg2) = m ((c.tc : Thread Cert.KernelAdamForget.nD Cert.KernelAdamForget.τ).loc Cert.KernelAdamForget.main_arg2)
      ∧ r.2.mem ((c.tc : Thread Cert.KernelAdamForget.nD Cert.KernelAdamForget.τ).loc Cert.KernelAdamForget.main_arg3) = m ((c.tc : Thread Cert.KernelAdamForget.nD Cert.KernelAdamForget.τ).loc Cert.KernelAdamForget.main_arg3))
      ∧ r.2.sem = fun _ => 0)

def quiescent_KernelAdamForgetIdeal [hKernelAdamForgetIdeal : Cert.KernelAdamForgetIdeal.Facts] : Prop :=
  ∀ (m : (ℓ : Loc Cert.KernelAdamForgetIdeal.nD Cert.KernelAdamForgetIdeal.τ Cert.KernelAdamForgetIdeal.sig) → Buf (Elt Ideal) ℓ) (g : Dev Cert.KernelAdamForgetIdeal.nD → PrngReg), Pre_KernelAdamForgetIdeal m →
    θ_run (Cert.KernelAdamForgetIdeal.defs (F := Ideal)) (onTc (τ := Cert.KernelAdamForgetIdeal.τ) (Cert.KernelAdamForgetIdeal.main (F := Ideal))) ⟨m, fun _ => 0, g⟩ (fun r => (∀ c : Dev Cert.KernelAdamForgetIdeal.nD,
      r.2.mem ((c.tc : Thread Cert.KernelAdamForgetIdeal.nD Cert.KernelAdamForgetIdeal.τ).loc Cert.KernelAdamForgetIdeal.main_arg0) = m ((c.tc : Thread Cert.KernelAdamForgetIdeal.nD Cert.KernelAdamForgetIdeal.τ).loc Cert.KernelAdamForgetIdeal.main_arg0)
      ∧ r.2.mem ((c.tc : Thread Cert.KernelAdamForgetIdeal.nD Cert.KernelAdamForgetIdeal.τ).loc Cert.KernelAdamForgetIdeal.main_arg1) = m ((c.tc : Thread Cert.KernelAdamForgetIdeal.nD Cert.KernelAdamForgetIdeal.τ).loc Cert.KernelAdamForgetIdeal.main_arg1)
      ∧ r.2.mem ((c.tc : Thread Cert.KernelAdamForgetIdeal.nD Cert.KernelAdamForgetIdeal.τ).loc Cert.KernelAdamForgetIdeal.main_arg2) = m ((c.tc : Thread Cert.KernelAdamForgetIdeal.nD Cert.KernelAdamForgetIdeal.τ).loc Cert.KernelAdamForgetIdeal.main_arg2)
      ∧ r.2.mem ((c.tc : Thread Cert.KernelAdamForgetIdeal.nD Cert.KernelAdamForgetIdeal.τ).loc Cert.KernelAdamForgetIdeal.main_arg3) = m ((c.tc : Thread Cert.KernelAdamForgetIdeal.nD Cert.KernelAdamForgetIdeal.τ).loc Cert.KernelAdamForgetIdeal.main_arg3))
      ∧ r.2.sem = fun _ => 0)

def quiescent_ReferenceAdamForgetIdeal [hReferenceAdamForgetIdeal : Cert.ReferenceAdamForgetIdeal.Facts] : Prop :=
  ∀ (m : (ℓ : Loc Cert.ReferenceAdamForgetIdeal.nD Cert.ReferenceAdamForgetIdeal.τ Cert.ReferenceAdamForgetIdeal.sig) → Buf (Elt Ideal) ℓ) (g : Dev Cert.ReferenceAdamForgetIdeal.nD → PrngReg), Pre_ReferenceAdamForgetIdeal m →
    θ_run (Cert.ReferenceAdamForgetIdeal.defs (F := Ideal)) (onTc (τ := Cert.ReferenceAdamForgetIdeal.τ) (Cert.ReferenceAdamForgetIdeal.main (F := Ideal))) ⟨m, fun _ => 0, g⟩ (fun r => (∀ c : Dev Cert.ReferenceAdamForgetIdeal.nD,
      r.2.mem ((c.tc : Thread Cert.ReferenceAdamForgetIdeal.nD Cert.ReferenceAdamForgetIdeal.τ).loc Cert.ReferenceAdamForgetIdeal.main_arg0) = m ((c.tc : Thread Cert.ReferenceAdamForgetIdeal.nD Cert.ReferenceAdamForgetIdeal.τ).loc Cert.ReferenceAdamForgetIdeal.main_arg0)
      ∧ r.2.mem ((c.tc : Thread Cert.ReferenceAdamForgetIdeal.nD Cert.ReferenceAdamForgetIdeal.τ).loc Cert.ReferenceAdamForgetIdeal.main_arg1) = m ((c.tc : Thread Cert.ReferenceAdamForgetIdeal.nD Cert.ReferenceAdamForgetIdeal.τ).loc Cert.ReferenceAdamForgetIdeal.main_arg1)
      ∧ r.2.mem ((c.tc : Thread Cert.ReferenceAdamForgetIdeal.nD Cert.ReferenceAdamForgetIdeal.τ).loc Cert.ReferenceAdamForgetIdeal.main_arg2) = m ((c.tc : Thread Cert.ReferenceAdamForgetIdeal.nD Cert.ReferenceAdamForgetIdeal.τ).loc Cert.ReferenceAdamForgetIdeal.main_arg2)
      ∧ r.2.mem ((c.tc : Thread Cert.ReferenceAdamForgetIdeal.nD Cert.ReferenceAdamForgetIdeal.τ).loc Cert.ReferenceAdamForgetIdeal.main_arg3) = m ((c.tc : Thread Cert.ReferenceAdamForgetIdeal.nD Cert.ReferenceAdamForgetIdeal.τ).loc Cert.ReferenceAdamForgetIdeal.main_arg3))
      ∧ r.2.sem = fun _ => 0)

def quiescent_KernelAdamHead [hKernelAdamHead : Cert.KernelAdamHead.Facts] : Prop :=
  ∀ (m : (ℓ : Loc Cert.KernelAdamHead.nD Cert.KernelAdamHead.τ Cert.KernelAdamHead.sig) → Buf (Elt Bits) ℓ) (g : Dev Cert.KernelAdamHead.nD → PrngReg), Pre_KernelAdamHead m →
    θ_run (Cert.KernelAdamHead.defs (F := Bits)) (onTc (τ := Cert.KernelAdamHead.τ) (Cert.KernelAdamHead.main (F := Bits))) ⟨m, fun _ => 0, g⟩ (fun r => (∀ c : Dev Cert.KernelAdamHead.nD,
      r.2.mem ((c.tc : Thread Cert.KernelAdamHead.nD Cert.KernelAdamHead.τ).loc Cert.KernelAdamHead.main_arg0) = m ((c.tc : Thread Cert.KernelAdamHead.nD Cert.KernelAdamHead.τ).loc Cert.KernelAdamHead.main_arg0)
      ∧ r.2.mem ((c.tc : Thread Cert.KernelAdamHead.nD Cert.KernelAdamHead.τ).loc Cert.KernelAdamHead.main_arg1) = m ((c.tc : Thread Cert.KernelAdamHead.nD Cert.KernelAdamHead.τ).loc Cert.KernelAdamHead.main_arg1)
      ∧ r.2.mem ((c.tc : Thread Cert.KernelAdamHead.nD Cert.KernelAdamHead.τ).loc Cert.KernelAdamHead.main_arg2) = m ((c.tc : Thread Cert.KernelAdamHead.nD Cert.KernelAdamHead.τ).loc Cert.KernelAdamHead.main_arg2)
      ∧ r.2.mem ((c.tc : Thread Cert.KernelAdamHead.nD Cert.KernelAdamHead.τ).loc Cert.KernelAdamHead.main_arg3) = m ((c.tc : Thread Cert.KernelAdamHead.nD Cert.KernelAdamHead.τ).loc Cert.KernelAdamHead.main_arg3))
      ∧ r.2.sem = fun _ => 0)

def quiescent_KernelAdamHeadIdeal [hKernelAdamHeadIdeal : Cert.KernelAdamHeadIdeal.Facts] : Prop :=
  ∀ (m : (ℓ : Loc Cert.KernelAdamHeadIdeal.nD Cert.KernelAdamHeadIdeal.τ Cert.KernelAdamHeadIdeal.sig) → Buf (Elt Ideal) ℓ) (g : Dev Cert.KernelAdamHeadIdeal.nD → PrngReg), Pre_KernelAdamHeadIdeal m →
    θ_run (Cert.KernelAdamHeadIdeal.defs (F := Ideal)) (onTc (τ := Cert.KernelAdamHeadIdeal.τ) (Cert.KernelAdamHeadIdeal.main (F := Ideal))) ⟨m, fun _ => 0, g⟩ (fun r => (∀ c : Dev Cert.KernelAdamHeadIdeal.nD,
      r.2.mem ((c.tc : Thread Cert.KernelAdamHeadIdeal.nD Cert.KernelAdamHeadIdeal.τ).loc Cert.KernelAdamHeadIdeal.main_arg0) = m ((c.tc : Thread Cert.KernelAdamHeadIdeal.nD Cert.KernelAdamHeadIdeal.τ).loc Cert.KernelAdamHeadIdeal.main_arg0)
      ∧ r.2.mem ((c.tc : Thread Cert.KernelAdamHeadIdeal.nD Cert.KernelAdamHeadIdeal.τ).loc Cert.KernelAdamHeadIdeal.main_arg1) = m ((c.tc : Thread Cert.KernelAdamHeadIdeal.nD Cert.KernelAdamHeadIdeal.τ).loc Cert.KernelAdamHeadIdeal.main_arg1)
      ∧ r.2.mem ((c.tc : Thread Cert.KernelAdamHeadIdeal.nD Cert.KernelAdamHeadIdeal.τ).loc Cert.KernelAdamHeadIdeal.main_arg2) = m ((c.tc : Thread Cert.KernelAdamHeadIdeal.nD Cert.KernelAdamHeadIdeal.τ).loc Cert.KernelAdamHeadIdeal.main_arg2)
      ∧ r.2.mem ((c.tc : Thread Cert.KernelAdamHeadIdeal.nD Cert.KernelAdamHeadIdeal.τ).loc Cert.KernelAdamHeadIdeal.main_arg3) = m ((c.tc : Thread Cert.KernelAdamHeadIdeal.nD Cert.KernelAdamHeadIdeal.τ).loc Cert.KernelAdamHeadIdeal.main_arg3))
      ∧ r.2.sem = fun _ => 0)

def quiescent_ReferenceAdamHeadIdeal [hReferenceAdamHeadIdeal : Cert.ReferenceAdamHeadIdeal.Facts] : Prop :=
  ∀ (m : (ℓ : Loc Cert.ReferenceAdamHeadIdeal.nD Cert.ReferenceAdamHeadIdeal.τ Cert.ReferenceAdamHeadIdeal.sig) → Buf (Elt Ideal) ℓ) (g : Dev Cert.ReferenceAdamHeadIdeal.nD → PrngReg), Pre_ReferenceAdamHeadIdeal m →
    θ_run (Cert.ReferenceAdamHeadIdeal.defs (F := Ideal)) (onTc (τ := Cert.ReferenceAdamHeadIdeal.τ) (Cert.ReferenceAdamHeadIdeal.main (F := Ideal))) ⟨m, fun _ => 0, g⟩ (fun r => (∀ c : Dev Cert.ReferenceAdamHeadIdeal.nD,
      r.2.mem ((c.tc : Thread Cert.ReferenceAdamHeadIdeal.nD Cert.ReferenceAdamHeadIdeal.τ).loc Cert.ReferenceAdamHeadIdeal.main_arg0) = m ((c.tc : Thread Cert.ReferenceAdamHeadIdeal.nD Cert.ReferenceAdamHeadIdeal.τ).loc Cert.ReferenceAdamHeadIdeal.main_arg0)
      ∧ r.2.mem ((c.tc : Thread Cert.ReferenceAdamHeadIdeal.nD Cert.ReferenceAdamHeadIdeal.τ).loc Cert.ReferenceAdamHeadIdeal.main_arg1) = m ((c.tc : Thread Cert.ReferenceAdamHeadIdeal.nD Cert.ReferenceAdamHeadIdeal.τ).loc Cert.ReferenceAdamHeadIdeal.main_arg1)
      ∧ r.2.mem ((c.tc : Thread Cert.ReferenceAdamHeadIdeal.nD Cert.ReferenceAdamHeadIdeal.τ).loc Cert.ReferenceAdamHeadIdeal.main_arg2) = m ((c.tc : Thread Cert.ReferenceAdamHeadIdeal.nD Cert.ReferenceAdamHeadIdeal.τ).loc Cert.ReferenceAdamHeadIdeal.main_arg2)
      ∧ r.2.mem ((c.tc : Thread Cert.ReferenceAdamHeadIdeal.nD Cert.ReferenceAdamHeadIdeal.τ).loc Cert.ReferenceAdamHeadIdeal.main_arg3) = m ((c.tc : Thread Cert.ReferenceAdamHeadIdeal.nD Cert.ReferenceAdamHeadIdeal.τ).loc Cert.ReferenceAdamHeadIdeal.main_arg3))
      ∧ r.2.sem = fun _ => 0)

def quiescent_KernelHalfIn [hKernelHalfIn : Cert.KernelHalfIn.Facts] : Prop :=
  ∀ (m : (ℓ : Loc Cert.KernelHalfIn.nD Cert.KernelHalfIn.τ Cert.KernelHalfIn.sig) → Buf (Elt Bits) ℓ) (g : Dev Cert.KernelHalfIn.nD → PrngReg), Pre_KernelHalfIn m →
    θ_run (Cert.KernelHalfIn.defs (F := Bits)) (onTc (τ := Cert.KernelHalfIn.τ) (Cert.KernelHalfIn.main (F := Bits))) ⟨m, fun _ => 0, g⟩ (fun r => (∀ c : Dev Cert.KernelHalfIn.nD,
      r.2.mem ((c.tc : Thread Cert.KernelHalfIn.nD Cert.KernelHalfIn.τ).loc Cert.KernelHalfIn.main_arg0) = m ((c.tc : Thread Cert.KernelHalfIn.nD Cert.KernelHalfIn.τ).loc Cert.KernelHalfIn.main_arg0)
      ∧ r.2.mem ((c.tc : Thread Cert.KernelHalfIn.nD Cert.KernelHalfIn.τ).loc Cert.KernelHalfIn.main_arg1) = m ((c.tc : Thread Cert.KernelHalfIn.nD Cert.KernelHalfIn.τ).loc Cert.KernelHalfIn.main_arg1)
      ∧ r.2.mem ((c.tc : Thread Cert.KernelHalfIn.nD Cert.KernelHalfIn.τ).loc Cert.KernelHalfIn.main_arg2) = m ((c.tc : Thread Cert.KernelHalfIn.nD Cert.KernelHalfIn.τ).loc Cert.KernelHalfIn.main_arg2)
      ∧ r.2.mem ((c.tc : Thread Cert.KernelHalfIn.nD Cert.KernelHalfIn.τ).loc Cert.KernelHalfIn.main_arg3) = m ((c.tc : Thread Cert.KernelHalfIn.nD Cert.KernelHalfIn.τ).loc Cert.KernelHalfIn.main_arg3)
      ∧ r.2.mem ((c.tc : Thread Cert.KernelHalfIn.nD Cert.KernelHalfIn.τ).loc Cert.KernelHalfIn.main_arg4) = m ((c.tc : Thread Cert.KernelHalfIn.nD Cert.KernelHalfIn.τ).loc Cert.KernelHalfIn.main_arg4)
      ∧ r.2.mem ((c.tc : Thread Cert.KernelHalfIn.nD Cert.KernelHalfIn.τ).loc Cert.KernelHalfIn.main_arg5) = m ((c.tc : Thread Cert.KernelHalfIn.nD Cert.KernelHalfIn.τ).loc Cert.KernelHalfIn.main_arg5))
      ∧ r.2.sem = fun _ => 0)

def quiescent_KernelHalfInIdeal [hKernelHalfInIdeal : Cert.KernelHalfInIdeal.Facts] : Prop :=
  ∀ (m : (ℓ : Loc Cert.KernelHalfInIdeal.nD Cert.KernelHalfInIdeal.τ Cert.KernelHalfInIdeal.sig) → Buf (Elt Ideal) ℓ) (g : Dev Cert.KernelHalfInIdeal.nD → PrngReg), Pre_KernelHalfInIdeal m →
    θ_run (Cert.KernelHalfInIdeal.defs (F := Ideal)) (onTc (τ := Cert.KernelHalfInIdeal.τ) (Cert.KernelHalfInIdeal.main (F := Ideal))) ⟨m, fun _ => 0, g⟩ (fun r => (∀ c : Dev Cert.KernelHalfInIdeal.nD,
      r.2.mem ((c.tc : Thread Cert.KernelHalfInIdeal.nD Cert.KernelHalfInIdeal.τ).loc Cert.KernelHalfInIdeal.main_arg0) = m ((c.tc : Thread Cert.KernelHalfInIdeal.nD Cert.KernelHalfInIdeal.τ).loc Cert.KernelHalfInIdeal.main_arg0)
      ∧ r.2.mem ((c.tc : Thread Cert.KernelHalfInIdeal.nD Cert.KernelHalfInIdeal.τ).loc Cert.KernelHalfInIdeal.main_arg1) = m ((c.tc : Thread Cert.KernelHalfInIdeal.nD Cert.KernelHalfInIdeal.τ).loc Cert.KernelHalfInIdeal.main_arg1)
      ∧ r.2.mem ((c.tc : Thread Cert.KernelHalfInIdeal.nD Cert.KernelHalfInIdeal.τ).loc Cert.KernelHalfInIdeal.main_arg2) = m ((c.tc : Thread Cert.KernelHalfInIdeal.nD Cert.KernelHalfInIdeal.τ).loc Cert.KernelHalfInIdeal.main_arg2)
      ∧ r.2.mem ((c.tc : Thread Cert.KernelHalfInIdeal.nD Cert.KernelHalfInIdeal.τ).loc Cert.KernelHalfInIdeal.main_arg3) = m ((c.tc : Thread Cert.KernelHalfInIdeal.nD Cert.KernelHalfInIdeal.τ).loc Cert.KernelHalfInIdeal.main_arg3)
      ∧ r.2.mem ((c.tc : Thread Cert.KernelHalfInIdeal.nD Cert.KernelHalfInIdeal.τ).loc Cert.KernelHalfInIdeal.main_arg4) = m ((c.tc : Thread Cert.KernelHalfInIdeal.nD Cert.KernelHalfInIdeal.τ).loc Cert.KernelHalfInIdeal.main_arg4)
      ∧ r.2.mem ((c.tc : Thread Cert.KernelHalfInIdeal.nD Cert.KernelHalfInIdeal.τ).loc Cert.KernelHalfInIdeal.main_arg5) = m ((c.tc : Thread Cert.KernelHalfInIdeal.nD Cert.KernelHalfInIdeal.τ).loc Cert.KernelHalfInIdeal.main_arg5))
      ∧ r.2.sem = fun _ => 0)

def quiescent_ReferenceHalfInIdeal [hReferenceHalfInIdeal : Cert.ReferenceHalfInIdeal.Facts] : Prop :=
  ∀ (m : (ℓ : Loc Cert.ReferenceHalfInIdeal.nD Cert.ReferenceHalfInIdeal.τ Cert.ReferenceHalfInIdeal.sig) → Buf (Elt Ideal) ℓ) (g : Dev Cert.ReferenceHalfInIdeal.nD → PrngReg), Pre_ReferenceHalfInIdeal m →
    θ_run (Cert.ReferenceHalfInIdeal.defs (F := Ideal)) (onTc (τ := Cert.ReferenceHalfInIdeal.τ) (Cert.ReferenceHalfInIdeal.main (F := Ideal))) ⟨m, fun _ => 0, g⟩ (fun r => (∀ c : Dev Cert.ReferenceHalfInIdeal.nD,
      r.2.mem ((c.tc : Thread Cert.ReferenceHalfInIdeal.nD Cert.ReferenceHalfInIdeal.τ).loc Cert.ReferenceHalfInIdeal.main_arg0) = m ((c.tc : Thread Cert.ReferenceHalfInIdeal.nD Cert.ReferenceHalfInIdeal.τ).loc Cert.ReferenceHalfInIdeal.main_arg0)
      ∧ r.2.mem ((c.tc : Thread Cert.ReferenceHalfInIdeal.nD Cert.ReferenceHalfInIdeal.τ).loc Cert.ReferenceHalfInIdeal.main_arg1) = m ((c.tc : Thread Cert.ReferenceHalfInIdeal.nD Cert.ReferenceHalfInIdeal.τ).loc Cert.ReferenceHalfInIdeal.main_arg1)
      ∧ r.2.mem ((c.tc : Thread Cert.ReferenceHalfInIdeal.nD Cert.ReferenceHalfInIdeal.τ).loc Cert.ReferenceHalfInIdeal.main_arg2) = m ((c.tc : Thread Cert.ReferenceHalfInIdeal.nD Cert.ReferenceHalfInIdeal.τ).loc Cert.ReferenceHalfInIdeal.main_arg2)
      ∧ r.2.mem ((c.tc : Thread Cert.ReferenceHalfInIdeal.nD Cert.ReferenceHalfInIdeal.τ).loc Cert.ReferenceHalfInIdeal.main_arg3) = m ((c.tc : Thread Cert.ReferenceHalfInIdeal.nD Cert.ReferenceHalfInIdeal.τ).loc Cert.ReferenceHalfInIdeal.main_arg3)
      ∧ r.2.mem ((c.tc : Thread Cert.ReferenceHalfInIdeal.nD Cert.ReferenceHalfInIdeal.τ).loc Cert.ReferenceHalfInIdeal.main_arg4) = m ((c.tc : Thread Cert.ReferenceHalfInIdeal.nD Cert.ReferenceHalfInIdeal.τ).loc Cert.ReferenceHalfInIdeal.main_arg4)
      ∧ r.2.mem ((c.tc : Thread Cert.ReferenceHalfInIdeal.nD Cert.ReferenceHalfInIdeal.τ).loc Cert.ReferenceHalfInIdeal.main_arg5) = m ((c.tc : Thread Cert.ReferenceHalfInIdeal.nD Cert.ReferenceHalfInIdeal.τ).loc Cert.ReferenceHalfInIdeal.main_arg5))
      ∧ r.2.sem = fun _ => 0)

def quiescent_KernelHalfAttn [hKernelHalfAttn : Cert.KernelHalfAttn.Facts] : Prop :=
  ∀ (m : (ℓ : Loc Cert.KernelHalfAttn.nD Cert.KernelHalfAttn.τ Cert.KernelHalfAttn.sig) → Buf (Elt Bits) ℓ) (g : Dev Cert.KernelHalfAttn.nD → PrngReg), Pre_KernelHalfAttn m →
    θ_run (Cert.KernelHalfAttn.defs (F := Bits)) (onTc (τ := Cert.KernelHalfAttn.τ) (Cert.KernelHalfAttn.main (F := Bits))) ⟨m, fun _ => 0, g⟩ (fun r => (∀ c : Dev Cert.KernelHalfAttn.nD,
      r.2.mem ((c.tc : Thread Cert.KernelHalfAttn.nD Cert.KernelHalfAttn.τ).loc Cert.KernelHalfAttn.main_arg0) = m ((c.tc : Thread Cert.KernelHalfAttn.nD Cert.KernelHalfAttn.τ).loc Cert.KernelHalfAttn.main_arg0)
      ∧ r.2.mem ((c.tc : Thread Cert.KernelHalfAttn.nD Cert.KernelHalfAttn.τ).loc Cert.KernelHalfAttn.main_arg1) = m ((c.tc : Thread Cert.KernelHalfAttn.nD Cert.KernelHalfAttn.τ).loc Cert.KernelHalfAttn.main_arg1)
      ∧ r.2.mem ((c.tc : Thread Cert.KernelHalfAttn.nD Cert.KernelHalfAttn.τ).loc Cert.KernelHalfAttn.main_arg2) = m ((c.tc : Thread Cert.KernelHalfAttn.nD Cert.KernelHalfAttn.τ).loc Cert.KernelHalfAttn.main_arg2)
      ∧ r.2.mem ((c.tc : Thread Cert.KernelHalfAttn.nD Cert.KernelHalfAttn.τ).loc Cert.KernelHalfAttn.main_arg3) = m ((c.tc : Thread Cert.KernelHalfAttn.nD Cert.KernelHalfAttn.τ).loc Cert.KernelHalfAttn.main_arg3)
      ∧ r.2.mem ((c.tc : Thread Cert.KernelHalfAttn.nD Cert.KernelHalfAttn.τ).loc Cert.KernelHalfAttn.main_arg4) = m ((c.tc : Thread Cert.KernelHalfAttn.nD Cert.KernelHalfAttn.τ).loc Cert.KernelHalfAttn.main_arg4)
      ∧ r.2.mem ((c.tc : Thread Cert.KernelHalfAttn.nD Cert.KernelHalfAttn.τ).loc Cert.KernelHalfAttn.main_arg5) = m ((c.tc : Thread Cert.KernelHalfAttn.nD Cert.KernelHalfAttn.τ).loc Cert.KernelHalfAttn.main_arg5))
      ∧ r.2.sem = fun _ => 0)

def quiescent_KernelHalfAttnIdeal [hKernelHalfAttnIdeal : Cert.KernelHalfAttnIdeal.Facts] : Prop :=
  ∀ (m : (ℓ : Loc Cert.KernelHalfAttnIdeal.nD Cert.KernelHalfAttnIdeal.τ Cert.KernelHalfAttnIdeal.sig) → Buf (Elt Ideal) ℓ) (g : Dev Cert.KernelHalfAttnIdeal.nD → PrngReg), Pre_KernelHalfAttnIdeal m →
    θ_run (Cert.KernelHalfAttnIdeal.defs (F := Ideal)) (onTc (τ := Cert.KernelHalfAttnIdeal.τ) (Cert.KernelHalfAttnIdeal.main (F := Ideal))) ⟨m, fun _ => 0, g⟩ (fun r => (∀ c : Dev Cert.KernelHalfAttnIdeal.nD,
      r.2.mem ((c.tc : Thread Cert.KernelHalfAttnIdeal.nD Cert.KernelHalfAttnIdeal.τ).loc Cert.KernelHalfAttnIdeal.main_arg0) = m ((c.tc : Thread Cert.KernelHalfAttnIdeal.nD Cert.KernelHalfAttnIdeal.τ).loc Cert.KernelHalfAttnIdeal.main_arg0)
      ∧ r.2.mem ((c.tc : Thread Cert.KernelHalfAttnIdeal.nD Cert.KernelHalfAttnIdeal.τ).loc Cert.KernelHalfAttnIdeal.main_arg1) = m ((c.tc : Thread Cert.KernelHalfAttnIdeal.nD Cert.KernelHalfAttnIdeal.τ).loc Cert.KernelHalfAttnIdeal.main_arg1)
      ∧ r.2.mem ((c.tc : Thread Cert.KernelHalfAttnIdeal.nD Cert.KernelHalfAttnIdeal.τ).loc Cert.KernelHalfAttnIdeal.main_arg2) = m ((c.tc : Thread Cert.KernelHalfAttnIdeal.nD Cert.KernelHalfAttnIdeal.τ).loc Cert.KernelHalfAttnIdeal.main_arg2)
      ∧ r.2.mem ((c.tc : Thread Cert.KernelHalfAttnIdeal.nD Cert.KernelHalfAttnIdeal.τ).loc Cert.KernelHalfAttnIdeal.main_arg3) = m ((c.tc : Thread Cert.KernelHalfAttnIdeal.nD Cert.KernelHalfAttnIdeal.τ).loc Cert.KernelHalfAttnIdeal.main_arg3)
      ∧ r.2.mem ((c.tc : Thread Cert.KernelHalfAttnIdeal.nD Cert.KernelHalfAttnIdeal.τ).loc Cert.KernelHalfAttnIdeal.main_arg4) = m ((c.tc : Thread Cert.KernelHalfAttnIdeal.nD Cert.KernelHalfAttnIdeal.τ).loc Cert.KernelHalfAttnIdeal.main_arg4)
      ∧ r.2.mem ((c.tc : Thread Cert.KernelHalfAttnIdeal.nD Cert.KernelHalfAttnIdeal.τ).loc Cert.KernelHalfAttnIdeal.main_arg5) = m ((c.tc : Thread Cert.KernelHalfAttnIdeal.nD Cert.KernelHalfAttnIdeal.τ).loc Cert.KernelHalfAttnIdeal.main_arg5))
      ∧ r.2.sem = fun _ => 0)

def quiescent_ReferenceHalfAttnIdeal [hReferenceHalfAttnIdeal : Cert.ReferenceHalfAttnIdeal.Facts] : Prop :=
  ∀ (m : (ℓ : Loc Cert.ReferenceHalfAttnIdeal.nD Cert.ReferenceHalfAttnIdeal.τ Cert.ReferenceHalfAttnIdeal.sig) → Buf (Elt Ideal) ℓ) (g : Dev Cert.ReferenceHalfAttnIdeal.nD → PrngReg), Pre_ReferenceHalfAttnIdeal m →
    θ_run (Cert.ReferenceHalfAttnIdeal.defs (F := Ideal)) (onTc (τ := Cert.ReferenceHalfAttnIdeal.τ) (Cert.ReferenceHalfAttnIdeal.main (F := Ideal))) ⟨m, fun _ => 0, g⟩ (fun r => (∀ c : Dev Cert.ReferenceHalfAttnIdeal.nD,
      r.2.mem ((c.tc : Thread Cert.ReferenceHalfAttnIdeal.nD Cert.ReferenceHalfAttnIdeal.τ).loc Cert.ReferenceHalfAttnIdeal.main_arg0) = m ((c.tc : Thread Cert.ReferenceHalfAttnIdeal.nD Cert.ReferenceHalfAttnIdeal.τ).loc Cert.ReferenceHalfAttnIdeal.main_arg0)
      ∧ r.2.mem ((c.tc : Thread Cert.ReferenceHalfAttnIdeal.nD Cert.ReferenceHalfAttnIdeal.τ).loc Cert.ReferenceHalfAttnIdeal.main_arg1) = m ((c.tc : Thread Cert.ReferenceHalfAttnIdeal.nD Cert.ReferenceHalfAttnIdeal.τ).loc Cert.ReferenceHalfAttnIdeal.main_arg1)
      ∧ r.2.mem ((c.tc : Thread Cert.ReferenceHalfAttnIdeal.nD Cert.ReferenceHalfAttnIdeal.τ).loc Cert.ReferenceHalfAttnIdeal.main_arg2) = m ((c.tc : Thread Cert.ReferenceHalfAttnIdeal.nD Cert.ReferenceHalfAttnIdeal.τ).loc Cert.ReferenceHalfAttnIdeal.main_arg2)
      ∧ r.2.mem ((c.tc : Thread Cert.ReferenceHalfAttnIdeal.nD Cert.ReferenceHalfAttnIdeal.τ).loc Cert.ReferenceHalfAttnIdeal.main_arg3) = m ((c.tc : Thread Cert.ReferenceHalfAttnIdeal.nD Cert.ReferenceHalfAttnIdeal.τ).loc Cert.ReferenceHalfAttnIdeal.main_arg3)
      ∧ r.2.mem ((c.tc : Thread Cert.ReferenceHalfAttnIdeal.nD Cert.ReferenceHalfAttnIdeal.τ).loc Cert.ReferenceHalfAttnIdeal.main_arg4) = m ((c.tc : Thread Cert.ReferenceHalfAttnIdeal.nD Cert.ReferenceHalfAttnIdeal.τ).loc Cert.ReferenceHalfAttnIdeal.main_arg4)
      ∧ r.2.mem ((c.tc : Thread Cert.ReferenceHalfAttnIdeal.nD Cert.ReferenceHalfAttnIdeal.τ).loc Cert.ReferenceHalfAttnIdeal.main_arg5) = m ((c.tc : Thread Cert.ReferenceHalfAttnIdeal.nD Cert.ReferenceHalfAttnIdeal.τ).loc Cert.ReferenceHalfAttnIdeal.main_arg5))
      ∧ r.2.sem = fun _ => 0)

def quiescent_KernelHalfOut [hKernelHalfOut : Cert.KernelHalfOut.Facts] : Prop :=
  ∀ (m : (ℓ : Loc Cert.KernelHalfOut.nD Cert.KernelHalfOut.τ Cert.KernelHalfOut.sig) → Buf (Elt Bits) ℓ) (g : Dev Cert.KernelHalfOut.nD → PrngReg), Pre_KernelHalfOut m →
    θ_run (Cert.KernelHalfOut.defs (F := Bits)) (onTc (τ := Cert.KernelHalfOut.τ) (Cert.KernelHalfOut.main (F := Bits))) ⟨m, fun _ => 0, g⟩ (fun r => (∀ c : Dev Cert.KernelHalfOut.nD,
      r.2.mem ((c.tc : Thread Cert.KernelHalfOut.nD Cert.KernelHalfOut.τ).loc Cert.KernelHalfOut.main_arg0) = m ((c.tc : Thread Cert.KernelHalfOut.nD Cert.KernelHalfOut.τ).loc Cert.KernelHalfOut.main_arg0)
      ∧ r.2.mem ((c.tc : Thread Cert.KernelHalfOut.nD Cert.KernelHalfOut.τ).loc Cert.KernelHalfOut.main_arg1) = m ((c.tc : Thread Cert.KernelHalfOut.nD Cert.KernelHalfOut.τ).loc Cert.KernelHalfOut.main_arg1)
      ∧ r.2.mem ((c.tc : Thread Cert.KernelHalfOut.nD Cert.KernelHalfOut.τ).loc Cert.KernelHalfOut.main_arg2) = m ((c.tc : Thread Cert.KernelHalfOut.nD Cert.KernelHalfOut.τ).loc Cert.KernelHalfOut.main_arg2)
      ∧ r.2.mem ((c.tc : Thread Cert.KernelHalfOut.nD Cert.KernelHalfOut.τ).loc Cert.KernelHalfOut.main_arg3) = m ((c.tc : Thread Cert.KernelHalfOut.nD Cert.KernelHalfOut.τ).loc Cert.KernelHalfOut.main_arg3)
      ∧ r.2.mem ((c.tc : Thread Cert.KernelHalfOut.nD Cert.KernelHalfOut.τ).loc Cert.KernelHalfOut.main_arg4) = m ((c.tc : Thread Cert.KernelHalfOut.nD Cert.KernelHalfOut.τ).loc Cert.KernelHalfOut.main_arg4)
      ∧ r.2.mem ((c.tc : Thread Cert.KernelHalfOut.nD Cert.KernelHalfOut.τ).loc Cert.KernelHalfOut.main_arg5) = m ((c.tc : Thread Cert.KernelHalfOut.nD Cert.KernelHalfOut.τ).loc Cert.KernelHalfOut.main_arg5))
      ∧ r.2.sem = fun _ => 0)

def quiescent_KernelHalfOutIdeal [hKernelHalfOutIdeal : Cert.KernelHalfOutIdeal.Facts] : Prop :=
  ∀ (m : (ℓ : Loc Cert.KernelHalfOutIdeal.nD Cert.KernelHalfOutIdeal.τ Cert.KernelHalfOutIdeal.sig) → Buf (Elt Ideal) ℓ) (g : Dev Cert.KernelHalfOutIdeal.nD → PrngReg), Pre_KernelHalfOutIdeal m →
    θ_run (Cert.KernelHalfOutIdeal.defs (F := Ideal)) (onTc (τ := Cert.KernelHalfOutIdeal.τ) (Cert.KernelHalfOutIdeal.main (F := Ideal))) ⟨m, fun _ => 0, g⟩ (fun r => (∀ c : Dev Cert.KernelHalfOutIdeal.nD,
      r.2.mem ((c.tc : Thread Cert.KernelHalfOutIdeal.nD Cert.KernelHalfOutIdeal.τ).loc Cert.KernelHalfOutIdeal.main_arg0) = m ((c.tc : Thread Cert.KernelHalfOutIdeal.nD Cert.KernelHalfOutIdeal.τ).loc Cert.KernelHalfOutIdeal.main_arg0)
      ∧ r.2.mem ((c.tc : Thread Cert.KernelHalfOutIdeal.nD Cert.KernelHalfOutIdeal.τ).loc Cert.KernelHalfOutIdeal.main_arg1) = m ((c.tc : Thread Cert.KernelHalfOutIdeal.nD Cert.KernelHalfOutIdeal.τ).loc Cert.KernelHalfOutIdeal.main_arg1)
      ∧ r.2.mem ((c.tc : Thread Cert.KernelHalfOutIdeal.nD Cert.KernelHalfOutIdeal.τ).loc Cert.KernelHalfOutIdeal.main_arg2) = m ((c.tc : Thread Cert.KernelHalfOutIdeal.nD Cert.KernelHalfOutIdeal.τ).loc Cert.KernelHalfOutIdeal.main_arg2)
      ∧ r.2.mem ((c.tc : Thread Cert.KernelHalfOutIdeal.nD Cert.KernelHalfOutIdeal.τ).loc Cert.KernelHalfOutIdeal.main_arg3) = m ((c.tc : Thread Cert.KernelHalfOutIdeal.nD Cert.KernelHalfOutIdeal.τ).loc Cert.KernelHalfOutIdeal.main_arg3)
      ∧ r.2.mem ((c.tc : Thread Cert.KernelHalfOutIdeal.nD Cert.KernelHalfOutIdeal.τ).loc Cert.KernelHalfOutIdeal.main_arg4) = m ((c.tc : Thread Cert.KernelHalfOutIdeal.nD Cert.KernelHalfOutIdeal.τ).loc Cert.KernelHalfOutIdeal.main_arg4)
      ∧ r.2.mem ((c.tc : Thread Cert.KernelHalfOutIdeal.nD Cert.KernelHalfOutIdeal.τ).loc Cert.KernelHalfOutIdeal.main_arg5) = m ((c.tc : Thread Cert.KernelHalfOutIdeal.nD Cert.KernelHalfOutIdeal.τ).loc Cert.KernelHalfOutIdeal.main_arg5))
      ∧ r.2.sem = fun _ => 0)

def quiescent_ReferenceHalfOutIdeal [hReferenceHalfOutIdeal : Cert.ReferenceHalfOutIdeal.Facts] : Prop :=
  ∀ (m : (ℓ : Loc Cert.ReferenceHalfOutIdeal.nD Cert.ReferenceHalfOutIdeal.τ Cert.ReferenceHalfOutIdeal.sig) → Buf (Elt Ideal) ℓ) (g : Dev Cert.ReferenceHalfOutIdeal.nD → PrngReg), Pre_ReferenceHalfOutIdeal m →
    θ_run (Cert.ReferenceHalfOutIdeal.defs (F := Ideal)) (onTc (τ := Cert.ReferenceHalfOutIdeal.τ) (Cert.ReferenceHalfOutIdeal.main (F := Ideal))) ⟨m, fun _ => 0, g⟩ (fun r => (∀ c : Dev Cert.ReferenceHalfOutIdeal.nD,
      r.2.mem ((c.tc : Thread Cert.ReferenceHalfOutIdeal.nD Cert.ReferenceHalfOutIdeal.τ).loc Cert.ReferenceHalfOutIdeal.main_arg0) = m ((c.tc : Thread Cert.ReferenceHalfOutIdeal.nD Cert.ReferenceHalfOutIdeal.τ).loc Cert.ReferenceHalfOutIdeal.main_arg0)
      ∧ r.2.mem ((c.tc : Thread Cert.ReferenceHalfOutIdeal.nD Cert.ReferenceHalfOutIdeal.τ).loc Cert.ReferenceHalfOutIdeal.main_arg1) = m ((c.tc : Thread Cert.ReferenceHalfOutIdeal.nD Cert.ReferenceHalfOutIdeal.τ).loc Cert.ReferenceHalfOutIdeal.main_arg1)
      ∧ r.2.mem ((c.tc : Thread Cert.ReferenceHalfOutIdeal.nD Cert.ReferenceHalfOutIdeal.τ).loc Cert.ReferenceHalfOutIdeal.main_arg2) = m ((c.tc : Thread Cert.ReferenceHalfOutIdeal.nD Cert.ReferenceHalfOutIdeal.τ).loc Cert.ReferenceHalfOutIdeal.main_arg2)
      ∧ r.2.mem ((c.tc : Thread Cert.ReferenceHalfOutIdeal.nD Cert.ReferenceHalfOutIdeal.τ).loc Cert.ReferenceHalfOutIdeal.main_arg3) = m ((c.tc : Thread Cert.ReferenceHalfOutIdeal.nD Cert.ReferenceHalfOutIdeal.τ).loc Cert.ReferenceHalfOutIdeal.main_arg3)
      ∧ r.2.mem ((c.tc : Thread Cert.ReferenceHalfOutIdeal.nD Cert.ReferenceHalfOutIdeal.τ).loc Cert.ReferenceHalfOutIdeal.main_arg4) = m ((c.tc : Thread Cert.ReferenceHalfOutIdeal.nD Cert.ReferenceHalfOutIdeal.τ).loc Cert.ReferenceHalfOutIdeal.main_arg4)
      ∧ r.2.mem ((c.tc : Thread Cert.ReferenceHalfOutIdeal.nD Cert.ReferenceHalfOutIdeal.τ).loc Cert.ReferenceHalfOutIdeal.main_arg5) = m ((c.tc : Thread Cert.ReferenceHalfOutIdeal.nD Cert.ReferenceHalfOutIdeal.τ).loc Cert.ReferenceHalfOutIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_within [hKernelIdeal : Cert.KernelIdeal.Facts] [hReferenceIdeal : Cert.ReferenceIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v121)) (v2 : (c : Dev Cert.KernelIdeal.nD) → Buf (Elt Ideal) ((c.tc : Thread Cert.KernelIdeal.nD Cert.KernelIdeal.τ).loc Cert.KernelIdeal.main_v123)) (v3 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_v123) = v2 c
          ∧ r.2.mem ((c.tc : Thread Cert.KernelIdeal.nD Cert.KernelIdeal.τ).loc Cert.KernelIdeal.main_v124) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v7) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v6) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)) →
    ∃ (v0 : (c : Dev Cert.KernelForgetIdeal.nD) → Buf (Elt Ideal) ((c.tc : Thread Cert.KernelForgetIdeal.nD Cert.KernelForgetIdeal.τ).loc Cert.KernelForgetIdeal.main_v0)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v0) = v0 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v6) = v0 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1))

def preserves_KernelAdamNorm_KernelAdamNormIdeal : Prop :=
  True

def algebraic_KernelAdamNormIdeal_ReferenceAdamNormIdeal [hKernelAdamNormIdeal : Cert.KernelAdamNormIdeal.Facts] [hReferenceAdamNormIdeal : Cert.ReferenceAdamNormIdeal.Facts] : Prop :=
  ∀ (m : (ℓ : Loc Cert.KernelAdamNormIdeal.nD Cert.KernelAdamNormIdeal.τ Cert.KernelAdamNormIdeal.sig) → Buf (Elt Ideal) ℓ) (g : Dev Cert.KernelAdamNormIdeal.nD → PrngReg)
    (m' : (ℓ : Loc Cert.ReferenceAdamNormIdeal.nD Cert.ReferenceAdamNormIdeal.τ Cert.ReferenceAdamNormIdeal.sig) → Buf (Elt Ideal) ℓ) (g' : Dev Cert.ReferenceAdamNormIdeal.nD → PrngReg), Pre_KernelAdamNormIdeal m →
    (∀ c : Dev Cert.KernelAdamNormIdeal.nD,
      m' ((c.tc : Thread Cert.ReferenceAdamNormIdeal.nD Cert.ReferenceAdamNormIdeal.τ).loc Cert.ReferenceAdamNormIdeal.main_arg0) = m ((c.tc : Thread Cert.KernelAdamNormIdeal.nD Cert.KernelAdamNormIdeal.τ).loc Cert.KernelAdamNormIdeal.main_arg0)
      ∧ m' ((c.tc : Thread Cert.ReferenceAdamNormIdeal.nD Cert.ReferenceAdamNormIdeal.τ).loc Cert.ReferenceAdamNormIdeal.main_arg1) = m ((c.tc : Thread Cert.KernelAdamNormIdeal.nD Cert.KernelAdamNormIdeal.τ).loc Cert.KernelAdamNormIdeal.main_arg1)
      ∧ m' ((c.tc : Thread Cert.ReferenceAdamNormIdeal.nD Cert.ReferenceAdamNormIdeal.τ).loc Cert.ReferenceAdamNormIdeal.main_arg2) = m ((c.tc : Thread Cert.KernelAdamNormIdeal.nD Cert.KernelAdamNormIdeal.τ).loc Cert.KernelAdamNormIdeal.main_arg2)
      ∧ m' ((c.tc : Thread Cert.ReferenceAdamNormIdeal.nD Cert.ReferenceAdamNormIdeal.τ).loc Cert.ReferenceAdamNormIdeal.main_arg3) = m ((c.tc : Thread Cert.KernelAdamNormIdeal.nD Cert.KernelAdamNormIdeal.τ).loc Cert.KernelAdamNormIdeal.main_arg3)) →
    ∃ (v0 : (c : Dev Cert.KernelAdamNormIdeal.nD) → Buf (Elt Ideal) ((c.tc : Thread Cert.KernelAdamNormIdeal.nD Cert.KernelAdamNormIdeal.τ).loc Cert.KernelAdamNormIdeal.main_v0_0)) (v1 : (c : Dev Cert.KernelAdamNormIdeal.nD) → Buf (Elt Ideal) ((c.tc : Thread Cert.KernelAdamNormIdeal.nD Cert.KernelAdamNormIdeal.τ).loc Cert.KernelAdamNormIdeal.main_v0_1)) (v2 : (c : Dev Cert.KernelAdamNormIdeal.nD) → Buf (Elt Ideal) ((c.tc : Thread Cert.KernelAdamNormIdeal.nD Cert.KernelAdamNormIdeal.τ).loc Cert.KernelAdamNormIdeal.main_v0_2)),
      θ_run (Cert.KernelAdamNormIdeal.defs (F := Ideal)) (onTc (τ := Cert.KernelAdamNormIdeal.τ) (Cert.KernelAdamNormIdeal.main (F := Ideal))) ⟨m, fun _ => 0, g⟩ (fun r => ∀ c : Dev Cert.KernelAdamNormIdeal.nD,
          r.2.mem ((c.tc : Thread Cert.KernelAdamNormIdeal.nD Cert.KernelAdamNormIdeal.τ).loc Cert.KernelAdamNormIdeal.main_v0_0) = v0 c
          ∧ r.2.mem ((c.tc : Thread Cert.KernelAdamNormIdeal.nD Cert.KernelAdamNormIdeal.τ).loc Cert.KernelAdamNormIdeal.main_v0_1) = v1 c
          ∧ r.2.mem ((c.tc : Thread Cert.KernelAdamNormIdeal.nD Cert.KernelAdamNormIdeal.τ).loc Cert.KernelAdamNormIdeal.main_v0_2) = v2 c
          ∧ r.2.mem ((c.tc : Thread Cert.KernelAdamNormIdeal.nD Cert.KernelAdamNormIdeal.τ).loc Cert.KernelAdamNormIdeal.main_arg0) = m ((c.tc : Thread Cert.KernelAdamNormIdeal.nD Cert.KernelAdamNormIdeal.τ).loc Cert.KernelAdamNormIdeal.main_arg0)
          ∧ r.2.mem ((c.tc : Thread Cert.KernelAdamNormIdeal.nD Cert.KernelAdamNormIdeal.τ).loc Cert.KernelAdamNormIdeal.main_arg1) = m ((c.tc : Thread Cert.KernelAdamNormIdeal.nD Cert.KernelAdamNormIdeal.τ).loc Cert.KernelAdamNormIdeal.main_arg1)
          ∧ r.2.mem ((c.tc : Thread Cert.KernelAdamNormIdeal.nD Cert.KernelAdamNormIdeal.τ).loc Cert.KernelAdamNormIdeal.main_arg2) = m ((c.tc : Thread Cert.KernelAdamNormIdeal.nD Cert.KernelAdamNormIdeal.τ).loc Cert.KernelAdamNormIdeal.main_arg2)
          ∧ r.2.mem ((c.tc : Thread Cert.KernelAdamNormIdeal.nD Cert.KernelAdamNormIdeal.τ).loc Cert.KernelAdamNormIdeal.main_arg3) = m ((c.tc : Thread Cert.KernelAdamNormIdeal.nD Cert.KernelAdamNormIdeal.τ).loc Cert.KernelAdamNormIdeal.main_arg3))
      ∧ θ_run (Cert.ReferenceAdamNormIdeal.defs (F := Ideal)) (onTc (τ := Cert.ReferenceAdamNormIdeal.τ) (Cert.ReferenceAdamNormIdeal.main (F := Ideal))) ⟨m', fun _ => 0, g'⟩ (fun r => ∀ c : Dev Cert.ReferenceAdamNormIdeal.nD,
          r.2.mem ((c.tc : Thread Cert.ReferenceAdamNormIdeal.nD Cert.ReferenceAdamNormIdeal.τ).loc Cert.ReferenceAdamNormIdeal.main_v23) = v0 c
          ∧ r.2.mem ((c.tc : Thread Cert.ReferenceAdamNormIdeal.nD Cert.ReferenceAdamNormIdeal.τ).loc Cert.ReferenceAdamNormIdeal.main_v4) = v1 c
          ∧ r.2.mem ((c.tc : Thread Cert.ReferenceAdamNormIdeal.nD Cert.ReferenceAdamNormIdeal.τ).loc Cert.ReferenceAdamNormIdeal.main_v10) = v2 c
          ∧ r.2.mem ((c.tc : Thread Cert.ReferenceAdamNormIdeal.nD Cert.ReferenceAdamNormIdeal.τ).loc Cert.ReferenceAdamNormIdeal.main_arg0) = m' ((c.tc : Thread Cert.ReferenceAdamNormIdeal.nD Cert.ReferenceAdamNormIdeal.τ).loc Cert.ReferenceAdamNormIdeal.main_arg0)
          ∧ r.2.mem ((c.tc : Thread Cert.ReferenceAdamNormIdeal.nD Cert.ReferenceAdamNormIdeal.τ).loc Cert.ReferenceAdamNormIdeal.main_arg1) = m' ((c.tc : Thread Cert.ReferenceAdamNormIdeal.nD Cert.ReferenceAdamNormIdeal.τ).loc Cert.ReferenceAdamNormIdeal.main_arg1)
          ∧ r.2.mem ((c.tc : Thread Cert.ReferenceAdamNormIdeal.nD Cert.ReferenceAdamNormIdeal.τ).loc Cert.ReferenceAdamNormIdeal.main_arg2) = m' ((c.tc : Thread Cert.ReferenceAdamNormIdeal.nD Cert.ReferenceAdamNormIdeal.τ).loc Cert.ReferenceAdamNormIdeal.main_arg2)
          ∧ r.2.mem ((c.tc : Thread Cert.ReferenceAdamNormIdeal.nD Cert.ReferenceAdamNormIdeal.τ).loc Cert.ReferenceAdamNormIdeal.main_arg3) = m' ((c.tc : Thread Cert.ReferenceAdamNormIdeal.nD Cert.ReferenceAdamNormIdeal.τ).loc Cert.ReferenceAdamNormIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v23) = v0 c
          ∧ r.2.mem ((c.tc : Thread Cert.ReferenceAdamConvIdeal.nD Cert.ReferenceAdamConvIdeal.τ).loc Cert.ReferenceAdamConvIdeal.main_v4) = v1 c
          ∧ r.2.mem ((c.tc : Thread Cert.ReferenceAdamConvIdeal.nD Cert.ReferenceAdamConvIdeal.τ).loc Cert.ReferenceAdamConvIdeal.main_v10) = v2 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamAttnNorm_KernelAdamAttnNormIdeal : Prop :=
  True

def algebraic_KernelAdamAttnNormIdeal_ReferenceAdamAttnNormIdeal [hKernelAdamAttnNormIdeal : Cert.KernelAdamAttnNormIdeal.Facts] [hReferenceAdamAttnNormIdeal : Cert.ReferenceAdamAttnNormIdeal.Facts] : Prop :=
  ∀ (m : (ℓ : Loc Cert.KernelAdamAttnNormIdeal.nD Cert.KernelAdamAttnNormIdeal.τ Cert.KernelAdamAttnNormIdeal.sig) → Buf (Elt Ideal) ℓ) (g : Dev Cert.KernelAdamAttnNormIdeal.nD → PrngReg)
    (m' : (ℓ : Loc Cert.ReferenceAdamAttnNormIdeal.nD Cert.ReferenceAdamAttnNormIdeal.τ Cert.ReferenceAdamAttnNormIdeal.sig) → Buf (Elt Ideal) ℓ) (g' : Dev Cert.ReferenceAdamAttnNormIdeal.nD → PrngReg), Pre_KernelAdamAttnNormIdeal m →
    (∀ c : Dev Cert.KernelAdamAttnNormIdeal.nD,
      m' ((c.tc : Thread Cert.ReferenceAdamAttnNormIdeal.nD Cert.ReferenceAdamAttnNormIdeal.τ).loc Cert.ReferenceAdamAttnNormIdeal.main_arg0) = m ((c.tc : Thread Cert.KernelAdamAttnNormIdeal.nD Cert.KernelAdamAttnNormIdeal.τ).loc Cert.KernelAdamAttnNormIdeal.main_arg0)
      ∧ m' ((c.tc : Thread Cert.ReferenceAdamAttnNormIdeal.nD Cert.ReferenceAdamAttnNormIdeal.τ).loc Cert.ReferenceAdamAttnNormIdeal.main_arg1) = m ((c.tc : Thread Cert.KernelAdamAttnNormIdeal.nD Cert.KernelAdamAttnNormIdeal.τ).loc Cert.KernelAdamAttnNormIdeal.main_arg1)
      ∧ m' ((c.tc : Thread Cert.ReferenceAdamAttnNormIdeal.nD Cert.ReferenceAdamAttnNormIdeal.τ).loc Cert.ReferenceAdamAttnNormIdeal.main_arg2) = m ((c.tc : Thread Cert.KernelAdamAttnNormIdeal.nD Cert.KernelAdamAttnNormIdeal.τ).loc Cert.KernelAdamAttnNormIdeal.main_arg2)
      ∧ m' ((c.tc : Thread Cert.ReferenceAdamAttnNormIdeal.nD Cert.ReferenceAdamAttnNormIdeal.τ).loc Cert.ReferenceAdamAttnNormIdeal.main_arg3) = m ((c.tc : Thread Cert.KernelAdamAttnNormIdeal.nD Cert.KernelAdamAttnNormIdeal.τ).loc Cert.KernelAdamAttnNormIdeal.main_arg3)) →
    ∃ (v0 : (c : Dev Cert.KernelAdamAttnNormIdeal.nD) → Buf (Elt Ideal) ((c.tc : Thread Cert.KernelAdamAttnNormIdeal.nD Cert.KernelAdamAttnNormIdeal.τ).loc Cert.KernelAdamAttnNormIdeal.main_v0_0)) (v1 : (c : Dev Cert.KernelAdamAttnNormIdeal.nD) → Buf (Elt Ideal) ((c.tc : Thread Cert.KernelAdamAttnNormIdeal.nD Cert.KernelAdamAttnNormIdeal.τ).loc Cert.KernelAdamAttnNormIdeal.main_v0_1)) (v2 : (c : Dev Cert.KernelAdamAttnNormIdeal.nD) → Buf (Elt Ideal) ((c.tc : Thread Cert.KernelAdamAttnNormIdeal.nD Cert.KernelAdamAttnNormIdeal.τ).loc Cert.KernelAdamAttnNormIdeal.main_v0_2)),
      θ_run (Cert.KernelAdamAttnNormIdeal.defs (F := Ideal)) (onTc (τ := Cert.KernelAdamAttnNormIdeal.τ) (Cert.KernelAdamAttnNormIdeal.main (F := Ideal))) ⟨m, fun _ => 0, g⟩ (fun r => ∀ c : Dev Cert.KernelAdamAttnNormIdeal.nD,
          r.2.mem ((c.tc : Thread Cert.KernelAdamAttnNormIdeal.nD Cert.KernelAdamAttnNormIdeal.τ).loc Cert.KernelAdamAttnNormIdeal.main_v0_0) = v0 c
          ∧ r.2.mem ((c.tc : Thread Cert.KernelAdamAttnNormIdeal.nD Cert.KernelAdamAttnNormIdeal.τ).loc Cert.KernelAdamAttnNormIdeal.main_v0_1) = v1 c
          ∧ r.2.mem ((c.tc : Thread Cert.KernelAdamAttnNormIdeal.nD Cert.KernelAdamAttnNormIdeal.τ).loc Cert.KernelAdamAttnNormIdeal.main_v0_2) = v2 c
          ∧ r.2.mem ((c.tc : Thread Cert.KernelAdamAttnNormIdeal.nD Cert.KernelAdamAttnNormIdeal.τ).loc Cert.KernelAdamAttnNormIdeal.main_arg0) = m ((c.tc : Thread Cert.KernelAdamAttnNormIdeal.nD Cert.KernelAdamAttnNormIdeal.τ).loc Cert.KernelAdamAttnNormIdeal.main_arg0)
          ∧ r.2.mem ((c.tc : Thread Cert.KernelAdamAttnNormIdeal.nD Cert.KernelAdamAttnNormIdeal.τ).loc Cert.KernelAdamAttnNormIdeal.main_arg1) = m ((c.tc : Thread Cert.KernelAdamAttnNormIdeal.nD Cert.KernelAdamAttnNormIdeal.τ).loc Cert.KernelAdamAttnNormIdeal.main_arg1)
          ∧ r.2.mem ((c.tc : Thread Cert.KernelAdamAttnNormIdeal.nD Cert.KernelAdamAttnNormIdeal.τ).loc Cert.KernelAdamAttnNormIdeal.main_arg2) = m ((c.tc : Thread Cert.KernelAdamAttnNormIdeal.nD Cert.KernelAdamAttnNormIdeal.τ).loc Cert.KernelAdamAttnNormIdeal.main_arg2)
          ∧ r.2.mem ((c.tc : Thread Cert.KernelAdamAttnNormIdeal.nD Cert.KernelAdamAttnNormIdeal.τ).loc Cert.KernelAdamAttnNormIdeal.main_arg3) = m ((c.tc : Thread Cert.KernelAdamAttnNormIdeal.nD Cert.KernelAdamAttnNormIdeal.τ).loc Cert.KernelAdamAttnNormIdeal.main_arg3))
      ∧ θ_run (Cert.ReferenceAdamAttnNormIdeal.defs (F := Ideal)) (onTc (τ := Cert.ReferenceAdamAttnNormIdeal.τ) (Cert.ReferenceAdamAttnNormIdeal.main (F := Ideal))) ⟨m', fun _ => 0, g'⟩ (fun r => ∀ c : Dev Cert.ReferenceAdamAttnNormIdeal.nD,
          r.2.mem ((c.tc : Thread Cert.ReferenceAdamAttnNormIdeal.nD Cert.ReferenceAdamAttnNormIdeal.τ).loc Cert.ReferenceAdamAttnNormIdeal.main_v23) = v0 c
          ∧ r.2.mem ((c.tc : Thread Cert.ReferenceAdamAttnNormIdeal.nD Cert.ReferenceAdamAttnNormIdeal.τ).loc Cert.ReferenceAdamAttnNormIdeal.main_v4) = v1 c
          ∧ r.2.mem ((c.tc : Thread Cert.ReferenceAdamAttnNormIdeal.nD Cert.ReferenceAdamAttnNormIdeal.τ).loc Cert.ReferenceAdamAttnNormIdeal.main_v10) = v2 c
          ∧ r.2.mem ((c.tc : Thread Cert.ReferenceAdamAttnNormIdeal.nD Cert.ReferenceAdamAttnNormIdeal.τ).loc Cert.ReferenceAdamAttnNormIdeal.main_arg0) = m' ((c.tc : Thread Cert.ReferenceAdamAttnNormIdeal.nD Cert.ReferenceAdamAttnNormIdeal.τ).loc Cert.ReferenceAdamAttnNormIdeal.main_arg0)
          ∧ r.2.mem ((c.tc : Thread Cert.ReferenceAdamAttnNormIdeal.nD Cert.ReferenceAdamAttnNormIdeal.τ).loc Cert.ReferenceAdamAttnNormIdeal.main_arg1) = m' ((c.tc : Thread Cert.ReferenceAdamAttnNormIdeal.nD Cert.ReferenceAdamAttnNormIdeal.τ).loc Cert.ReferenceAdamAttnNormIdeal.main_arg1)
          ∧ r.2.mem ((c.tc : Thread Cert.ReferenceAdamAttnNormIdeal.nD Cert.ReferenceAdamAttnNormIdeal.τ).loc Cert.ReferenceAdamAttnNormIdeal.main_arg2) = m' ((c.tc : Thread Cert.ReferenceAdamAttnNormIdeal.nD Cert.ReferenceAdamAttnNormIdeal.τ).loc Cert.ReferenceAdamAttnNormIdeal.main_arg2)
          ∧ r.2.mem ((c.tc : Thread Cert.ReferenceAdamAttnNormIdeal.nD Cert.ReferenceAdamAttnNormIdeal.τ).loc Cert.ReferenceAdamAttnNormIdeal.main_arg3) = m' ((c.tc : Thread Cert.ReferenceAdamAttnNormIdeal.nD Cert.ReferenceAdamAttnNormIdeal.τ).loc Cert.ReferenceAdamAttnNormIdeal.main_arg3))

def preserves_KernelAdamForget_KernelAdamForgetIdeal : Prop :=
  True

def algebraic_KernelAdamForgetIdeal_ReferenceAdamForgetIdeal [hKernelAdamForgetIdeal : Cert.KernelAdamForgetIdeal.Facts] [hReferenceAdamForgetIdeal : Cert.ReferenceAdamForgetIdeal.Facts] : Prop :=
  ∀ (m : (ℓ : Loc Cert.KernelAdamForgetIdeal.nD Cert.KernelAdamForgetIdeal.τ Cert.KernelAdamForgetIdeal.sig) → Buf (Elt Ideal) ℓ) (g : Dev Cert.KernelAdamForgetIdeal.nD → PrngReg)
    (m' : (ℓ : Loc Cert.ReferenceAdamForgetIdeal.nD Cert.ReferenceAdamForgetIdeal.τ Cert.ReferenceAdamForgetIdeal.sig) → Buf (Elt Ideal) ℓ) (g' : Dev Cert.ReferenceAdamForgetIdeal.nD → PrngReg), Pre_KernelAdamForgetIdeal m →
    (∀ c : Dev Cert.KernelAdamForgetIdeal.nD,
      m' ((c.tc : Thread Cert.ReferenceAdamForgetIdeal.nD Cert.ReferenceAdamForgetIdeal.τ).loc Cert.ReferenceAdamForgetIdeal.main_arg0) = m ((c.tc : Thread Cert.KernelAdamForgetIdeal.nD Cert.KernelAdamForgetIdeal.τ).loc Cert.KernelAdamForgetIdeal.main_arg0)
      ∧ m' ((c.tc : Thread Cert.ReferenceAdamForgetIdeal.nD Cert.ReferenceAdamForgetIdeal.τ).loc Cert.ReferenceAdamForgetIdeal.main_arg1) = m ((c.tc : Thread Cert.KernelAdamForgetIdeal.nD Cert.KernelAdamForgetIdeal.τ).loc Cert.KernelAdamForgetIdeal.main_arg1)
      ∧ m' ((c.tc : Thread Cert.ReferenceAdamForgetIdeal.nD Cert.ReferenceAdamForgetIdeal.τ).loc Cert.ReferenceAdamForgetIdeal.main_arg2) = m ((c.tc : Thread Cert.KernelAdamForgetIdeal.nD Cert.KernelAdamForgetIdeal.τ).loc Cert.KernelAdamForgetIdeal.main_arg2)
      ∧ m' ((c.tc : Thread Cert.ReferenceAdamForgetIdeal.nD Cert.ReferenceAdamForgetIdeal.τ).loc Cert.ReferenceAdamForgetIdeal.main_arg3) = m ((c.tc : Thread Cert.KernelAdamForgetIdeal.nD Cert.KernelAdamForgetIdeal.τ).loc Cert.KernelAdamForgetIdeal.main_arg3)) →
    ∃ (v0 : (c : Dev Cert.KernelAdamForgetIdeal.nD) → Buf (Elt Ideal) ((c.tc : Thread Cert.KernelAdamForgetIdeal.nD Cert.KernelAdamForgetIdeal.τ).loc Cert.KernelAdamForgetIdeal.main_v0_0)) (v1 : (c : Dev Cert.KernelAdamForgetIdeal.nD) → Buf (Elt Ideal) ((c.tc : Thread Cert.KernelAdamForgetIdeal.nD Cert.KernelAdamForgetIdeal.τ).loc Cert.KernelAdamForgetIdeal.main_v0_1)) (v2 : (c : Dev Cert.KernelAdamForgetIdeal.nD) → Buf (Elt Ideal) ((c.tc : Thread Cert.KernelAdamForgetIdeal.nD Cert.KernelAdamForgetIdeal.τ).loc Cert.KernelAdamForgetIdeal.main_v0_2)),
      θ_run (Cert.KernelAdamForgetIdeal.defs (F := Ideal)) (onTc (τ := Cert.KernelAdamForgetIdeal.τ) (Cert.KernelAdamForgetIdeal.main (F := Ideal))) ⟨m, fun _ => 0, g⟩ (fun r => ∀ c : Dev Cert.KernelAdamForgetIdeal.nD,
          r.2.mem ((c.tc : Thread Cert.KernelAdamForgetIdeal.nD Cert.KernelAdamForgetIdeal.τ).loc Cert.KernelAdamForgetIdeal.main_v0_0) = v0 c
          ∧ r.2.mem ((c.tc : Thread Cert.KernelAdamForgetIdeal.nD Cert.KernelAdamForgetIdeal.τ).loc Cert.KernelAdamForgetIdeal.main_v0_1) = v1 c
          ∧ r.2.mem ((c.tc : Thread Cert.KernelAdamForgetIdeal.nD Cert.KernelAdamForgetIdeal.τ).loc Cert.KernelAdamForgetIdeal.main_v0_2) = v2 c
          ∧ r.2.mem ((c.tc : Thread Cert.KernelAdamForgetIdeal.nD Cert.KernelAdamForgetIdeal.τ).loc Cert.KernelAdamForgetIdeal.main_arg0) = m ((c.tc : Thread Cert.KernelAdamForgetIdeal.nD Cert.KernelAdamForgetIdeal.τ).loc Cert.KernelAdamForgetIdeal.main_arg0)
          ∧ r.2.mem ((c.tc : Thread Cert.KernelAdamForgetIdeal.nD Cert.KernelAdamForgetIdeal.τ).loc Cert.KernelAdamForgetIdeal.main_arg1) = m ((c.tc : Thread Cert.KernelAdamForgetIdeal.nD Cert.KernelAdamForgetIdeal.τ).loc Cert.KernelAdamForgetIdeal.main_arg1)
          ∧ r.2.mem ((c.tc : Thread Cert.KernelAdamForgetIdeal.nD Cert.KernelAdamForgetIdeal.τ).loc Cert.KernelAdamForgetIdeal.main_arg2) = m ((c.tc : Thread Cert.KernelAdamForgetIdeal.nD Cert.KernelAdamForgetIdeal.τ).loc Cert.KernelAdamForgetIdeal.main_arg2)
          ∧ r.2.mem ((c.tc : Thread Cert.KernelAdamForgetIdeal.nD Cert.KernelAdamForgetIdeal.τ).loc Cert.KernelAdamForgetIdeal.main_arg3) = m ((c.tc : Thread Cert.KernelAdamForgetIdeal.nD Cert.KernelAdamForgetIdeal.τ).loc Cert.KernelAdamForgetIdeal.main_arg3))
      ∧ θ_run (Cert.ReferenceAdamForgetIdeal.defs (F := Ideal)) (onTc (τ := Cert.ReferenceAdamForgetIdeal.τ) (Cert.ReferenceAdamForgetIdeal.main (F := Ideal))) ⟨m', fun _ => 0, g'⟩ (fun r => ∀ c : Dev Cert.ReferenceAdamForgetIdeal.nD,
          r.2.mem ((c.tc : Thread Cert.ReferenceAdamForgetIdeal.nD Cert.ReferenceAdamForgetIdeal.τ).loc Cert.ReferenceAdamForgetIdeal.main_v23) = v0 c
          ∧ r.2.mem ((c.tc : Thread Cert.ReferenceAdamForgetIdeal.nD Cert.ReferenceAdamForgetIdeal.τ).loc Cert.ReferenceAdamForgetIdeal.main_v4) = v1 c
          ∧ r.2.mem ((c.tc : Thread Cert.ReferenceAdamForgetIdeal.nD Cert.ReferenceAdamForgetIdeal.τ).loc Cert.ReferenceAdamForgetIdeal.main_v10) = v2 c
          ∧ r.2.mem ((c.tc : Thread Cert.ReferenceAdamForgetIdeal.nD Cert.ReferenceAdamForgetIdeal.τ).loc Cert.ReferenceAdamForgetIdeal.main_arg0) = m' ((c.tc : Thread Cert.ReferenceAdamForgetIdeal.nD Cert.ReferenceAdamForgetIdeal.τ).loc Cert.ReferenceAdamForgetIdeal.main_arg0)
          ∧ r.2.mem ((c.tc : Thread Cert.ReferenceAdamForgetIdeal.nD Cert.ReferenceAdamForgetIdeal.τ).loc Cert.ReferenceAdamForgetIdeal.main_arg1) = m' ((c.tc : Thread Cert.ReferenceAdamForgetIdeal.nD Cert.ReferenceAdamForgetIdeal.τ).loc Cert.ReferenceAdamForgetIdeal.main_arg1)
          ∧ r.2.mem ((c.tc : Thread Cert.ReferenceAdamForgetIdeal.nD Cert.ReferenceAdamForgetIdeal.τ).loc Cert.ReferenceAdamForgetIdeal.main_arg2) = m' ((c.tc : Thread Cert.ReferenceAdamForgetIdeal.nD Cert.ReferenceAdamForgetIdeal.τ).loc Cert.ReferenceAdamForgetIdeal.main_arg2)
          ∧ r.2.mem ((c.tc : Thread Cert.ReferenceAdamForgetIdeal.nD Cert.ReferenceAdamForgetIdeal.τ).loc Cert.ReferenceAdamForgetIdeal.main_arg3) = m' ((c.tc : Thread Cert.ReferenceAdamForgetIdeal.nD Cert.ReferenceAdamForgetIdeal.τ).loc Cert.ReferenceAdamForgetIdeal.main_arg3))

def preserves_KernelAdamHead_KernelAdamHeadIdeal : Prop :=
  True

def algebraic_KernelAdamHeadIdeal_ReferenceAdamHeadIdeal [hKernelAdamHeadIdeal : Cert.KernelAdamHeadIdeal.Facts] [hReferenceAdamHeadIdeal : Cert.ReferenceAdamHeadIdeal.Facts] : Prop :=
  ∀ (m : (ℓ : Loc Cert.KernelAdamHeadIdeal.nD Cert.KernelAdamHeadIdeal.τ Cert.KernelAdamHeadIdeal.sig) → Buf (Elt Ideal) ℓ) (g : Dev Cert.KernelAdamHeadIdeal.nD → PrngReg)
    (m' : (ℓ : Loc Cert.ReferenceAdamHeadIdeal.nD Cert.ReferenceAdamHeadIdeal.τ Cert.ReferenceAdamHeadIdeal.sig) → Buf (Elt Ideal) ℓ) (g' : Dev Cert.ReferenceAdamHeadIdeal.nD → PrngReg), Pre_KernelAdamHeadIdeal m →
    (∀ c : Dev Cert.KernelAdamHeadIdeal.nD,
      m' ((c.tc : Thread Cert.ReferenceAdamHeadIdeal.nD Cert.ReferenceAdamHeadIdeal.τ).loc Cert.ReferenceAdamHeadIdeal.main_arg0) = m ((c.tc : Thread Cert.KernelAdamHeadIdeal.nD Cert.KernelAdamHeadIdeal.τ).loc Cert.KernelAdamHeadIdeal.main_arg0)
      ∧ m' ((c.tc : Thread Cert.ReferenceAdamHeadIdeal.nD Cert.ReferenceAdamHeadIdeal.τ).loc Cert.ReferenceAdamHeadIdeal.main_arg1) = m ((c.tc : Thread Cert.KernelAdamHeadIdeal.nD Cert.KernelAdamHeadIdeal.τ).loc Cert.KernelAdamHeadIdeal.main_arg1)
      ∧ m' ((c.tc : Thread Cert.ReferenceAdamHeadIdeal.nD Cert.ReferenceAdamHeadIdeal.τ).loc Cert.ReferenceAdamHeadIdeal.main_arg2) = m ((c.tc : Thread Cert.KernelAdamHeadIdeal.nD Cert.KernelAdamHeadIdeal.τ).loc Cert.KernelAdamHeadIdeal.main_arg2)
      ∧ m' ((c.tc : Thread Cert.ReferenceAdamHeadIdeal.nD Cert.ReferenceAdamHeadIdeal.τ).loc Cert.ReferenceAdamHeadIdeal.main_arg3) = m ((c.tc : Thread Cert.KernelAdamHeadIdeal.nD Cert.KernelAdamHeadIdeal.τ).loc Cert.KernelAdamHeadIdeal.main_arg3)) →
    ∃ (v0 : (c : Dev Cert.KernelAdamHeadIdeal.nD) → Buf (Elt Ideal) ((c.tc : Thread Cert.KernelAdamHeadIdeal.nD Cert.KernelAdamHeadIdeal.τ).loc Cert.KernelAdamHeadIdeal.main_v0_0)) (v1 : (c : Dev Cert.KernelAdamHeadIdeal.nD) → Buf (Elt Ideal) ((c.tc : Thread Cert.KernelAdamHeadIdeal.nD Cert.KernelAdamHeadIdeal.τ).loc Cert.KernelAdamHeadIdeal.main_v0_1)) (v2 : (c : Dev Cert.KernelAdamHeadIdeal.nD) → Buf (Elt Ideal) ((c.tc : Thread Cert.KernelAdamHeadIdeal.nD Cert.KernelAdamHeadIdeal.τ).loc Cert.KernelAdamHeadIdeal.main_v0_2)),
      θ_run (Cert.KernelAdamHeadIdeal.defs (F := Ideal)) (onTc (τ := Cert.KernelAdamHeadIdeal.τ) (Cert.KernelAdamHeadIdeal.main (F := Ideal))) ⟨m, fun _ => 0, g⟩ (fun r => ∀ c : Dev Cert.KernelAdamHeadIdeal.nD,
          r.2.mem ((c.tc : Thread Cert.KernelAdamHeadIdeal.nD Cert.KernelAdamHeadIdeal.τ).loc Cert.KernelAdamHeadIdeal.main_v0_0) = v0 c
          ∧ r.2.mem ((c.tc : Thread Cert.KernelAdamHeadIdeal.nD Cert.KernelAdamHeadIdeal.τ).loc Cert.KernelAdamHeadIdeal.main_v0_1) = v1 c
          ∧ r.2.mem ((c.tc : Thread Cert.KernelAdamHeadIdeal.nD Cert.KernelAdamHeadIdeal.τ).loc Cert.KernelAdamHeadIdeal.main_v0_2) = v2 c
          ∧ r.2.mem ((c.tc : Thread Cert.KernelAdamHeadIdeal.nD Cert.KernelAdamHeadIdeal.τ).loc Cert.KernelAdamHeadIdeal.main_arg0) = m ((c.tc : Thread Cert.KernelAdamHeadIdeal.nD Cert.KernelAdamHeadIdeal.τ).loc Cert.KernelAdamHeadIdeal.main_arg0)
          ∧ r.2.mem ((c.tc : Thread Cert.KernelAdamHeadIdeal.nD Cert.KernelAdamHeadIdeal.τ).loc Cert.KernelAdamHeadIdeal.main_arg1) = m ((c.tc : Thread Cert.KernelAdamHeadIdeal.nD Cert.KernelAdamHeadIdeal.τ).loc Cert.KernelAdamHeadIdeal.main_arg1)
          ∧ r.2.mem ((c.tc : Thread Cert.KernelAdamHeadIdeal.nD Cert.KernelAdamHeadIdeal.τ).loc Cert.KernelAdamHeadIdeal.main_arg2) = m ((c.tc : Thread Cert.KernelAdamHeadIdeal.nD Cert.KernelAdamHeadIdeal.τ).loc Cert.KernelAdamHeadIdeal.main_arg2)
          ∧ r.2.mem ((c.tc : Thread Cert.KernelAdamHeadIdeal.nD Cert.KernelAdamHeadIdeal.τ).loc Cert.KernelAdamHeadIdeal.main_arg3) = m ((c.tc : Thread Cert.KernelAdamHeadIdeal.nD Cert.KernelAdamHeadIdeal.τ).loc Cert.KernelAdamHeadIdeal.main_arg3))
      ∧ θ_run (Cert.ReferenceAdamHeadIdeal.defs (F := Ideal)) (onTc (τ := Cert.ReferenceAdamHeadIdeal.τ) (Cert.ReferenceAdamHeadIdeal.main (F := Ideal))) ⟨m', fun _ => 0, g'⟩ (fun r => ∀ c : Dev Cert.ReferenceAdamHeadIdeal.nD,
          r.2.mem ((c.tc : Thread Cert.ReferenceAdamHeadIdeal.nD Cert.ReferenceAdamHeadIdeal.τ).loc Cert.ReferenceAdamHeadIdeal.main_v23) = v0 c
          ∧ r.2.mem ((c.tc : Thread Cert.ReferenceAdamHeadIdeal.nD Cert.ReferenceAdamHeadIdeal.τ).loc Cert.ReferenceAdamHeadIdeal.main_v4) = v1 c
          ∧ r.2.mem ((c.tc : Thread Cert.ReferenceAdamHeadIdeal.nD Cert.ReferenceAdamHeadIdeal.τ).loc Cert.ReferenceAdamHeadIdeal.main_v10) = v2 c
          ∧ r.2.mem ((c.tc : Thread Cert.ReferenceAdamHeadIdeal.nD Cert.ReferenceAdamHeadIdeal.τ).loc Cert.ReferenceAdamHeadIdeal.main_arg0) = m' ((c.tc : Thread Cert.ReferenceAdamHeadIdeal.nD Cert.ReferenceAdamHeadIdeal.τ).loc Cert.ReferenceAdamHeadIdeal.main_arg0)
          ∧ r.2.mem ((c.tc : Thread Cert.ReferenceAdamHeadIdeal.nD Cert.ReferenceAdamHeadIdeal.τ).loc Cert.ReferenceAdamHeadIdeal.main_arg1) = m' ((c.tc : Thread Cert.ReferenceAdamHeadIdeal.nD Cert.ReferenceAdamHeadIdeal.τ).loc Cert.ReferenceAdamHeadIdeal.main_arg1)
          ∧ r.2.mem ((c.tc : Thread Cert.ReferenceAdamHeadIdeal.nD Cert.ReferenceAdamHeadIdeal.τ).loc Cert.ReferenceAdamHeadIdeal.main_arg2) = m' ((c.tc : Thread Cert.ReferenceAdamHeadIdeal.nD Cert.ReferenceAdamHeadIdeal.τ).loc Cert.ReferenceAdamHeadIdeal.main_arg2)
          ∧ r.2.mem ((c.tc : Thread Cert.ReferenceAdamHeadIdeal.nD Cert.ReferenceAdamHeadIdeal.τ).loc Cert.ReferenceAdamHeadIdeal.main_arg3) = m' ((c.tc : Thread Cert.ReferenceAdamHeadIdeal.nD Cert.ReferenceAdamHeadIdeal.τ).loc Cert.ReferenceAdamHeadIdeal.main_arg3))

def preserves_KernelHalfIn_KernelHalfInIdeal : Prop :=
  True

def algebraic_KernelHalfInIdeal_ReferenceHalfInIdeal [hKernelHalfInIdeal : Cert.KernelHalfInIdeal.Facts] [hReferenceHalfInIdeal : Cert.ReferenceHalfInIdeal.Facts] : Prop :=
  ∀ (m : (ℓ : Loc Cert.KernelHalfInIdeal.nD Cert.KernelHalfInIdeal.τ Cert.KernelHalfInIdeal.sig) → Buf (Elt Ideal) ℓ) (g : Dev Cert.KernelHalfInIdeal.nD → PrngReg)
    (m' : (ℓ : Loc Cert.ReferenceHalfInIdeal.nD Cert.ReferenceHalfInIdeal.τ Cert.ReferenceHalfInIdeal.sig) → Buf (Elt Ideal) ℓ) (g' : Dev Cert.ReferenceHalfInIdeal.nD → PrngReg), Pre_KernelHalfInIdeal m →
    (∀ c : Dev Cert.KernelHalfInIdeal.nD,
      m' ((c.tc : Thread Cert.ReferenceHalfInIdeal.nD Cert.ReferenceHalfInIdeal.τ).loc Cert.ReferenceHalfInIdeal.main_arg0) = m ((c.tc : Thread Cert.KernelHalfInIdeal.nD Cert.KernelHalfInIdeal.τ).loc Cert.KernelHalfInIdeal.main_arg0)
      ∧ m' ((c.tc : Thread Cert.ReferenceHalfInIdeal.nD Cert.ReferenceHalfInIdeal.τ).loc Cert.ReferenceHalfInIdeal.main_arg1) = m ((c.tc : Thread Cert.KernelHalfInIdeal.nD Cert.KernelHalfInIdeal.τ).loc Cert.KernelHalfInIdeal.main_arg1)
      ∧ m' ((c.tc : Thread Cert.ReferenceHalfInIdeal.nD Cert.ReferenceHalfInIdeal.τ).loc Cert.ReferenceHalfInIdeal.main_arg2) = m ((c.tc : Thread Cert.KernelHalfInIdeal.nD Cert.KernelHalfInIdeal.τ).loc Cert.KernelHalfInIdeal.main_arg2)
      ∧ m' ((c.tc : Thread Cert.ReferenceHalfInIdeal.nD Cert.ReferenceHalfInIdeal.τ).loc Cert.ReferenceHalfInIdeal.main_arg3) = m ((c.tc : Thread Cert.KernelHalfInIdeal.nD Cert.KernelHalfInIdeal.τ).loc Cert.KernelHalfInIdeal.main_arg3)
      ∧ m' ((c.tc : Thread Cert.ReferenceHalfInIdeal.nD Cert.ReferenceHalfInIdeal.τ).loc Cert.ReferenceHalfInIdeal.main_arg4) = m ((c.tc : Thread Cert.KernelHalfInIdeal.nD Cert.KernelHalfInIdeal.τ).loc Cert.KernelHalfInIdeal.main_arg4)
      ∧ m' ((c.tc : Thread Cert.ReferenceHalfInIdeal.nD Cert.ReferenceHalfInIdeal.τ).loc Cert.ReferenceHalfInIdeal.main_arg5) = m ((c.tc : Thread Cert.KernelHalfInIdeal.nD Cert.KernelHalfInIdeal.τ).loc Cert.KernelHalfInIdeal.main_arg5)) →
    ∃ (v0 : (c : Dev Cert.KernelHalfInIdeal.nD) → Buf (Elt Ideal) ((c.tc : Thread Cert.KernelHalfInIdeal.nD Cert.KernelHalfInIdeal.τ).loc Cert.KernelHalfInIdeal.main_v0_0)) (v1 : (c : Dev Cert.KernelHalfInIdeal.nD) → Buf (Elt Ideal) ((c.tc : Thread Cert.KernelHalfInIdeal.nD Cert.KernelHalfInIdeal.τ).loc Cert.KernelHalfInIdeal.main_v0_1)) (v2 : (c : Dev Cert.KernelHalfInIdeal.nD) → Buf (Elt Ideal) ((c.tc : Thread Cert.KernelHalfInIdeal.nD Cert.KernelHalfInIdeal.τ).loc Cert.KernelHalfInIdeal.main_v0_2)) (v3 : (c : Dev Cert.KernelHalfInIdeal.nD) → Buf (Elt Ideal) ((c.tc : Thread Cert.KernelHalfInIdeal.nD Cert.KernelHalfInIdeal.τ).loc Cert.KernelHalfInIdeal.main_v0_3)),
      θ_run (Cert.KernelHalfInIdeal.defs (F := Ideal)) (onTc (τ := Cert.KernelHalfInIdeal.τ) (Cert.KernelHalfInIdeal.main (F := Ideal))) ⟨m, fun _ => 0, g⟩ (fun r => ∀ c : Dev Cert.KernelHalfInIdeal.nD,
          r.2.mem ((c.tc : Thread Cert.KernelHalfInIdeal.nD Cert.KernelHalfInIdeal.τ).loc Cert.KernelHalfInIdeal.main_v0_0) = v0 c
          ∧ r.2.mem ((c.tc : Thread Cert.KernelHalfInIdeal.nD Cert.KernelHalfInIdeal.τ).loc Cert.KernelHalfInIdeal.main_v0_1) = v1 c
          ∧ r.2.mem ((c.tc : Thread Cert.KernelHalfInIdeal.nD Cert.KernelHalfInIdeal.τ).loc Cert.KernelHalfInIdeal.main_v0_2) = v2 c
          ∧ r.2.mem ((c.tc : Thread Cert.KernelHalfInIdeal.nD Cert.KernelHalfInIdeal.τ).loc Cert.KernelHalfInIdeal.main_v0_3) = v3 c
          ∧ r.2.mem ((c.tc : Thread Cert.KernelHalfInIdeal.nD Cert.KernelHalfInIdeal.τ).loc Cert.KernelHalfInIdeal.main_arg0) = m ((c.tc : Thread Cert.KernelHalfInIdeal.nD Cert.KernelHalfInIdeal.τ).loc Cert.KernelHalfInIdeal.main_arg0)
          ∧ r.2.mem ((c.tc : Thread Cert.KernelHalfInIdeal.nD Cert.KernelHalfInIdeal.τ).loc Cert.KernelHalfInIdeal.main_arg1) = m ((c.tc : Thread Cert.KernelHalfInIdeal.nD Cert.KernelHalfInIdeal.τ).loc Cert.KernelHalfInIdeal.main_arg1)
          ∧ r.2.mem ((c.tc : Thread Cert.KernelHalfInIdeal.nD Cert.KernelHalfInIdeal.τ).loc Cert.KernelHalfInIdeal.main_arg2) = m ((c.tc : Thread Cert.KernelHalfInIdeal.nD Cert.KernelHalfInIdeal.τ).loc Cert.KernelHalfInIdeal.main_arg2)
          ∧ r.2.mem ((c.tc : Thread Cert.KernelHalfInIdeal.nD Cert.KernelHalfInIdeal.τ).loc Cert.KernelHalfInIdeal.main_arg3) = m ((c.tc : Thread Cert.KernelHalfInIdeal.nD Cert.KernelHalfInIdeal.τ).loc Cert.KernelHalfInIdeal.main_arg3)
          ∧ r.2.mem ((c.tc : Thread Cert.KernelHalfInIdeal.nD Cert.KernelHalfInIdeal.τ).loc Cert.KernelHalfInIdeal.main_arg4) = m ((c.tc : Thread Cert.KernelHalfInIdeal.nD Cert.KernelHalfInIdeal.τ).loc Cert.KernelHalfInIdeal.main_arg4)
          ∧ r.2.mem ((c.tc : Thread Cert.KernelHalfInIdeal.nD Cert.KernelHalfInIdeal.τ).loc Cert.KernelHalfInIdeal.main_arg5) = m ((c.tc : Thread Cert.KernelHalfInIdeal.nD Cert.KernelHalfInIdeal.τ).loc Cert.KernelHalfInIdeal.main_arg5))
      ∧ θ_run (Cert.ReferenceHalfInIdeal.defs (F := Ideal)) (onTc (τ := Cert.ReferenceHalfInIdeal.τ) (Cert.ReferenceHalfInIdeal.main (F := Ideal))) ⟨m', fun _ => 0, g'⟩ (fun r => ∀ c : Dev Cert.ReferenceHalfInIdeal.nD,
          r.2.mem ((c.tc : Thread Cert.ReferenceHalfInIdeal.nD Cert.ReferenceHalfInIdeal.τ).loc Cert.ReferenceHalfInIdeal.main_v7) = v0 c
          ∧ r.2.mem ((c.tc : Thread Cert.ReferenceHalfInIdeal.nD Cert.ReferenceHalfInIdeal.τ).loc Cert.ReferenceHalfInIdeal.main_v31) = v1 c
          ∧ r.2.mem ((c.tc : Thread Cert.ReferenceHalfInIdeal.nD Cert.ReferenceHalfInIdeal.τ).loc Cert.ReferenceHalfInIdeal.main_v12) = v2 c
          ∧ r.2.mem ((c.tc : Thread Cert.ReferenceHalfInIdeal.nD Cert.ReferenceHalfInIdeal.τ).loc Cert.ReferenceHalfInIdeal.main_v18) = v3 c
          ∧ r.2.mem ((c.tc : Thread Cert.ReferenceHalfInIdeal.nD Cert.ReferenceHalfInIdeal.τ).loc Cert.ReferenceHalfInIdeal.main_arg0) = m' ((c.tc : Thread Cert.ReferenceHalfInIdeal.nD Cert.ReferenceHalfInIdeal.τ).loc Cert.ReferenceHalfInIdeal.main_arg0)
          ∧ r.2.mem ((c.tc : Thread Cert.ReferenceHalfInIdeal.nD Cert.ReferenceHalfInIdeal.τ).loc Cert.ReferenceHalfInIdeal.main_arg1) = m' ((c.tc : Thread Cert.ReferenceHalfInIdeal.nD Cert.ReferenceHalfInIdeal.τ).loc Cert.ReferenceHalfInIdeal.main_arg1)
          ∧ r.2.mem ((c.tc : Thread Cert.ReferenceHalfInIdeal.nD Cert.ReferenceHalfInIdeal.τ).loc Cert.ReferenceHalfInIdeal.main_arg2) = m' ((c.tc : Thread Cert.ReferenceHalfInIdeal.nD Cert.ReferenceHalfInIdeal.τ).loc Cert.ReferenceHalfInIdeal.main_arg2)
          ∧ r.2.mem ((c.tc : Thread Cert.ReferenceHalfInIdeal.nD Cert.ReferenceHalfInIdeal.τ).loc Cert.ReferenceHalfInIdeal.main_arg3) = m' ((c.tc : Thread Cert.ReferenceHalfInIdeal.nD Cert.ReferenceHalfInIdeal.τ).loc Cert.ReferenceHalfInIdeal.main_arg3)
          ∧ r.2.mem ((c.tc : Thread Cert.ReferenceHalfInIdeal.nD Cert.ReferenceHalfInIdeal.τ).loc Cert.ReferenceHalfInIdeal.main_arg4) = m' ((c.tc : Thread Cert.ReferenceHalfInIdeal.nD Cert.ReferenceHalfInIdeal.τ).loc Cert.ReferenceHalfInIdeal.main_arg4)
          ∧ r.2.mem ((c.tc : Thread Cert.ReferenceHalfInIdeal.nD Cert.ReferenceHalfInIdeal.τ).loc Cert.ReferenceHalfInIdeal.main_arg5) = m' ((c.tc : Thread Cert.ReferenceHalfInIdeal.nD Cert.ReferenceHalfInIdeal.τ).loc Cert.ReferenceHalfInIdeal.main_arg5))

def preserves_KernelHalfAttn_KernelHalfAttnIdeal : Prop :=
  True

def algebraic_KernelHalfAttnIdeal_ReferenceHalfAttnIdeal [hKernelHalfAttnIdeal : Cert.KernelHalfAttnIdeal.Facts] [hReferenceHalfAttnIdeal : Cert.ReferenceHalfAttnIdeal.Facts] : Prop :=
  ∀ (m : (ℓ : Loc Cert.KernelHalfAttnIdeal.nD Cert.KernelHalfAttnIdeal.τ Cert.KernelHalfAttnIdeal.sig) → Buf (Elt Ideal) ℓ) (g : Dev Cert.KernelHalfAttnIdeal.nD → PrngReg)
    (m' : (ℓ : Loc Cert.ReferenceHalfAttnIdeal.nD Cert.ReferenceHalfAttnIdeal.τ Cert.ReferenceHalfAttnIdeal.sig) → Buf (Elt Ideal) ℓ) (g' : Dev Cert.ReferenceHalfAttnIdeal.nD → PrngReg), Pre_KernelHalfAttnIdeal m →
    (∀ c : Dev Cert.KernelHalfAttnIdeal.nD,
      m' ((c.tc : Thread Cert.ReferenceHalfAttnIdeal.nD Cert.ReferenceHalfAttnIdeal.τ).loc Cert.ReferenceHalfAttnIdeal.main_arg0) = m ((c.tc : Thread Cert.KernelHalfAttnIdeal.nD Cert.KernelHalfAttnIdeal.τ).loc Cert.KernelHalfAttnIdeal.main_arg0)
      ∧ m' ((c.tc : Thread Cert.ReferenceHalfAttnIdeal.nD Cert.ReferenceHalfAttnIdeal.τ).loc Cert.ReferenceHalfAttnIdeal.main_arg1) = m ((c.tc : Thread Cert.KernelHalfAttnIdeal.nD Cert.KernelHalfAttnIdeal.τ).loc Cert.KernelHalfAttnIdeal.main_arg1)
      ∧ m' ((c.tc : Thread Cert.ReferenceHalfAttnIdeal.nD Cert.ReferenceHalfAttnIdeal.τ).loc Cert.ReferenceHalfAttnIdeal.main_arg2) = m ((c.tc : Thread Cert.KernelHalfAttnIdeal.nD Cert.KernelHalfAttnIdeal.τ).loc Cert.KernelHalfAttnIdeal.main_arg2)
      ∧ m' ((c.tc : Thread Cert.ReferenceHalfAttnIdeal.nD Cert.ReferenceHalfAttnIdeal.τ).loc Cert.ReferenceHalfAttnIdeal.main_arg3) = m ((c.tc : Thread Cert.KernelHalfAttnIdeal.nD Cert.KernelHalfAttnIdeal.τ).loc Cert.KernelHalfAttnIdeal.main_arg3)
      ∧ m' ((c.tc : Thread Cert.ReferenceHalfAttnIdeal.nD Cert.ReferenceHalfAttnIdeal.τ).loc Cert.ReferenceHalfAttnIdeal.main_arg4) = m ((c.tc : Thread Cert.KernelHalfAttnIdeal.nD Cert.KernelHalfAttnIdeal.τ).loc Cert.KernelHalfAttnIdeal.main_arg4)
      ∧ m' ((c.tc : Thread Cert.ReferenceHalfAttnIdeal.nD Cert.ReferenceHalfAttnIdeal.τ).loc Cert.ReferenceHalfAttnIdeal.main_arg5) = m ((c.tc : Thread Cert.KernelHalfAttnIdeal.nD Cert.KernelHalfAttnIdeal.τ).loc Cert.KernelHalfAttnIdeal.main_arg5)) →
    ∃ (v0 : (c : Dev Cert.KernelHalfAttnIdeal.nD) → Buf (Elt Ideal) ((c.tc : Thread Cert.KernelHalfAttnIdeal.nD Cert.KernelHalfAttnIdeal.τ).loc Cert.KernelHalfAttnIdeal.main_v0_0)) (v1 : (c : Dev Cert.KernelHalfAttnIdeal.nD) → Buf (Elt Ideal) ((c.tc : Thread Cert.KernelHalfAttnIdeal.nD Cert.KernelHalfAttnIdeal.τ).loc Cert.KernelHalfAttnIdeal.main_v0_1)) (v2 : (c : Dev Cert.KernelHalfAttnIdeal.nD) → Buf (Elt Ideal) ((c.tc : Thread Cert.KernelHalfAttnIdeal.nD Cert.KernelHalfAttnIdeal.τ).loc Cert.KernelHalfAttnIdeal.main_v0_2)) (v3 : (c : Dev Cert.KernelHalfAttnIdeal.nD) → Buf (Elt Ideal) ((c.tc : Thread Cert.KernelHalfAttnIdeal.nD Cert.KernelHalfAttnIdeal.τ).loc Cert.KernelHalfAttnIdeal.main_v0_3)),
      θ_run (Cert.KernelHalfAttnIdeal.defs (F := Ideal)) (onTc (τ := Cert.KernelHalfAttnIdeal.τ) (Cert.KernelHalfAttnIdeal.main (F := Ideal))) ⟨m, fun _ => 0, g⟩ (fun r => ∀ c : Dev Cert.KernelHalfAttnIdeal.nD,
          r.2.mem ((c.tc : Thread Cert.KernelHalfAttnIdeal.nD Cert.KernelHalfAttnIdeal.τ).loc Cert.KernelHalfAttnIdeal.main_v0_0) = v0 c
          ∧ r.2.mem ((c.tc : Thread Cert.KernelHalfAttnIdeal.nD Cert.KernelHalfAttnIdeal.τ).loc Cert.KernelHalfAttnIdeal.main_v0_1) = v1 c
          ∧ r.2.mem ((c.tc : Thread Cert.KernelHalfAttnIdeal.nD Cert.KernelHalfAttnIdeal.τ).loc Cert.KernelHalfAttnIdeal.main_v0_2) = v2 c
          ∧ r.2.mem ((c.tc : Thread Cert.KernelHalfAttnIdeal.nD Cert.KernelHalfAttnIdeal.τ).loc Cert.KernelHalfAttnIdeal.main_v0_3) = v3 c
          ∧ r.2.mem ((c.tc : Thread Cert.KernelHalfAttnIdeal.nD Cert.KernelHalfAttnIdeal.τ).loc Cert.KernelHalfAttnIdeal.main_arg0) = m ((c.tc : Thread Cert.KernelHalfAttnIdeal.nD Cert.KernelHalfAttnIdeal.τ).loc Cert.KernelHalfAttnIdeal.main_arg0)
          ∧ r.2.mem ((c.tc : Thread Cert.KernelHalfAttnIdeal.nD Cert.KernelHalfAttnIdeal.τ).loc Cert.KernelHalfAttnIdeal.main_arg1) = m ((c.tc : Thread Cert.KernelHalfAttnIdeal.nD Cert.KernelHalfAttnIdeal.τ).loc Cert.KernelHalfAttnIdeal.main_arg1)
          ∧ r.2.mem ((c.tc : Thread Cert.KernelHalfAttnIdeal.nD Cert.KernelHalfAttnIdeal.τ).loc Cert.KernelHalfAttnIdeal.main_arg2) = m ((c.tc : Thread Cert.KernelHalfAttnIdeal.nD Cert.KernelHalfAttnIdeal.τ).loc Cert.KernelHalfAttnIdeal.main_arg2)
          ∧ r.2.mem ((c.tc : Thread Cert.KernelHalfAttnIdeal.nD Cert.KernelHalfAttnIdeal.τ).loc Cert.KernelHalfAttnIdeal.main_arg3) = m ((c.tc : Thread Cert.KernelHalfAttnIdeal.nD Cert.KernelHalfAttnIdeal.τ).loc Cert.KernelHalfAttnIdeal.main_arg3)
          ∧ r.2.mem ((c.tc : Thread Cert.KernelHalfAttnIdeal.nD Cert.KernelHalfAttnIdeal.τ).loc Cert.KernelHalfAttnIdeal.main_arg4) = m ((c.tc : Thread Cert.KernelHalfAttnIdeal.nD Cert.KernelHalfAttnIdeal.τ).loc Cert.KernelHalfAttnIdeal.main_arg4)
          ∧ r.2.mem ((c.tc : Thread Cert.KernelHalfAttnIdeal.nD Cert.KernelHalfAttnIdeal.τ).loc Cert.KernelHalfAttnIdeal.main_arg5) = m ((c.tc : Thread Cert.KernelHalfAttnIdeal.nD Cert.KernelHalfAttnIdeal.τ).loc Cert.KernelHalfAttnIdeal.main_arg5))
      ∧ θ_run (Cert.ReferenceHalfAttnIdeal.defs (F := Ideal)) (onTc (τ := Cert.ReferenceHalfAttnIdeal.τ) (Cert.ReferenceHalfAttnIdeal.main (F := Ideal))) ⟨m', fun _ => 0, g'⟩ (fun r => ∀ c : Dev Cert.ReferenceHalfAttnIdeal.nD,
          r.2.mem ((c.tc : Thread Cert.ReferenceHalfAttnIdeal.nD Cert.ReferenceHalfAttnIdeal.τ).loc Cert.ReferenceHalfAttnIdeal.main_v7) = v0 c
          ∧ r.2.mem ((c.tc : Thread Cert.ReferenceHalfAttnIdeal.nD Cert.ReferenceHalfAttnIdeal.τ).loc Cert.ReferenceHalfAttnIdeal.main_v31) = v1 c
          ∧ r.2.mem ((c.tc : Thread Cert.ReferenceHalfAttnIdeal.nD Cert.ReferenceHalfAttnIdeal.τ).loc Cert.ReferenceHalfAttnIdeal.main_v12) = v2 c
          ∧ r.2.mem ((c.tc : Thread Cert.ReferenceHalfAttnIdeal.nD Cert.ReferenceHalfAttnIdeal.τ).loc Cert.ReferenceHalfAttnIdeal.main_v18) = v3 c
          ∧ r.2.mem ((c.tc : Thread Cert.ReferenceHalfAttnIdeal.nD Cert.ReferenceHalfAttnIdeal.τ).loc Cert.ReferenceHalfAttnIdeal.main_arg0) = m' ((c.tc : Thread Cert.ReferenceHalfAttnIdeal.nD Cert.ReferenceHalfAttnIdeal.τ).loc Cert.ReferenceHalfAttnIdeal.main_arg0)
          ∧ r.2.mem ((c.tc : Thread Cert.ReferenceHalfAttnIdeal.nD Cert.ReferenceHalfAttnIdeal.τ).loc Cert.ReferenceHalfAttnIdeal.main_arg1) = m' ((c.tc : Thread Cert.ReferenceHalfAttnIdeal.nD Cert.ReferenceHalfAttnIdeal.τ).loc Cert.ReferenceHalfAttnIdeal.main_arg1)
          ∧ r.2.mem ((c.tc : Thread Cert.ReferenceHalfAttnIdeal.nD Cert.ReferenceHalfAttnIdeal.τ).loc Cert.ReferenceHalfAttnIdeal.main_arg2) = m' ((c.tc : Thread Cert.ReferenceHalfAttnIdeal.nD Cert.ReferenceHalfAttnIdeal.τ).loc Cert.ReferenceHalfAttnIdeal.main_arg2)
          ∧ r.2.mem ((c.tc : Thread Cert.ReferenceHalfAttnIdeal.nD Cert.ReferenceHalfAttnIdeal.τ).loc Cert.ReferenceHalfAttnIdeal.main_arg3) = m' ((c.tc : Thread Cert.ReferenceHalfAttnIdeal.nD Cert.ReferenceHalfAttnIdeal.τ).loc Cert.ReferenceHalfAttnIdeal.main_arg3)
          ∧ r.2.mem ((c.tc : Thread Cert.ReferenceHalfAttnIdeal.nD Cert.ReferenceHalfAttnIdeal.τ).loc Cert.ReferenceHalfAttnIdeal.main_arg4) = m' ((c.tc : Thread Cert.ReferenceHalfAttnIdeal.nD Cert.ReferenceHalfAttnIdeal.τ).loc Cert.ReferenceHalfAttnIdeal.main_arg4)
          ∧ r.2.mem ((c.tc : Thread Cert.ReferenceHalfAttnIdeal.nD Cert.ReferenceHalfAttnIdeal.τ).loc Cert.ReferenceHalfAttnIdeal.main_arg5) = m' ((c.tc : Thread Cert.ReferenceHalfAttnIdeal.nD Cert.ReferenceHalfAttnIdeal.τ).loc Cert.ReferenceHalfAttnIdeal.main_arg5))

def preserves_KernelHalfOut_KernelHalfOutIdeal : Prop :=
  True

def algebraic_KernelHalfOutIdeal_ReferenceHalfOutIdeal [hKernelHalfOutIdeal : Cert.KernelHalfOutIdeal.Facts] [hReferenceHalfOutIdeal : Cert.ReferenceHalfOutIdeal.Facts] : Prop :=
  ∀ (m : (ℓ : Loc Cert.KernelHalfOutIdeal.nD Cert.KernelHalfOutIdeal.τ Cert.KernelHalfOutIdeal.sig) → Buf (Elt Ideal) ℓ) (g : Dev Cert.KernelHalfOutIdeal.nD → PrngReg)
    (m' : (ℓ : Loc Cert.ReferenceHalfOutIdeal.nD Cert.ReferenceHalfOutIdeal.τ Cert.ReferenceHalfOutIdeal.sig) → Buf (Elt Ideal) ℓ) (g' : Dev Cert.ReferenceHalfOutIdeal.nD → PrngReg), Pre_KernelHalfOutIdeal m →
    (∀ c : Dev Cert.KernelHalfOutIdeal.nD,
      m' ((c.tc : Thread Cert.ReferenceHalfOutIdeal.nD Cert.ReferenceHalfOutIdeal.τ).loc Cert.ReferenceHalfOutIdeal.main_arg0) = m ((c.tc : Thread Cert.KernelHalfOutIdeal.nD Cert.KernelHalfOutIdeal.τ).loc Cert.KernelHalfOutIdeal.main_arg0)
      ∧ m' ((c.tc : Thread Cert.ReferenceHalfOutIdeal.nD Cert.ReferenceHalfOutIdeal.τ).loc Cert.ReferenceHalfOutIdeal.main_arg1) = m ((c.tc : Thread Cert.KernelHalfOutIdeal.nD Cert.KernelHalfOutIdeal.τ).loc Cert.KernelHalfOutIdeal.main_arg1)
      ∧ m' ((c.tc : Thread Cert.ReferenceHalfOutIdeal.nD Cert.ReferenceHalfOutIdeal.τ).loc Cert.ReferenceHalfOutIdeal.main_arg2) = m ((c.tc : Thread Cert.KernelHalfOutIdeal.nD Cert.KernelHalfOutIdeal.τ).loc Cert.KernelHalfOutIdeal.main_arg2)
      ∧ m' ((c.tc : Thread Cert.ReferenceHalfOutIdeal.nD Cert.ReferenceHalfOutIdeal.τ).loc Cert.ReferenceHalfOutIdeal.main_arg3) = m ((c.tc : Thread Cert.KernelHalfOutIdeal.nD Cert.KernelHalfOutIdeal.τ).loc Cert.KernelHalfOutIdeal.main_arg3)
      ∧ m' ((c.tc : Thread Cert.ReferenceHalfOutIdeal.nD Cert.ReferenceHalfOutIdeal.τ).loc Cert.ReferenceHalfOutIdeal.main_arg4) = m ((c.tc : Thread Cert.KernelHalfOutIdeal.nD Cert.KernelHalfOutIdeal.τ).loc Cert.KernelHalfOutIdeal.main_arg4)
      ∧ m' ((c.tc : Thread Cert.ReferenceHalfOutIdeal.nD Cert.ReferenceHalfOutIdeal.τ).loc Cert.ReferenceHalfOutIdeal.main_arg5) = m ((c.tc : Thread Cert.KernelHalfOutIdeal.nD Cert.KernelHalfOutIdeal.τ).loc Cert.KernelHalfOutIdeal.main_arg5)) →
    ∃ (v0 : (c : Dev Cert.KernelHalfOutIdeal.nD) → Buf (Elt Ideal) ((c.tc : Thread Cert.KernelHalfOutIdeal.nD Cert.KernelHalfOutIdeal.τ).loc Cert.KernelHalfOutIdeal.main_v0_0)) (v1 : (c : Dev Cert.KernelHalfOutIdeal.nD) → Buf (Elt Ideal) ((c.tc : Thread Cert.KernelHalfOutIdeal.nD Cert.KernelHalfOutIdeal.τ).loc Cert.KernelHalfOutIdeal.main_v0_1)) (v2 : (c : Dev Cert.KernelHalfOutIdeal.nD) → Buf (Elt Ideal) ((c.tc : Thread Cert.KernelHalfOutIdeal.nD Cert.KernelHalfOutIdeal.τ).loc Cert.KernelHalfOutIdeal.main_v0_2)) (v3 : (c : Dev Cert.KernelHalfOutIdeal.nD) → Buf (Elt Ideal) ((c.tc : Thread Cert.KernelHalfOutIdeal.nD Cert.KernelHalfOutIdeal.τ).loc Cert.KernelHalfOutIdeal.main_v0_3)),
      θ_run (Cert.KernelHalfOutIdeal.defs (F := Ideal)) (onTc (τ := Cert.KernelHalfOutIdeal.τ) (Cert.KernelHalfOutIdeal.main (F := Ideal))) ⟨m, fun _ => 0, g⟩ (fun r => ∀ c : Dev Cert.KernelHalfOutIdeal.nD,
          r.2.mem ((c.tc : Thread Cert.KernelHalfOutIdeal.nD Cert.KernelHalfOutIdeal.τ).loc Cert.KernelHalfOutIdeal.main_v0_0) = v0 c
          ∧ r.2.mem ((c.tc : Thread Cert.KernelHalfOutIdeal.nD Cert.KernelHalfOutIdeal.τ).loc Cert.KernelHalfOutIdeal.main_v0_1) = v1 c
          ∧ r.2.mem ((c.tc : Thread Cert.KernelHalfOutIdeal.nD Cert.KernelHalfOutIdeal.τ).loc Cert.KernelHalfOutIdeal.main_v0_2) = v2 c
          ∧ r.2.mem ((c.tc : Thread Cert.KernelHalfOutIdeal.nD Cert.KernelHalfOutIdeal.τ).loc Cert.KernelHalfOutIdeal.main_v0_3) = v3 c
          ∧ r.2.mem ((c.tc : Thread Cert.KernelHalfOutIdeal.nD Cert.KernelHalfOutIdeal.τ).loc Cert.KernelHalfOutIdeal.main_arg0) = m ((c.tc : Thread Cert.KernelHalfOutIdeal.nD Cert.KernelHalfOutIdeal.τ).loc Cert.KernelHalfOutIdeal.main_arg0)
          ∧ r.2.mem ((c.tc : Thread Cert.KernelHalfOutIdeal.nD Cert.KernelHalfOutIdeal.τ).loc Cert.KernelHalfOutIdeal.main_arg1) = m ((c.tc : Thread Cert.KernelHalfOutIdeal.nD Cert.KernelHalfOutIdeal.τ).loc Cert.KernelHalfOutIdeal.main_arg1)
          ∧ r.2.mem ((c.tc : Thread Cert.KernelHalfOutIdeal.nD Cert.KernelHalfOutIdeal.τ).loc Cert.KernelHalfOutIdeal.main_arg2) = m ((c.tc : Thread Cert.KernelHalfOutIdeal.nD Cert.KernelHalfOutIdeal.τ).loc Cert.KernelHalfOutIdeal.main_arg2)
          ∧ r.2.mem ((c.tc : Thread Cert.KernelHalfOutIdeal.nD Cert.KernelHalfOutIdeal.τ).loc Cert.KernelHalfOutIdeal.main_arg3) = m ((c.tc : Thread Cert.KernelHalfOutIdeal.nD Cert.KernelHalfOutIdeal.τ).loc Cert.KernelHalfOutIdeal.main_arg3)
          ∧ r.2.mem ((c.tc : Thread Cert.KernelHalfOutIdeal.nD Cert.KernelHalfOutIdeal.τ).loc Cert.KernelHalfOutIdeal.main_arg4) = m ((c.tc : Thread Cert.KernelHalfOutIdeal.nD Cert.KernelHalfOutIdeal.τ).loc Cert.KernelHalfOutIdeal.main_arg4)
          ∧ r.2.mem ((c.tc : Thread Cert.KernelHalfOutIdeal.nD Cert.KernelHalfOutIdeal.τ).loc Cert.KernelHalfOutIdeal.main_arg5) = m ((c.tc : Thread Cert.KernelHalfOutIdeal.nD Cert.KernelHalfOutIdeal.τ).loc Cert.KernelHalfOutIdeal.main_arg5))
      ∧ θ_run (Cert.ReferenceHalfOutIdeal.defs (F := Ideal)) (onTc (τ := Cert.ReferenceHalfOutIdeal.τ) (Cert.ReferenceHalfOutIdeal.main (F := Ideal))) ⟨m', fun _ => 0, g'⟩ (fun r => ∀ c : Dev Cert.ReferenceHalfOutIdeal.nD,
          r.2.mem ((c.tc : Thread Cert.ReferenceHalfOutIdeal.nD Cert.ReferenceHalfOutIdeal.τ).loc Cert.ReferenceHalfOutIdeal.main_v7) = v0 c
          ∧ r.2.mem ((c.tc : Thread Cert.ReferenceHalfOutIdeal.nD Cert.ReferenceHalfOutIdeal.τ).loc Cert.ReferenceHalfOutIdeal.main_v31) = v1 c
          ∧ r.2.mem ((c.tc : Thread Cert.ReferenceHalfOutIdeal.nD Cert.ReferenceHalfOutIdeal.τ).loc Cert.ReferenceHalfOutIdeal.main_v12) = v2 c
          ∧ r.2.mem ((c.tc : Thread Cert.ReferenceHalfOutIdeal.nD Cert.ReferenceHalfOutIdeal.τ).loc Cert.ReferenceHalfOutIdeal.main_v18) = v3 c
          ∧ r.2.mem ((c.tc : Thread Cert.ReferenceHalfOutIdeal.nD Cert.ReferenceHalfOutIdeal.τ).loc Cert.ReferenceHalfOutIdeal.main_arg0) = m' ((c.tc : Thread Cert.ReferenceHalfOutIdeal.nD Cert.ReferenceHalfOutIdeal.τ).loc Cert.ReferenceHalfOutIdeal.main_arg0)
          ∧ r.2.mem ((c.tc : Thread Cert.ReferenceHalfOutIdeal.nD Cert.ReferenceHalfOutIdeal.τ).loc Cert.ReferenceHalfOutIdeal.main_arg1) = m' ((c.tc : Thread Cert.ReferenceHalfOutIdeal.nD Cert.ReferenceHalfOutIdeal.τ).loc Cert.ReferenceHalfOutIdeal.main_arg1)
          ∧ r.2.mem ((c.tc : Thread Cert.ReferenceHalfOutIdeal.nD Cert.ReferenceHalfOutIdeal.τ).loc Cert.ReferenceHalfOutIdeal.main_arg2) = m' ((c.tc : Thread Cert.ReferenceHalfOutIdeal.nD Cert.ReferenceHalfOutIdeal.τ).loc Cert.ReferenceHalfOutIdeal.main_arg2)
          ∧ r.2.mem ((c.tc : Thread Cert.ReferenceHalfOutIdeal.nD Cert.ReferenceHalfOutIdeal.τ).loc Cert.ReferenceHalfOutIdeal.main_arg3) = m' ((c.tc : Thread Cert.ReferenceHalfOutIdeal.nD Cert.ReferenceHalfOutIdeal.τ).loc Cert.ReferenceHalfOutIdeal.main_arg3)
          ∧ r.2.mem ((c.tc : Thread Cert.ReferenceHalfOutIdeal.nD Cert.ReferenceHalfOutIdeal.τ).loc Cert.ReferenceHalfOutIdeal.main_arg4) = m' ((c.tc : Thread Cert.ReferenceHalfOutIdeal.nD Cert.ReferenceHalfOutIdeal.τ).loc Cert.ReferenceHalfOutIdeal.main_arg4)
          ∧ r.2.mem ((c.tc : Thread Cert.ReferenceHalfOutIdeal.nD Cert.ReferenceHalfOutIdeal.τ).loc Cert.ReferenceHalfOutIdeal.main_arg5) = m' ((c.tc : Thread Cert.ReferenceHalfOutIdeal.nD Cert.ReferenceHalfOutIdeal.τ).loc Cert.ReferenceHalfOutIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelAttn : Cert.KernelAttn.Facts) (hKernelAttnIdeal : Cert.KernelAttnIdeal.Facts) (hReferenceAttnIdeal : Cert.ReferenceAttnIdeal.Facts) (hKernelForget : Cert.KernelForget.Facts) (hKernelForgetIdeal : Cert.KernelForgetIdeal.Facts) (hReferenceForgetIdeal : Cert.ReferenceForgetIdeal.Facts) (hKernelAdamNorm : Cert.KernelAdamNorm.Facts) (hKernelAdamNormIdeal : Cert.KernelAdamNormIdeal.Facts) (hReferenceAdamNormIdeal : Cert.ReferenceAdamNormIdeal.Facts) (hKernelAdamConv : Cert.KernelAdamConv.Facts) (hKernelAdamConvIdeal : Cert.KernelAdamConvIdeal.Facts) (hReferenceAdamConvIdeal : Cert.ReferenceAdamConvIdeal.Facts) (hKernelAdamAttnNorm : Cert.KernelAdamAttnNorm.Facts) (hKernelAdamAttnNormIdeal : Cert.KernelAdamAttnNormIdeal.Facts) (hReferenceAdamAttnNormIdeal : Cert.ReferenceAdamAttnNormIdeal.Facts) (hKernelAdamForget : Cert.KernelAdamForget.Facts) (hKernelAdamForgetIdeal : Cert.KernelAdamForgetIdeal.Facts) (hReferenceAdamForgetIdeal : Cert.ReferenceAdamForgetIdeal.Facts) (hKernelAdamHead : Cert.KernelAdamHead.Facts) (hKernelAdamHeadIdeal : Cert.KernelAdamHeadIdeal.Facts) (hReferenceAdamHeadIdeal : Cert.ReferenceAdamHeadIdeal.Facts) (hKernelHalfIn : Cert.KernelHalfIn.Facts) (hKernelHalfInIdeal : Cert.KernelHalfInIdeal.Facts) (hReferenceHalfInIdeal : Cert.ReferenceHalfInIdeal.Facts) (hKernelHalfAttn : Cert.KernelHalfAttn.Facts) (hKernelHalfAttnIdeal : Cert.KernelHalfAttnIdeal.Facts) (hReferenceHalfAttnIdeal : Cert.ReferenceHalfAttnIdeal.Facts) (hKernelHalfOut : Cert.KernelHalfOut.Facts) (hKernelHalfOutIdeal : Cert.KernelHalfOutIdeal.Facts) (hReferenceHalfOutIdeal : Cert.ReferenceHalfOutIdeal.Facts) (hPre_table : Cert.Pre_table.Facts) (hPre_within : Cert.Pre_within.Facts),
    quiescent_Kernel (hKernel := hKernel) (hPre_table := hPre_table)
    ∧ quiescent_KernelIdeal (hKernelIdeal := hKernelIdeal) (hPre_table := hPre_table)
    ∧ quiescent_KernelIdeal_pre_within (hKernelIdeal := hKernelIdeal) (hPre_within := hPre_within)
    ∧ quiescent_ReferenceIdeal (hReferenceIdeal := hReferenceIdeal)
    ∧ quiescent_ReferenceIdeal_pre_within (hReferenceIdeal := hReferenceIdeal) (hPre_within := hPre_within)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelAdamNorm (hKernelAdamNorm := hKernelAdamNorm)
    ∧ quiescent_KernelAdamNormIdeal (hKernelAdamNormIdeal := hKernelAdamNormIdeal)
    ∧ quiescent_ReferenceAdamNormIdeal (hReferenceAdamNormIdeal := hReferenceAdamNormIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamAttnNorm (hKernelAdamAttnNorm := hKernelAdamAttnNorm)
    ∧ quiescent_KernelAdamAttnNormIdeal (hKernelAdamAttnNormIdeal := hKernelAdamAttnNormIdeal)
    ∧ quiescent_ReferenceAdamAttnNormIdeal (hReferenceAdamAttnNormIdeal := hReferenceAdamAttnNormIdeal)
    ∧ quiescent_KernelAdamForget (hKernelAdamForget := hKernelAdamForget)
    ∧ quiescent_KernelAdamForgetIdeal (hKernelAdamForgetIdeal := hKernelAdamForgetIdeal)
    ∧ quiescent_ReferenceAdamForgetIdeal (hReferenceAdamForgetIdeal := hReferenceAdamForgetIdeal)
    ∧ quiescent_KernelAdamHead (hKernelAdamHead := hKernelAdamHead)
    ∧ quiescent_KernelAdamHeadIdeal (hKernelAdamHeadIdeal := hKernelAdamHeadIdeal)
    ∧ quiescent_ReferenceAdamHeadIdeal (hReferenceAdamHeadIdeal := hReferenceAdamHeadIdeal)
    ∧ quiescent_KernelHalfIn (hKernelHalfIn := hKernelHalfIn)
    ∧ quiescent_KernelHalfInIdeal (hKernelHalfInIdeal := hKernelHalfInIdeal)
    ∧ quiescent_ReferenceHalfInIdeal (hReferenceHalfInIdeal := hReferenceHalfInIdeal)
    ∧ quiescent_KernelHalfAttn (hKernelHalfAttn := hKernelHalfAttn)
    ∧ quiescent_KernelHalfAttnIdeal (hKernelHalfAttnIdeal := hKernelHalfAttnIdeal)
    ∧ quiescent_ReferenceHalfAttnIdeal (hReferenceHalfAttnIdeal := hReferenceHalfAttnIdeal)
    ∧ quiescent_KernelHalfOut (hKernelHalfOut := hKernelHalfOut)
    ∧ quiescent_KernelHalfOutIdeal (hKernelHalfOutIdeal := hKernelHalfOutIdeal)
    ∧ quiescent_ReferenceHalfOutIdeal (hReferenceHalfOutIdeal := hReferenceHalfOutIdeal)
    ∧ preserves_Kernel_KernelIdeal
    ∧ algebraic_KernelIdeal_ReferenceIdeal_pre_within (hKernelIdeal := hKernelIdeal) (hReferenceIdeal := hReferenceIdeal) (hPre_within := hPre_within)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelAdamNorm_KernelAdamNormIdeal
    ∧ algebraic_KernelAdamNormIdeal_ReferenceAdamNormIdeal (hKernelAdamNormIdeal := hKernelAdamNormIdeal) (hReferenceAdamNormIdeal := hReferenceAdamNormIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamAttnNorm_KernelAdamAttnNormIdeal
    ∧ algebraic_KernelAdamAttnNormIdeal_ReferenceAdamAttnNormIdeal (hKernelAdamAttnNormIdeal := hKernelAdamAttnNormIdeal) (hReferenceAdamAttnNormIdeal := hReferenceAdamAttnNormIdeal)
    ∧ preserves_KernelAdamForget_KernelAdamForgetIdeal
    ∧ algebraic_KernelAdamForgetIdeal_ReferenceAdamForgetIdeal (hKernelAdamForgetIdeal := hKernelAdamForgetIdeal) (hReferenceAdamForgetIdeal := hReferenceAdamForgetIdeal)
    ∧ preserves_KernelAdamHead_KernelAdamHeadIdeal
    ∧ algebraic_KernelAdamHeadIdeal_ReferenceAdamHeadIdeal (hKernelAdamHeadIdeal := hKernelAdamHeadIdeal) (hReferenceAdamHeadIdeal := hReferenceAdamHeadIdeal)
    ∧ preserves_KernelHalfIn_KernelHalfInIdeal
    ∧ algebraic_KernelHalfInIdeal_ReferenceHalfInIdeal (hKernelHalfInIdeal := hKernelHalfInIdeal) (hReferenceHalfInIdeal := hReferenceHalfInIdeal)
    ∧ preserves_KernelHalfAttn_KernelHalfAttnIdeal
    ∧ algebraic_KernelHalfAttnIdeal_ReferenceHalfAttnIdeal (hKernelHalfAttnIdeal := hKernelHalfAttnIdeal) (hReferenceHalfAttnIdeal := hReferenceHalfAttnIdeal)
    ∧ preserves_KernelHalfOut_KernelHalfOutIdeal
    ∧ algebraic_KernelHalfOutIdeal_ReferenceHalfOutIdeal (hKernelHalfOutIdeal := hKernelHalfOutIdeal) (hReferenceHalfOutIdeal := hReferenceHalfOutIdeal)
-- ==== Pre_table.lean ====
abbrev S16x32 : Shape := ⟨2, ![16, 32]⟩
abbrev S16x16384x64 : Shape := ⟨3, ![16, 16384, 64]⟩
abbrev S16x16384 : Shape := ⟨2, ![16, 16384]⟩
abbrev S_ : Shape := ⟨0, ![]⟩

class Facts : Prop where
  bcast_S_S16x32 : S_.BroadcastsInDim S16x32 (![] : Fin 0 → Fin S16x32.rank)

variable [Facts]

def fn {F : FTy → Type} [FloatOps F] (main_arg0 : IVec S16x32 32) (main_arg1 : FVec F S16x16384x64 .f32) (main_arg2 : FVec F S16x16384x64 .f32) (main_arg3 : FVec F S16x16384x64 .f32) (main_arg4 : FVec F S16x16384 .f32) (main_arg5 : FVec F S16x16384x64 .f32) : IVec S16x32 1 :=
  let main_c : IVec S_ 32 := constantI S_ 32 0#32
  let main_v0 : IVec S16x32 32 := broadcastInDim S16x32 ![] bcast_S_S16x32 main_c
  let main_v1 : IVec S16x32 1 := cmpi .sge main_arg0 main_v0
  let main_c_0 : IVec S_ 32 := constantI S_ 32 63#32
  let main_v2 : IVec S16x32 32 := broadcastInDim S16x32 ![] bcast_S_S16x32 main_c_0
  let main_v3 : IVec S16x32 1 := cmpi .sle main_arg0 main_v2
  let main_v4 : IVec S16x32 1 := andi main_v1 main_v3
  main_v4
-- ==== Pre_within.lean ====
abbrev S16x32 : Shape := ⟨2, ![16, 32]⟩
abbrev S16x16384x64 : Shape := ⟨3, ![16, 16384, 64]⟩
abbrev S16x16384 : Shape := ⟨2, ![16, 16384]⟩
abbrev S_ : Shape := ⟨0, ![]⟩

class Facts : Prop where
  bcast_S_S16x32 : S_.BroadcastsInDim S16x32 (![] : Fin 0 → Fin S16x32.rank)
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x16384 : S_.BroadcastsInDim S16x16384 (![] : Fin 0 → Fin S16x16384.rank)
  reducesTo_S16x16384_S_d0_1 : S16x16384.ReducesTo [0, 1] S_

variable [Facts]

def fn_part1 {F : FTy → Type} [FloatOps F] (main_arg4 : FVec F S16x16384 .f32) (main_arg5 : FVec F S16x16384x64 .f32) (main_v16 : IVec S16x32 1) (main_v17 : FVec F S16x16384x64 .f32) : IVec S16x32 1 :=
  let main_cst_4 : FVec F S_ .f32 := constant S_ .f32 0x7F800000#32
  let main_v18 : FVec F S16x16384x64 .f32 := broadcastInDim S16x16384x64 ![] bcast_S_S16x16384x64 main_cst_4
  let main_v19 : IVec S16x16384x64 1 := cmpf .olt main_v17 main_v18
  let main_c_5 : IVec S_ 1 := constantI S_ 1 1#1
  let main_v20 : IVec S_ 1 := (fun x v => Host.reduce IntOp.andi x v reducesTo_S16x16384x64_S_d0_1_2 h_S_) main_v19 main_c_5
  let main_v21 : IVec S16x32 1 := broadcastInDim S16x32 ![] bcast_S_S16x32 main_v20
  let main_v22 : IVec S16x32 1 := andi main_v16 main_v21
  let main_v23 : FVec F S16x16384 .f32 := Host.absf main_arg4
  let main_cst_6 : FVec F S_ .f32 := constant S_ .f32 0x7F800000#32
  let main_v24 : FVec F S16x16384 .f32 := broadcastInDim S16x16384 ![] bcast_S_S16x16384 main_cst_6
  let main_v25 : IVec S16x16384 1 := cmpf .olt main_v23 main_v24
  let main_c_7 : IVec S_ 1 := constantI S_ 1 1#1
  let main_v26 : IVec S_ 1 := (fun x v => Host.reduce IntOp.andi x v reducesTo_S16x16384_S_d0_1 h_S_) main_v25 main_c_7
  let main_v27 : IVec S16x32 1 := broadcastInDim S16x32 ![] bcast_S_S16x32 main_v26
  let main_v28 : IVec S16x32 1 := andi main_v22 main_v27
  let main_v29 : FVec F S16x16384x64 .f32 := Host.absf main_arg5
  let main_cst_8 : FVec F S_ .f32 := constant S_ .f32 0x7F800000#32
  let main_v30 : FVec F S16x16384x64 .f32 := broadcastInDim S16x16384x64 ![] bcast_S_S16x16384x64 main_cst_8
  let main_v31 : IVec S16x16384x64 1 := cmpf .olt main_v29 main_v30
  let main_c_9 : IVec S_ 1 := constantI S_ 1 1#1
  let main_v32 : IVec S_ 1 := (fun x v => Host.reduce IntOp.andi x v reducesTo_S16x16384x64_S_d0_1_2 h_S_) main_v31 main_c_9
  let main_v33 : IVec S16x32 1 := broadcastInDim S16x32 ![] bcast_S_S16x32 main_v32
  let main_v34 : IVec S16x32 1 := andi main_v28 main_v33
  main_v34

def fn {F : FTy → Type} [FloatOps F] (main_arg0 : IVec S16x32 32) (main_arg1 : FVec F S16x16384x64 .f32) (main_arg2 : FVec F S16x16384x64 .f32) (main_arg3 : FVec F S16x16384x64 .f32) (main_arg4 : FVec F S16x16384 .f32) (main_arg5 : FVec F S16x16384x64 .f32) : IVec S16x32 1 :=
  let main_c : IVec S_ 32 := constantI S_ 32 0#32
  let main_v0 : IVec S16x32 32 := broadcastInDim S16x32 ![] bcast_S_S16x32 main_c
  let main_v1 : IVec S16x32 1 := cmpi .sge main_arg0 main_v0
  let main_c_0 : IVec S_ 32 := constantI S_ 32 63#32
  let main_v2 : IVec S16x32 32 := broadcastInDim S16x32 ![] bcast_S_S16x32 main_c_0
  let main_v3 : IVec S16x32 1 := cmpi .sle main_arg0 main_v2
  let main_v4 : IVec S16x32 1 := andi main_v1 main_v3
  let main_v5 : FVec F S16x16384x64 .f32 := Host.absf main_arg1
  let main_cst : FVec F S_ .f32 := constant S_ .f32 0x7F800000#32
  let main_v6 : FVec F S16x16384x64 .f32 := broadcastInDim S16x16384x64 ![] bcast_S_S16x16384x64 main_cst
  let main_v7 : IVec S16x16384x64 1 := cmpf .olt main_v5 main_v6
  let main_c_1 : IVec S_ 1 := constantI S_ 1 1#1
  let main_v8 : IVec S_ 1 := (fun x v => Host.reduce IntOp.andi x v reducesTo_S16x16384x64_S_d0_1_2 h_S_) main_v7 main_c_1
  let main_v9 : IVec S16x32 1 := broadcastInDim S16x32 ![] bcast_S_S16x32 main_v8
  let main_v10 : IVec S16x32 1 := andi main_v4 main_v9
  let main_v11 : FVec F S16x16384x64 .f32 := Host.absf main_arg2
  let main_cst_2 : FVec F S_ .f32 := constant S_ .f32 0x7F800000#32
  let main_v12 : FVec F S16x16384x64 .f32 := broadcastInDim S16x16384x64 ![] bcast_S_S16x16384x64 main_cst_2
  let main_v13 : IVec S16x16384x64 1 := cmpf .olt main_v11 main_v12
  let main_c_3 : IVec S_ 1 := constantI S_ 1 1#1
  let main_v14 : IVec S_ 1 := (fun x v => Host.reduce IntOp.andi x v reducesTo_S16x16384x64_S_d0_1_2 h_S_) main_v13 main_c_3
  let main_v15 : IVec S16x32 1 := broadcastInDim S16x32 ![] bcast_S_S16x32 main_v14
  let main_v16 : IVec S16x32 1 := andi main_v10 main_v15
  let main_v17 : FVec F S16x16384x64 .f32 := Host.absf main_arg3
  fn_part1 (F := F) main_arg4 main_arg5 main_v16 main_v17
-- ==== Kernel.lean ====
abbrev S16x32 : Shape := ⟨2, ![16, 32]⟩
abbrev S16x16384x64 : Shape := ⟨3, ![16, 16384, 64]⟩
abbrev S16x16384 : Shape := ⟨2, ![16, 16384]⟩
abbrev S_ : Shape := ⟨0, ![]⟩
abbrev S16x16384x16384 : Shape := ⟨3, ![16, 16384, 16384]⟩
abbrev S16x16384x1 : Shape := ⟨3, ![16, 16384, 1]⟩
abbrev S16x1x16384 : Shape := ⟨3, ![16, 1, 16384]⟩
abbrev S16x16x2 : Shape := ⟨3, ![16, 16, 2]⟩
abbrev S16x16x1 : Shape := ⟨3, ![16, 16, 1]⟩
abbrev S16x32x512 : Shape := ⟨3, ![16, 32, 512]⟩
abbrev S16x16384x3 : Shape := ⟨3, ![16, 16384, 3]⟩
abbrev S16x16384x58 : Shape := ⟨3, ![16, 16384, 58]⟩
abbrev S16x16384x128 : Shape := ⟨3, ![16, 16384, 128]⟩
abbrev S16384x16x128 : Shape := ⟨3, ![16384, 16, 128]⟩
abbrev S16384x2048 : Shape := ⟨2, ![16384, 2048]⟩
abbrev S16384x128 : Shape := ⟨2, ![16384, 128]⟩
abbrev S1024x128 : Shape := ⟨2, ![1024, 128]⟩
abbrev S1x16384x128 : Shape := ⟨3, ![1, 16384, 128]⟩
abbrev S1x1024x128 : Shape := ⟨3, ![1, 1024, 128]⟩
abbrev S128x1024 : Shape := ⟨2, ![128, 1024]⟩
abbrev S512x128 : Shape := ⟨2, ![512, 128]⟩
abbrev S512x512 : Shape := ⟨2, ![512, 512]⟩
abbrev S128x512 : Shape := ⟨2, ![128, 512]⟩
abbrev S1x512x128 : Shape := ⟨3, ![1, 512, 128]⟩
abbrev S512x1024 : Shape := ⟨2, ![512, 1024]⟩
abbrev S1x1 : Shape := ⟨2, ![1, 1]⟩

abbrev nBuf : Space → Nat
  | .hbm => 155
  | .vmem => 16
  | .smem => 1
  | _ => 0

abbrev hbmTy0_0 (i : Nat) : BufTy := match i % 128 with
  | 0 => ⟨S16x16384x64, .f32⟩
  | 1 => ⟨S16x16384x64, .f32⟩
  | 2 => ⟨S16x16384x64, .f32⟩
  | 3 => ⟨S16x16384, .f32⟩
  | 4 => ⟨S16x16384x64, .f32⟩
  | 5 => ⟨S_, .f32⟩
  | 6 => ⟨S_, .f32⟩
  | 7 => ⟨S16x16384, .f32⟩
  | 8 => ⟨S16x16384x16384, .f32⟩
  | 9 => ⟨S_, .f32⟩
  | 10 => ⟨S16x16384x16384, .f32⟩
  | 11 => ⟨S16x16384x16384, .f32⟩
  | 12 => ⟨S16x16384x1, .f32⟩
  | 13 => ⟨S16x16384x16384, .f32⟩
  | 14 => ⟨S16x16384x16384, .f32⟩
  | 15 => ⟨S16x1x16384, .f32⟩
  | 16 => ⟨S16x16384x16384, .f32⟩
  | 17 => ⟨S16x16384x16384, .f32⟩
  | 18 => ⟨S16x16x2, .i32⟩
  | 19 => ⟨S16x16x1, .i32⟩
  | 20 => ⟨S16x16x2, .i32⟩
  | 21 => ⟨S16x16x2, .i32⟩
  | 22 => ⟨S16x32, .i32⟩
  | 23 => ⟨S16x16384x16384, .i32⟩
  | 24 => ⟨S16x16384x16384, .i32⟩
  | 25 => ⟨S16x32x512, .i32⟩
  | 26 => ⟨S16x16384, .i32⟩
  | 27 => ⟨S16x1x16384, .i32⟩
  | 28 => ⟨S16x16384x16384, .i1⟩
  | 29 => ⟨S_, .i32⟩
  | 30 => ⟨S16x16384x16384, .i32⟩
  | 31 => ⟨S16x16384x16384, .i32⟩
  | 32 => ⟨S_, .i32⟩
  | 33 => ⟨S16x16384x16384, .i32⟩
  | 34 => ⟨S16x16384x16384, .i32⟩
  | 35 => ⟨S16x16384x16384, .i1⟩
  | 36 => ⟨S_, .i32⟩
  | 37 => ⟨S16x16384x16384, .i32⟩
  | 38 => ⟨S16x16384x16384, .i32⟩
  | 39 => ⟨S_, .i32⟩
  | 40 => ⟨S16x16384x16384, .i32⟩
  | 41 => ⟨S16x16384x16384, .i32⟩
  | 42 => ⟨S16x16384x16384, .i32⟩
  | 43 => ⟨S16x16384x16384, .i1⟩
  | 44 => ⟨S16x16384x16384, .i1⟩
  | 45 => ⟨S16x16384x16384, .i1⟩
  | 46 => ⟨S_, .f32⟩
  | 47 => ⟨S_, .f32⟩
  | 48 => ⟨S16x16384x16384, .f32⟩
  | 49 => ⟨S16x16384x16384, .f32⟩
  | 50 => ⟨S_, .f32⟩
  | 51 => ⟨S16x16384, .f32⟩
  | 52 => ⟨S16x16384x1, .f32⟩
  | 53 => ⟨S16x16384x16384, .f32⟩
  | 54 => ⟨S16x16384x16384, .f32⟩
  | 55 => ⟨S16x16384x16384, .f32⟩
  | 56 => ⟨S_, .f32⟩
  | 57 => ⟨S16x16384, .f32⟩
  | 58 => ⟨S16x16384x1, .f32⟩
  | 59 => ⟨S16x16384x16384, .f32⟩
  | 60 => ⟨S16x16384x16384, .f32⟩
  | 61 => ⟨S16x16384x64, .f32⟩
  | 62 => ⟨S16x16384, .f32⟩
  | 63 => ⟨S16x16384, .f32⟩
  | 64 => ⟨S16x16384x64, .f32⟩
  | 65 => ⟨S_, .f32⟩
  | 66 => ⟨S16x16384, .f32⟩
  | 67 => ⟨S_, .f32⟩
  | 68 => ⟨S16x16384x3, .f32⟩
  | 69 => ⟨S_, .f32⟩
  | 70 => ⟨S16x16384x3, .f32⟩
  | 71 => ⟨S_, .f32⟩
  | 72 => ⟨S16x16384x64, .f32⟩
  | 73 => ⟨S16x16384x64, .f32⟩
  | 74 => ⟨S16x16384, .f32⟩
  | 75 => ⟨S16x16384, .bf16⟩
  | 76 => ⟨S16x16384, .f32⟩
  | 77 => ⟨S16x16384, .f32⟩
  | 78 => ⟨S16x16384, .bf16⟩
  | 79 => ⟨S16x16384, .f32⟩
  | 80 => ⟨S16x16384, .f32⟩
  | 81 => ⟨S16x16384, .bf16⟩
  | 82 => ⟨S16x16384, .f32⟩
  | 83 => ⟨S16x16384x1, .f32⟩
  | 84 => ⟨S16x16384x1, .f32⟩
  | 85 => ⟨S16x16384x1, .f32⟩
  | 86 => ⟨S16x16384x3, .f32⟩
  | 87 => ⟨S_, .f32⟩
  | 88 => ⟨S16x16384x58, .f32⟩
  | 89 => ⟨S16x16384x128, .f32⟩
  | 90 => ⟨S16384x16x128, .f32⟩
  | 91 => ⟨S16384x2048, .f32⟩
  | 92 => ⟨S16384x2048, .bf16⟩
  | 93 => ⟨S16x16384, .f32⟩
  | 94 => ⟨S16x16384, .bf16⟩
  | 95 => ⟨S16x16384, .f32⟩
  | 96 => ⟨S16x16384, .f32⟩
  | 97 => ⟨S16x16384, .bf16⟩
  | 98 => ⟨S16x16384, .f32⟩
  | 99 => ⟨S16x16384, .f32⟩
  | 100 => ⟨S16x16384, .bf16⟩
  | 101 => ⟨S16x16384, .f32⟩
  | 102 => ⟨S16x16384x1, .f32⟩
  | 103 => ⟨S16x16384x1, .f32⟩
  | 104 => ⟨S16x16384x1, .f32⟩
  | 105 => ⟨S16x16384x3, .f32⟩
  | 106 => ⟨S_, .f32⟩
  | 107 => ⟨S16x16384x58, .f32⟩
  | 108 => ⟨S16x16384x128, .f32⟩
  | 109 => ⟨S16384x16x128, .f32⟩
  | 110 => ⟨S16384x2048, .f32⟩
  | 111 => ⟨S16384x2048, .bf16⟩
  | 112 => ⟨S16x16384, .f32⟩
  | 113 => ⟨S16x16384, .bf16⟩
  | 114 => ⟨S16x16384, .f32⟩
  | 115 => ⟨S16x16384, .f32⟩
  | 116 => ⟨S16x16384, .bf16⟩
  | 117 => ⟨S16x16384, .f32⟩
  | 118 => ⟨S16x16384, .f32⟩
  | 119 => ⟨S16x16384, .bf16⟩
  | 120 => ⟨S16x16384, .f32⟩
  | 121 => ⟨S16x16384x1, .f32⟩
  | 122 => ⟨S16x16384x1, .f32⟩
  | 123 => ⟨S16x16384x1, .f32⟩
  | 124 => ⟨S16x16384x3, .f32⟩
  | 125 => ⟨S_, .f32⟩
  | 126 => ⟨S16x16384x58, .f32⟩
  | 127 => ⟨S16x16384x128, .f32⟩
  | _ => ⟨S16x16384x64, .f32⟩

abbrev hbmTy0_1 (i : Nat) : BufTy := match i % 128 with
  | 0 => ⟨S16384x16x128, .f32⟩
  | 1 => ⟨S16384x2048, .f32⟩
  | 2 => ⟨S16384x2048, .bf16⟩
  | 3 => ⟨S_, .f32⟩
  | 4 => ⟨S16x16384x58, .f32⟩
  | 5 => ⟨S16x16384x128, .f32⟩
  | 6 => ⟨S16384x16x128, .f32⟩
  | 7 => ⟨S16384x2048, .f32⟩
  | 8 => ⟨S16384x2048, .bf16⟩
  | 9 => ⟨S16x16384x128, .f32⟩
  | 10 => ⟨S16x16384x128, .f32⟩
  | 11 => ⟨S16x16384x128, .bf16⟩
  | 12 => ⟨S16x16384x1, .f32⟩
  | 13 => ⟨S16x16384, .f32⟩
  | 14 => ⟨S16x16384x1, .f32⟩
  | 15 => ⟨S16x16384, .f32⟩
  | 16 => ⟨S16x16384, .f32⟩
  | 17 => ⟨S16x16384x64, .f32⟩
  | 18 => ⟨S_, .f32⟩
  | 19 => ⟨S16x16384x64, .f32⟩
  | 20 => ⟨S16x16384x64, .f32⟩
  | 21 => ⟨S16x16384x64, .f32⟩
  | 22 => ⟨S16x16384x64, .bf16⟩
  | 23 => ⟨S16x16384x64, .f32⟩
  | 24 => ⟨S_, .f32⟩
  | 25 => ⟨S_, .f32⟩
  | 26 => ⟨S16x16384, .f32⟩
  | _ => ⟨S16x16384x64, .f32⟩

abbrev hbmTy (i : Nat) : BufTy := match i / 128 with
  | 0 => hbmTy0_0 i
  | 1 => hbmTy0_1 i
  | _ => ⟨S16x16384x64, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x16384x128, .f32⟩
  | .local _ .vmem, ⟨9, _⟩ => ⟨S1x16384x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .bf16⟩
  | .local _ .vmem, ⟨13, _⟩ => ⟨S1x1024x128, .bf16⟩
  | .local _ .vmem, ⟨14, _⟩ => ⟨S128x1024, .f32⟩
  | .local _ .vmem, ⟨15, _⟩ => ⟨S128x1024, .f32⟩
  | .local _ .smem, ⟨0, _⟩ => ⟨S16x32, .i32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_11 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_12 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_13 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112_0 : Ref sig .tc := ⟨.hbm, 137, rfl⟩
abbrev main_v112_1 : Ref sig .tc := ⟨.hbm, 138, rfl⟩
abbrev main_v112_2 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_14 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_call2_cst : Ref sig .tc := ⟨.hbm, 152, rfl⟩
abbrev main_call2_v0 : Ref sig .tc := ⟨.hbm, 153, rfl⟩
abbrev main_v124 : Ref sig .tc := ⟨.hbm, 154, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c4_i32 : BitVec 32 := 4#32
  let v13 : BitVec 32 := Scalar.muli arg1 c4_i32
  let c0_i32_9 : BitVec 32 := 0#32
  let v14 : BitVec 32 := Scalar.addi v13 c0_i32_9
  let c256_i32 : BitVec 32 := 256#32
  let v15 : BitVec 32 := Scalar.muli v14 c256_i32
  v15
def k0_off1 (i : grid0.Coords) (c0_i32_9 : BitVec 32) : Fin 2 → Nat :=
  let arg1 : BitVec 32 := BitVec.ofNat 32 (i 1).val
  let c4_i32 : BitVec 32 := 4#32
  let v13 : BitVec 32 := Scalar.muli arg1 c4_i32
  let v14 : BitVec 32 := Scalar.addi v13 c0_i32_9
  let c256_i32 : BitVec 32 := 256#32
  let v15 : BitVec 32 := Scalar.muli v14 c256_i32
  let v16 : BitVec 32 := v15
  let v17 : Index := Scalar.indexCast v16
  let c0_10 : Index := 0#32
  ![v17.toNat, 0]
def k0_off2 (i : grid0.Coords) (c0_i32_9 : BitVec 32) : Fin 3 → Nat :=
  let c0_26 : Index := 0#32
  let arg1 : BitVec 32 := BitVec.ofNat 32 (i 1).val
  let c4_i32 : BitVec 32 := 4#32
  let v13 : BitVec 32 := Scalar.muli arg1 c4_i32
  let v14 : BitVec 32 := Scalar.addi v13 c0_i32_9
  let c256_i32 : BitVec 32 := 256#32
  let v15 : BitVec 32 := Scalar.muli v14 c256_i32
  let v16 : BitVec 32 := v15
  let v54 : Index := Scalar.indexCast v16
  let c0_27 : Index := 0#32
  ![0, v54.toNat, 0]
def k0_mult2 (i : grid0.Coords) : BitVec 32 :=
  let arg1 : BitVec 32 := BitVec.ofNat 32 (i 1).val
  let c4_i32_31 : BitVec 32 := 4#32
  let v64 : BitVec 32 := Scalar.muli arg1 c4_i32_31
  let c2_i32 : BitVec 32 := 2#32
  let v65 : BitVec 32 := Scalar.addi v64 c2_i32
  let c256_i32_32 : BitVec 32 := 256#32
  let v66 : BitVec 32 := Scalar.muli v65 c256_i32_32
  v66
def k0_off3 (i : grid0.Coords) : Fin 2 → Nat :=
  let arg0 : BitVec 32 := BitVec.ofNat 32 (i 0).val
  let v115 : Index := Scalar.indexCast arg0
  let c2_i32_55 : BitVec 32 := 2#32
  let arg1 : BitVec 32 := BitVec.ofNat 32 (i 1).val
  let v114 : BitVec 32 := Scalar.muli c2_i32_55 arg1
  let v116 : Index := Scalar.indexCast v114
  ![v115.toNat, v116.toNat]
@[reducible] def k0_t1_loop (i : grid0.Coords) (v117 : BitVec 32) : Scf.Loop 32 :=
  let c0_i32_66 : BitVec 32 := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v140 : BitVec 32 := Scalar.subi v137 c0_i32_66
  let c1_i32_67 : BitVec 32 := 1#32
  let v142 : BitVec 32 := Scalar.divsi v140 c1_i32_67
  let v143 : BitVec 32 := Scalar.muli v142 c1_i32_67
  let v144 : BitVec 32 := Scalar.addi c0_i32_66 v143
  let c1_i32_68 : BitVec 32 := 1#32
  ⟨c0_i32_66, v144, c1_i32_68⟩

def k0_mult3 (i : grid0.Coords) (v117 : BitVec 32) (k0_t1 : Fin (k0_t1_loop i v117).trips) : BitVec 32 :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v185 : BitVec 32 := Scalar.muli c2_i32_95 arg12
  let v186 : BitVec 32 := Scalar.addi v113 v185
  let c256_i32_96 : BitVec 32 := 256#32
  let v187 : BitVec 32 := Scalar.muli v186 c256_i32_96
  v187
def k0_off4 (i : grid0.Coords) (v117 : BitVec 32) (k0_t1 : Fin (k0_t1_loop i v117).trips) : Fin 2 → Nat :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v185 : BitVec 32 := Scalar.muli c2_i32_95 arg12
  let v186 : BitVec 32 := Scalar.addi v113 v185
  let c256_i32_96 : BitVec 32 := 256#32
  let v187 : BitVec 32 := Scalar.muli v186 c256_i32_96
  let v188 : BitVec 32 := v187
  let v189 : Index := Scalar.indexCast v188
  let c0_97 : Index := 0#32
  ![v189.toNat, 0]
def k0_off5 (i : grid0.Coords) (v117 : BitVec 32) (k0_t1 : Fin (k0_t1_loop i v117).trips) : Fin 3 → Nat :=
  let c0_111 : Index := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let c1_i32_68 : BitVec 32 := 1#32
  let arg12 : BitVec 32 := Scf.iv c0_i32_66 c1_i32_68 k0_t1
  let v185 : BitVec 32 := Scalar.muli c2_i32_95 arg12
  let v186 : BitVec 32 := Scalar.addi v113 v185
  let c256_i32_96 : BitVec 32 := 256#32
  let v187 : BitVec 32 := Scalar.muli v186 c256_i32_96
  let v188 : BitVec 32 := v187
  let v217 : Index := Scalar.indexCast v188
  let c0_112 : Index := 0#32
  ![0, v217.toNat, 0]
@[reducible] def k0_t2_loop (i : grid0.Coords) (v117 : BitVec 32) : Scf.Loop 32 :=
  let c0_i32_66 : BitVec 32 := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v140 : BitVec 32 := Scalar.subi v137 c0_i32_66
  let c1_i32_67 : BitVec 32 := 1#32
  let v142 : BitVec 32 := Scalar.divsi v140 c1_i32_67
  let v143 : BitVec 32 := Scalar.muli v142 c1_i32_67
  let v144 : BitVec 32 := Scalar.addi c0_i32_66 v143
  let v141 : BitVec 32 := Scalar.addi c0_i32_66 v140
  let c1_i32_69 : BitVec 32 := 1#32
  ⟨v144, v141, c1_i32_69⟩
def k0_mult4 (i : grid0.Coords) (v117 : BitVec 32) (k0_t2 : Fin (k0_t2_loop i v117).trips) : BitVec 32 :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v140 : BitVec 32 := Scalar.subi v137 c0_i32_66
  let c1_i32_67 : BitVec 32 := 1#32
  let v142 : BitVec 32 := Scalar.divsi v140 c1_i32_67
  let v143 : BitVec 32 := Scalar.muli v142 c1_i32_67
  let v144 : BitVec 32 := Scalar.addi c0_i32_66 v143
  let c1_i32_69 : BitVec 32 := 1#32
  let arg12 : BitVec 32 := Scf.iv v144 c1_i32_69 k0_t2
  let v185 : BitVec 32 := Scalar.muli c2_i32_95 arg12
  let v186 : BitVec 32 := Scalar.addi v113 v185
  let c256_i32_96 : BitVec 32 := 256#32
  let v187 : BitVec 32 := Scalar.muli v186 c256_i32_96
  v187
def k0_off6 (i : grid0.Coords) (v117 : BitVec 32) (k0_t2 : Fin (k0_t2_loop i v117).trips) : Fin 2 → Nat :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v140 : BitVec 32 := Scalar.subi v137 c0_i32_66
  let c1_i32_67 : BitVec 32 := 1#32
  let v142 : BitVec 32 := Scalar.divsi v140 c1_i32_67
  let v143 : BitVec 32 := Scalar.muli v142 c1_i32_67
  let v144 : BitVec 32 := Scalar.addi c0_i32_66 v143
  let c1_i32_69 : BitVec 32 := 1#32
  let arg12 : BitVec 32 := Scf.iv v144 c1_i32_69 k0_t2
  let v185 : BitVec 32 := Scalar.muli c2_i32_95 arg12
  let v186 : BitVec 32 := Scalar.addi v113 v185
  let c256_i32_96 : BitVec 32 := 256#32
  let v187 : BitVec 32 := Scalar.muli v186 c256_i32_96
  let v188 : BitVec 32 := v187
  let v189 : Index := Scalar.indexCast v188
  let c0_97 : Index := 0#32
  ![v189.toNat, 0]
def k0_off7 (i : grid0.Coords) (v117 : BitVec 32) (k0_t2 : Fin (k0_t2_loop i v117).trips) : Fin 3 → Nat :=
  let c0_111 : Index := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_95 : BitVec 32 := 2#32
  let c0_i32_66 : BitVec 32 := 0#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v140 : BitVec 32 := Scalar.subi v137 c0_i32_66
  let c1_i32_67 : BitVec 32 := 1#32
  let v142 : BitVec 32 := Scalar.divsi v140 c1_i32_67
  let v143 : BitVec 32 := Scalar.muli v142 c1_i32_67
  let v144 : BitVec 32 := Scalar.addi c0_i32_66 v143
  let c1_i32_69 : BitVec 32 := 1#32
  let arg12 : BitVec 32 := Scf.iv v144 c1_i32_69 k0_t2
  let v185 : BitVec 32 := Scalar.muli c2_i32_95 arg12
  let v186 : BitVec 32 := Scalar.addi v113 v185
  let c256_i32_96 : BitVec 32 := 256#32
  let v187 : BitVec 32 := Scalar.muli v186 c256_i32_96
  let v188 : BitVec 32 := v187
  let v217 : Index := Scalar.indexCast v188
  let c0_112 : Index := 0#32
  ![0, v217.toNat, 0]

def k0_chk1 (i : grid0.Coords) (v117 : BitVec 32) : Prop :=
  ((k0_t1_loop i v117).OK) ∧
  (∀ k0_t1 : Fin (k0_t1_loop i v117).trips, 256 ∣ (k0_mult3 i v117 k0_t1).toNat) ∧
  (∀ k0_t1 : Fin (k0_t1_loop i v117).trips, ∀ a, (k0_off4 i v117 k0_t1) a + S512x128.size a ≤ S16384x128.size a) ∧
  (∀ k0_t1 : Fin (k0_t1_loop i v117).trips, ∀ a, (k0_off5 i v117 k0_t1) a + S1x512x128.size a ≤ S1x16384x128.size a) ∧
  ((k0_t2_loop i v117).OK) ∧
  (∀ k0_t2 : Fin (k0_t2_loop i v117).trips, 256 ∣ (k0_mult4 i v117 k0_t2).toNat) ∧
  (∀ k0_t2 : Fin (k0_t2_loop i v117).trips, ∀ a, (k0_off6 i v117 k0_t2) a + S512x128.size a ≤ S16384x128.size a) ∧
  (∀ k0_t2 : Fin (k0_t2_loop i v117).trips, ∀ a, (k0_off7 i v117 k0_t2) a + S1x512x128.size a ≤ S1x16384x128.size a)
theorem k0_t1_ok : ∀ (i : grid0.Coords) (v117 : BitVec 32) (k0_hw1 : k0_chk1 i v117), (k0_t1_loop i v117).OK := fun i v117 k0_hw1 => k0_hw1.1
theorem k0_mult3_dvd : ∀ (i : grid0.Coords) (v117 : BitVec 32) (k0_hw1 : k0_chk1 i v117) (k0_t1 : Fin (k0_t1_loop i v117).trips), 256 ∣ (k0_mult3 i v117 k0_t1).toNat := fun i v117 k0_hw1 k0_t1 => k0_hw1.2.1 k0_t1
theorem k0_off4_inb : ∀ (i : grid0.Coords) (v117 : BitVec 32) (k0_hw1 : k0_chk1 i v117) (k0_t1 : Fin (k0_t1_loop i v117).trips), ∀ a, (k0_off4 i v117 k0_t1) a + S512x128.size a ≤ S16384x128.size a := fun i v117 k0_hw1 k0_t1 => k0_hw1.2.2.1 k0_t1
theorem k0_off5_inb : ∀ (i : grid0.Coords) (v117 : BitVec 32) (k0_hw1 : k0_chk1 i v117) (k0_t1 : Fin (k0_t1_loop i v117).trips), ∀ a, (k0_off5 i v117 k0_t1) a + S1x512x128.size a ≤ S1x16384x128.size a := fun i v117 k0_hw1 k0_t1 => k0_hw1.2.2.2.1 k0_t1
theorem k0_t2_ok : ∀ (i : grid0.Coords) (v117 : BitVec 32) (k0_hw1 : k0_chk1 i v117), (k0_t2_loop i v117).OK := fun i v117 k0_hw1 => k0_hw1.2.2.2.2.1
theorem k0_mult4_dvd : ∀ (i : grid0.Coords) (v117 : BitVec 32) (k0_hw1 : k0_chk1 i v117) (k0_t2 : Fin (k0_t2_loop i v117).trips), 256 ∣ (k0_mult4 i v117 k0_t2).toNat := fun i v117 k0_hw1 k0_t2 => k0_hw1.2.2.2.2.2.1 k0_t2
theorem k0_off6_inb : ∀ (i : grid0.Coords) (v117 : BitVec 32) (k0_hw1 : k0_chk1 i v117) (k0_t2 : Fin (k0_t2_loop i v117).trips), ∀ a, (k0_off6 i v117 k0_t2) a + S512x128.size a ≤ S16384x128.size a := fun i v117 k0_hw1 k0_t2 => k0_hw1.2.2.2.2.2.2.1 k0_t2
theorem k0_off7_inb : ∀ (i : grid0.Coords) (v117 : BitVec 32) (k0_hw1 : k0_chk1 i v117) (k0_t2 : Fin (k0_t2_loop i v117).trips), ∀ a, (k0_off7 i v117 k0_t2) a + S1x512x128.size a ≤ S1x16384x128.size a := fun i v117 k0_hw1 k0_t2 => k0_hw1.2.2.2.2.2.2.2 k0_t2

def k0_off8 (i : grid0.Coords) : Fin 2 → Nat :=
  let arg0 : BitVec 32 := BitVec.ofNat 32 (i 0).val
  let v147 : Index := Scalar.indexCast arg0
  let c2_i32_70 : BitVec 32 := 2#32
  let arg1 : BitVec 32 := BitVec.ofNat 32 (i 1).val
  let v145 : BitVec 32 := Scalar.muli c2_i32_70 arg1
  let c1_i32_71 : BitVec 32 := 1#32
  let v146 : BitVec 32 := Scalar.addi v145 c1_i32_71
  let v148 : Index := Scalar.indexCast v146
  ![v147.toNat, v148.toNat]
@[reducible] def k0_t3_loop (i : grid0.Coords) (v117 : BitVec 32) (v149 : BitVec 32) : Scf.Loop 32 :=
  let c0_i32_81 : BitVec 32 := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let v150 : BitVec 32 := Scalar.subi v149 v139
  let c2_i32_72 : BitVec 32 := 2#32
  let v151 : BitVec 32 := Scalar.addi v150 c2_i32_72
  let c0_i32_74 : BitVec 32 := 0#32
  let v153 : BitVec 1 := Scalar.cmpi .sgt v151 c0_i32_74
  let v154 : BitVec 32 := Scalar.extui v153
  let c0_i32_75 : BitVec 32 := 0#32
  let v155 : BitVec 1 := Scalar.cmpi .slt v151 c0_i32_75
  let v156 : BitVec 32 := Scalar.extui v155
  let v157 : BitVec 32 := Scalar.subi v154 v156
  let c2_i32_73 : BitVec 32 := 2#32
  let c0_i32_76 : BitVec 32 := 0#32
  let v158 : BitVec 1 := Scalar.cmpi .sgt c2_i32_73 c0_i32_76
  let v159 : BitVec 32 := Scalar.extui v158
  let c0_i32_77 : BitVec 32 := 0#32
  let v160 : BitVec 1 := Scalar.cmpi .slt c2_i32_73 c0_i32_77
  let v161 : BitVec 32 := Scalar.extui v160
  let v162 : BitVec 32 := Scalar.subi v159 v161
  let v163 : BitVec 1 := Scalar.cmpi .ne v157 v162
  let v164 : BitVec 32 := Scalar.remsi v151 c2_i32_73
  let c0_i32_78 : BitVec 32 := 0#32
  let v165 : BitVec 1 := Scalar.cmpi .ne v164 c0_i32_78
  let v166 : BitVec 1 := Scalar.andi v163 v165
  let v152 : BitVec 32 := Scalar.divsi v151 c2_i32_73
  let c1_i32_79 : BitVec 32 := 1#32
  let v167 : BitVec 32 := Scalar.subi v152 c1_i32_79
  let v168 : BitVec 32 := Scalar.select v166 v167 v152
  let v169 : BitVec 32 := Scalar.subi v168 c0_i32_81
  let c1_i32_82 : BitVec 32 := 1#32
  let v171 : BitVec 32 := Scalar.divsi v169 c1_i32_82
  let v172 : BitVec 32 := Scalar.muli v171 c1_i32_82
  let v173 : BitVec 32 := Scalar.addi c0_i32_81 v172
  let c1_i32_83 : BitVec 32 := 1#32
  ⟨c0_i32_81, v173, c1_i32_83⟩

def k0_mult5 (i : grid0.Coords) (v117 : BitVec 32) (v149 : BitVec 32) (k0_t3 : Fin (k0_t3_loop i v117 v149).trips) : BitVec 32 :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let c1_i32_83 : BitVec 32 := 1#32
  let arg12 : BitVec 32 := Scf.iv c0_i32_81 c1_i32_83 k0_t3
  let v185 : BitVec 32 := Scalar.muli c2_i32_95 arg12
  let v186 : BitVec 32 := Scalar.addi v139 v185
  let c256_i32_96 : BitVec 32 := 256#32
  let v187 : BitVec 32 := Scalar.muli v186 c256_i32_96
  v187
def k0_off9 (i : grid0.Coords) (v117 : BitVec 32) (v149 : BitVec 32) (k0_t3 : Fin (k0_t3_loop i v117 v149).trips) : Fin 2 → Nat :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let c1_i32_83 : BitVec 32 := 1#32
  let arg12 : BitVec 32 := Scf.iv c0_i32_81 c1_i32_83 k0_t3
  let v185 : BitVec 32 := Scalar.muli c2_i32_95 arg12
  let v186 : BitVec 32 := Scalar.addi v139 v185
  let c256_i32_96 : BitVec 32 := 256#32
  let v187 : BitVec 32 := Scalar.muli v186 c256_i32_96
  let v188 : BitVec 32 := v187
  let v189 : Index := Scalar.indexCast v188
  let c0_97 : Index := 0#32
  ![v189.toNat, 0]
def k0_off10 (i : grid0.Coords) (v117 : BitVec 32) (v149 : BitVec 32) (k0_t3 : Fin (k0_t3_loop i v117 v149).trips) : Fin 3 → Nat :=
  let c0_110 : Index := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let c1_i32_83 : BitVec 32 := 1#32
  let arg12 : BitVec 32 := Scf.iv c0_i32_81 c1_i32_83 k0_t3
  let v185 : BitVec 32 := Scalar.muli c2_i32_95 arg12
  let v186 : BitVec 32 := Scalar.addi v139 v185
  let c256_i32_96 : BitVec 32 := 256#32
  let v187 : BitVec 32 := Scalar.muli v186 c256_i32_96
  let v188 : BitVec 32 := v187
  let v219 : Index := Scalar.indexCast v188
  let c0_111 : Index := 0#32
  ![0, v219.toNat, 0]
@[reducible] def k0_t4_loop (i : grid0.Coords) (v117 : BitVec 32) (v149 : BitVec 32) : Scf.Loop 32 :=
  let c0_i32_81 : BitVec 32 := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let v150 : BitVec 32 := Scalar.subi v149 v139
  let c2_i32_72 : BitVec 32 := 2#32
  let v151 : BitVec 32 := Scalar.addi v150 c2_i32_72
  let c0_i32_74 : BitVec 32 := 0#32
  let v153 : BitVec 1 := Scalar.cmpi .sgt v151 c0_i32_74
  let v154 : BitVec 32 := Scalar.extui v153
  let c0_i32_75 : BitVec 32 := 0#32
  let v155 : BitVec 1 := Scalar.cmpi .slt v151 c0_i32_75
  let v156 : BitVec 32 := Scalar.extui v155
  let v157 : BitVec 32 := Scalar.subi v154 v156
  let c2_i32_73 : BitVec 32 := 2#32
  let c0_i32_76 : BitVec 32 := 0#32
  let v158 : BitVec 1 := Scalar.cmpi .sgt c2_i32_73 c0_i32_76
  let v159 : BitVec 32 := Scalar.extui v158
  let c0_i32_77 : BitVec 32 := 0#32
  let v160 : BitVec 1 := Scalar.cmpi .slt c2_i32_73 c0_i32_77
  let v161 : BitVec 32 := Scalar.extui v160
  let v162 : BitVec 32 := Scalar.subi v159 v161
  let v163 : BitVec 1 := Scalar.cmpi .ne v157 v162
  let v164 : BitVec 32 := Scalar.remsi v151 c2_i32_73
  let c0_i32_78 : BitVec 32 := 0#32
  let v165 : BitVec 1 := Scalar.cmpi .ne v164 c0_i32_78
  let v166 : BitVec 1 := Scalar.andi v163 v165
  let v152 : BitVec 32 := Scalar.divsi v151 c2_i32_73
  let c1_i32_79 : BitVec 32 := 1#32
  let v167 : BitVec 32 := Scalar.subi v152 c1_i32_79
  let v168 : BitVec 32 := Scalar.select v166 v167 v152
  let v169 : BitVec 32 := Scalar.subi v168 c0_i32_81
  let c1_i32_82 : BitVec 32 := 1#32
  let v171 : BitVec 32 := Scalar.divsi v169 c1_i32_82
  let v172 : BitVec 32 := Scalar.muli v171 c1_i32_82
  let v173 : BitVec 32 := Scalar.addi c0_i32_81 v172
  let v170 : BitVec 32 := Scalar.addi c0_i32_81 v169
  let c1_i32_84 : BitVec 32 := 1#32
  ⟨v173, v170, c1_i32_84⟩
def k0_mult6 (i : grid0.Coords) (v117 : BitVec 32) (v149 : BitVec 32) (k0_t4 : Fin (k0_t4_loop i v117 v149).trips) : BitVec 32 :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let v150 : BitVec 32 := Scalar.subi v149 v139
  let c2_i32_72 : BitVec 32 := 2#32
  let v151 : BitVec 32 := Scalar.addi v150 c2_i32_72
  let c0_i32_74 : BitVec 32 := 0#32
  let v153 : BitVec 1 := Scalar.cmpi .sgt v151 c0_i32_74
  let v154 : BitVec 32 := Scalar.extui v153
  let c0_i32_75 : BitVec 32 := 0#32
  let v155 : BitVec 1 := Scalar.cmpi .slt v151 c0_i32_75
  let v156 : BitVec 32 := Scalar.extui v155
  let v157 : BitVec 32 := Scalar.subi v154 v156
  let c2_i32_73 : BitVec 32 := 2#32
  let c0_i32_76 : BitVec 32 := 0#32
  let v158 : BitVec 1 := Scalar.cmpi .sgt c2_i32_73 c0_i32_76
  let v159 : BitVec 32 := Scalar.extui v158
  let c0_i32_77 : BitVec 32 := 0#32
  let v160 : BitVec 1 := Scalar.cmpi .slt c2_i32_73 c0_i32_77
  let v161 : BitVec 32 := Scalar.extui v160
  let v162 : BitVec 32 := Scalar.subi v159 v161
  let v163 : BitVec 1 := Scalar.cmpi .ne v157 v162
  let v164 : BitVec 32 := Scalar.remsi v151 c2_i32_73
  let c0_i32_78 : BitVec 32 := 0#32
  let v165 : BitVec 1 := Scalar.cmpi .ne v164 c0_i32_78
  let v166 : BitVec 1 := Scalar.andi v163 v165
  let v152 : BitVec 32 := Scalar.divsi v151 c2_i32_73
  let c1_i32_79 : BitVec 32 := 1#32
  let v167 : BitVec 32 := Scalar.subi v152 c1_i32_79
  let v168 : BitVec 32 := Scalar.select v166 v167 v152
  let v169 : BitVec 32 := Scalar.subi v168 c0_i32_81
  let c1_i32_82 : BitVec 32 := 1#32
  let v171 : BitVec 32 := Scalar.divsi v169 c1_i32_82
  let v172 : BitVec 32 := Scalar.muli v171 c1_i32_82
  let v173 : BitVec 32 := Scalar.addi c0_i32_81 v172
  let c1_i32_84 : BitVec 32 := 1#32
  let arg12 : BitVec 32 := Scf.iv v173 c1_i32_84 k0_t4
  let v185 : BitVec 32 := Scalar.muli c2_i32_95 arg12
  let v186 : BitVec 32 := Scalar.addi v139 v185
  let c256_i32_96 : BitVec 32 := 256#32
  let v187 : BitVec 32 := Scalar.muli v186 c256_i32_96
  v187
def k0_off11 (i : grid0.Coords) (v117 : BitVec 32) (v149 : BitVec 32) (k0_t4 : Fin (k0_t4_loop i v117 v149).trips) : Fin 2 → Nat :=
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let v150 : BitVec 32 := Scalar.subi v149 v139
  let c2_i32_72 : BitVec 32 := 2#32
  let v151 : BitVec 32 := Scalar.addi v150 c2_i32_72
  let c0_i32_74 : BitVec 32 := 0#32
  let v153 : BitVec 1 := Scalar.cmpi .sgt v151 c0_i32_74
  let v154 : BitVec 32 := Scalar.extui v153
  let c0_i32_75 : BitVec 32 := 0#32
  let v155 : BitVec 1 := Scalar.cmpi .slt v151 c0_i32_75
  let v156 : BitVec 32 := Scalar.extui v155
  let v157 : BitVec 32 := Scalar.subi v154 v156
  let c2_i32_73 : BitVec 32 := 2#32
  let c0_i32_76 : BitVec 32 := 0#32
  let v158 : BitVec 1 := Scalar.cmpi .sgt c2_i32_73 c0_i32_76
  let v159 : BitVec 32 := Scalar.extui v158
  let c0_i32_77 : BitVec 32 := 0#32
  let v160 : BitVec 1 := Scalar.cmpi .slt c2_i32_73 c0_i32_77
  let v161 : BitVec 32 := Scalar.extui v160
  let v162 : BitVec 32 := Scalar.subi v159 v161
  let v163 : BitVec 1 := Scalar.cmpi .ne v157 v162
  let v164 : BitVec 32 := Scalar.remsi v151 c2_i32_73
  let c0_i32_78 : BitVec 32 := 0#32
  let v165 : BitVec 1 := Scalar.cmpi .ne v164 c0_i32_78
  let v166 : BitVec 1 := Scalar.andi v163 v165
  let v152 : BitVec 32 := Scalar.divsi v151 c2_i32_73
  let c1_i32_79 : BitVec 32 := 1#32
  let v167 : BitVec 32 := Scalar.subi v152 c1_i32_79
  let v168 : BitVec 32 := Scalar.select v166 v167 v152
  let v169 : BitVec 32 := Scalar.subi v168 c0_i32_81
  let c1_i32_82 : BitVec 32 := 1#32
  let v171 : BitVec 32 := Scalar.divsi v169 c1_i32_82
  let v172 : BitVec 32 := Scalar.muli v171 c1_i32_82
  let v173 : BitVec 32 := Scalar.addi c0_i32_81 v172
  let c1_i32_84 : BitVec 32 := 1#32
  let arg12 : BitVec 32 := Scf.iv v173 c1_i32_84 k0_t4
  let v185 : BitVec 32 := Scalar.muli c2_i32_95 arg12
  let v186 : BitVec 32 := Scalar.addi v139 v185
  let c256_i32_96 : BitVec 32 := 256#32
  let v187 : BitVec 32 := Scalar.muli v186 c256_i32_96
  let v188 : BitVec 32 := v187
  let v189 : Index := Scalar.indexCast v188
  let c0_97 : Index := 0#32
  ![v189.toNat, 0]
def k0_off12 (i : grid0.Coords) (v117 : BitVec 32) (v149 : BitVec 32) (k0_t4 : Fin (k0_t4_loop i v117 v149).trips) : Fin 3 → Nat :=
  let c0_110 : Index := 0#32
  let arg1 : BitVec 32 := BitVec.ofNat 32 (i 1).val
  let c4_i32_53 : BitVec 32 := 4#32
  let v112 : BitVec 32 := Scalar.muli arg1 c4_i32_53
  let c4_i32_54 : BitVec 32 := 4#32
  let v113 : BitVec 32 := Scalar.addi v112 c4_i32_54
  let c2_i32_64 : BitVec 32 := 2#32
  let v118 : BitVec 32 := Scalar.subi v117 v113
  let c2_i32_56 : BitVec 32 := 2#32
  let v119 : BitVec 32 := Scalar.addi v118 c2_i32_56
  let c0_i32_58 : BitVec 32 := 0#32
  let v121 : BitVec 1 := Scalar.cmpi .sgt v119 c0_i32_58
  let v122 : BitVec 32 := Scalar.extui v121
  let c0_i32_59 : BitVec 32 := 0#32
  let v123 : BitVec 1 := Scalar.cmpi .slt v119 c0_i32_59
  let v124 : BitVec 32 := Scalar.extui v123
  let v125 : BitVec 32 := Scalar.subi v122 v124
  let c2_i32_57 : BitVec 32 := 2#32
  let c0_i32_60 : BitVec 32 := 0#32
  let v126 : BitVec 1 := Scalar.cmpi .sgt c2_i32_57 c0_i32_60
  let v127 : BitVec 32 := Scalar.extui v126
  let c0_i32_61 : BitVec 32 := 0#32
  let v128 : BitVec 1 := Scalar.cmpi .slt c2_i32_57 c0_i32_61
  let v129 : BitVec 32 := Scalar.extui v128
  let v130 : BitVec 32 := Scalar.subi v127 v129
  let v131 : BitVec 1 := Scalar.cmpi .ne v125 v130
  let v132 : BitVec 32 := Scalar.remsi v119 c2_i32_57
  let c0_i32_62 : BitVec 32 := 0#32
  let v133 : BitVec 1 := Scalar.cmpi .ne v132 c0_i32_62
  let v134 : BitVec 1 := Scalar.andi v131 v133
  let v120 : BitVec 32 := Scalar.divsi v119 c2_i32_57
  let c1_i32 : BitVec 32 := 1#32
  let v135 : BitVec 32 := Scalar.subi v120 c1_i32
  let v136 : BitVec 32 := Scalar.select v134 v135 v120
  let c0_i32_63 : BitVec 32 := 0#32
  let v137 : BitVec 32 := Scalar.maxsi v136 c0_i32_63
  let v138 : BitVec 32 := Scalar.muli c2_i32_64 v137
  let v139 : BitVec 32 := Scalar.addi v113 v138
  let c2_i32_95 : BitVec 32 := 2#32
  let c0_i32_81 : BitVec 32 := 0#32
  let v150 : BitVec 32 := Scalar.subi v149 v139
  let c2_i32_72 : BitVec 32 := 2#32
  let v151 : BitVec 32 := Scalar.addi v150 c2_i32_72
  let c0_i32_74 : BitVec 32 := 0#32
  let v153 : BitVec 1 := Scalar.cmpi .sgt v151 c0_i32_74
  let v154 : BitVec 32 := Scalar.extui v153
  let c0_i32_75 : BitVec 32 := 0#32
  let v155 : BitVec 1 := Scalar.cmpi .slt v151 c0_i32_75
  let v156 : BitVec 32 := Scalar.extui v155
  let v157 : BitVec 32 := Scalar.subi v154 v156
  let c2_i32_73 : BitVec 32 := 2#32
  let c0_i32_76 : BitVec 32 := 0#32
  let v158 : BitVec 1 := Scalar.cmpi .sgt c2_i32_73 c0_i32_76
  let v159 : BitVec 32 := Scalar.extui v158
  let c0_i32_77 : BitVec 32 := 0#32
  let v160 : BitVec 1 := Scalar.cmpi .slt c2_i32_73 c0_i32_77
  let v161 : BitVec 32 := Scalar.extui v160
  let v162 : BitVec 32 := Scalar.subi v159 v161
  let v163 : BitVec 1 := Scalar.cmpi .ne v157 v162
  let v164 : BitVec 32 := Scalar.remsi v151 c2_i32_73
  let c0_i32_78 : BitVec 32 := 0#32
  let v165 : BitVec 1 := Scalar.cmpi .ne v164 c0_i32_78
  let v166 : BitVec 1 := Scalar.andi v163 v165
  let v152 : BitVec 32 := Scalar.divsi v151 c2_i32_73
  let c1_i32_79 : BitVec 32 := 1#32
  let v167 : BitVec 32 := Scalar.subi v152 c1_i32_79
  let v168 : BitVec 32 := Scalar.select v166 v167 v152
  let v169 : BitVec 32 := Scalar.subi v168 c0_i32_81
  let c1_i32_82 : BitVec 32 := 1#32
  let v171 : BitVec 32 := Scalar.divsi v169 c1_i32_82
  let v172 : BitVec 32 := Scalar.muli v171 c1_i32_82
  let v173 : BitVec 32 := Scalar.addi c0_i32_81 v172
  let c1_i32_84 : BitVec 32 := 1#32
  let arg12 : BitVec 32 := Scf.iv v173 c1_i32_84 k0_t4
  let v185 : BitVec 32 := Scalar.muli c2_i32_95 arg12
  let v186 : BitVec 32 := Scalar.addi v139 v185
  let c256_i32_96 : BitVec 32 := 256#32
  let v187 : BitVec 32 := Scalar.muli v186 c256_i32_96
  let v188 : BitVec 32 := v187
  let v219 : Index := Scalar.indexCast v188
  let c0_111 : Index := 0#32
  ![0, v219.toNat, 0]

def k0_chk2 (i : grid0.Coords) (v117 : BitVec 32) (v149 : BitVec 32) : Prop :=
  ((k0_t3_loop i v117 v149).OK) ∧
  (∀ k0_t3 : Fin (k0_t3_loop i v117 v149).trips, 256 ∣ (k0_mult5 i v117 v149 k0_t3).toNat) ∧
  (∀ k0_t3 : Fin (k0_t3_loop i v117 v149).trips, ∀ a, (k0_off9 i v117 v149 k0_t3) a + S512x128.size a ≤ S16384x128.size a) ∧
  (∀ k0_t3 : Fin (k0_t3_loop i v117 v149).trips, ∀ a, (k0_off10 i v117 v149 k0_t3) a + S1x512x128.size a ≤ S1x16384x128.size a) ∧
  ((k0_t4_loop i v117 v149).OK) ∧
  (∀ k0_t4 : Fin (k0_t4_loop i v117 v149).trips, 256 ∣ (k0_mult6 i v117 v149 k0_t4).toNat) ∧
  (∀ k0_t4 : Fin (k0_t4_loop i v117 v149).trips, ∀ a, (k0_off11 i v117 v149 k0_t4) a + S512x128.size a ≤ S16384x128.size a) ∧
  (∀ k0_t4 : Fin (k0_t4_loop i v117 v149).trips, ∀ a, (k0_off12 i v117 v149 k0_t4) a + S1x512x128.size a ≤ S1x16384x128.size a)
theorem k0_t3_ok : ∀ (i : grid0.Coords) (v117 : BitVec 32) (v149 : BitVec 32) (k0_hw2 : k0_chk2 i v117 v149), (k0_t3_loop i v117 v149).OK := fun i v117 v149 k0_hw2 => k0_hw2.1
theorem k0_mult5_dvd : ∀ (i : grid0.Coords) (v117 : BitVec 32) (v149 : BitVec 32) (k0_hw2 : k0_chk2 i v117 v149) (k0_t3 : Fin (k0_t3_loop i v117 v149).trips), 256 ∣ (k0_mult5 i v117 v149 k0_t3).toNat := fun i v117 v149 k0_hw2 k0_t3 => k0_hw2.2.1 k0_t3
theorem k0_off9_inb : ∀ (i : grid0.Coords) (v117 : BitVec 32) (v149 : BitVec 32) (k0_hw2 : k0_chk2 i v117 v149) (k0_t3 : Fin (k0_t3_loop i v117 v149).trips), ∀ a, (k0_off9 i v117 v149 k0_t3) a + S512x128.size a ≤ S16384x128.size a := fun i v117 v149 k0_hw2 k0_t3 => k0_hw2.2.2.1 k0_t3
theorem k0_off10_inb : ∀ (i : grid0.Coords) (v117 : BitVec 32) (v149 : BitVec 32) (k0_hw2 : k0_chk2 i v117 v149) (k0_t3 : Fin (k0_t3_loop i v117 v149).trips), ∀ a, (k0_off10 i v117 v149 k0_t3) a + S1x512x128.size a ≤ S1x16384x128.size a := fun i v117 v149 k0_hw2 k0_t3 => k0_hw2.2.2.2.1 k0_t3
theorem k0_t4_ok : ∀ (i : grid0.Coords) (v117 : BitVec 32) (v149 : BitVec 32) (k0_hw2 : k0_chk2 i v117 v149), (k0_t4_loop i v117 v149).OK := fun i v117 v149 k0_hw2 => k0_hw2.2.2.2.2.1
theorem k0_mult6_dvd : ∀ (i : grid0.Coords) (v117 : BitVec 32) (v149 : BitVec 32) (k0_hw2 : k0_chk2 i v117 v149) (k0_t4 : Fin (k0_t4_loop i v117 v149).trips), 256 ∣ (k0_mult6 i v117 v149 k0_t4).toNat := fun i v117 v149 k0_hw2 k0_t4 => k0_hw2.2.2.2.2.2.1 k0_t4
theorem k0_off11_inb : ∀ (i : grid0.Coords) (v117 : BitVec 32) (v149 : BitVec 32) (k0_hw2 : k0_chk2 i v117 v149) (k0_t4 : Fin (k0_t4_loop i v117 v149).trips), ∀ a, (k0_off11 i v117 v149 k0_t4) a + S512x128.size a ≤ S16384x128.size a := fun i v117 v149 k0_hw2 k0_t4 => k0_hw2.2.2.2.2.2.2.1 k0_t4
theorem k0_off12_inb : ∀ (i : grid0.Coords) (v117 : BitVec 32) (v149 : BitVec 32) (k0_hw2 : k0_chk2 i v117 v149) (k0_t4 : Fin (k0_t4_loop i v117 v149).trips), ∀ a, (k0_off12 i v117 v149 k0_t4) a + S1x512x128.size a ≤ S1x16384x128.size a := fun i v117 v149 k0_hw2 k0_t4 => k0_hw2.2.2.2.2.2.2.2 k0_t4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x32 : Shape := ⟨2, ![16, 32]⟩
abbrev S16x16384x64 : Shape := ⟨3, ![16, 16384, 64]⟩
abbrev S16x16384 : Shape := ⟨2, ![16, 16384]⟩
abbrev S16x16x2 : Shape := ⟨3, ![16, 16, 2]⟩
abbrev S16x16x1 : Shape := ⟨3, ![16, 16, 1]⟩
abbrev S16x16384x16384 : Shape := ⟨3, ![16, 16384, 16384]⟩
abbrev S16x32x512 : Shape := ⟨3, ![16, 32, 512]⟩
abbrev S16x1x16384 : Shape := ⟨3, ![16, 1, 16384]⟩
abbrev S_ : Shape := ⟨0, ![]⟩
abbrev S16x16384x1 : Shape := ⟨3, ![16, 16384, 1]⟩
abbrev S16x64x16384 : Shape := ⟨3, ![16, 64, 16384]⟩

abbrev nBuf : Space → Nat
  | .hbm => 132
  | .vmem => 0
  | .smem => 0
  | _ => 0

abbrev hbmTy0_0 (i : Nat) : BufTy := match i % 128 with
  | 0 => ⟨S16x32, .i32⟩
  | 1 => ⟨S16x16384x64, .f32⟩
  | 2 => ⟨S16x16384x64, .f32⟩
  | 3 => ⟨S16x16384x64, .f32⟩
  | 4 => ⟨S16x16384, .f32⟩
  | 5 => ⟨S16x16384x64, .f32⟩
  | 6 => ⟨S16x16x2, .i32⟩
  | 7 => ⟨S16x16x1, .i32⟩
  | 8 => ⟨S16x16x2, .i32⟩
  | 9 => ⟨S16x16x2, .i32⟩
  | 10 => ⟨S16x32, .i32⟩
  | 11 => ⟨S16x16384x16384, .i32⟩
  | 12 => ⟨S16x16384x16384, .i32⟩
  | 13 => ⟨S16x32x512, .i32⟩
  | 14 => ⟨S16x16384, .i32⟩
  | 15 => ⟨S16x1x16384, .i32⟩
  | 16 => ⟨S16x16384x16384, .i1⟩
  | 17 => ⟨S_, .i32⟩
  | 18 => ⟨S16x16384x16384, .i32⟩
  | 19 => ⟨S16x16384x16384, .i32⟩
  | 20 => ⟨S_, .i32⟩
  | 21 => ⟨S16x16384x16384, .i32⟩
  | 22 => ⟨S16x16384x16384, .i32⟩
  | 23 => ⟨S16x16384x16384, .i1⟩
  | 24 => ⟨S_, .i32⟩
  | 25 => ⟨S16x16384x16384, .i32⟩
  | 26 => ⟨S16x16384x16384, .i32⟩
  | 27 => ⟨S_, .i32⟩
  | 28 => ⟨S16x16384x16384, .i32⟩
  | 29 => ⟨S16x16384x16384, .i32⟩
  | 30 => ⟨S16x16384x16384, .i32⟩
  | 31 => ⟨S16x16384x16384, .i1⟩
  | 32 => ⟨S16x16384x16384, .i1⟩
  | 33 => ⟨S16x16384x16384, .i1⟩
  | 34 => ⟨S_, .f32⟩
  | 35 => ⟨S_, .f32⟩
  | 36 => ⟨S16x16384, .f32⟩
  | 37 => ⟨S16x16384x16384, .f32⟩
  | 38 => ⟨S_, .f32⟩
  | 39 => ⟨S16x16384x16384, .f32⟩
  | 40 => ⟨S16x16384x16384, .f32⟩
  | 41 => ⟨S16x16384x1, .f32⟩
  | 42 => ⟨S16x16384x16384, .f32⟩
  | 43 => ⟨S16x16384x16384, .f32⟩
  | 44 => ⟨S16x1x16384, .f32⟩
  | 45 => ⟨S16x16384x16384, .f32⟩
  | 46 => ⟨S16x16384x16384, .f32⟩
  | 47 => ⟨S_, .f32⟩
  | 48 => ⟨S_, .f32⟩
  | 49 => ⟨S16x16384x16384, .f32⟩
  | 50 => ⟨S16x16384x16384, .f32⟩
  | 51 => ⟨S_, .f32⟩
  | 52 => ⟨S16x16384x16384, .f32⟩
  | 53 => ⟨S_, .f32⟩
  | 54 => ⟨S16x16384, .f32⟩
  | 55 => ⟨S16x16384x1, .f32⟩
  | 56 => ⟨S16x16384x16384, .f32⟩
  | 57 => ⟨S16x16384x16384, .i1⟩
  | 58 => ⟨S16x16384x16384, .f32⟩
  | 59 => ⟨S_, .f32⟩
  | 60 => ⟨S16x16384, .f32⟩
  | 61 => ⟨S_, .f32⟩
  | 62 => ⟨S16x16384, .f32⟩
  | 63 => ⟨S16x16384, .f32⟩
  | 64 => ⟨S_, .f32⟩
  | 65 => ⟨S16x16384, .f32⟩
  | 66 => ⟨S16x16384, .i1⟩
  | 67 => ⟨S_, .f32⟩
  | 68 => ⟨S16x16384, .f32⟩
  | 69 => ⟨S16x16384, .i1⟩
  | 70 => ⟨S_, .f32⟩
  | 71 => ⟨S16x16384, .f32⟩
  | 72 => ⟨S_, .f32⟩
  | 73 => ⟨S16x16384, .f32⟩
  | 74 => ⟨S_, .f32⟩
  | 75 => ⟨S16x16384, .f32⟩
  | 76 => ⟨S16x16384, .f32⟩
  | 77 => ⟨S16x16384, .f32⟩
  | 78 => ⟨S16x16384x1, .f32⟩
  | 79 => ⟨S16x16384x16384, .f32⟩
  | 80 => ⟨S16x16384x16384, .f32⟩
  | 81 => ⟨S16x16384x16384, .f32⟩
  | 82 => ⟨S_, .f32⟩
  | 83 => ⟨S16x16384, .f32⟩
  | 84 => ⟨S16x16384x1, .f32⟩
  | 85 => ⟨S16x16384x16384, .f32⟩
  | 86 => ⟨S16x16384x16384, .f32⟩
  | 87 => ⟨S16x16384x1, .f32⟩
  | 88 => ⟨S_, .f32⟩
  | 89 => ⟨S16x16384x1, .f32⟩
  | 90 => ⟨S16x16384x1, .f32⟩
  | 91 => ⟨S16x16384x64, .f32⟩
  | 92 => ⟨S16x64x16384, .f32⟩
  | 93 => ⟨S16x16384x64, .f32⟩
  | 94 => ⟨S16x16384x16384, .f32⟩
  | 95 => ⟨S16x16384x16384, .f32⟩
  | 96 => ⟨S16x16384x16384, .f32⟩
  | 97 => ⟨S16x16384x16384, .f32⟩
  | 98 => ⟨S_, .f32⟩
  | 99 => ⟨S16x16384, .f32⟩
  | 100 => ⟨S16x16384x1, .f32⟩
  | 101 => ⟨S16x16384x1, .f32⟩
  | 102 => ⟨S16x16384x16384, .f32⟩
  | 103 => ⟨S16x16384x16384, .f32⟩
  | 104 => ⟨S_, .f32⟩
  | 105 => ⟨S16x16384, .f32⟩
  | 106 => ⟨S16x16384x16384, .f32⟩
  | 107 => ⟨S16x16384x16384, .f32⟩
  | 108 => ⟨S16x16384x16384, .f32⟩
  | 109 => ⟨S_, .f32⟩
  | 110 => ⟨S16x16384x16384, .f32⟩
  | 111 => ⟨S16x16384x16384, .f32⟩
  | 112 => ⟨S16x16384x16384, .f32⟩
  | 113 => ⟨S_, .f32⟩
  | 114 => ⟨S16x16384, .f32⟩
  | 115 => ⟨S16x1x16384, .f32⟩
  | 116 => ⟨S_, .f32⟩
  | 117 => ⟨S16x16384, .f32⟩
  | 118 => ⟨S_, .f32⟩
  | 119 => ⟨S16x16384, .f32⟩
  | 120 => ⟨S16x16384x1, .f32⟩
  | 121 => ⟨S_, .f32⟩
  | 122 => ⟨S16x16384, .f32⟩
  | 123 => ⟨S16x16384, .f32⟩
  | 124 => ⟨S_, .f32⟩
  | 125 => ⟨S16x16384x16384, .f32⟩
  | 126 => ⟨S16x16384x16384, .f32⟩
  | 127 => ⟨S16x16384x64, .f32⟩
  | _ => ⟨S16x32, .i32⟩

abbrev hbmTy0_1 (i : Nat) : BufTy := match i % 128 with
  | 0 => ⟨S16x16384x64, .f32⟩
  | 1 => ⟨S_, .f32⟩
  | 2 => ⟨S_, .f32⟩
  | 3 => ⟨S16x16384, .f32⟩
  | _ => ⟨S16x32, .i32⟩

abbrev hbmTy (i : Nat) : BufTy := match i / 128 with
  | 0 => hbmTy0_0 i
  | 1 => hbmTy0_1 i
  | _ => ⟨S16x32, .i32⟩

abbrev bufTy : (tb : Table) → Fin (tcTables nBuf tb) → BufTy
  | .hbm, ⟨i, _⟩ => hbmTy i
  | _, _ => ⟨S16x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_call0_cst : Ref sig .tc := ⟨.hbm, 34, rfl⟩
abbrev main_call0_call0_v0 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_v34_0 : Ref sig .tc := ⟨.hbm, 50, rfl⟩
abbrev main_call1_cst : Ref sig .tc := ⟨.hbm, 51, rfl⟩
abbrev main_v34_1 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_call2_cst : Ref sig .tc := ⟨.hbm, 109, rfl⟩
abbrev main_call2_v0 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call3_call0_cst : Ref sig .tc := ⟨.hbm, 129, rfl⟩
abbrev main_call3_call0_v0 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== KernelIn.lean ====
abbrev S16384x1024 : Shape := ⟨2, ![16384, 1024]⟩
abbrev S16384x4096 : Shape := ⟨2, ![16384, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelOut.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAttn.lean ====
abbrev S16384x1024 : Shape := ⟨2, ![16384, 1024]⟩
abbrev S16384x4224 : Shape := ⟨2, ![16384, 4224]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4224, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceAttnIdeal.lean ====
abbrev S16384x1024 : Shape := ⟨2, ![16384, 1024]⟩
abbrev S16384x4224 : Shape := ⟨2, ![16384, 4224]⟩
abbrev S_ : Shape := ⟨0, ![]⟩
abbrev S1024x4224 : Shape := ⟨2, ![1024, 4224]⟩
abbrev S4224x1024 : Shape := ⟨2, ![4224, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4224, .bf16⟩
  | .hbm, ⟨2, _⟩ => ⟨S_, .f32⟩
  | .hbm, ⟨3, _⟩ => ⟨S1024x4224, .f32⟩
  | .hbm, ⟨4, _⟩ => ⟨S16384x1024, .f32⟩
  | .hbm, ⟨5, _⟩ => ⟨S16384x4224, .f32⟩
  | .hbm, ⟨6, _⟩ => ⟨S16384x4224, .f32⟩
  | .hbm, ⟨7, _⟩ => ⟨S4224x1024, .f32⟩
  | .hbm, ⟨8, _⟩ => ⟨S1024x4224, .f32⟩
  | .hbm, ⟨9, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelForget.lean ====
abbrev S16384x1024 : Shape := ⟨2, ![16384, 1024]⟩
abbrev S16384x4224 : Shape := ⟨2, ![16384, 4224]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x4224, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceForgetIdeal.lean ====
abbrev S16384x1024 : Shape := ⟨2, ![16384, 1024]⟩
abbrev S16384x4224 : Shape := ⟨2, ![16384, 4224]⟩
abbrev S_ : Shape := ⟨0, ![]⟩
abbrev S1024x4224 : Shape := ⟨2, ![1024, 4224]⟩
abbrev S4224x1024 : Shape := ⟨2, ![4224, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4224, .bf16⟩
  | .hbm, ⟨2, _⟩ => ⟨S_, .f32⟩
  | .hbm, ⟨3, _⟩ => ⟨S1024x4224, .f32⟩
  | .hbm, ⟨4, _⟩ => ⟨S16384x1024, .f32⟩
  | .hbm, ⟨5, _⟩ => ⟨S16384x4224, .f32⟩
  | .hbm, ⟨6, _⟩ => ⟨S16384x4224, .f32⟩
  | .hbm, ⟨7, _⟩ => ⟨S4224x1024, .f32⟩
  | .hbm, ⟨8, _⟩ => ⟨S1024x4224, .f32⟩
  | .hbm, ⟨9, _⟩ => ⟨S1024x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelAdamNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamNormIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConv.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamConvIdeal.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamConvIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamAttnNorm.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamAttnNormIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamAttnNormIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamForget.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamForgetIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamForgetIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamHead.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamHeadIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelHalfIn.lean ====
abbrev S1 : Shape := ⟨1, ![1]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelHalfInIdeal.lean ====
abbrev S1 : Shape := ⟨1, ![1]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceHalfInIdeal.lean ====
abbrev S1 : Shape := ⟨1, ![1]⟩
abbrev S1024x1024 : Shape := ⟨2, ![1024, 1024]⟩
abbrev S512x1024 : Shape := ⟨2, ![512, 1024]⟩
abbrev S2 : Shape := ⟨1, ![2]⟩
abbrev S2x1x1 : Shape := ⟨3, ![2, 1, 1]⟩
abbrev S1x512x1024 : Shape := ⟨3, ![1, 512, 1024]⟩
abbrev S2x512x1024 : Shape := ⟨3, ![2, 512, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1024, .f32⟩
  | .hbm, ⟨2, _⟩ => ⟨S512x1024, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S1x512x1024, .f32⟩
  | .hbm, ⟨11, _⟩ => ⟨S1x512x1024, .f32⟩
  | .hbm, ⟨12, _⟩ => ⟨S2x512x1024, .i1⟩
  | .hbm, ⟨13, _⟩ => ⟨S2x512x1024, .f32⟩
  | .hbm, ⟨14, _⟩ => ⟨S2x512x1024, .f32⟩
  | .hbm, ⟨15, _⟩ => ⟨S2x512x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelHalfAttn.lean ====
abbrev S1 : Shape := ⟨1, ![1]⟩
abbrev S1024x1028 : Shape := ⟨2, ![1024, 1028]⟩
abbrev S512x1028 : Shape := ⟨2, ![512, 1028]⟩
abbrev S256x1028 : Shape := ⟨2, ![256, 1028]⟩

abbrev nBuf : Space → Nat
  | .hbm => 9
  | .vmem => 18
  | .smem => 1
  | _ => 0

abbrev bufTy : (tb : Table) → Fin (tcTables nBuf tb) → BufTy
  | .hbm, ⟨0, _⟩ => ⟨S1024x1028, .f32⟩
  | .hbm, ⟨1, _⟩ => ⟨S512x1028, .f32⟩
  | .hbm, ⟨2, _⟩ => ⟨S512x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .hbm, ⟨7, _⟩ => ⟨S1024x1028, .f32⟩
  | .hbm, ⟨8, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | .local _ .vmem, ⟨16, _⟩ => ⟨S256x1028, .f32⟩
  | .local _ .vmem, ⟨17, _⟩ => ⟨S256x1028, .f32⟩
  | .local _ .smem, ⟨0, _⟩ => ⟨S1, .i32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelHalfAttnIdeal.lean ====
abbrev S1 : Shape := ⟨1, ![1]⟩
abbrev S1024x1028 : Shape := ⟨2, ![1024, 1028]⟩
abbrev S512x1028 : Shape := ⟨2, ![512, 1028]⟩
abbrev S256x1028 : Shape := ⟨2, ![256, 1028]⟩

abbrev nBuf : Space → Nat
  | .hbm => 9
  | .vmem => 18
  | .smem => 1
  | _ => 0

abbrev bufTy : (tb : Table) → Fin (tcTables nBuf tb) → BufTy
  | .hbm, ⟨0, _⟩ => ⟨S1024x1028, .f32⟩
  | .hbm, ⟨1, _⟩ => ⟨S512x1028, .f32⟩
  | .hbm, ⟨2, _⟩ => ⟨S512x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .hbm, ⟨7, _⟩ => ⟨S1024x1028, .f32⟩
  | .hbm, ⟨8, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | .local _ .vmem, ⟨16, _⟩ => ⟨S256x1028, .f32⟩
  | .local _ .vmem, ⟨17, _⟩ => ⟨S256x1028, .f32⟩
  | .local _ .smem, ⟨0, _⟩ => ⟨S1, .i32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1028 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceHalfAttnIdeal.lean ====
abbrev S1 : Shape := ⟨1, ![1]⟩
abbrev S1024x1028 : Shape := ⟨2, ![1024, 1028]⟩
abbrev S512x1028 : Shape := ⟨2, ![512, 1028]⟩
abbrev S2 : Shape := ⟨1, ![2]⟩
abbrev S2x1x1 : Shape := ⟨3, ![2, 1, 1]⟩
abbrev S1x512x1028 : Shape := ⟨3, ![1, 512, 1028]⟩
abbrev S2x512x1028 : Shape := ⟨3, ![2, 512, 1028]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1028, .f32⟩
  | .hbm, ⟨2, _⟩ => ⟨S512x1028, .f32⟩
  | .hbm, ⟨3, _⟩ => ⟨S512x1028, .f32⟩
  | .hbm, ⟨4, _⟩ => ⟨S1024x1028, .f32⟩
  | .hbm, ⟨5, _⟩ => ⟨S1024x1028, .f32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S1x512x1028, .f32⟩
  | .hbm, ⟨11, _⟩ => ⟨S1x512x1028, .f32⟩
  | .hbm, ⟨12, _⟩ => ⟨S2x512x1028, .i1⟩
  | .hbm, ⟨13, _⟩ => ⟨S2x512x1028, .f32⟩
  | .hbm, ⟨14, _⟩ => ⟨S2x512x1028, .f32⟩
  | .hbm, ⟨15, _⟩ => ⟨S2x512x1028, .f32⟩
  | .hbm, ⟨16, _⟩ => ⟨S1024x1028, .f32⟩
  | .hbm, ⟨17, _⟩ => ⟨S_, .f32⟩
  | .hbm, ⟨18, _⟩ => ⟨S1024x1028, .f32⟩
  | .hbm, ⟨19, _⟩ => ⟨S1024x1028, .f32⟩
  | .hbm, ⟨20, _⟩ => ⟨S_, .f32⟩
  | .hbm, ⟨21, _⟩ => ⟨S1024x1028, .f32⟩
  | .hbm, ⟨22, _⟩ => ⟨S1024x1028, .f32⟩
  | .hbm, ⟨23, _⟩ => ⟨S1024x1028, .f32⟩
  | .hbm, ⟨24, _⟩ => ⟨S_, .f32⟩
  | .hbm, ⟨25, _⟩ => ⟨S1024x1028, .f32⟩
  | .hbm, ⟨26, _⟩ => ⟨S1024x1028, .f32⟩
  | .hbm, ⟨27, _⟩ => ⟨S1024x1028, .f32⟩
  | .hbm, ⟨28, _⟩ => ⟨S_, .f32⟩
  | .hbm, ⟨29, _⟩ => ⟨S1024x1028, .f32⟩
  | .hbm, ⟨30, _⟩ => ⟨S1024x1028, .f32⟩
  | .hbm, ⟨31, _⟩ => ⟨S1024x1028, .f32⟩
  | .hbm, ⟨32, _⟩ => ⟨S_, .f32⟩
  | .hbm, ⟨33, _⟩ => ⟨S1024x1028, .f32⟩
  | .hbm, ⟨34, _⟩ => ⟨S1024x1028, .f32⟩
  | .hbm, ⟨35, _⟩ => ⟨S_, .f32⟩
  | .hbm, ⟨36, _⟩ => ⟨S1024x1028, .f32⟩
  | .hbm, ⟨37, _⟩ => ⟨S1024x1028, .f32⟩
  | .hbm, ⟨38, _⟩ => ⟨S1024x1028, .f32⟩
  | .hbm, ⟨39, _⟩ => ⟨S_, .f32⟩
  | .hbm, ⟨40, _⟩ => ⟨S1024x1028, .f32⟩
  | .hbm, ⟨41, _⟩ => ⟨S1024x1028, .f32⟩
  | .hbm, ⟨42, _⟩ => ⟨S1024x1028, .f32⟩
  | .hbm, ⟨43, _⟩ => ⟨S_, .f32⟩
  | .hbm, ⟨44, _⟩ => ⟨S1024x1028, .f32⟩
  | .hbm, ⟨45, _⟩ => ⟨S1024x1028, .f32⟩
  | .hbm, ⟨46, _⟩ => ⟨S1024x1028, .f32⟩
  | .hbm, ⟨47, _⟩ => ⟨S_, .f32⟩
  | .hbm, ⟨48, _⟩ => ⟨S1024x1028, .f32⟩
  | .hbm, ⟨49, _⟩ => ⟨S1024x1028, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelHalfOut.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceHalfOutIdeal.lean ====
abbrev S1 : Shape := ⟨1, ![1]⟩
abbrev S256x1024 : Shape := ⟨2, ![256, 1024]⟩
abbrev S128x1024 : Shape := ⟨2, ![128, 1024]⟩
abbrev S2 : Shape := ⟨1, ![2]⟩
abbrev S2x1x1 : Shape := ⟨3, ![2, 1, 1]⟩
abbrev S1x128x1024 : Shape := ⟨3, ![1, 128, 1024]⟩
abbrev S2x128x1024 : Shape := ⟨3, ![2, 128, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S2, .i32⟩
  | .hbm, ⟨7, _⟩ => ⟨S2, .i32⟩
  | .hbm, ⟨8, _⟩ => ⟨S2, .i1⟩
  | .hbm, ⟨9, _⟩ => ⟨S2x1x1, .i1⟩
  | .hbm, ⟨10, _⟩ => ⟨S1x128x1024, .f32⟩
  | .hbm, ⟨11, _⟩ => ⟨S1x128x1024, .f32⟩
  | .hbm, ⟨12, _⟩ => ⟨S2x128x1024, .i1⟩
  | .hbm, ⟨13, _⟩ => ⟨S2x128x1024, .f32⟩
  | .hbm, ⟨14, _⟩ => ⟨S2x128x1024, .f32⟩
  | .hbm, ⟨15, _⟩ => ⟨S2x128x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.Frame.Runs.lean ====
/- What a frame run of the call stands on: the table it reads, the side conditions of the body at a point, the scratch it owns. -/
module

public import proofs.«01_k».proof.Proof.Gen.Kernel.Launch
public import proofs.«01_k».proof.Proof.Gen.Kernel.Skeleton
public import proofs.«01_k».proof.Proof.Gen.Kernel.Loops
public import proofs.«01_k».proof.Proof.Frame.Points
public import proofs.«01_k».proof.Proof.Frame.Host
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16x32 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- No argument is an array of the call, nor is one written by the lines after it: each ends as launched. -/
theorem frame_of (hO : Ok m) (rdat : (c : Dev nD) → Pipeline.RDat τ (Elt F) Unit ℕ (UR sig nD τ) ℕ ((Pipeline.pin pcfgs fun _ => adm m hO) 0) c)
    (h : θ_run defs (onTc (τ := τ) (main (F := F))) (s₀ m ρ) (Pipeline.RDat.FramePostR ((Pipeline.pin pcfgs fun _ => adm m hO) 0) rdat wroteOut (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (by decide : main_arg0 ∈ Pipeline.restRefs sig spec0 \ wroteOut)).trans (V_main_arg0 m c),
    ((h c).2 main_arg1 (by decide : main_arg1 ∈ Pipeline.restRefs sig spec0 \ wroteOut)).trans (V_main_arg1 m c),
    ((h c).2 main_arg2 (by decide : main_arg2 ∈ Pipeline.restRefs sig spec0 \ wroteOut)).trans (V_main_arg2 m c),
    ((h c).2 main_arg3 (by decide : main_arg3 ∈ Pipeline.restRefs sig spec0 \ wroteOut)).trans (V_main_arg3 m c),
    ((h c).2 main_arg4 (by decide : main_arg4 ∈ Pipeline.restRefs sig spec0 \ wroteOut)).trans (V_main_arg4 m c),
    ((h c).2 main_arg5 (by decide : main_arg5 ∈ Pipeline.restRefs sig spec0 \ wroteOut)).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin grid0.N, cond0_0 (grid0.coords t) ↔ t.val % 16 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16384x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16384x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x16384x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x128 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos)))
    ∧ k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos)))
variable {m} in
theorem Hyps.c1 {hO : Ok m} (hH : Hyps m hO) (c : Dev nD) (t : Fin (cfgM m hO).N) :
    k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos))) := (hH c t).2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t) :
    Hyps m hO := fun c t =>
  And.intro (p0 c t) (p1 c t)

/-- The scratch operands: whole scoped buffers of the kernel's own, passed beside the windows. -/
abbrev scM0_0 : Memref sig .tc .vmem S128x1024 .f32 := Memref.whole cc0_scratch0
abbrev scM0_1 : Memref sig .tc .vmem S128x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Frame.RunA.lean ====
/- The body at the first point of a head, where the gradient of the queries is cleared. -/
module

public import proofs.«01_k».proof.Proof.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 16, … 240: 16 of 256): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x16384x128 .f32) (harg7 : arg7.IsWhole) (arg8 : Memref sig .tc .vmem S1x1024x128 .f32) (harg8 : arg8.IsWhole) (arg9 : Memref sig .tc .vmem S1x1024x128 .bf16) (harg9 : arg9.IsWhole) (arg10 : Memref sig .tc .vmem S128x1024 .f32) (harg10 : arg10.IsWhole) (arg11 : Memref sig .tc .vmem S128x1024 .f32) (harg11 : arg11.IsWhole) (hc0 : cond0_0 i)
    (x0 : Vec F S16384x128 .bf16) (x1 : Vec F S16384x128 .bf16) (x2 : Vec F S1024x128 .bf16) (x3 : Vec F S1024x128 .bf16) (xt0 : TbBuf0 (F := F) c tbM0_0) (k0_hw1 : k0_chk1 i (tbM0_0.view.readAt (Elt F) (Rect.unit (s := S16x32) (k0_off3 i) S1x1.size (k0_off3_inb i)).toLoadRect xt0 (Shape.Idx.first (numel1_S1x1.symm ▸ Nat.one_pos)))) (k0_hw2 : k0_chk2 i (tbM0_0.view.readAt (Elt F) (Rect.unit (s := S16x32) (k0_off3 i) S1x1.size (k0_off3_inb i)).toLoadRect xt0 (Shape.Idx.first (numel1_S1x1.symm ▸ Nat.one_pos))) (tbM0_0.view.readAt (Elt F) (Rect.unit (s := S16x32) (k0_off8 i) S1x1.size (k0_off8_inb i)).toLoadRect xt0 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11) K := by
    intro E K
    simp only [cc0_attn_bwd_eq_skeleton]; unfold cc0_attn_bwd_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3
    sl_exec (disch := first | sl_exact hc0 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Gen

end
-- ==== Proof.Frame.RunB.lean ====
/- The body at a later point of a head. -/
module

public import proofs.«01_k».proof.Proof.Frame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 255: 240 of 256): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x16384x128 .f32) (harg7 : arg7.IsWhole) (arg8 : Memref sig .tc .vmem S1x1024x128 .f32) (harg8 : arg8.IsWhole) (arg9 : Memref sig .tc .vmem S1x1024x128 .bf16) (harg9 : arg9.IsWhole) (arg10 : Memref sig .tc .vmem S128x1024 .f32) (harg10 : arg10.IsWhole) (arg11 : Memref sig .tc .vmem S128x1024 .f32) (harg11 : arg11.IsWhole) (hc0 : ¬cond0_0 i)
    (x0 : Vec F S16384x128 .bf16) (x1 : Vec F S16384x128 .bf16) (x2 : Vec F S1024x128 .bf16) (x3 : Vec F S1024x128 .bf16) (xt0 : TbBuf0 (F := F) c tbM0_0) (k0_hw1 : k0_chk1 i (tbM0_0.view.readAt (Elt F) (Rect.unit (s := S16x32) (k0_off3 i) S1x1.size (k0_off3_inb i)).toLoadRect xt0 (Shape.Idx.first (numel1_S1x1.symm ▸ Nat.one_pos)))) (k0_hw2 : k0_chk2 i (tbM0_0.view.readAt (Elt F) (Rect.unit (s := S16x32) (k0_off3 i) S1x1.size (k0_off3_inb i)).toLoadRect xt0 (Shape.Idx.first (numel1_S1x1.symm ▸ Nat.one_pos))) (tbM0_0.view.readAt (Elt F) (Rect.unit (s := S16x32) (k0_off8 i) S1x1.size (k0_off8_inb i)).toLoadRect xt0 (Shape.Idx.first (numel1_S1x1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11) K := by
    intro E K
    simp only [cc0_attn_bwd_eq_skeleton]; unfold cc0_attn_bwd_skel
    simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3
    sl_exec (disch := first | sl_exact hc0 | sl_exact k0_hw1 | sl_exact k0_hw2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Gen

end
-- ==== Proof.Frame.Frame.lean ====
/- The frame of the program at its own floats: it ends without fault, the arguments as they were and every counter zero, given the
   side conditions of the body at every point. -/
module

public import proofs.«01_k».proof.Proof.Frame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq, PhiA0_eq]
  have hN : t.val < 256 := lt_of_lt_of_eq t.isLt (show (cfgM m hO).N = 256 from N_0)
  by_cases h0 : t.val % 16 = 0
  · iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m hO c 0 t) (iblk m hO c 1 t) (iblk m hO c 2 t) (iblk m hO c 3 t) (tbl m 0) (Hyps.c0 hH c t) (Hyps.c1 hH c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HT0]; · iexact HT0
    iintro ⟨H0, H1, H2, H3, H4, H5, H6, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (tbl m 0) (Hyps.c0 hH c t) (Hyps.c1 hH c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HT0]; · iexact HT0
    iintro ⟨H0, H1, H2, H3, H4, H5, H6, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

set_option backward.isDefEq.respectTransparency.types false in
/-- The launch: every input array of the call and every buffer that the lines after it do not write ends as it was when the call was
    entered, and every counter ends at zero. -/
theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) wroteOut (V m)) r ∧ r.2.sem = fun _ => 0) :=
  Pipeline.θ_run_frameP_around_T_forget (Q' := _) pcfgs (fun _ => adm m hO) (dats m hO hH) (0 : Fin 1) launch0 defs₀ Variants.none forgets0 wroteOut m ρ main
    (hbody := fun c => (body_obligation m hO hH c).loose) (hshare := fun c => (dats m hO hH 0 c).share_full fun _ => rfl)
    (howed := fun _ _ => rfl) (V₀ := V₀ m) (opss := opsOut) (hsub := out_sub) (hfresh := out_fresh) (hkeep := out_keeps) (hT := out_writes)
    (hmain := hmain m Variants.none) (hA := A_eq m hO hH) (hpf := V_pre m) (hΦ := fun _ _ => rfl)

theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) wroteOut (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (run_main m ρ hO hH)

/-- THE FRAME: `Cert.quiescent_Kernel`'s statement (Defs.lean) at any `F`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.Kit.Words.lean ====
/- The word arithmetic of the skip table: how many pairs of query blocks each of the two counted loops visits, and where each
   trip's tile begins. Stated of words alone, for the printed program and for its idealization alike. -/
module

public import Idealize.ShloMosaic.Lib.Scf
public import Idealize.ShloMosaic.Lib.LoopRemainder
public import Idealize.ShloMosaic.Lib.StableHlo
public import Idealize.ShloMosaic.PureOps

@[expose] public section

set_option maxRecDepth 16384

namespace Cert.Words

open Idealize.ShloMosaic

/-- Half of a word, rounded down, as a kernel computes it: the quotient towards zero, less one where signs differ and a rest is left. -/
abbrev fl2 (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 2#32 0#32)) (Scalar.extui (Scalar.cmpi .slt 2#32 0#32) : BitVec 32)))
    (Scalar.cmpi .ne (Scalar.remsi x 2#32) 0#32)) (Scalar.subi (Scalar.divsi x 2#32) 1#32) (Scalar.divsi x 2#32)

/-- The block of queries after group `g`. -/
abbrev after (g : BitVec 32) : BitVec 32 := Scalar.addi (Scalar.muli g 4#32) 4#32

/-- The pairs that the first loop visits. -/
abbrev first (g w : BitVec 32) : BitVec 32 := Scalar.maxsi (fl2 (Scalar.addi (Scalar.subi w (after g)) 2#32)) 0#32

/-- The block at which the second loop begins. -/
abbrev second (g w : BitVec 32) : BitVec 32 := Scalar.addi (after g) (Scalar.muli 2#32 (first g w))

/-- A loop that counts `n` trips from zero, as a kernel states its bounds. -/
@[reducible] def count (n : BitVec 32) : Scf.Loop 32 :=
  ⟨0#32, Scalar.addi 0#32 (Scalar.muli (Scalar.divsi (Scalar.subi n 0#32) 1#32) 1#32), 1#32⟩

/-- The number of pairs of the first loop, -/
def nA (g w : ℕ) : ℕ := (w - (4 * g + 2)) / 2
/-- and of the second. -/
def nC (g w w' : ℕ) : ℕ := (w' + 2 - (4 * g + 4 + 2 * nA g w)) / 2

theorem nA_le {g w k : ℕ} (hk : k < nA g w) : 4 * g + 4 + 2 * k ≤ w := by unfold nA at hk; omega
theorem nC_le {g w w' k : ℕ} (hk : k < nC g w w') : 4 * g + 4 + 2 * nA g w + 2 * k ≤ w' := by unfold nC at hk; omega

theorem first_eq : ∀ (g : Fin 16) (w : Fin 64), first (BitVec.ofNat 32 g.val) (BitVec.ofNat 32 w.val) = BitVec.ofNat 32 (nA g.val w.val) := by
  decide +kernel

theorem late_eq : ∀ (M : Fin 130) (w : Fin 64),
    (count (fl2 (Scalar.addi (Scalar.subi (BitVec.ofNat 32 w.val) (BitVec.ofNat 32 M.val)) 2#32))).trips = (w.val + 2 - M.val) / 2
      ∧ (count (fl2 (Scalar.addi (Scalar.subi (BitVec.ofNat 32 w.val) (BitVec.ofNat 32 M.val)) 2#32))).OK := by
  decide +kernel

theorem count_eq : ∀ n : Fin 64, (count (BitVec.ofNat 32 n.val)).trips = n.val ∧ (count (BitVec.ofNat 32 n.val)).OK := by
  decide +kernel

theorem second_eq (g : Fin 16) (w : Fin 64) : second (BitVec.ofNat 32 g.val) (BitVec.ofNat 32 w.val) = BitVec.ofNat 32 (4 * g.val + 4 + 2 * nA g.val w.val) := by
  unfold second
  rw [first_eq]
  unfold after Scalar.addi Scalar.muli IntOp.addi IntOp.muli
  apply BitVec.eq_of_toNat_eq
  simp only [BitVec.toNat_add, BitVec.toNat_mul, BitVec.toNat_ofNat]
  omega

/-- Where a trip's tile begins: `M` blocks in, and two blocks per trip. -/
theorem row_eq (M k : ℕ) (hM : M < 200) (hk : k < 200) :
    (Scalar.muli (Scalar.addi (BitVec.ofNat 32 M) (Scalar.muli 2#32 (Scf.iv 0#32 1#32 k))) 256#32).toNat = 256 * (M + 2 * k) := by
  unfold Scf.iv Scalar.addi Scalar.muli IntOp.addi IntOp.muli
  simp only [BitVec.toNat_add, BitVec.toNat_mul, BitVec.toNat_ofNat]
  omega

theorem after_eq (g : ℕ) (hg : g < 16) : after (BitVec.ofNat 32 g) = BitVec.ofNat 32 (4 * g + 4) := by
  unfold after Scalar.addi Scalar.muli IntOp.addi IntOp.muli
  apply BitVec.eq_of_toNat_eq
  simp only [BitVec.toNat_add, BitVec.toNat_mul, BitVec.toNat_ofNat]
  omega

theorem nA_lt (g : ℕ) (w : Fin 64) : nA g w.val < 64 := by unfold nA; omega

/-- The first loop's trips, at words within the table's range. -/
theorem first_trips (g w : BitVec 32) (hg : g.toNat < 16) (hw : w.toNat < 64) :
    (count (first g w)).trips = nA g.toNat w.toNat ∧ (count (first g w)).OK := by
  have e := first_eq ⟨g.toNat, hg⟩ ⟨w.toNat, hw⟩
  simp only [BitVec.ofNat_toNat, BitVec.setWidth_eq] at e
  rw [e]
  exact count_eq ⟨nA g.toNat w.toNat, nA_lt _ ⟨w.toNat, hw⟩⟩

/-- The second loop's trips. -/
theorem late_trips (g w w' : BitVec 32) (hg : g.toNat < 16) (hw : w.toNat < 64) (hw' : w'.toNat < 64) :
    (count (fl2 (Scalar.addi (Scalar.subi w' (second g w)) 2#32))).trips = nC g.toNat w.toNat w'.toNat
      ∧ (count (fl2 (Scalar.addi (Scalar.subi w' (second g w)) 2#32))).OK := by
  have e := second_eq ⟨g.toNat, hg⟩ ⟨w.toNat, hw⟩
  simp only [BitVec.ofNat_toNat, BitVec.setWidth_eq] at e
  rw [e]
  have h := late_eq ⟨4 * g.toNat + 4 + 2 * nA g.toNat w.toNat, by unfold nA; omega⟩ ⟨w'.toNat, hw'⟩
  simp only [BitVec.ofNat_toNat, BitVec.setWidth_eq] at h
  exact h

/-- Where the first loop's tile begins. -/
theorem first_row (g : ℕ) (hg : g < 16) (k : ℕ) (hk : k < 100) :
    (Scalar.muli (Scalar.addi (after (BitVec.ofNat 32 g)) (Scalar.muli 2#32 (Scf.iv 0#32 1#32 k))) 256#32).toNat = 256 * (4 * g + 4 + 2 * k) := by
  rw [after_eq g hg]; exact row_eq _ _ (by omega) (by omega)

/-- Where the second loop's tile begins. -/
theorem late_row (g : ℕ) (hg : g < 16) (w : BitVec 32) (hw : w.toNat < 64) (k : ℕ) (hk : k < 100) :
    (Scalar.muli (Scalar.addi (second (BitVec.ofNat 32 g) w) (Scalar.muli 2#32 (Scf.iv 0#32 1#32 k))) 256#32).toNat = 256 * (4 * g + 4 + 2 * nA g w.toNat + 2 * k) := by
  have e := second_eq ⟨g, hg⟩ ⟨w.toNat, hw⟩
  simp only [BitVec.ofNat_toNat, BitVec.setWidth_eq] at e
  rw [e]
  exact row_eq _ _ (by unfold nA; omega) (by omega)

end Cert.Words

end
-- ==== Proof.Kit.Points.lean ====
/- The schedule of the call on its static grid: at which points each window is fetched or written back, the staging memrefs at a
   point and the body as the pipeline calls it there. The set-up is the one that a frame run of this program takes. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the points ≡ 0 (mod 16), at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 1 (fun _ => rfl) (by decide)) (P := 16) (by decide) t : ∀ t : Fin grid0.N, Pipeline.Window.fetchOf grid0 false cc0_transform_0 t = true ↔ t.val % 16 = 0)
/-- Window 1 (operand 2 (%arg2)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 1 (fun _ => rfl) (by decide)) (P := 16) (by decide) t : ∀ t : Fin grid0.N, Pipeline.Window.fetchOf grid0 false cc0_transform_1 t = true ↔ t.val % 16 = 0)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (result 0 (%0#0)) is written back at the points ≡ 15 (mod 16), at any contents of the tables (its index map reads none). -/
theorem flush0_4 (a : (pcfg0 (F := F)).Adm) : ∀ t : Fin (cfg0 a).N, ((cfg0 a).win 4).flush t = true ↔ t.val % 16 = 15 :=
  (fun t => Pipeline.Window.flushOf_reads cc0_transform_4 reads0_4 hreads0_4 0 (by decide) (by decide) (Pipeline.Window.sep_of_coord cc0_transform_4 0 0 (fun _ => rfl) (by decide)) (P := 16) (m := 15) (by decide) rfl t : ∀ t : Fin grid0.N, Pipeline.Window.flushOf grid0 true cc0_transform_4 t = true ↔ t.val % 16 = 15)
/-- Window 5 (result 1 (%0#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 2 (%0#2)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn_bwd (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

end Cert.KernelIdeal.Gen

end
-- ==== Proof.Kit.Host.lean ====
/- The host lines around the call: what the core's buffers hold when the call is entered, that the lines leave the arguments and the
   call's arrays alone, and the program as lines, the call and more lines. A launch's set-up. -/
module

public import proofs.«01_k».proof.Proof.Gen.KernelIdeal.Launch
public import Idealize.ShloMosaic.Lib.Pipeline.FrameSuffix

@[expose] public section

set_option maxRecDepth 16384

noncomputable section

namespace Cert.KernelIdeal.Gen

open Idealize.ShloMosaic Idealize.ShloMosaic.TcCoe
open Idealize.SL Idealize.SL.Sem
open Idealize.ShloMosaic.StableHlo (after_of_writes_sub forall_writes_sub_of_map forall_fresh_of_map)

variable {F : FTy → Type} [FloatOps F] [Named F]

variable (m : (ℓ : Loc nD τ sig) → Buf (Elt F) ℓ)

/-- The lines before the call -/
abbrev opsIn : List (List (HloOp τ sig (Elt F))) := [hostOps0, hostOps0_1, hostOps0_2, hostOps0_3]
/-- and after it. -/
abbrev opsOut : List (List (HloOp τ sig (Elt F))) := [hostOps1, hostOps1_1]

/-- What device `c` holds when the call is entered. -/
def V₀ (c : Dev nD) : Valuation τ sig (Elt F) := StableHlo.after (opsIn (F := F)).flatten fun b => m (c, b)
/-- The core's buffers then. -/
abbrev V (c : Dev nD) (b : Ref sig .tc) : Buf (Elt F) ((c : Thread nD τ).loc b) := V₀ m c (Proc.devRef .tc b)

theorem in_sub : (opsIn (F := F)).Forall fun ops => ops.Forall fun op => op.bufs ⊆ StableHlo.tcRefs τ sig :=
  ⟨hostOps0_sub, hostOps0_1_sub, hostOps0_2_sub, hostOps0_3_sub⟩
theorem in_fresh : (opsIn (F := F)).Forall fun ops => ops.Forall fun op => op.fresh = ∅ :=
  ⟨forall_fresh_of_map rfl, forall_fresh_of_map rfl, forall_fresh_of_map rfl, forall_fresh_of_map rfl⟩

theorem hmain (𝒱₀ : Variants) : Pipeline.HMainPK (Ix := Unit) (Name := ℕ) (U := UR sig nD τ) (Lvl := ℕ) pcfgs 0 defs₀ 𝒱₀ m (main (F := F)) (V m)
    (fun _ => Pipeline.chain ((opsOut (F := F)).map StableHlo.seq)) :=
  Pipeline.hmainP_around pcfgs 0 defs₀ 𝒱₀ m main opsIn opsOut in_sub in_fresh fun c => (main_chain c).trans rfl

/-- The results of the lines before the call. -/
def wrote0 : List (Ref sig .tc) := [main_call0_call0_cst, main_call0_call0_v0, main_v0]
def wrote1 : List (Ref sig .tc) := [main_v1, main_cst, main_v2, main_v3, main_v4, main_v5, main_v6, main_v7, main_v8, main_v9, main_v10, main_v11, main_v12, main_v13, main_v14, main_v15, main_v16, main_v17, main_v18, main_v19, main_v20, main_c, main_v21, main_v22, main_c_0, main_v23, main_v24, main_v25, main_c_1, main_v26, main_v27, main_c_2, main_v28, main_v29, main_v30, main_v31, main_v32, main_v33, main_cst_3]
def wrote2 : List (Ref sig .tc) := [main_call1_v0, main_call1_v1, main_v34]
def wrote3 : List (Ref sig .tc) := [main_cst_4, main_v35, main_v36, main_v37, main_v38, main_v39, main_cst_5, main_v40, main_v41, main_v42, main_v43, main_v44, main_v45, main_v46, main_v47, main_cst_6, main_v48, main_cst_7, main_v49, main_cst_8, main_v50, main_cst_9, main_v51, main_v52, main_v53, main_v54, main_v55, main_v56, main_v57, main_v58, main_v59, main_v60, main_v61, main_v62, main_v63, main_v64, main_v65, main_cst_10, main_v66, main_v67, main_v68, main_v69, main_v70, main_v71, main_v72, main_v73, main_v74, main_v75, main_v76, main_v77, main_v78, main_v79, main_v80, main_v81, main_v82, main_v83, main_cst_11, main_v84, main_v85, main_v86, main_v87, main_v88, main_v89, main_v90, main_v91, main_v92, main_v93, main_v94, main_v95, main_v96, main_v97, main_v98, main_v99, main_v100, main_v101, main_cst_12, main_v102, main_v103, main_v104, main_v105, main_v106, main_cst_13, main_v107, main_v108, main_v109, main_v110, main_v111]
/-- The results of the lines after it. -/
def wrote4 : List (Ref sig .tc) := [main_v113, main_v114, main_v115, main_v116, main_v117, main_v118, main_cst_14, main_v119, main_v120, main_v121, main_v122, main_v123]
def wrote5 : List (Ref sig .tc) := [main_call2_cst, main_call2_v0, main_v124]

theorem writes0 : (hostOps0 (F := F)).Forall fun op => op.writes ⊆ (wrote0.map (Proc.devRef (τ := τ) .tc)).toFinset := forall_writes_sub_of_map rfl
theorem writes1 : (hostOps0_1 (F := F)).Forall fun op => op.writes ⊆ (wrote1.map (Proc.devRef (τ := τ) .tc)).toFinset := forall_writes_sub_of_map rfl
theorem writes2 : (hostOps0_2 (F := F)).Forall fun op => op.writes ⊆ (wrote2.map (Proc.devRef (τ := τ) .tc)).toFinset := forall_writes_sub_of_map rfl
theorem writes3 : (hostOps0_3 (F := F)).Forall fun op => op.writes ⊆ (wrote3.map (Proc.devRef (τ := τ) .tc)).toFinset := forall_writes_sub_of_map rfl
theorem writes4 : (hostOps1 (F := F)).Forall fun op => op.writes ⊆ (wrote4.map (Proc.devRef (τ := τ) .tc)).toFinset := forall_writes_sub_of_map rfl
theorem writes5 : (hostOps1_1 (F := F)).Forall fun op => op.writes ⊆ (wrote5.map (Proc.devRef (τ := τ) .tc)).toFinset := forall_writes_sub_of_map rfl

/-- A buffer that no line before the call writes is as launched. -/
theorem V_kept (c : Dev nD) (r : Ref sig .tc) (h0 : r ∉ wrote0) (h1 : r ∉ wrote1) (h2 : r ∉ wrote2) (h3 : r ∉ wrote3) :
    V m c r = m ((c : Thread nD τ).loc r) := by
  show StableHlo.after (hostOps0 ++ (hostOps0_1 ++ (hostOps0_2 ++ (hostOps0_3 ++ [])))) _ _ = _
  rw [List.append_nil, StableHlo.after_append, StableHlo.after_append, StableHlo.after_append, after_of_writes_sub _ _ writes3 h3, after_of_writes_sub _ _ writes2 h2,
    after_of_writes_sub _ _ writes1 h1, after_of_writes_sub _ _ writes0 h0]

theorem V_main_arg0 (c : Dev nD) : V m c main_arg0 = m ((c : Thread nD τ).loc main_arg0) := V_kept m c _ (by decide) (by decide) (by decide) (by decide)
theorem V_main_arg1 (c : Dev nD) : V m c main_arg1 = m ((c : Thread nD τ).loc main_arg1) := V_kept m c _ (by decide) (by decide) (by decide) (by decide)
theorem V_main_arg2 (c : Dev nD) : V m c main_arg2 = m ((c : Thread nD τ).loc main_arg2) := V_kept m c _ (by decide) (by decide) (by decide) (by decide)
theorem V_main_arg3 (c : Dev nD) : V m c main_arg3 = m ((c : Thread nD τ).loc main_arg3) := V_kept m c _ (by decide) (by decide) (by decide) (by decide)
theorem V_main_arg4 (c : Dev nD) : V m c main_arg4 = m ((c : Thread nD τ).loc main_arg4) := V_kept m c _ (by decide) (by decide) (by decide) (by decide)
theorem V_main_arg5 (c : Dev nD) : V m c main_arg5 = m ((c : Thread nD τ).loc main_arg5) := V_kept m c _ (by decide) (by decide) (by decide) (by decide)

/-! ## The lines after the call -/

theorem out_fresh : ∀ ops ∈ opsOut (F := F), ∀ op ∈ ops, op.fresh = ∅ := fun ops ho op hp =>
  List.forall_iff_forall_mem.mp ((List.forall_iff_forall_mem.mp (show (opsOut (F := F)).Forall fun ops => ops.Forall fun op => op.fresh = ∅ from
    ⟨forall_fresh_of_map rfl, forall_fresh_of_map rfl⟩)) ops ho) op hp

/-- They write these. -/
def wroteOut : Finset (Ref sig .tc) := (wrote4 ++ wrote5).toFinset

theorem out_writes : ∀ ops ∈ opsOut (F := F), ∀ op ∈ ops, ∀ b : Ref sig .tc, Proc.devRef .tc b ∈ op.writes → b ∈ wroteOut := by
  have key : ∀ (W : List (Ref sig .tc)) (op : HloOp τ sig (Elt F)), op.writes ⊆ (W.map (Proc.devRef (τ := τ) .tc)).toFinset →
      ∀ b : Ref sig .tc, Proc.devRef .tc b ∈ op.writes → b ∈ W := fun W op h b hb => by
    obtain ⟨y, hy, he⟩ := List.mem_map.mp (List.mem_toFinset.mp (h hb))
    exact Proc.devRef_injective _ he ▸ hy
  intro ops ho op hp b hb
  simp only [List.mem_cons, List.not_mem_nil, or_false] at ho
  rcases ho with rfl | rfl
  · exact List.mem_toFinset.mpr (List.mem_append_left _ (key _ op (List.forall_iff_forall_mem.mp writes4 op hp) b hb))
  · exact List.mem_toFinset.mpr (List.mem_append_right _ (key _ op (List.forall_iff_forall_mem.mp writes5 op hp) b hb))

/-- They write no array of the call. -/
theorem out_keeps : ∀ ops ∈ opsOut (F := F), ∀ op ∈ ops, ∀ w, Proc.devRef .tc (Pipeline.arrRef spec0 w) ∉ op.writes := fun ops ho op hp w hw =>
  (by decide : ∀ w : Fin 7, Pipeline.arrRef spec0 w ∉ wroteOut) w (out_writes ops ho op hp _ hw)

/-! None of them touches the table. -/

theorem not1 {r y : Ref sig .tc} (h : r ≠ y) : Proc.devRef (τ := τ) .tc r ∉ ({Proc.devRef .tc y} : Finset (DevRef τ sig)) := fun hm =>
  h (Proc.devRef_injective _ (Finset.mem_singleton.mp hm))
theorem not2 {r x y : Ref sig .tc} (hx : r ≠ x) (hy : r ≠ y) : Proc.devRef (τ := τ) .tc r ∉ ({Proc.devRef .tc x, Proc.devRef .tc y} : Finset (DevRef τ sig)) := fun hm =>
  (Finset.mem_insert.mp hm).elim (fun e => hx (Proc.devRef_injective _ e)) (not1 hy)
theorem not3 {r w x y : Ref sig .tc} (hw : r ≠ w) (hx : r ≠ x) (hy : r ≠ y) :
    Proc.devRef (τ := τ) .tc r ∉ ({Proc.devRef .tc w, Proc.devRef .tc x, Proc.devRef .tc y} : Finset (DevRef τ sig)) := fun hm =>
  (Finset.mem_insert.mp hm).elim (fun e => hw (Proc.devRef_injective _ e)) (not2 hx hy)

theorem clear1 : (hostOps1 (F := F)).Forall fun op => Proc.devRef .tc main_arg0 ∉ op.bufs :=
  ⟨not2 (x := main_v112_0) (y := main_v113) (by decide) (by decide), not2 (x := main_v113) (y := main_v114) (by decide) (by decide),
    not2 (x := main_v112_1) (y := main_v115) (by decide) (by decide), not2 (x := main_v115) (y := main_v116) (by decide) (by decide),
    not3 (w := main_v114) (x := main_v116) (y := main_v117) (by decide) (by decide) (by decide), not2 (x := main_v112_0) (y := main_v118) (by decide) (by decide),
    not1 (y := main_cst_14) (by decide), not2 (x := main_cst_14) (y := main_v119) (by decide) (by decide),
    not3 (w := main_v118) (x := main_v119) (y := main_v120) (by decide) (by decide) (by decide), not2 (x := main_v112_1) (y := main_v121) (by decide) (by decide),
    not2 (x := main_v112_2) (y := main_v122) (by decide) (by decide), not2 (x := main_v122) (y := main_v123) (by decide) (by decide)⟩
theorem clear2 : (hostOps1_1 (F := F)).Forall fun op => Proc.devRef .tc main_arg0 ∉ op.bufs :=
  ⟨not1 (y := main_call2_cst) (by decide), not2 (x := main_call2_cst) (y := main_call2_v0) (by decide) (by decide),
    not3 (w := main_v117) (x := main_call2_v0) (y := main_v124) (by decide) (by decide) (by decide)⟩

/-- So they run within what the call hands back. -/
theorem out_sub : ∀ ops ∈ opsOut (F := F), ∀ op ∈ ops, op.bufs ⊆ Pipeline.tailRefs (τ := τ) sig pre0 spec0 := fun ops ho op hp =>
  Pipeline.sub_tailRefs pre0 spec0 op
    (List.forall_iff_forall_mem.mp ((List.forall_iff_forall_mem.mp (show (opsOut (F := F)).Forall fun ops => ops.Forall fun op => op.bufs ⊆ StableHlo.tcRefs τ sig from
      ⟨hostOps1_sub, hostOps1_1_sub⟩)) ops ho) op hp)
    fun k => by
      obtain rfl : k = 0 := Subsingleton.elim _ _
      exact List.forall_iff_forall_mem.mp ((List.forall_iff_forall_mem.mp (show (opsOut (F := F)).Forall fun ops => ops.Forall fun op => Proc.devRef .tc main_arg0 ∉ op.bufs from
        ⟨clear1, clear2⟩)) ops ho) op hp

/-- A buffer that they do not write keeps its contents through them. -/
theorem out_kept (U : Valuation τ sig (Elt F)) (r : Ref sig .tc) (h4 : r ∉ wrote4) (h5 : r ∉ wrote5) :
    StableHlo.after (opsOut (F := F)).flatten U (Proc.devRef .tc r) = U (Proc.devRef .tc r) := by
  show StableHlo.after (hostOps1 ++ (hostOps1_1 ++ [])) _ _ = _
  rw [List.append_nil, StableHlo.after_append, after_of_writes_sub _ _ writes5 h5, after_of_writes_sub _ _ writes4 h4]

end Cert.KernelIdeal.Gen

end
-- ==== Proof.Kit.Runs.lean ====
/- What a run of the call is stated over: the arrays as the region finds them, the prefetched table, the windows' blocks, the
   body's branch condition in closed form, the staging and scratch memrefs, and the side conditions that the body assumes of the
   table's words. The set-up is the one that a frame run of this program takes. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Kit.Points
public import proofs.«01_k».proof.Proof.Kit.Host
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16x32 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin grid0.N, cond0_0 (grid0.coords t) ↔ t.val % 16 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S16384x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16384x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x16384x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x128 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos)))
    ∧ k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos)))
variable {m} in
theorem Hyps.c1 {hO : Ok m} (hH : Hyps m hO) (c : Dev nD) (t : Fin (cfgM m hO).N) :
    k0_chk2 (grid0.coords t) (tbM0_0.view.readAt (Elt F) (Rect.unit (s := S16x32) (k0_off3 (grid0.coords t)) S1x1.size (k0_off3_inb (grid0.coords t))).toLoadRect (tbl m 0) (Shape.Idx.first (numel1_S1x1.symm ▸ Nat.one_pos))) (tbM0_0.view.readAt (Elt F) (Rect.unit (s := S16x32) (k0_off8 (grid0.coords t)) S1x1.size (k0_off8_inb (grid0.coords t))).toLoadRect (tbl m 0) (Shape.Idx.first (numel1_S1x1.symm ▸ Nat.one_pos))) := (hH c t).2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t) :
    Hyps m hO := fun c t =>
  And.intro (p0 c t) (p1 c t)

/-- The scratch operands: whole scoped buffers of the kernel's own, passed beside the windows. -/
abbrev scM0_0 : Memref sig .tc .vmem S128x1024 .f32 := Memref.whole cc0_scratch0
abbrev scM0_1 : Memref sig .tc .vmem S128x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Kit.Table.lean ====
/- The skip table's part in the body's side conditions: with every word of the table below 64 the loops are the counted loops of
   the word arithmetic, their tiles begin at whole pairs of query blocks and lie inside the arrays, and the remainder loops make
   no trip. -/
module

public import proofs.«01_k».proof.Proof.Kit.Runs
public import proofs.«01_k».proof.Proof.Kit.Words
public import Idealize.ShloMosaic.Lib.LoopRemainder

@[expose] public section

noncomputable section

namespace Cert.KernelIdeal.Gen

open Idealize.ShloMosaic Idealize.SL.Sem Cert.Words

variable {F : FTy → Type} [FloatOps F] [Named F]

/-- The group of 1024 keys of a grid point, as the body's word. -/
abbrev gw (i : grid0.Coords) : BitVec 32 := BitVec.ofNat 32 (i 1).val

theorem lt_grp (i : grid0.Coords) : (i 1).val < 16 := (i 1).isLt

theorem gw_toNat (i : grid0.Coords) : (gw i).toNat = (i 1).val := by
  have := lt_grp i
  unfold gw
  rw [BitVec.toNat_ofNat]
  omega

theorem loop1_eq (i : grid0.Coords) (w : BitVec 32) : k0_t1_loop i w = count (first (gw i) w) := rfl
theorem loop3_eq (i : grid0.Coords) (w w' : BitVec 32) :
    k0_t3_loop i w w' = count (fl2 (Scalar.addi (Scalar.subi w' (second (gw i) w)) 2#32)) := rfl

theorem loop1_trips (i : grid0.Coords) (w : BitVec 32) (hw : w.toNat < 64) : (k0_t1_loop i w).trips = nA (i 1).val w.toNat := by
  have h := first_trips (gw i) w (by rw [gw_toNat]; exact lt_grp i) hw
  rw [gw_toNat] at h
  exact h.1

theorem loop3_trips (i : grid0.Coords) (w w' : BitVec 32) (hw : w.toNat < 64) (hw' : w'.toNat < 64) :
    (k0_t3_loop i w w').trips = nC (i 1).val w.toNat w'.toNat := by
  have h := late_trips (gw i) w w' (by rw [gw_toNat]; exact lt_grp i) hw hw'
  rw [gw_toNat] at h
  exact h.1

/-- The first loop's row. -/
theorem row1 (i : grid0.Coords) (k : ℕ) (hk : k < 100) :
    (Scalar.muli (Scalar.addi (after (gw i)) (Scalar.muli 2#32 (Scf.iv 0#32 1#32 k))) 256#32).toNat = 512 * (2 * (i 1).val + 2 + k) := by
  rw [first_row _ (lt_grp i) k hk]; omega

/-- The second loop's row. -/
theorem row3 (i : grid0.Coords) (w : BitVec 32) (hw : w.toNat < 64) (k : ℕ) (hk : k < 100) :
    (Scalar.muli (Scalar.addi (second (gw i) w) (Scalar.muli 2#32 (Scf.iv 0#32 1#32 k))) 256#32).toNat
      = 512 * (2 * (i 1).val + 2 + nA (i 1).val w.toNat + k) := by
  rw [late_row _ (lt_grp i) w hw k hk]; omega

theorem off4_eq (i : grid0.Coords) (w : BitVec 32) (k : Fin (k0_t1_loop i w).trips) (hk : k.val < 100) :
    k0_off4 i w k = ![512 * (2 * (i 1).val + 2 + k.val), 0] := congrArg (fun n => ![n, 0]) (row1 i k.val hk)
theorem off5_eq (i : grid0.Coords) (w : BitVec 32) (k : Fin (k0_t1_loop i w).trips) (hk : k.val < 100) :
    k0_off5 i w k = ![0, 512 * (2 * (i 1).val + 2 + k.val), 0] := congrArg (fun n => ![0, n, 0]) (row1 i k.val hk)
theorem off9_eq (i : grid0.Coords) (w w' : BitVec 32) (hw : w.toNat < 64) (k : Fin (k0_t3_loop i w w').trips) (hk : k.val < 100) :
    k0_off9 i w w' k = ![512 * (2 * (i 1).val + 2 + nA (i 1).val w.toNat + k.val), 0] := congrArg (fun n => ![n, 0]) (row3 i w hw k.val hk)
theorem off10_eq (i : grid0.Coords) (w w' : BitVec 32) (hw : w.toNat < 64) (k : Fin (k0_t3_loop i w w').trips) (hk : k.val < 100) :
    k0_off10 i w w' k = ![0, 512 * (2 * (i 1).val + 2 + nA (i 1).val w.toNat + k.val), 0] := congrArg (fun n => ![0, n, 0]) (row3 i w hw k.val hk)

/-- A trip of the first loop stays among the 32 pairs of query blocks, -/
theorem pair1_lt (i : grid0.Coords) (w : BitVec 32) (hw : w.toNat < 64) (k : Fin (k0_t1_loop i w).trips) : 2 * (i 1).val + 2 + k.val < 32 := by
  have := nA_le (lt_of_lt_of_eq k.isLt (loop1_trips i w hw))
  omega
/-- and so does one of the second. -/
theorem pair3_lt (i : grid0.Coords) (w w' : BitVec 32) (hw : w.toNat < 64) (hw' : w'.toNat < 64) (k : Fin (k0_t3_loop i w w').trips) :
    2 * (i 1).val + 2 + nA (i 1).val w.toNat + k.val < 32 := by
  have := nC_le (lt_of_lt_of_eq k.isLt (loop3_trips i w w' hw hw'))
  omega

/-- A tile of 512 rows at a whole pair lies in the array of 16384 rows, -/
theorem inb2 {u : ℕ} (hu : u < 32) : ∀ a, (![512 * u, 0] : Fin 2 → ℕ) a + S512x128.size a ≤ S16384x128.size a := by
  intro a; fin_cases a
  · show 512 * u + 512 ≤ 16384; omega
  · show 0 + 128 ≤ 128; omega
/-- and so does one of the gradient's block. -/
theorem inb3 {u : ℕ} (hu : u < 32) : ∀ a, (![0, 512 * u, 0] : Fin 3 → ℕ) a + S1x512x128.size a ≤ S1x16384x128.size a := by
  intro a; fin_cases a
  · show 0 + 1 ≤ 1; omega
  · show 512 * u + 512 ≤ 16384; omega
  · show 0 + 128 ≤ 128; omega

theorem chk1_of (i : grid0.Coords) (w : BitVec 32) (hw : w.toNat < 64) : k0_chk1 i w := by
  refine ⟨?_, fun k => ?_, fun k => ?_, fun k => ?_, ?_, fun k => ?_, fun k => ?_, fun k => ?_⟩
  · exact (first_trips (gw i) w (by rw [gw_toNat]; exact lt_grp i) hw).2
  · have e : (k0_mult3 i w k).toNat = _ := row1 i k.val (by have := pair1_lt i w hw k; omega)
    rw [e]; exact ⟨2 * (2 * (i 1).val + 2 + k.val), by omega⟩
  · rw [off4_eq i w k (by have := pair1_lt i w hw k; omega)]; exact inb2 (pair1_lt i w hw k)
  · rw [off5_eq i w k (by have := pair1_lt i w hw k; omega)]; exact inb3 (pair1_lt i w hw k)
  · exact Scf.rem_ok _ _
  · exact (Scf.rem_no_trip _ _ k).elim
  · exact (Scf.rem_no_trip _ _ k).elim
  · exact (Scf.rem_no_trip _ _ k).elim

theorem chk2_of (i : grid0.Coords) (w w' : BitVec 32) (hw : w.toNat < 64) (hw' : w'.toNat < 64) : k0_chk2 i w w' := by
  refine ⟨?_, fun k => ?_, fun k => ?_, fun k => ?_, ?_, fun k => ?_, fun k => ?_, fun k => ?_⟩
  · exact (late_trips (gw i) w w' (by rw [gw_toNat]; exact lt_grp i) hw hw').2
  · have e : (k0_mult5 i w w' k).toNat = _ := row3 i w hw k.val (by have := pair3_lt i w w' hw hw' k; omega)
    rw [e]; exact ⟨2 * (2 * (i 1).val + 2 + nA (i 1).val w.toNat + k.val), by omega⟩
  · rw [off9_eq i w w' hw k (by have := pair3_lt i w w' hw hw' k; omega)]; exact inb2 (pair3_lt i w w' hw hw' k)
  · rw [off10_eq i w w' hw k (by have := pair3_lt i w w' hw hw' k; omega)]; exact inb3 (pair3_lt i w w' hw hw' k)
  · exact Scf.rem_ok _ _
  · exact (Scf.rem_no_trip _ _ k).elim
  · exact (Scf.rem_no_trip _ _ k).elim
  · exact (Scf.rem_no_trip _ _ k).elim

/-- A word that the body reads off the table is a word of the table. -/
theorem word_lt (m : (ℓ : Loc nD τ sig) → Buf (Elt F) ℓ) (hT : ∀ j, (tbl m 0 j : BitVec 32).toNat < 64) (R : LoadRect S16x32) (j) :
    (tbM0_0.view.readAt (Elt F) R (tbl m 0) j : BitVec 32).toNat < 64 := by
  exact hT (tbM0_0.view.emb (R.idx j))

/-- The side conditions of the body at every point, of a table of words below 64. -/
theorem hyps_of (m : (ℓ : Loc nD τ sig) → Buf (Elt F) ℓ) (hO : Ok m) (hT : ∀ j, (tbl m 0 j : BitVec 32).toNat < 64) : Hyps m hO :=
  Hyps.of (fun _ t => chk1_of _ _ (word_lt m hT _ _)) (fun _ t => chk2_of _ _ _ (word_lt m hT _ _) (word_lt m hT _ _))

end Cert.KernelIdeal.Gen

end
-- ==== Proof.Kit.Within.lean ====
/- The precondition read: a word of the table that passes it is below 64, and the float arguments hold real numbers. -/
module

public import proofs.«01_k».proof.Pre_within
public import proofs.«01_k».proof.Pre_table
public import proofs.«01_k».proof.Proof.Gen.Pre_within
public import proofs.«01_k».proof.Proof.Gen.Pre_table
public import Idealize.ShloMosaic.Lib.WordCmp
public import Idealize.ShloMosaic.Lib.ReduceAll
public import Idealize.ShloMosaic.Lib.Affine
public import Idealize.ShloMosaic.Lib.Pointwise

@[expose] public section

noncomputable section

namespace Cert.Words

open Idealize.ShloMosaic

variable {F : FTy → Type} [FloatOps F]

/-- A word that is at least 0 and at most 63, read as signed, is below 64. -/
theorem small_of (x : BitVec 32) (h : IntOp.andi (IntOp.cmpi .sge x 0#32) (IntOp.cmpi .sle x 63#32) = 1#1) : x.toNat < 64 := by
  have h0 : (0#32 : BitVec 32).toInt = 0 := by decide
  have h63 : (63#32 : BitVec 32).toInt = 63 := by decide
  rw [WordCmp.cmpi_sge_eq, WordCmp.cmpi_sle_eq, h0, h63] at h
  by_cases ha : (0 : Int) ≤ x.toInt
  · by_cases hb : x.toInt ≤ 63
    · rw [BitVec.toInt_eq_toNat_cond] at ha hb
      have := x.isLt
      split at ha <;> omega
    · rw [decide_eq_false hb, decide_eq_true ha] at h
      exact absurd h (by decide)
  · rw [decide_eq_false ha] at h
    exfalso
    by_cases hb : x.toInt ≤ 63
    · rw [decide_eq_true hb] at h; exact absurd h (by decide)
    · rw [decide_eq_false hb] at h; exact absurd h (by decide)

section
variable (a0 : IVec Cert.Pre_within.S16x32 32) (a1 a2 a3 a5 : FVec F Cert.Pre_within.S16x16384x64 .f32) (a4 : FVec F Cert.Pre_within.S16x16384 .f32)

/-- Every entry is below the largest word. -/
abbrev below3 (x : FVec F Cert.Pre_within.S16x16384x64 .f32) : IVec Cert.Pre_within.S16x16384x64 1 :=
  cmpf .olt (Host.absf x) (broadcastInDim Cert.Pre_within.S16x16384x64 ![] Cert.Pre_within.Gen.facts.bcast_S_S16x16384x64 (constant Cert.Pre_within.S_ .f32 0x7F800000#32))
abbrev below2 (x : FVec F Cert.Pre_within.S16x16384 .f32) : IVec Cert.Pre_within.S16x16384 1 :=
  cmpf .olt (Host.absf x) (broadcastInDim Cert.Pre_within.S16x16384 ![] Cert.Pre_within.Gen.facts.bcast_S_S16x16384 (constant Cert.Pre_within.S_ .f32 0x7F800000#32))

/-- The precondition's six parts. -/
theorem within_parts (h : @Cert.Pre_within.fn Cert.Pre_within.Gen.facts F _ a0 a1 a2 a3 a4 a5 = fun _ => 1#1) (j : Cert.Pre_within.S16x32.Idx) :
    (a0 j).toNat < 64 ∧ (∀ i, below3 a1 i = 1#1) ∧ (∀ i, below3 a2 i = 1#1) ∧ (∀ i, below3 a3 i = 1#1) ∧ (∀ i, below2 a4 i = 1#1) ∧ ∀ i, below3 a5 i = 1#1 := by
  have h' := congrFun h j
  dsimp only [Cert.Pre_within.fn, Cert.Pre_within.fn_part1] at h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h', h1⟩ := IntOp.andi_eq_one.1 h'
  have : Subsingleton Cert.Pre_within.S_.Idx := ⟨fun x y => funext fun a => a.elim0⟩
  exact ⟨small_of (a0 j) h', fun i => Host.reduce_andi_all _ _ _ _ _ h1 i, fun i => Host.reduce_andi_all _ _ _ _ _ h2 i,
    fun i => Host.reduce_andi_all _ _ _ _ _ h3 i, fun i => Host.reduce_andi_all _ _ _ _ _ h4 i, fun i => Host.reduce_andi_all _ _ _ _ _ h5 i⟩

theorem within_lt (h : @Cert.Pre_within.fn Cert.Pre_within.Gen.facts F _ a0 a1 a2 a3 a4 a5 = fun _ => 1#1) (j : Cert.Pre_within.S16x32.Idx) : (a0 j).toNat < 64 :=
  (within_parts a0 a1 a2 a3 a5 a4 h j).1
end

/-- The weaker precondition speaks of the table alone. -/
theorem table_lt (a0 : IVec Cert.Pre_table.S16x32 32) (a1 a2 a3 a5 : FVec F Cert.Pre_table.S16x16384x64 .f32) (a4 : FVec F Cert.Pre_table.S16x16384 .f32)
    (h : @Cert.Pre_table.fn Cert.Pre_table.Gen.facts F _ a0 a1 a2 a3 a4 a5 = fun _ => 1#1) (j : Cert.Pre_table.S16x32.Idx) : (a0 j).toNat < 64 :=
  small_of (a0 j) (congrFun h j)

/-- A value below the infinite one in absolute value is a real number. -/
theorem real_of (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hl : max x (-x) < ⊤ := by
    by_contra hn
    have : Ideal.cmp .olt (max x (-x)) ⊤ = BitVec.ofBool (decide (max x (-x) < ⊤)) := rfl
    rw [this, decide_eq_false hn] at h
    exact absurd h (by decide)
  induction x using EReal.rec with
  | bot => exact absurd hl (by simp)
  | coe r => exact ⟨r, rfl⟩
  | top => exact absurd hl (by simp)

/-- Over the extended reals every float argument that passes it holds real numbers. -/
theorem within_real (a0 : IVec Cert.Pre_within.S16x32 32) (a1 a2 a3 a5 : FVec Ideal Cert.Pre_within.S16x16384x64 .f32) (a4 : FVec Ideal Cert.Pre_within.S16x16384 .f32)
    (h : @Cert.Pre_within.fn Cert.Pre_within.Gen.facts Ideal _ a0 a1 a2 a3 a4 a5 = fun _ => 1#1) :
    (∀ i, ∃ r : ℝ, (a1 i : EReal) = r) ∧ (∀ i, ∃ r : ℝ, (a2 i : EReal) = r) ∧ (∀ i, ∃ r : ℝ, (a3 i : EReal) = r) ∧ (∀ i, ∃ r : ℝ, (a4 i : EReal) = r)
      ∧ ∀ i, ∃ r : ℝ, (a5 i : EReal) = r := by
  obtain ⟨-, h1, h2, h3, h4, h5⟩ := within_parts a0 a1 a2 a3 a5 a4 h (ix2 0 0)
  exact ⟨fun i => real_of _ (h1 i), fun i => real_of _ (h2 i), fun i => real_of _ (h3 i), fun i => real_of _ (h4 i), fun i => real_of _ (h5 i)⟩

end Cert.Words

end
-- ==== Proof.Kit.Trips.lean ====
module

public import proofs.«01_k».proof.Proof.Kit.Runs
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body accumulates: the query gradient of the head's rows and, transposed, the key and value gradients of the block. -/
@[ext] structure Acc (F : FTy → Type) where
  x7 : Vec F S1x16384x128 .f32
  x10 : Vec F S128x1024 .f32
  x11 : Vec F S128x1024 .f32

/-- A row tile of 512 of an operand. -/
abbrev tile (x : Vec F S16384x128 .bf16) (off : Fin 2 → ℕ) (inb : ∀ a, off a + S512x128.size a ≤ S16384x128.size a) : Vec F S512x128 .bf16 :=
  VecWindow.window x off S512x128.size inb

/-- A row tile of 512 of the query gradient. -/
abbrev tile7 (x : Vec F S1x16384x128 .f32) (off : Fin 3 → ℕ) (inb : ∀ a, off a + S1x512x128.size a ≤ S1x16384x128.size a) : Vec F S1x512x128 .f32 :=
  VecWindow.window x off S1x512x128.size inb

/-- A pair of query blocks against all keys of the block: what the first loop's trip does. -/
def stepA (v3 v4 : Vec F S1024x128 .bf16) (q d : Vec F S512x128 .bf16) (off : Fin 3 → ℕ) (inb : ∀ a, off a + S1x512x128.size a ≤ S1x16384x128.size a) (x : Acc F) : Acc F where
  x7 := VecWindow.put x.x7 off S1x512x128.size (k0_pay39 (k0_pay6 v3 v4 q d (tile7 x.x7 off inb)))
  x10 := k0_pay5 v3 v4 q d x.x10
  x11 := k0_pay4 v3 q d x.x11

/-- The right half of the keys' columns. -/
abbrev half (x : Vec F S128x1024 .f32) : Vec F S128x512 .f32 := VecWindow.window x ![0, 512] S128x512.size inb_S128x1024_S128x512_0_512

/-- A pair of query blocks against the second half of the keys: what the second loop's trip does. -/
def stepC (v3 v4 : Vec F S1024x128 .bf16) (q d : Vec F S512x128 .bf16) (off : Fin 3 → ℕ) (inb : ∀ a, off a + S1x512x128.size a ≤ S1x16384x128.size a) (x : Acc F) : Acc F where
  x7 := VecWindow.put x.x7 off S1x512x128.size (k0_pay41 (k0_pay13 v3 v4 q d) (k0_pay16 (tile7 x.x7 off inb)) (k0_pay17 v3) (constant S512x128 .f32 0x00000000#32))
  x10 := VecWindow.put x.x10 ![0, 512] S128x512.size (k0_pay15 v3 v4 q d (half x.x10))
  x11 := VecWindow.put x.x11 ![0, 512] S128x512.size (k0_pay14 v3 q d (half x.x11))

end Cert.KernelIdeal.Gen

end
-- ==== Proof.Kit.Iter.lean ====
module

public import proofs.«01_k».proof.Proof.Kit.Trips
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the first loop has accumulated before its trip `k`. -/
def iterA (i : grid0.Coords) (v3 v4 : Vec F S1024x128 .bf16) (x0 x1 : Vec F S16384x128 .bf16) (v117 : BitVec 32) (h1 : k0_chk1 i v117) (s : Acc F) : ℕ → Acc F
  | 0 => s
  | k + 1 => if h : k < (k0_t1_loop i v117).trips then
      stepA v3 v4 (tile x0 (k0_off4 i v117 ⟨k, h⟩) (k0_off4_inb i v117 h1 ⟨k, h⟩)) (tile x1 (k0_off4 i v117 ⟨k, h⟩) (k0_off4_inb i v117 h1 ⟨k, h⟩)) (k0_off5 i v117 ⟨k, h⟩) (k0_off5_inb i v117 h1 ⟨k, h⟩) (iterA i v3 v4 x0 x1 v117 h1 s k)
    else iterA i v3 v4 x0 x1 v117 h1 s k

theorem iterA_succ (i : grid0.Coords) (v3 v4 : Vec F S1024x128 .bf16) (x0 x1 : Vec F S16384x128 .bf16) (v117 : BitVec 32) (h1 : k0_chk1 i v117) (s : Acc F) (k : Fin (k0_t1_loop i v117).trips) :
    iterA i v3 v4 x0 x1 v117 h1 s (k.val + 1) = stepA v3 v4 (tile x0 (k0_off4 i v117 k) (k0_off4_inb i v117 h1 k)) (tile x1 (k0_off4 i v117 k) (k0_off4_inb i v117 h1 k)) (k0_off5 i v117 k) (k0_off5_inb i v117 h1 k) (iterA i v3 v4 x0 x1 v117 h1 s k.val) := by
  rw [iterA.eq_2]; exact dif_pos k.isLt

/-- What the second loop has accumulated before its trip `k`. -/
def iterC (i : grid0.Coords) (v3 v4 : Vec F S1024x128 .bf16) (x0 x1 : Vec F S16384x128 .bf16) (v117 v149 : BitVec 32) (h2 : k0_chk2 i v117 v149) (s : Acc F) : ℕ → Acc F
  | 0 => s
  | k + 1 => if h : k < (k0_t3_loop i v117 v149).trips then
      stepC v3 v4 (tile x0 (k0_off9 i v117 v149 ⟨k, h⟩) (k0_off9_inb i v117 v149 h2 ⟨k, h⟩)) (tile x1 (k0_off9 i v117 v149 ⟨k, h⟩) (k0_off9_inb i v117 v149 h2 ⟨k, h⟩)) (k0_off10 i v117 v149 ⟨k, h⟩) (k0_off10_inb i v117 v149 h2 ⟨k, h⟩) (iterC i v3 v4 x0 x1 v117 v149 h2 s k)
    else iterC i v3 v4 x0 x1 v117 v149 h2 s k

theorem iterC_succ (i : grid0.Coords) (v3 v4 : Vec F S1024x128 .bf16) (x0 x1 : Vec F S16384x128 .bf16) (v117 v149 : BitVec 32) (h2 : k0_chk2 i v117 v149) (s : Acc F) (k : Fin (k0_t3_loop i v117 v149).trips) :
    iterC i v3 v4 x0 x1 v117 v149 h2 s (k.val + 1) = stepC v3 v4 (tile x0 (k0_off9 i v117 v149 k) (k0_off9_inb i v117 v149 h2 k)) (tile x1 (k0_off9 i v117 v149 k) (k0_off9_inb i v117 v149 h2 k)) (k0_off10 i v117 v149 k) (k0_off10_inb i v117 v149 h2 k) (iterC i v3 v4 x0 x1 v117 v149 h2 s k.val) := by
  rw [iterC.eq_2]; exact dif_pos k.isLt

section Loops

variable (𝒱 : Variants) (c : Dev nD) (bd : Option 𝒱.V) (i : grid0.Coords)
  {arg2 : Memref sig .tc .smem S16x32 .i32} {harg2 : arg2.IsWhole}
  {arg3 : Memref sig .tc .vmem S16384x128 .bf16} {harg3 : arg3.IsWhole}
  {arg4 : Memref sig .tc .vmem S16384x128 .bf16} {harg4 : arg4.IsWhole}
  {arg5 : Memref sig .tc .vmem S1024x128 .bf16} {harg5 : arg5.IsWhole}
  {arg6 : Memref sig .tc .vmem S1024x128 .bf16} {harg6 : arg6.IsWhole}
  {arg7 : Memref sig .tc .vmem S1x16384x128 .f32} {harg7 : arg7.IsWhole}
  {arg8 : Memref sig .tc .vmem S1x1024x128 .f32} {harg8 : arg8.IsWhole}
  {arg9 : Memref sig .tc .vmem S1x1024x128 .bf16} {harg9 : arg9.IsWhole}
  {arg10 : Memref sig .tc .vmem S128x1024 .f32} {harg10 : arg10.IsWhole}
  {arg11 : Memref sig .tc .vmem S128x1024 .f32} {harg11 : arg11.IsWhole}

/-- What the first loop's pieces leave in the accumulated arrays. -/
theorem pbA (arg0 arg1 : BitVec 32) (v3 v4 : Vec F S1024x128 .bf16) (v107 : FVec F S512x128 .f32) (v109 : Vec F S1x512x128 .f32) (v113 : BitVec 32) (v117 : Elt F .i32) (h1 : k0_chk1 i v117) (X3 : BufTy.Contents (Elt F) arg3.view.ty) (X4 : BufTy.Contents (Elt F) arg4.view.ty) (G7 : BufTy.Contents (Elt F) arg7.view.ty) (G10 : BufTy.Contents (Elt F) arg10.view.ty) (G11 : BufTy.Contents (Elt F) arg11.view.ty) (n : ℕ) (hn : n ≤ (k0_t1_loop i v117).trips) :
    (⟨arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 arg11 harg11 arg0 arg1 v3 v4 v107 v109 v113 v117 h1 X3 X4 G7 G10 G11 n).1), arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 arg0 arg1 v3 v4 v107 v109 v113 v117 h1 X3 X4 G7 G10 G11 n).2.1), arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg0 arg1 v3 v4 v107 v109 v113 v117 h1 X3 X4 G7 G10 G11 n).2.2)⟩ : Acc F)
      = iterA i v3 v4 (arg3.view.read (Elt F) X3) (arg4.view.read (Elt F) X4) v117 h1 ⟨arg7.view.read (Elt F) G7, arg10.view.read (Elt F) G10, arg11.view.read (Elt F) G11⟩ n := by
  induction n with
  | zero => rfl
  | succ n ih =>
    rw [iterA_succ i v3 v4 _ _ v117 h1 _ ⟨n, hn⟩, ← ih (Nat.le_of_succ_le hn), pb_k0_t1_succ (F := F) 𝒱 c bd i arg2 harg2 arg3 harg3 arg4 harg4 arg5 harg5 arg6 harg6 arg7 harg7 arg8 harg8 arg9 harg9 arg10 harg10 arg11 harg11 arg0 arg1 v3 v4 v107 v109 v113 v117 h1 X3 X4 G7 G10 G11 ⟨n, hn⟩]
    generalize hp : pb_k0_t1 (F := F) 𝒱 c bd i arg2 harg2 arg3 harg3 arg4 harg4 arg5 harg5 arg6 harg6 arg7 harg7 arg8 harg8 arg9 harg9 arg10 harg10 arg11 harg11 arg0 arg1 v3 v4 v107 v109 v113 v117 h1 X3 X4 G7 G10 G11 n = p
    rw [View.writes_append, View.writes_append, View.writes_append]
    generalize arg7.view.writes (Elt F) G7 p.1 = f7
    generalize arg10.view.writes (Elt F) G10 p.2.1 = f10
    generalize arg11.view.writes (Elt F) G11 p.2.2 = f11
    unfold tripL_k0_t1 trip_k0_t1
    refine Acc.ext ?_ ?_ ?_
    · exact View.read_writes_cons_put _ _ _ _ [] rfl
    · exact (View.read_writes_full _ _ _ _ []).trans (congrArg (k0_pay5 v3 v4 (tile (arg3.view.read (Elt F) X3) (k0_off4 i v117 ⟨n, hn⟩) (k0_off4_inb i v117 h1 ⟨n, hn⟩)) (tile (arg4.view.read (Elt F) X4) (k0_off4 i v117 ⟨n, hn⟩) (k0_off4_inb i v117 h1 ⟨n, hn⟩))) (View.readAt_full arg10.view f10 inb_S128x1024_S128x1024_0_0))
    · exact (View.read_writes_full _ _ _ _ []).trans (congrArg (k0_pay4 v3 (tile (arg3.view.read (Elt F) X3) (k0_off4 i v117 ⟨n, hn⟩) (k0_off4_inb i v117 h1 ⟨n, hn⟩)) (tile (arg4.view.read (Elt F) X4) (k0_off4 i v117 ⟨n, hn⟩) (k0_off4_inb i v117 h1 ⟨n, hn⟩))) (View.readAt_full arg11.view f11 inb_S128x1024_S128x1024_0_0))

/-- What the second loop's pieces leave in the accumulated arrays. -/
theorem pbC (arg0 : BitVec 32) (v3 v4 : Vec F S1024x128 .bf16) (v117 : Elt F .i32) (v139 v145 c1 : BitVec 32) (v149 : Elt F .i32) (h2 : k0_chk2 i v117 v149) (X3 : BufTy.Contents (Elt F) arg3.view.ty) (X4 : BufTy.Contents (Elt F) arg4.view.ty) (G7 : BufTy.Contents (Elt F) arg7.view.ty) (G10 : BufTy.Contents (Elt F) arg10.view.ty) (G11 : BufTy.Contents (Elt F) arg11.view.ty) (n : ℕ) (hn : n ≤ (k0_t3_loop i v117 v149).trips) :
    (⟨arg7.view.read (Elt F) (arg7.view.writes (Elt F) G7 (pb_k0_t3 (F := F) 𝒱 c bd i arg2 harg2 arg3 harg3 arg4 harg4 arg5 harg5 arg6 harg6 arg7 harg7 arg8 harg8 arg9 harg9 arg10 harg10 arg11 harg11 arg0 v3 v4 v117 v139 v145 c1 v149 h2 X3 X4 G7 G10 G11 n).1), arg10.view.read (Elt F) (arg10.view.writes (Elt F) G10 (pb_k0_t3 (F := F) 𝒱 c bd i arg2 harg2 arg3 harg3 arg4 harg4 arg5 harg5 arg6 harg6 arg7 harg7 arg8 harg8 arg9 harg9 arg10 harg10 arg11 harg11 arg0 v3 v4 v117 v139 v145 c1 v149 h2 X3 X4 G7 G10 G11 n).2.1), arg11.view.read (Elt F) (arg11.view.writes (Elt F) G11 (pb_k0_t3 (F := F) 𝒱 c bd i arg2 harg2 arg3 harg3 arg4 harg4 arg5 harg5 arg6 harg6 arg7 harg7 arg8 harg8 arg9 harg9 arg10 harg10 arg11 harg11 arg0 v3 v4 v117 v139 v145 c1 v149 h2 X3 X4 G7 G10 G11 n).2.2)⟩ : Acc F)
      = iterC i v3 v4 (arg3.view.read (Elt F) X3) (arg4.view.read (Elt F) X4) v117 v149 h2 ⟨arg7.view.read (Elt F) G7, arg10.view.read (Elt F) G10, arg11.view.read (Elt F) G11⟩ n := by
  induction n with
  | zero => rfl
  | succ n ih =>
    rw [iterC_succ i v3 v4 _ _ v117 v149 h2 _ ⟨n, hn⟩, ← ih (Nat.le_of_succ_le hn), pb_k0_t3_succ (F := F) 𝒱 c bd i arg2 harg2 arg3 harg3 arg4 harg4 arg5 harg5 arg6 harg6 arg7 harg7 arg8 harg8 arg9 harg9 arg10 harg10 arg11 harg11 arg0 v3 v4 v117 v139 v145 c1 v149 h2 X3 X4 G7 G10 G11 ⟨n, hn⟩]
    generalize hp : pb_k0_t3 (F := F) 𝒱 c bd i arg2 harg2 arg3 harg3 arg4 harg4 arg5 harg5 arg6 harg6 arg7 harg7 arg8 harg8 arg9 harg9 arg10 harg10 arg11 harg11 arg0 v3 v4 v117 v139 v145 c1 v149 h2 X3 X4 G7 G10 G11 n = p
    rw [View.writes_append, View.writes_append, View.writes_append]
    generalize arg7.view.writes (Elt F) G7 p.1 = f7
    generalize arg10.view.writes (Elt F) G10 p.2.1 = f10
    generalize arg11.view.writes (Elt F) G11 p.2.2 = f11
    unfold tripL_k0_t3 trip_k0_t3
    refine Acc.ext ?_ ?_ ?_
    · exact View.read_writes_cons_put _ _ _ _ [] rfl
    · exact View.read_writes_cons_put _ _ _ _ [] rfl
    · exact View.read_writes_cons_put _ _ _ _ [] rfl

end Loops

end Cert.KernelIdeal.Gen

end
-- ==== Proof.Kit.Parts.lean ====
module

public import proofs.«01_k».proof.Proof.Kit.Iter
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A word of the prefetched table, at the place that the body reads it from. -/
abbrev word (c : Dev nD) (xt0 : TbBuf0 (F := F) c tbM0_0) {off : Fin 2 → ℕ} (inb : ∀ a, off a + S1x1.size a ≤ S16x32.size a) : Elt F .i32 :=
  tbM0_0.view.readAt (Elt F) (Rect.unit (s := S16x32) off S1x1.size inb).toLoadRect xt0 (Shape.Idx.first (numel1_S1x1.symm ▸ Nat.one_pos))

section Parts

variable (𝒱 : Variants) (c : Dev nD) (bd : Option 𝒱.V) (E : Set ℕ) (i : grid0.Coords)
  {arg3 : Memref sig .tc .vmem S16384x128 .bf16} {harg3 : arg3.IsWhole}
  {arg4 : Memref sig .tc .vmem S16384x128 .bf16} {harg4 : arg4.IsWhole}
  {arg5 : Memref sig .tc .vmem S1024x128 .bf16} {harg5 : arg5.IsWhole}
  {arg6 : Memref sig .tc .vmem S1024x128 .bf16} {harg6 : arg6.IsWhole}
  {arg7 : Memref sig .tc .vmem S1x16384x128 .f32} {harg7 : arg7.IsWhole}
  {arg8 : Memref sig .tc .vmem S1x1024x128 .f32} {harg8 : arg8.IsWhole}
  {arg9 : Memref sig .tc .vmem S1x1024x128 .bf16} {harg9 : arg9.IsWhole}
  {arg10 : Memref sig .tc .vmem S128x1024 .f32} {harg10 : arg10.IsWhole}
  {arg11 : Memref sig .tc .vmem S128x1024 .f32} {harg11 : arg11.IsWhole}

set_option maxHeartbeats 4000000 in
/-- The body up to the first pair, in the first block of a head: the query gradient is set to zero. -/
theorem part5A (hc : cond0_0 i) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f10 : BufTy.Contents (Elt F) arg10.view.ty) (f11 : BufTy.Contents (Elt F) arg11.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part5 (F := F) i tbM0_0 htbM0_0 arg3 harg3 arg4 harg4 arg5 harg5 arg6 harg6 arg7 harg7 arg8 harg8 arg9 harg9 arg10 harg10 arg11 harg11)
          (fun r => iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (∃ f, (arg7.view.loc (c : Thread nD τ) ↦[arg7.view.set]{fullShare} f) ∗ ⌜arg7.view.read (Elt F) f = k0_pay24⌝)
            ∗ (∃ f, (arg10.view.loc (c : Thread nD τ) ↦[arg10.view.set]{fullShare} f) ∗ ⌜arg10.view.read (Elt F) f = k0_pay25⌝)
            ∗ (∃ f, (arg11.view.loc (c : Thread nD τ) ↦[arg11.view.set]{fullShare} f) ∗ ⌜arg11.view.read (Elt F) f = k0_pay26⌝)
            ∗ ⌜r.2.2.1 = (arg5.view.read (Elt F) X5)⌝
            ∗ ⌜r.2.2.2.1 = (arg6.view.read (Elt F) X6)⌝
            ∗ ⌜r.2.2.2.2.2.1 = (tile (arg3.view.read (Elt F) X3) (k0_off1 i 0#32) (k0_off1_inb i 0))⌝
            ∗ ⌜r.2.2.2.2.2.2.1 = (tile (arg4.view.read (Elt F) X4) (k0_off1 i 0#32) (k0_off1_inb i 0))⌝
            ∗ ⌜r.2.2.2.2.2.2.2.1 = k0_pay27 (arg5.view.read (Elt F) X5) (tile (arg3.view.read (Elt F) X3) (k0_off1 i 0#32) (k0_off1_inb i 0))⌝
            ∗ ⌜r.2.2.2.2.2.2.2.2 = k0_pay28 (arg5.view.read (Elt F) X5) (arg6.view.read (Elt F) X6) (tile (arg3.view.read (Elt F) X3) (k0_off1 i 0#32) (k0_off1_inb i 0)) (tile (arg4.view.read (Elt F) X4) (k0_off1 i 0#32) (k0_off1_inb i 0))⌝)) := by
  rw [k0_part5_eq_skeleton]; unfold k0_part5_skel
  iintro ⟨H3, H4, H5, H6, H7, H10, H11⟩
  sl_exec (disch := sl_exact hc)
  sl_step
  isplitl [H3]; · iexact H3
  isplitl [H4]; · iexact H4
  isplitl [H5]; · iexact H5
  isplitl [H6]; · iexact H6
  isplitl [H7]
  · iexists _; isplitl [H7]; · iexact H7
    ipureintro
    exact View.read_writes_full _ _ _ _ []
  isplitl [H10]
  · iexists _; isplitl [H10]; · iexact H10
    ipureintro
    exact View.read_writes_full _ _ _ _ []
  isplitl [H11]
  · iexists _; isplitl [H11]; · iexact H11
    ipureintro
    exact View.read_writes_full _ _ _ _ []
  isplitr
  · ipureintro; exact View.readAt_full arg5.view X5 inb_S1024x128_S1024x128_0_0
  isplitr
  · ipureintro; exact View.readAt_full arg6.view X6 inb_S1024x128_S1024x128_0_0
  isplitr
  · ipureintro; rfl
  isplitr
  · ipureintro; rfl
  isplitr
  · ipureintro; exact congrArg (fun y => k0_pay27 y _) (View.readAt_full arg5.view X5 inb_S1024x128_S1024x128_0_0)
  ipureintro; exact congrArg₂ (fun y z => k0_pay28 y z _ _) (View.readAt_full arg5.view X5 inb_S1024x128_S1024x128_0_0) (View.readAt_full arg6.view X6 inb_S1024x128_S1024x128_0_0)

set_option maxHeartbeats 4000000 in
/-- The body up to the first pair, in a later block of a head. -/
theorem part5B (hc : ¬cond0_0 i) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f10 : BufTy.Contents (Elt F) arg10.view.ty) (f11 : BufTy.Contents (Elt F) arg11.view.ty) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part5 (F := F) i tbM0_0 htbM0_0 arg3 harg3 arg4 harg4 arg5 harg5 arg6 harg6 arg7 harg7 arg8 harg8 arg9 harg9 arg10 harg10 arg11 harg11)
          (fun r => iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (∃ f, (arg7.view.loc (c : Thread nD τ) ↦[arg7.view.set]{fullShare} f) ∗ ⌜arg7.view.read (Elt F) f = (arg7.view.read (Elt F) f7)⌝)
            ∗ (∃ f, (arg10.view.loc (c : Thread nD τ) ↦[arg10.view.set]{fullShare} f) ∗ ⌜arg10.view.read (Elt F) f = k0_pay25⌝)
            ∗ (∃ f, (arg11.view.loc (c : Thread nD τ) ↦[arg11.view.set]{fullShare} f) ∗ ⌜arg11.view.read (Elt F) f = k0_pay26⌝)
            ∗ ⌜r.2.2.1 = (arg5.view.read (Elt F) X5)⌝
            ∗ ⌜r.2.2.2.1 = (arg6.view.read (Elt F) X6)⌝
            ∗ ⌜r.2.2.2.2.2.1 = (tile (arg3.view.read (Elt F) X3) (k0_off1 i 0#32) (k0_off1_inb i 0))⌝
            ∗ ⌜r.2.2.2.2.2.2.1 = (tile (arg4.view.read (Elt F) X4) (k0_off1 i 0#32) (k0_off1_inb i 0))⌝
            ∗ ⌜r.2.2.2.2.2.2.2.1 = k0_pay27 (arg5.view.read (Elt F) X5) (tile (arg3.view.read (Elt F) X3) (k0_off1 i 0#32) (k0_off1_inb i 0))⌝
            ∗ ⌜r.2.2.2.2.2.2.2.2 = k0_pay28 (arg5.view.read (Elt F) X5) (arg6.view.read (Elt F) X6) (tile (arg3.view.read (Elt F) X3) (k0_off1 i 0#32) (k0_off1_inb i 0)) (tile (arg4.view.read (Elt F) X4) (k0_off1 i 0#32) (k0_off1_inb i 0))⌝)) := by
  rw [k0_part5_eq_skeleton]; unfold k0_part5_skel
  iintro ⟨H3, H4, H5, H6, H7, H10, H11⟩
  sl_exec (disch := sl_exact hc)
  sl_step
  isplitl [H3]; · iexact H3
  isplitl [H4]; · iexact H4
  isplitl [H5]; · iexact H5
  isplitl [H6]; · iexact H6
  isplitl [H7]
  · iexists _; isplitl [H7]; · iexact H7
    ipureintro
    rfl
  isplitl [H10]
  · iexists _; isplitl [H10]; · iexact H10
    ipureintro
    exact View.read_writes_full _ _ _ _ []
  isplitl [H11]
  · iexists _; isplitl [H11]; · iexact H11
    ipureintro
    exact View.read_writes_full _ _ _ _ []
  isplitr
  · ipureintro; exact View.readAt_full arg5.view X5 inb_S1024x128_S1024x128_0_0
  isplitr
  · ipureintro; exact View.readAt_full arg6.view X6 inb_S1024x128_S1024x128_0_0
  isplitr
  · ipureintro; rfl
  isplitr
  · ipureintro; rfl
  isplitr
  · ipureintro; exact congrArg (fun y => k0_pay27 y _) (View.readAt_full arg5.view X5 inb_S1024x128_S1024x128_0_0)
  ipureintro; exact congrArg₂ (fun y z => k0_pay28 y z _ _) (View.readAt_full arg5.view X5 inb_S1024x128_S1024x128_0_0) (View.readAt_full arg6.view X6 inb_S1024x128_S1024x128_0_0)

set_option maxHeartbeats 4000000 in
/-- The first pair of the block: its own rows against its first half of keys. -/
theorem part6 (arg1 : BitVec 32) (v3 : Vec F S1024x128 .bf16) (v16 : BitVec 32) (v18 : Vec F S512x128 .bf16) (v20 : Vec F S512x128 .bf16) (v30 : FVec F S512x512 .f32) (v33 : FVec F S512x512 .f32) (X3 : BufTy.Contents (Elt F) arg3.view.ty) (f7 : BufTy.Contents (Elt F) arg7.view.ty) (f10 : BufTy.Contents (Elt F) arg10.view.ty) (f11 : BufTy.Contents (Elt F) arg11.view.ty) :
    (iprop((arg3.view.loc (c : Thread nD τ) ↦[arg3.view.set]{fullShare} X3) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part6 (F := F) i tbM0_0 htbM0_0 arg3 harg3 arg4 harg4 arg5 harg5 arg6 harg6 arg7 harg7 arg8 harg8 arg9 harg9 arg10 harg10 arg11 harg11 arg1 v3 v16 v18 v20 v30 v33)
          (fun r => iprop((arg3.view.loc (c : Thread nD τ) ↦[arg3.view.set]{fullShare} X3)
            ∗ (∃ f, (arg7.view.loc (c : Thread nD τ) ↦[arg7.view.set]{fullShare} f) ∗ ⌜arg7.view.read (Elt F) f = VecWindow.put (arg7.view.read (Elt F) f7) (k0_off2 i 0#32) S1x512x128.size (k0_pay32 v3 v33 (tile7 (arg7.view.read (Elt F) f7) (k0_off2 i 0#32) (k0_off2_inb i 0)))⌝)
            ∗ (∃ f, (arg10.view.loc (c : Thread nD τ) ↦[arg10.view.set]{fullShare} f) ∗ ⌜arg10.view.read (Elt F) f = VecWindow.put (arg10.view.read (Elt F) f10) ![0, 0] S128x512.size (k0_pay31 v18 v33 (VecWindow.window (arg10.view.read (Elt F) f10) ![0, 0] S128x512.size inb_S128x1024_S128x512_0_0 : Vec F S128x512 .f32))⌝)
            ∗ (∃ f, (arg11.view.loc (c : Thread nD τ) ↦[arg11.view.set]{fullShare} f) ∗ ⌜arg11.view.read (Elt F) f = VecWindow.put (arg11.view.read (Elt F) f11) ![0, 0] S128x512.size (k0_pay30 v20 v30 (VecWindow.window (arg11.view.read (Elt F) f11) ![0, 0] S128x512.size inb_S128x1024_S128x512_0_0 : Vec F S128x512 .f32))⌝)
            ∗ ⌜r.2 = (tile (arg3.view.read (Elt F) X3) (k0_off1 i 2#32) (k0_off1_inb i 1))⌝)) := by
  rw [k0_part6_eq_skeleton]; unfold k0_part6_skel
  iintro ⟨H3, H7, H10, H11⟩
  sl_exec
  sl_step
  isplitl [H3]; · iexact H3
  isplitl [H7]
  · iexists _; isplitl [H7]; · iexact H7
    ipureintro
    exact View.read_writes_cons_put _ _ _ _ [] rfl
  isplitl [H10]
  · iexists _; isplitl [H10]; · iexact H10
    ipureintro
    exact View.read_writes_cons_put _ _ _ _ [] rfl
  isplitl [H11]
  · iexists _; isplitl [H11]; · iexact H11
    ipureintro
    exact View.read_writes_cons_put _ _ _ _ [] rfl
  ipureintro; rfl

set_option maxHeartbeats 4000000 in
/-- The second pair of the block: its own rows against all of its keys, save the store of the query gradient. -/
theorem part7 (v3 : Vec F S1024x128 .bf16) (v4 : Vec F S1024x128 .bf16) (v67 : BitVec 32) (v69 : Vec F S512x128 .bf16) (X4 : BufTy.Contents (Elt F) arg4.view.ty) (f7 : BufTy.Contents (Elt F) arg7.view.ty) (f10 : BufTy.Contents (Elt F) arg10.view.ty) (f11 : BufTy.Contents (Elt F) arg11.view.ty) :
    (iprop((arg4.view.loc (c : Thread nD τ) ↦[arg4.view.set]{fullShare} X4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part7 (F := F) i tbM0_0 htbM0_0 arg3 harg3 arg4 harg4 arg5 harg5 arg6 harg6 arg7 harg7 arg8 harg8 arg9 harg9 arg10 harg10 arg11 harg11 v3 v4 v67 v69)
          (fun r => iprop((arg4.view.loc (c : Thread nD τ) ↦[arg4.view.set]{fullShare} X4)
            ∗ (arg7.view.loc (c : Thread nD τ) ↦[arg7.view.set]{fullShare} f7)
            ∗ (∃ f, (arg10.view.loc (c : Thread nD τ) ↦[arg10.view.set]{fullShare} f) ∗ ⌜arg10.view.read (Elt F) f = k0_pay36 v3 v4 v69 (tile (arg4.view.read (Elt F) X4) (k0_off1 i 2#32) (k0_off1_inb i 1)) (arg10.view.read (Elt F) f10)⌝)
            ∗ (∃ f, (arg11.view.loc (c : Thread nD τ) ↦[arg11.view.set]{fullShare} f) ∗ ⌜arg11.view.read (Elt F) f = k0_pay35 v3 v69 (tile (arg4.view.read (Elt F) X4) (k0_off1 i 2#32) (k0_off1_inb i 1)) (arg11.view.read (Elt F) f11)⌝)
            ∗ ⌜r.1 = k0_pay37 v3 v4 v69 (tile (arg4.view.read (Elt F) X4) (k0_off1 i 2#32) (k0_off1_inb i 1)) (tile7 (arg7.view.read (Elt F) f7) (k0_off2 i 2#32) (k0_off2_inb i 1))⌝)) := by
  rw [k0_part7_eq_skeleton]; unfold k0_part7_skel
  iintro ⟨H4, H7, H10, H11⟩
  sl_exec
  sl_step
  isplitl [H4]; · iexact H4
  isplitl [H7]; · iexact H7
  isplitl [H10]
  · iexists _; isplitl [H10]; · iexact H10
    ipureintro
    exact (View.read_writes_full _ _ _ _ []).trans (congrArg (k0_pay36 v3 v4 v69 (tile (arg4.view.read (Elt F) X4) (k0_off1 i 2#32) (k0_off1_inb i 1))) (View.readAt_full arg10.view f10 inb_S128x1024_S128x1024_0_0))
  isplitl [H11]
  · iexists _; isplitl [H11]; · iexact H11
    ipureintro
    exact (View.read_writes_full _ _ _ _ []).trans (congrArg (k0_pay35 v3 v69 (tile (arg4.view.read (Elt F) X4) (k0_off1 i 2#32) (k0_off1_inb i 1))) (View.readAt_full arg11.view f11 inb_S128x1024_S128x1024_0_0))
  ipureintro; rfl

end Parts

end Cert.KernelIdeal.Gen

end
-- ==== Proof.Kit.Part8.lean ====
module

public import proofs.«01_k».proof.Proof.Kit.Parts
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Parts

variable (𝒱 : Variants) (c : Dev nD) (bd : Option 𝒱.V) (E : Set ℕ) (i : grid0.Coords)
  {arg3 : Memref sig .tc .vmem S16384x128 .bf16} {harg3 : arg3.IsWhole}
  {arg4 : Memref sig .tc .vmem S16384x128 .bf16} {harg4 : arg4.IsWhole}
  {arg5 : Memref sig .tc .vmem S1024x128 .bf16} {harg5 : arg5.IsWhole}
  {arg6 : Memref sig .tc .vmem S1024x128 .bf16} {harg6 : arg6.IsWhole}
  {arg7 : Memref sig .tc .vmem S1x16384x128 .f32} {harg7 : arg7.IsWhole}
  {arg8 : Memref sig .tc .vmem S1x1024x128 .f32} {harg8 : arg8.IsWhole}
  {arg9 : Memref sig .tc .vmem S1x1024x128 .bf16} {harg9 : arg9.IsWhole}
  {arg10 : Memref sig .tc .vmem S128x1024 .f32} {harg10 : arg10.IsWhole}
  {arg11 : Memref sig .tc .vmem S128x1024 .f32} {harg11 : arg11.IsWhole}

set_option maxHeartbeats 4000000 in
/-- The second pair's query gradient stored, and the later pairs that reach both halves of the keys. -/
theorem part8 (arg0 arg1 : BitVec 32) (v3 v4 : Vec F S1024x128 .bf16) (v107 : FVec F S512x128 .f32) (v109 : Vec F S1x512x128 .f32) (xt0 : TbBuf0 (F := F) c tbM0_0) (h1 : k0_chk1 i (word c xt0 (k0_off3_inb i))) (X3 : BufTy.Contents (Elt F) arg3.view.ty) (X4 : BufTy.Contents (Elt F) arg4.view.ty) (f7 : BufTy.Contents (Elt F) arg7.view.ty) (f10 : BufTy.Contents (Elt F) arg10.view.ty) (f11 : BufTy.Contents (Elt F) arg11.view.ty) :
    (iprop(tbPt0 c tbM0_0 xt0 ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part8 (F := F) i tbM0_0 htbM0_0 arg3 harg3 arg4 harg4 arg5 harg5 arg6 harg6 arg7 harg7 arg8 harg8 arg9 harg9 arg10 harg10 arg11 harg11 arg0 arg1 v3 v4 v107 v109)
          (fun r => iprop(tbPt0 c tbM0_0 xt0
            ∗ (arg3.view.loc (c : Thread nD τ) ↦[arg3.view.set]{fullShare} X3)
            ∗ (arg4.view.loc (c : Thread nD τ) ↦[arg4.view.set]{fullShare} X4)
            ∗ (∃ f, (arg7.view.loc (c : Thread nD τ) ↦[arg7.view.set]{fullShare} f) ∗ ⌜arg7.view.read (Elt F) f = (iterA i v3 v4 (arg3.view.read (Elt F) X3) (arg4.view.read (Elt F) X4) (word c xt0 (k0_off3_inb i)) h1 ⟨VecWindow.put (arg7.view.read (Elt F) f7) (k0_off2 i 2#32) S1x512x128.size (k0_pay38 v107), (arg10.view.read (Elt F) f10), (arg11.view.read (Elt F) f11)⟩ (k0_t1_loop i (word c xt0 (k0_off3_inb i))).trips).x7⌝)
            ∗ (∃ f, (arg10.view.loc (c : Thread nD τ) ↦[arg10.view.set]{fullShare} f) ∗ ⌜arg10.view.read (Elt F) f = (iterA i v3 v4 (arg3.view.read (Elt F) X3) (arg4.view.read (Elt F) X4) (word c xt0 (k0_off3_inb i)) h1 ⟨VecWindow.put (arg7.view.read (Elt F) f7) (k0_off2 i 2#32) S1x512x128.size (k0_pay38 v107), (arg10.view.read (Elt F) f10), (arg11.view.read (Elt F) f11)⟩ (k0_t1_loop i (word c xt0 (k0_off3_inb i))).trips).x10⌝)
            ∗ (∃ f, (arg11.view.loc (c : Thread nD τ) ↦[arg11.view.set]{fullShare} f) ∗ ⌜arg11.view.read (Elt F) f = (iterA i v3 v4 (arg3.view.read (Elt F) X3) (arg4.view.read (Elt F) X4) (word c xt0 (k0_off3_inb i)) h1 ⟨VecWindow.put (arg7.view.read (Elt F) f7) (k0_off2 i 2#32) S1x512x128.size (k0_pay38 v107), (arg10.view.read (Elt F) f10), (arg11.view.read (Elt F) f11)⟩ (k0_t1_loop i (word c xt0 (k0_off3_inb i))).trips).x11⌝)
            ∗ ⌜r.1 = (word c xt0 (k0_off3_inb i))⌝)) := by
  rw [k0_part8_eq_skeleton]; unfold k0_part8_skel
  have e7 : (arg7.view.read (Elt F) (arg7.view.writes (Elt F) f7 [⟨Rect.unit (s := S1x16384x128) (k0_off2 i 2#32) S1x512x128.size (k0_off2_inb i 1), k0_pay38 v107⟩])) = VecWindow.put (arg7.view.read (Elt F) f7) (k0_off2 i 2#32) S1x512x128.size (k0_pay38 v107) :=
    View.read_writes_cons_put _ _ _ _ [] rfl
  rw [← e7]
  have e := fun v113 => pbA (F := F) 𝒱 c bd i (arg2 := tbM0_0) (harg2 := htbM0_0) (harg3 := harg3) (harg4 := harg4) (harg5 := harg5) (harg6 := harg6) (harg7 := harg7) (harg8 := harg8) (harg9 := harg9) (harg10 := harg10) (harg11 := harg11) arg0 arg1 v3 v4 v107 v109 v113 (word c xt0 (k0_off3_inb i)) h1 X3 X4 (arg7.view.writes (Elt F) f7 [⟨Rect.unit (s := S1x16384x128) (k0_off2 i 2#32) S1x512x128.size (k0_off2_inb i 1), k0_pay38 v107⟩]) f10 f11 _ le_rfl
  iintro ⟨HT, H3, H4, H7, H10, H11⟩
  sl_exec (disch := sl_exact h1)
  sl_step
  isplitl [HT]; · iexact HT
  isplitl [H3]; · iexact H3
  isplitl [H4]; · iexact H4
  isplitl [H7]
  · iexists _; isplitl [H7]; · iexact H7
    ipureintro
    rw [View.writes_append]; exact congrArg Acc.x7 (e _)
  isplitl [H10]
  · iexists _; isplitl [H10]; · iexact H10
    ipureintro
    exact congrArg Acc.x10 (e _)
  isplitl [H11]
  · iexists _; isplitl [H11]; · iexact H11
    ipureintro
    exact congrArg Acc.x11 (e _)
  ipureintro; rfl

end Parts

end Cert.KernelIdeal.Gen

end
-- ==== Proof.Kit.Part9.lean ====
module

public import proofs.«01_k».proof.Proof.Kit.Parts
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Parts

variable (𝒱 : Variants) (c : Dev nD) (bd : Option 𝒱.V) (E : Set ℕ) (i : grid0.Coords)
  {arg3 : Memref sig .tc .vmem S16384x128 .bf16} {harg3 : arg3.IsWhole}
  {arg4 : Memref sig .tc .vmem S16384x128 .bf16} {harg4 : arg4.IsWhole}
  {arg5 : Memref sig .tc .vmem S1024x128 .bf16} {harg5 : arg5.IsWhole}
  {arg6 : Memref sig .tc .vmem S1024x128 .bf16} {harg6 : arg6.IsWhole}
  {arg7 : Memref sig .tc .vmem S1x16384x128 .f32} {harg7 : arg7.IsWhole}
  {arg8 : Memref sig .tc .vmem S1x1024x128 .f32} {harg8 : arg8.IsWhole}
  {arg9 : Memref sig .tc .vmem S1x1024x128 .bf16} {harg9 : arg9.IsWhole}
  {arg10 : Memref sig .tc .vmem S128x1024 .f32} {harg10 : arg10.IsWhole}
  {arg11 : Memref sig .tc .vmem S128x1024 .f32} {harg11 : arg11.IsWhole}

set_option maxHeartbeats 4000000 in
/-- The later pairs that reach the second half of the keys alone, and the key gradient stored. -/
theorem part9 (arg0 : BitVec 32) (v3 v4 : Vec F S1024x128 .bf16) (v139 v145 c1_i32_71 : BitVec 32) (xt0 : TbBuf0 (F := F) c tbM0_0) (h2 : k0_chk2 i (word c xt0 (k0_off3_inb i)) (word c xt0 (k0_off8_inb i))) (X3 : BufTy.Contents (Elt F) arg3.view.ty) (X4 : BufTy.Contents (Elt F) arg4.view.ty) (f7 : BufTy.Contents (Elt F) arg7.view.ty) (f8 : BufTy.Contents (Elt F) arg8.view.ty) (f10 : BufTy.Contents (Elt F) arg10.view.ty) (f11 : BufTy.Contents (Elt F) arg11.view.ty) :
    (iprop(tbPt0 c tbM0_0 xt0 ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11)) : sProp 𝕄)
      ⊢ wp frame (wpE (defs₀ (F := F)) 𝒱 (c : Thread nD τ) bd) E (k0_part9 (F := F) i tbM0_0 htbM0_0 arg3 harg3 arg4 harg4 arg5 harg5 arg6 harg6 arg7 harg7 arg8 harg8 arg9 harg9 arg10 harg10 arg11 harg11 arg0 v3 v4 (word c xt0 (k0_off3_inb i)) v139 v145 c1_i32_71)
          (fun r => iprop(tbPt0 c tbM0_0 xt0
            ∗ (arg3.view.loc (c : Thread nD τ) ↦[arg3.view.set]{fullShare} X3)
            ∗ (arg4.view.loc (c : Thread nD τ) ↦[arg4.view.set]{fullShare} X4)
            ∗ (∃ f, (arg7.view.loc (c : Thread nD τ) ↦[arg7.view.set]{fullShare} f) ∗ ⌜arg7.view.read (Elt F) f = (iterC i v3 v4 (arg3.view.read (Elt F) X3) (arg4.view.read (Elt F) X4) (word c xt0 (k0_off3_inb i)) (word c xt0 (k0_off8_inb i)) h2 ⟨(arg7.view.read (Elt F) f7), (arg10.view.read (Elt F) f10), (arg11.view.read (Elt F) f11)⟩ (k0_t3_loop i (word c xt0 (k0_off3_inb i)) (word c xt0 (k0_off8_inb i))).trips).x7⌝)
            ∗ (∃ f, (arg8.view.loc (c : Thread nD τ) ↦[arg8.view.set]{fullShare} f) ∗ ⌜arg8.view.read (Elt F) f = k0_pay43 (iterC i v3 v4 (arg3.view.read (Elt F) X3) (arg4.view.read (Elt F) X4) (word c xt0 (k0_off3_inb i)) (word c xt0 (k0_off8_inb i)) h2 ⟨(arg7.view.read (Elt F) f7), (arg10.view.read (Elt F) f10), (arg11.view.read (Elt F) f11)⟩ (k0_t3_loop i (word c xt0 (k0_off3_inb i)) (word c xt0 (k0_off8_inb i))).trips).x10⌝)
            ∗ (∃ f, (arg10.view.loc (c : Thread nD τ) ↦[arg10.view.set]{fullShare} f) ∗ ⌜arg10.view.read (Elt F) f = (iterC i v3 v4 (arg3.view.read (Elt F) X3) (arg4.view.read (Elt F) X4) (word c xt0 (k0_off3_inb i)) (word c xt0 (k0_off8_inb i)) h2 ⟨(arg7.view.read (Elt F) f7), (arg10.view.read (Elt F) f10), (arg11.view.read (Elt F) f11)⟩ (k0_t3_loop i (word c xt0 (k0_off3_inb i)) (word c xt0 (k0_off8_inb i))).trips).x10⌝)
            ∗ (∃ f, (arg11.view.loc (c : Thread nD τ) ↦[arg11.view.set]{fullShare} f) ∗ ⌜arg11.view.read (Elt F) f = (iterC i v3 v4 (arg3.view.read (Elt F) X3) (arg4.view.read (Elt F) X4) (word c xt0 (k0_off3_inb i)) (word c xt0 (k0_off8_inb i)) h2 ⟨(arg7.view.read (Elt F) f7), (arg10.view.read (Elt F) f10), (arg11.view.read (Elt F) f11)⟩ (k0_t3_loop i (word c xt0 (k0_off3_inb i)) (word c xt0 (k0_off8_inb i))).trips).x11⌝)
            ∗ ⌜r = k0_pay44 (iterC i v3 v4 (arg3.view.read (Elt F) X3) (arg4.view.read (Elt F) X4) (word c xt0 (k0_off3_inb i)) (word c xt0 (k0_off8_inb i)) h2 ⟨(arg7.view.read (Elt F) f7), (arg10.view.read (Elt F) f10), (arg11.view.read (Elt F) f11)⟩ (k0_t3_loop i (word c xt0 (k0_off3_inb i)) (word c xt0 (k0_off8_inb i))).trips).x11⌝)) := by
  rw [k0_part9_eq_skeleton]; unfold k0_part9_skel
  have e := pbC (F := F) 𝒱 c bd i (arg2 := tbM0_0) (harg2 := htbM0_0) (harg3 := harg3) (harg4 := harg4) (harg5 := harg5) (harg6 := harg6) (harg7 := harg7) (harg8 := harg8) (harg9 := harg9) (harg10 := harg10) (harg11 := harg11) arg0 v3 v4 (word c xt0 (k0_off3_inb i)) v139 v145 c1_i32_71 (word c xt0 (k0_off8_inb i)) h2 X3 X4 f7 f10 f11 _ le_rfl
  iintro ⟨HT, H3, H4, H7, H8, H10, H11⟩
  sl_exec (disch := sl_exact h2)
  sl_step
  isplitl [HT]; · iexact HT
  isplitl [H3]; · iexact H3
  isplitl [H4]; · iexact H4
  isplitl [H7]
  · iexists _; isplitl [H7]; · iexact H7
    ipureintro
    exact congrArg Acc.x7 e
  isplitl [H8]
  · iexists _; isplitl [H8]; · iexact H8
    ipureintro
    exact (View.read_writes_full _ _ _ _ []).trans (congrArg k0_pay43 ((View.readAt_full arg10.view _ inb_S128x1024_S128x1024_0_0).trans (congrArg Acc.x10 e)))
  isplitl [H10]
  · iexists _; isplitl [H10]; · iexact H10
    ipureintro
    exact congrArg Acc.x10 e
  isplitl [H11]
  · iexists _; isplitl [H11]; · iexact H11
    ipureintro
    exact congrArg Acc.x11 e
  ipureintro; exact congrArg k0_pay44 ((View.readAt_full arg11.view _ inb_S128x1024_S128x1024_0_0).trans (congrArg Acc.x11 e))

end Parts

end Cert.KernelIdeal.Gen

end
-- ==== Proof.Kit.Body.lean ====
module

public import proofs.«01_k».proof.Proof.Kit.Part8
public import proofs.«01_k».proof.Proof.Kit.Part9
public import Idealize.ShloMosaic.Lib.LoopRemainder
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first pair of the block against its first half of keys, masked by position. -/
def diag0 (i : grid0.Coords) (v3 v4 : Vec F S1024x128 .bf16) (q d : Vec F S512x128 .bf16) (x : Acc F) : Acc F where
  x7 := VecWindow.put x.x7 (k0_off2 i 0#32) S1x512x128.size (k0_pay32 v3 (k0_pay28 v3 v4 q d) (tile7 x.x7 (k0_off2 i 0#32) (k0_off2_inb i 0)))
  x10 := VecWindow.put x.x10 ![0, 0] S128x512.size (k0_pay31 q (k0_pay28 v3 v4 q d) (VecWindow.window x.x10 ![0, 0] S128x512.size inb_S128x1024_S128x512_0_0 : Vec F S128x512 .f32))
  x11 := VecWindow.put x.x11 ![0, 0] S128x512.size (k0_pay30 d (k0_pay27 v3 q) (VecWindow.window x.x11 ![0, 0] S128x512.size inb_S128x1024_S128x512_0_0 : Vec F S128x512 .f32))

/-- The second pair of the block against all of its keys, masked by position. -/
def diag1 (i : grid0.Coords) (v3 v4 : Vec F S1024x128 .bf16) (q d : Vec F S512x128 .bf16) (x : Acc F) : Acc F where
  x7 := VecWindow.put x.x7 (k0_off2 i 2#32) S1x512x128.size (k0_pay38 (k0_pay37 v3 v4 q d (tile7 x.x7 (k0_off2 i 2#32) (k0_off2_inb i 1))))
  x10 := k0_pay36 v3 v4 q d x.x10
  x11 := k0_pay35 v3 q d x.x11

/-- What the body has accumulated when it ends, from the query gradient that it begins with. -/
def accEnd (i : grid0.Coords) (x0 x1 : Vec F S16384x128 .bf16) (x2 x3 : Vec F S1024x128 .bf16) (b : Vec F S1x16384x128 .f32)
    (w1 w2 : BitVec 32) (h1 : k0_chk1 i w1) (h2 : k0_chk2 i w1 w2) : Acc F :=
  iterC i x2 x3 x0 x1 w1 w2 h2
    (iterA i x2 x3 x0 x1 w1 h1
      (diag1 i x2 x3 (tile x0 (k0_off1 i 2#32) (k0_off1_inb i 1)) (tile x1 (k0_off1 i 2#32) (k0_off1_inb i 1))
        (diag0 i x2 x3 (tile x0 (k0_off1 i 0#32) (k0_off1_inb i 0)) (tile x1 (k0_off1 i 0#32) (k0_off1_inb i 0)) ⟨b, k0_pay25, k0_pay26⟩))
      (k0_t1_loop i w1).trips)
    (k0_t3_loop i w1 w2).trips

section Body

variable (c : Dev nD) (E : Set ℕ) (i : grid0.Coords)
  {arg3 : Memref sig .tc .vmem S16384x128 .bf16} {harg3 : arg3.IsWhole}
  {arg4 : Memref sig .tc .vmem S16384x128 .bf16} {harg4 : arg4.IsWhole}
  {arg5 : Memref sig .tc .vmem S1024x128 .bf16} {harg5 : arg5.IsWhole}
  {arg6 : Memref sig .tc .vmem S1024x128 .bf16} {harg6 : arg6.IsWhole}
  {arg7 : Memref sig .tc .vmem S1x16384x128 .f32} {harg7 : arg7.IsWhole}
  {arg8 : Memref sig .tc .vmem S1x1024x128 .f32} {harg8 : arg8.IsWhole}
  {arg9 : Memref sig .tc .vmem S1x1024x128 .bf16} {harg9 : arg9.IsWhole}
  {arg10 : Memref sig .tc .vmem S128x1024 .f32} {harg10 : arg10.IsWhole}
  {arg11 : Memref sig .tc .vmem S128x1024 .f32} {harg11 : arg11.IsWhole}

set_option maxHeartbeats 4000000 in
/-- The body in a later block of a head: it adds to the query gradient that it finds. -/
theorem runB (hc : ¬cond0_0 i) (x0 x1 : Vec F S16384x128 .bf16) (x2 x3 : Vec F S1024x128 .bf16) (x7 : Vec F S1x16384x128 .f32) (xt0 : TbBuf0 (F := F) c tbM0_0)
    (h1 : k0_chk1 i (word c xt0 (k0_off3_inb i))) (h2 : k0_chk2 i (word c xt0 (k0_off3_inb i)) (word c xt0 (k0_off8_inb i))) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (accEnd i x0 x1 x2 x3 x7 (word c xt0 (k0_off3_inb i)) (word c xt0 (k0_off8_inb i)) h1 h2).x7 ∗ owns (c : Thread nD τ) arg8 fullShare (k0_pay43 (accEnd i x0 x1 x2 x3 x7 (word c xt0 (k0_off3_inb i)) (word c xt0 (k0_off8_inb i)) h1 h2).x10) ∗ owns (c : Thread nD τ) arg9 fullShare (k0_pay1 (k0_pay44 (accEnd i x0 x1 x2 x3 x7 (word c xt0 (k0_off3_inb i)) (word c xt0 (k0_off8_inb i)) h1 h2).x11))
            ∗ (∃ d, owns (c : Thread nD τ) arg10 fullShare d) ∗ (∃ d, owns (c : Thread nD τ) arg11 fullShare d) ∗ tbPt0 c tbM0_0 xt0) -∗ K ⟨⟩))
      ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11) K := by
  rw [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, HT0, Hk⟩
  iapply (exec_cut _ _ _ (part5B (harg3 := harg3) (harg4 := harg4) (harg5 := harg5) (harg6 := harg6) (harg7 := harg7) (harg8 := harg8) (harg9 := harg9) (harg10 := harg10) (harg11 := harg11) Variants.none c none E i hc f0 f1 f2 f3 f4 fs0 fs1)) $$ [H0 H1 H2 H3 H4 HS0 HS1]
  · isplitl [H0]; · iexact H0
    isplitl [H1]; · iexact H1
    isplitl [H2]; · iexact H2
    isplitl [H3]; · iexact H3
    isplitl [H4]; · iexact H4
    isplitl [HS0]; · iexact HS0
    iexact HS1
  iintro %r ⟨H0, H1, H2, H3, ⟨%g7, H4, %h7⟩, ⟨%g10, HS0, %h10⟩, ⟨%g11, HS1, %h11⟩, %e3, %e4, %e18, %e20, %e30, %e33⟩
  obtain ⟨arg0, arg1, v3, v4, v16, v18, v20, v30, v33⟩ := r
  change v3 = _ at e3; change v4 = _ at e4; change v18 = _ at e18; change v20 = _ at e20; change v30 = _ at e30; change v33 = _ at e33
  subst e3 e4 e18 e20 e30 e33
  iapply (exec_cut _ _ _ (part6 (harg3 := harg3) (harg4 := harg4) (harg5 := harg5) (harg6 := harg6) (harg7 := harg7) (harg8 := harg8) (harg9 := harg9) (harg10 := harg10) (harg11 := harg11) Variants.none c none E i arg1 _ v16 _ _ _ _ f0 g7 g10 g11)) $$ [H0 H4 HS0 HS1]
  · isplitl [H0]; · iexact H0
    isplitl [H4]; · iexact H4
    isplitl [HS0]; · iexact HS0
    iexact HS1
  iintro %r ⟨H0, ⟨%g7', H4, %h7'⟩, ⟨%g10', HS0, %h10'⟩, ⟨%g11', HS1, %h11'⟩, %e69⟩
  obtain ⟨v67, v69⟩ := r
  change v69 = _ at e69
  subst e69
  iapply (exec_cut _ _ _ (part7 (harg3 := harg3) (harg4 := harg4) (harg5 := harg5) (harg6 := harg6) (harg7 := harg7) (harg8 := harg8) (harg9 := harg9) (harg10 := harg10) (harg11 := harg11) Variants.none c none E i _ _ v67 _ f1 g7' g10' g11')) $$ [H1 H4 HS0 HS1]
  · isplitl [H1]; · iexact H1
    isplitl [H4]; · iexact H4
    isplitl [HS0]; · iexact HS0
    iexact HS1
  iintro %r ⟨H1, H4, ⟨%g10'', HS0, %h10''⟩, ⟨%g11'', HS1, %h11''⟩, %e107⟩
  obtain ⟨v107, v109⟩ := r
  change v107 = _ at e107
  subst e107
  iapply (exec_cut _ _ _ (part8 (harg3 := harg3) (harg4 := harg4) (harg5 := harg5) (harg6 := harg6) (harg7 := harg7) (harg8 := harg8) (harg9 := harg9) (harg10 := harg10) (harg11 := harg11) Variants.none c none E i arg0 arg1 _ _ _ v109 xt0 h1 f0 f1 g7' g10'' g11'')) $$ [HT0 H0 H1 H4 HS0 HS1]
  · isplitl [HT0]; · iexact HT0
    isplitl [H0]; · iexact H0
    isplitl [H1]; · iexact H1
    isplitl [H4]; · iexact H4
    isplitl [HS0]; · iexact HS0
    iexact HS1
  iintro %r ⟨HT0, H0, H1, ⟨%k7, H4, %l7⟩, ⟨%k10, HS0, %l10⟩, ⟨%k11, HS1, %l11⟩, %e117⟩
  obtain ⟨v117, v139, v145, c1⟩ := r
  change v117 = _ at e117
  subst e117
  iapply (exec_cut _ _ _ (part9 (harg3 := harg3) (harg4 := harg4) (harg5 := harg5) (harg6 := harg6) (harg7 := harg7) (harg8 := harg8) (harg9 := harg9) (harg10 := harg10) (harg11 := harg11) Variants.none c none E i arg0 _ _ v139 v145 c1 xt0 h2 f0 f1 k7 f5 k10 k11)) $$ [HT0 H0 H1 H4 H5 HS0 HS1]
  · isplitl [HT0]; · iexact HT0
    isplitl [H0]; · iexact H0
    isplitl [H1]; · iexact H1
    isplitl [H4]; · iexact H4
    isplitl [H5]; · iexact H5
    isplitl [HS0]; · iexact HS0
    iexact HS1
  iintro %r ⟨HT0, H0, H1, ⟨%m7, H4, %n7⟩, ⟨%m8, H5, %n8⟩, ⟨%m10, HS0, %n10⟩, ⟨%m11, HS1, %n11⟩, %e181⟩
  subst e181
  sl_exec
  sl_step
  have EE : accEnd i x0 x1 x2 x3 x7 (word c xt0 (k0_off3_inb i)) (word c xt0 (k0_off8_inb i)) h1 h2 = iterC i x2 x3 x0 x1 (word c xt0 (k0_off3_inb i)) (word c xt0 (k0_off8_inb i)) h2 ⟨arg7.view.read (Elt F) k7, arg10.view.read (Elt F) k10, arg11.view.read (Elt F) k11⟩ (k0_t3_loop i (word c xt0 (k0_off3_inb i)) (word c xt0 (k0_off8_inb i))).trips := by
    subst hf0 hf1 hf2 hf3
    have E0 : (⟨arg7.view.read (Elt F) g7, arg10.view.read (Elt F) g10, arg11.view.read (Elt F) g11⟩ : Acc F) = ⟨x7, k0_pay25, k0_pay26⟩ := Acc.ext (h7.trans hf4) h10 h11
    unfold accEnd
    rw [← E0]
    refine congrArg (fun s => iterC i _ _ _ _ _ _ h2 s _) ?_
    refine Eq.trans ?_ (Acc.ext l7 l10 l11).symm
    refine congrArg (fun s => iterA i _ _ _ _ _ h1 s _) ?_
    refine Eq.trans (congrArg (diag1 i _ _ _ _) (Acc.ext (x := ⟨arg7.view.read (Elt F) g7', arg10.view.read (Elt F) g10', arg11.view.read (Elt F) g11'⟩) h7' h10' h11').symm) ?_
    exact Acc.ext rfl h10''.symm h11''.symm
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; · ipureintro; rw [EE]; subst hf0 hf1 hf2 hf3; exact n7
    iexact H4
  isplitl [H5]
  · iexists _; isplitr; · ipureintro; rw [EE]; subst hf0 hf1 hf2 hf3; exact n8
    iexact H5
  isplitl [H6]
  · iexists _; isplitr; swap; · iexact H6
    ipureintro; rw [EE]; subst hf0 hf1 hf2 hf3; exact View.read_writes_full _ _ _ _ []
  isplitl [HS0]; · iexists (arg10.view.read (Elt F) m10), m10; isplitr; · ipureintro; rfl
                   iexact HS0
  isplitl [HS1]; · iexists (arg11.view.read (Elt F) m11), m11; isplitr; · ipureintro; rfl
                   iexact HS1
  iexact HT0

set_option maxHeartbeats 4000000 in
/-- The body in the first block of a head: the query gradient begins at zero. -/
theorem runA (hc : cond0_0 i) (x0 x1 : Vec F S16384x128 .bf16) (x2 x3 : Vec F S1024x128 .bf16) (xt0 : TbBuf0 (F := F) c tbM0_0)
    (h1 : k0_chk1 i (word c xt0 (k0_off3_inb i))) (h2 : k0_chk2 i (word c xt0 (k0_off3_inb i)) (word c xt0 (k0_off8_inb i))) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (accEnd i x0 x1 x2 x3 k0_pay24 (word c xt0 (k0_off3_inb i)) (word c xt0 (k0_off8_inb i)) h1 h2).x7 ∗ owns (c : Thread nD τ) arg8 fullShare (k0_pay43 (accEnd i x0 x1 x2 x3 k0_pay24 (word c xt0 (k0_off3_inb i)) (word c xt0 (k0_off8_inb i)) h1 h2).x10) ∗ owns (c : Thread nD τ) arg9 fullShare (k0_pay1 (k0_pay44 (accEnd i x0 x1 x2 x3 k0_pay24 (word c xt0 (k0_off3_inb i)) (word c xt0 (k0_off8_inb i)) h1 h2).x11))
            ∗ (∃ d, owns (c : Thread nD τ) arg10 fullShare d) ∗ (∃ d, owns (c : Thread nD τ) arg11 fullShare d) ∗ tbPt0 c tbM0_0 xt0) -∗ K ⟨⟩))
      ⊢ wp frame (wpE (defs₀ (F := F)) Variants.none c none) E (cc0_attn_bwd i tbM0_0 htbM0_0 arg3 harg3 arg4 harg4 arg5 harg5 arg6 harg6 arg7 harg7 arg8 harg8 arg9 harg9 arg10 harg10 arg11 harg11) K := by
  rw [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, HT0, Hk⟩
  iapply (exec_cut _ _ _ (part5A (harg3 := harg3) (harg4 := harg4) (harg5 := harg5) (harg6 := harg6) (harg7 := harg7) (harg8 := harg8) (harg9 := harg9) (harg10 := harg10) (harg11 := harg11) Variants.none c none E i hc f0 f1 f2 f3 f4 fs0 fs1)) $$ [H0 H1 H2 H3 H4 HS0 HS1]
  · isplitl [H0]; · iexact H0
    isplitl [H1]; · iexact H1
    isplitl [H2]; · iexact H2
    isplitl [H3]; · iexact H3
    isplitl [H4]; · iexact H4
    isplitl [HS0]; · iexact HS0
    iexact HS1
  iintro %r ⟨H0, H1, H2, H3, ⟨%g7, H4, %h7⟩, ⟨%g10, HS0, %h10⟩, ⟨%g11, HS1, %h11⟩, %e3, %e4, %e18, %e20, %e30, %e33⟩
  obtain ⟨arg0, arg1, v3, v4, v16, v18, v20, v30, v33⟩ := r
  change v3 = _ at e3; change v4 = _ at e4; change v18 = _ at e18; change v20 = _ at e20; change v30 = _ at e30; change v33 = _ at e33
  subst e3 e4 e18 e20 e30 e33
  iapply (exec_cut _ _ _ (part6 (harg3 := harg3) (harg4 := harg4) (harg5 := harg5) (harg6 := harg6) (harg7 := harg7) (harg8 := harg8) (harg9 := harg9) (harg10 := harg10) (harg11 := harg11) Variants.none c none E i arg1 _ v16 _ _ _ _ f0 g7 g10 g11)) $$ [H0 H4 HS0 HS1]
  · isplitl [H0]; · iexact H0
    isplitl [H4]; · iexact H4
    isplitl [HS0]; · iexact HS0
    iexact HS1
  iintro %r ⟨H0, ⟨%g7', H4, %h7'⟩, ⟨%g10', HS0, %h10'⟩, ⟨%g11', HS1, %h11'⟩, %e69⟩
  obtain ⟨v67, v69⟩ := r
  change v69 = _ at e69
  subst e69
  iapply (exec_cut _ _ _ (part7 (harg3 := harg3) (harg4 := harg4) (harg5 := harg5) (harg6 := harg6) (harg7 := harg7) (harg8 := harg8) (harg9 := harg9) (harg10 := harg10) (harg11 := harg11) Variants.none c none E i _ _ v67 _ f1 g7' g10' g11')) $$ [H1 H4 HS0 HS1]
  · isplitl [H1]; · iexact H1
    isplitl [H4]; · iexact H4
    isplitl [HS0]; · iexact HS0
    iexact HS1
  iintro %r ⟨H1, H4, ⟨%g10'', HS0, %h10''⟩, ⟨%g11'', HS1, %h11''⟩, %e107⟩
  obtain ⟨v107, v109⟩ := r
  change v107 = _ at e107
  subst e107
  iapply (exec_cut _ _ _ (part8 (harg3 := harg3) (harg4 := harg4) (harg5 := harg5) (harg6 := harg6) (harg7 := harg7) (harg8 := harg8) (harg9 := harg9) (harg10 := harg10) (harg11 := harg11) Variants.none c none E i arg0 arg1 _ _ _ v109 xt0 h1 f0 f1 g7' g10'' g11'')) $$ [HT0 H0 H1 H4 HS0 HS1]
  · isplitl [HT0]; · iexact HT0
    isplitl [H0]; · iexact H0
    isplitl [H1]; · iexact H1
    isplitl [H4]; · iexact H4
    isplitl [HS0]; · iexact HS0
    iexact HS1
  iintro %r ⟨HT0, H0, H1, ⟨%k7, H4, %l7⟩, ⟨%k10, HS0, %l10⟩, ⟨%k11, HS1, %l11⟩, %e117⟩
  obtain ⟨v117, v139, v145, c1⟩ := r
  change v117 = _ at e117
  subst e117
  iapply (exec_cut _ _ _ (part9 (harg3 := harg3) (harg4 := harg4) (harg5 := harg5) (harg6 := harg6) (harg7 := harg7) (harg8 := harg8) (harg9 := harg9) (harg10 := harg10) (harg11 := harg11) Variants.none c none E i arg0 _ _ v139 v145 c1 xt0 h2 f0 f1 k7 f5 k10 k11)) $$ [HT0 H0 H1 H4 H5 HS0 HS1]
  · isplitl [HT0]; · iexact HT0
    isplitl [H0]; · iexact H0
    isplitl [H1]; · iexact H1
    isplitl [H4]; · iexact H4
    isplitl [H5]; · iexact H5
    isplitl [HS0]; · iexact HS0
    iexact HS1
  iintro %r ⟨HT0, H0, H1, ⟨%m7, H4, %n7⟩, ⟨%m8, H5, %n8⟩, ⟨%m10, HS0, %n10⟩, ⟨%m11, HS1, %n11⟩, %e181⟩
  subst e181
  sl_exec
  sl_step
  have EE : accEnd i x0 x1 x2 x3 k0_pay24 (word c xt0 (k0_off3_inb i)) (word c xt0 (k0_off8_inb i)) h1 h2 = iterC i x2 x3 x0 x1 (word c xt0 (k0_off3_inb i)) (word c xt0 (k0_off8_inb i)) h2 ⟨arg7.view.read (Elt F) k7, arg10.view.read (Elt F) k10, arg11.view.read (Elt F) k11⟩ (k0_t3_loop i (word c xt0 (k0_off3_inb i)) (word c xt0 (k0_off8_inb i))).trips := by
    subst hf0 hf1 hf2 hf3
    have E0 : (⟨arg7.view.read (Elt F) g7, arg10.view.read (Elt F) g10, arg11.view.read (Elt F) g11⟩ : Acc F) = ⟨k0_pay24, k0_pay25, k0_pay26⟩ := Acc.ext h7 h10 h11
    unfold accEnd
    rw [← E0]
    refine congrArg (fun s => iterC i _ _ _ _ _ _ h2 s _) ?_
    refine Eq.trans ?_ (Acc.ext l7 l10 l11).symm
    refine congrArg (fun s => iterA i _ _ _ _ _ h1 s _) ?_
    refine Eq.trans (congrArg (diag1 i _ _ _ _) (Acc.ext (x := ⟨arg7.view.read (Elt F) g7', arg10.view.read (Elt F) g10', arg11.view.read (Elt F) g11'⟩) h7' h10' h11').symm) ?_
    exact Acc.ext rfl h10''.symm h11''.symm
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; · ipureintro; rw [EE]; subst hf0 hf1 hf2 hf3; exact n7
    iexact H4
  isplitl [H5]
  · iexists _; isplitr; · ipureintro; rw [EE]; subst hf0 hf1 hf2 hf3; exact n8
    iexact H5
  isplitl [H6]
  · iexists _; isplitr; swap; · iexact H6
    ipureintro; rw [EE]; subst hf0 hf1 hf2 hf3; exact View.read_writes_full _ _ _ _ []
  isplitl [HS0]; · iexists (arg10.view.read (Elt F) m10), m10; isplitr; · ipureintro; rfl
                   iexact HS0
  isplitl [HS1]; · iexists (arg11.view.read (Elt F) m11), m11; isplitr; · ipureintro; rfl
                   iexact HS1
  iexact HT0

end Body

end Cert.KernelIdeal.Gen

end
-- ==== Proof.Val.Step.lean ====
/- One step of the body at exact operations: what a tile of 512 queries against the group's 1024 keys adds to the three
   accumulators. A predicate says which (query, key) entries the step keeps; the entries it leaves out weigh nothing, so a step that
   works on half of the keys, or under the causal mask, is stated over all 1024. -/
module

public import proofs.«01_k».proof.Proof.Kit.Body
public import Idealize.ShloMosaic.Lib.Pointwise
public import Idealize.ShloMosaic.Lib.WordCmp

@[expose] public section

noncomputable section

namespace Cert.KernelIdeal.Gen

open Idealize.ShloMosaic Idealize.SL.Sem

/-- A tile of 512 rows, -/
abbrev Tile : Type := Vec Ideal S512x128 .bf16
/-- and the group's 1024 rows. -/
abbrev Group : Type := Vec Ideal S1024x128 .bf16

/-- The product of row `r` of a tile with row `j` of the group. -/
def sc (q : Tile) (k : Group) (r : Fin 512) (j : Fin 1024) : EReal := ∑ e : Fin 128, q (ix2 r e) * k (ix2 j e)

/-- The weight of an entry: the exponential of its score where it is kept, nothing where it is not. -/
def pr (K : Fin 512 → Fin 1024 → Bool) (q : Tile) (k : Group) (r : Fin 512) (j : Fin 1024) : EReal :=
  if K r j then Ideal.exp (sc q k r j) else 0

/-- The gradient of an entry's score. -/
def dsr (K : Fin 512 → Fin 1024 → Bool) (q d : Tile) (k v : Group) (r : Fin 512) (j : Fin 1024) : EReal :=
  pr K q k r j * sc d v r j

/-- What a step at pair `u` of query blocks does to the accumulators. -/
structure StepAt (K : Fin 512 → Fin 1024 → Bool) (q d : Tile) (k v : Group) (u : ℕ) (x y : Acc Ideal) : Prop where
  h10 : ∀ (e : Fin 128) (j : Fin 1024), (y.x10 (ix2 e j) : EReal) = x.x10 (ix2 e j) + ∑ r : Fin 512, q (ix2 r e) * dsr K q d k v r j
  h11 : ∀ (e : Fin 128) (j : Fin 1024), (y.x11 (ix2 e j) : EReal) = x.x11 (ix2 e j) + ∑ r : Fin 512, d (ix2 r e) * pr K q k r j
  h7 : ∀ (r : Fin 512) (e : Fin 128) (h : 512 * u + r.val < 16384),
    (y.x7 (ix3 0 ⟨512 * u + r.val, h⟩ e) : EReal) = x.x7 (ix3 0 ⟨512 * u + r.val, h⟩ e) + ∑ j : Fin 1024, dsr K q d k v r j * k (ix2 j e)
  h7' : ∀ (R : Fin 16384) (e : Fin 128), R.val / 512 ≠ u → y.x7 (ix3 0 R e) = x.x7 (ix3 0 R e)

/-! ## Windows read at an index -/

theorem put7_in {u : ℕ} (hu : u < 32) (x : Vec Ideal S1x16384x128 .f32) (w : Vec Ideal S1x512x128 .f32) (r : Fin 512) (e : Fin 128)
    (h : 512 * u + r.val < 16384) : VecWindow.put x ![0, 512 * u, 0] S1x512x128.size w (ix3 0 ⟨512 * u + r.val, h⟩ e) = w (ix3 0 r e) := by
  have hin : ∀ a, (![0, 512 * u, 0] : Fin 3 → ℕ) a ≤ ((ix3 (0 : Fin 1) (⟨512 * u + r.val, h⟩ : Fin 16384) e) a).val
      ∧ ((ix3 (0 : Fin 1) (⟨512 * u + r.val, h⟩ : Fin 16384) e) a).val < (![0, 512 * u, 0] : Fin 3 → ℕ) a + S1x512x128.size a := by
    intro a; fin_cases a
    · exact ⟨le_refl 0, Nat.one_pos⟩
    · exact ⟨Nat.le_add_right _ _, Nat.add_lt_add_left r.isLt _⟩
    · exact ⟨Nat.zero_le _, by show e.val < 0 + 128; have := e.isLt; omega⟩
  refine (dif_pos hin).trans (congrArg w (funext fun a => ?_))
  apply Fin.ext
  fin_cases a
  · rfl
  · show 512 * u + r.val - 512 * u = r.val; omega
  · show e.val - 0 = e.val; omega

theorem put7_out {u : ℕ} (x : Vec Ideal S1x16384x128 .f32) (w : Vec Ideal S1x512x128 .f32) (R : Fin 16384) (e : Fin 128)
    (h : R.val / 512 ≠ u) : VecWindow.put x ![0, 512 * u, 0] S1x512x128.size w (ix3 0 R e) = x (ix3 0 R e) := by
  refine dif_neg fun hin => h ?_
  have h1 := hin 1
  have a1 : 512 * u ≤ R.val := h1.1
  have a2 : R.val < 512 * u + 512 := h1.2
  omega

theorem tile7_at {u : ℕ} (x : Vec Ideal S1x16384x128 .f32) (inb) (r : Fin 512) (e : Fin 128) (h : 512 * u + r.val < 16384) :
    tile7 x ![0, 512 * u, 0] inb (ix3 0 r e) = x (ix3 0 ⟨512 * u + r.val, h⟩ e) := by
  refine congrArg x (funext fun a => ?_)
  apply Fin.ext
  fin_cases a
  · rfl
  · show 512 * u + 1 * r.val = 512 * u + r.val; omega
  · show 0 + 1 * e.val = e.val; omega

/-- The columns of one half of the keys, put and read. -/
theorem puth_in (c : ℕ) (x : Vec Ideal S128x1024 .f32) (w : Vec Ideal S128x512 .f32) (e : Fin 128) (j : Fin 512) (h : c + j.val < 1024) :
    VecWindow.put x ![0, c] S128x512.size w (ix2 e ⟨c + j.val, h⟩) = w (ix2 e j) := by
  have hin : ∀ a, (![0, c] : Fin 2 → ℕ) a ≤ ((ix2 e (⟨c + j.val, h⟩ : Fin 1024)) a).val
      ∧ ((ix2 e (⟨c + j.val, h⟩ : Fin 1024)) a).val < (![0, c] : Fin 2 → ℕ) a + S128x512.size a := by
    intro a; fin_cases a
    · exact ⟨Nat.zero_le _, by show e.val < 0 + 128; have := e.isLt; omega⟩
    · exact ⟨Nat.le_add_right _ _, Nat.add_lt_add_left j.isLt _⟩
  refine (dif_pos hin).trans (congrArg w (funext fun a => ?_))
  apply Fin.ext
  fin_cases a
  · show e.val - 0 = e.val; omega
  · show c + j.val - c = j.val; omega

theorem puth_out (c : ℕ) (x : Vec Ideal S128x1024 .f32) (w : Vec Ideal S128x512 .f32) (e : Fin 128) (j : Fin 1024) (h : ¬(c ≤ j.val ∧ j.val < c + 512)) :
    VecWindow.put x ![0, c] S128x512.size w (ix2 e j) = x (ix2 e j) := by
  exact dif_neg fun hin => h (hin 1)

theorem winh_at (c : ℕ) (x : Vec Ideal S128x1024 .f32) (inb) (e : Fin 128) (j : Fin 512) (h : c + j.val < 1024) :
    (VecWindow.window x ![0, c] S128x512.size inb : Vec Ideal S128x512 .f32) (ix2 e j) = x (ix2 e ⟨c + j.val, h⟩) := by
  refine congrArg x (funext fun a => ?_)
  apply Fin.ext
  fin_cases a
  · show 0 + 1 * e.val = e.val; omega
  · show c + 1 * j.val = c + j.val; omega

/-! ## The operations of a step read at an index -/

theorem kept (s : EReal) (r j c : ℕ) (hr : r < 1024) (hj : j < 1024) (hc : c < 1024) :
    FloatOps.exp (F := Ideal) (φ := .f32) (Scalar.select (IntOp.cmpi .sle (BitVec.ofNat 32 j) (IntOp.addi (BitVec.ofNat 32 r) (BitVec.ofNat 32 c))) s
      (Named.named (F := Ideal) κ "mask" (φ := .f32) 0xF149F2CA#32)) = if decide (j ≤ r + c) then Ideal.exp s else 0 := by
  have e : IntOp.addi (BitVec.ofNat 32 r) (BitVec.ofNat 32 c) = BitVec.ofNat 32 (r + c) := by
    show BitVec.ofNat 32 r + BitVec.ofNat 32 c = _
    rw [BitVec.ofNat_add]
  rw [e, WordCmp.cmpi_sle_ofNat (by omega) (by omega), WordCmp.select_ofBool, IdealRules.named_const.ideal_named_scalar κ "mask" _ ⊥ rfl]
  show Ideal.exp _ = _
  by_cases h : j ≤ r + c
  · rw [decide_eq_true h, if_pos rfl, if_pos rfl]
  · rw [decide_eq_false h, if_neg (by decide), if_neg (by decide)]; exact Ideal.exp_bot

/-- Everything is kept, -/
abbrev kAll : Fin 512 → Fin 1024 → Bool := fun _ _ => true
/-- the second half of the keys, -/
abbrev kHalf : Fin 512 → Fin 1024 → Bool := fun _ j => decide (512 ≤ j.val)
/-- the keys up to the query's own, the tile beginning `c` rows into the group. -/
abbrev kDiag (c : ℕ) : Fin 512 → Fin 1024 → Bool := fun r j => decide (j.val ≤ r.val + c)

theorem pay2_at (k : Group) (q : Tile) (r : Fin 512) (j : Fin 1024) : k0_pay2 (F := Ideal) k q (ix2 r j) = pr kAll q k r j := by
  unfold k0_pay2
  pointwise
  rfl

theorem pay3_at (k v : Group) (q d : Tile) (r : Fin 512) (j : Fin 1024) : k0_pay3 (F := Ideal) k v q d (ix2 r j) = dsr kAll q d k v r j := by
  unfold k0_pay3
  pointwise [pay2_at]
  rfl

theorem pay33_at (k : Group) (q : Tile) (r : Fin 512) (j : Fin 1024) : k0_pay33 (F := Ideal) k q (ix2 r j) = pr (kDiag 512) q k r j := by
  unfold k0_pay33
  pointwise
  exact kept _ _ _ 512 (by omega) (by omega) (by omega)

theorem pay34_at (k v : Group) (q d : Tile) (r : Fin 512) (j : Fin 1024) : k0_pay34 (F := Ideal) k v q d (ix2 r j) = dsr (kDiag 512) q d k v r j := by
  unfold k0_pay34
  pointwise [pay33_at]
  rfl

theorem pay12_at (k : Group) (q : Tile) (r : Fin 512) (j : Fin 512) (h : 512 + j.val < 1024) :
    k0_pay12 (F := Ideal) k q (ix2 r j) = pr kHalf q k r ⟨512 + j.val, h⟩ := by
  unfold k0_pay12 pr
  rw [if_pos (decide_eq_true (Nat.le_add_right _ _))]
  pointwise
  rfl

theorem pay13_at (k v : Group) (q d : Tile) (r : Fin 512) (j : Fin 512) (h : 512 + j.val < 1024) :
    k0_pay13 (F := Ideal) k v q d (ix2 r j) = dsr kHalf q d k v r ⟨512 + j.val, h⟩ := by
  unfold k0_pay13 dsr
  rw [← pay12_at]
  pointwise
  rfl

theorem pay27_at (k : Group) (q : Tile) (r : Fin 512) (j : Fin 512) (h : 0 + j.val < 1024) :
    k0_pay27 (F := Ideal) k q (ix2 r j) = pr (kDiag 0) q k r ⟨0 + j.val, h⟩ := by
  have e : (⟨0 + j.val, h⟩ : Fin 1024) = ⟨j.val, by omega⟩ := Fin.ext (Nat.zero_add _)
  rw [e]
  unfold k0_pay27 pr
  pointwise
  exact kept _ _ _ 0 (by omega) (by omega) (by omega)

theorem pay28_at (k v : Group) (q d : Tile) (r : Fin 512) (j : Fin 512) (h : 0 + j.val < 1024) :
    k0_pay28 (F := Ideal) k v q d (ix2 r j) = dsr (kDiag 0) q d k v r ⟨0 + j.val, h⟩ := by
  unfold k0_pay28 dsr
  rw [← pay27_at]
  have e : (⟨0 + j.val, h⟩ : Fin 1024) = ⟨j.val, by omega⟩ := Fin.ext (Nat.zero_add _)
  rw [e]
  pointwise
  rfl

/-! ## The steps -/

theorem stepA_at {u : ℕ} (hu : u < 32) (k v : Group) (q d : Tile) (off : Fin 3 → ℕ) (inb) (ho : off = ![0, 512 * u, 0]) (x : Acc Ideal) :
    StepAt kAll q d k v u x (stepA k v q d off inb x) := by
  subst ho
  refine ⟨fun e j => ?_, fun e j => ?_, fun r e h => ?_, fun R e h => put7_out _ _ R e h⟩
  · show k0_pay5 (F := Ideal) k v q d x.x10 (ix2 e j) = _
    unfold k0_pay5
    pointwise [pay3_at]
  · show k0_pay4 (F := Ideal) k q d x.x11 (ix2 e j) = _
    unfold k0_pay4
    pointwise [pay2_at]
  · refine (put7_in hu _ _ r e h).trans ?_
    unfold k0_pay39 k0_pay6
    pointwise [pay3_at, tile7_at x.x7 inb r e h]

/-- A tile of the gradient of the queries, read, added to and put back. -/
theorem seven {u : ℕ} (hu : u < 32) (off : Fin 3 → ℕ) (inb) (ho : off = ![0, 512 * u, 0]) (x : Vec Ideal S1x16384x128 .f32)
    (W : Vec Ideal S1x512x128 .f32 → Vec Ideal S1x512x128 .f32) (a : Fin 512 → Fin 128 → EReal)
    (hW : ∀ y r e, (W y (ix3 0 r e) : EReal) = y (ix3 0 r e) + a r e) :
    (∀ (r : Fin 512) (e : Fin 128) (h : 512 * u + r.val < 16384),
      (VecWindow.put x off S1x512x128.size (W (tile7 x off inb)) (ix3 0 ⟨512 * u + r.val, h⟩ e) : EReal) = x (ix3 0 ⟨512 * u + r.val, h⟩ e) + a r e)
    ∧ ∀ (R : Fin 16384) (e : Fin 128), R.val / 512 ≠ u →
      VecWindow.put x off S1x512x128.size (W (tile7 x off inb)) (ix3 0 R e) = x (ix3 0 R e) := by
  subst ho
  refine ⟨fun r e h => ?_, fun R e h => put7_out _ _ R e h⟩
  refine (put7_in hu _ _ r e h).trans ?_
  rw [hW, tile7_at x inb r e h]

theorem diag1_at (i : grid0.Coords) {u : ℕ} (hu : u < 32) (k v : Group) (q d : Tile) (ho : k0_off2 i 2#32 = ![0, 512 * u, 0]) (x : Acc Ideal) :
    StepAt (kDiag 512) q d k v u x (diag1 i k v q d x) := by
  have H := seven hu _ (k0_off2_inb i 1) ho x.x7 (fun y => k0_pay38 (k0_pay37 k v q d y)) (fun r e => ∑ j : Fin 1024, dsr (kDiag 512) q d k v r j * k (ix2 j e))
    (fun y r e => by unfold k0_pay38 k0_pay37; pointwise [pay34_at])
  refine ⟨fun e j => ?_, fun e j => ?_, H.1, H.2⟩
  · show k0_pay36 (F := Ideal) k v q d x.x10 (ix2 e j) = _
    unfold k0_pay36
    pointwise [pay34_at]
  · show k0_pay35 (F := Ideal) k q d x.x11 (ix2 e j) = _
    unfold k0_pay35
    pointwise [pay33_at]

/-- A sum over one half of the keys, where the other half adds nothing. -/
theorem half_sum (c : ℕ) (hc : c + 512 ≤ 1024) (f : Fin 1024 → EReal) (hz : ∀ j : Fin 1024, ¬(c ≤ j.val ∧ j.val < c + 512) → f j = 0) :
    ∑ j : Fin 512, f ⟨c + j.val, by omega⟩ = ∑ j, f j := by
  refine Fintype.sum_of_injective (fun j : Fin 512 => (⟨c + j.val, by omega⟩ : Fin 1024)) (fun a b h => ?_) _ _ (fun j hj => hz j fun h => hj ?_) (fun _ => rfl)
  · have e := congrArg Fin.val h
    exact Fin.ext (Nat.add_left_cancel e)
  · exact ⟨⟨j.val - c, by omega⟩, Fin.ext (by show c + (j.val - c) = j.val; omega)⟩

/-- One half of an accumulator, read, added to and put back, where the other half takes nothing. -/
theorem halved (c : ℕ) (hc : c + 512 ≤ 1024) (x : Vec Ideal S128x1024 .f32) (inb) (W : Vec Ideal S128x512 .f32 → Vec Ideal S128x512 .f32)
    (a : Fin 128 → Fin 1024 → EReal) (hz : ∀ e (j : Fin 1024), ¬(c ≤ j.val ∧ j.val < c + 512) → a e j = 0)
    (hW : ∀ y e (j : Fin 512), (W y (ix2 e j) : EReal) = y (ix2 e j) + a e ⟨c + j.val, by omega⟩) (e : Fin 128) (j : Fin 1024) :
    (VecWindow.put x ![0, c] S128x512.size (W (VecWindow.window x ![0, c] S128x512.size inb)) (ix2 e j) : EReal) = x (ix2 e j) + a e j := by
  by_cases h : c ≤ j.val ∧ j.val < c + 512
  · have e' : (⟨c + (⟨j.val - c, by omega⟩ : Fin 512).val, by show c + (j.val - c) < 1024; omega⟩ : Fin 1024) = j := Fin.ext (by show c + (j.val - c) = j.val; omega)
    have H : ∀ j' : Fin 512, (VecWindow.put x ![0, c] S128x512.size (W (VecWindow.window x ![0, c] S128x512.size inb)) (ix2 e ⟨c + j'.val, by omega⟩) : EReal) = x (ix2 e ⟨c + j'.val, by omega⟩) + a e ⟨c + j'.val, by omega⟩ := fun j' => by
      refine (puth_in c x _ e j' (by omega)).trans ?_
      rw [hW, winh_at c x inb e j' (by omega)]
    have := H ⟨j.val - c, by omega⟩
    rw [e'] at this
    exact this
  · rw [hz e j h, add_zero]
    exact puth_out c x _ e j h

theorem pr_out {K : Fin 512 → Fin 1024 → Bool} {q : Tile} {k : Group} {r : Fin 512} {j : Fin 1024} (h : K r j = false) : pr K q k r j = 0 := by
  unfold pr; rw [h]; rfl
theorem dsr_out {K : Fin 512 → Fin 1024 → Bool} {q d : Tile} {k v : Group} {r : Fin 512} {j : Fin 1024} (h : K r j = false) : dsr K q d k v r j = 0 := by
  unfold dsr; rw [pr_out h, zero_mul]

/-- A half-step: the keys from `c` on, 512 of them, the step's predicate keeping none of the others. -/
theorem half_step {K : Fin 512 → Fin 1024 → Bool} (c : ℕ) (hc : c + 512 ≤ 1024) (hK : ∀ r j, ¬(c ≤ j.val ∧ j.val < c + 512) → K r j = false)
    (q d : Tile) (k v : Group) {u : ℕ} (hu : u < 32) (off : Fin 3 → ℕ) (inb) (ho : off = ![0, 512 * u, 0]) (inb') (x : Acc Ideal)
    (W7 : Vec Ideal S1x512x128 .f32 → Vec Ideal S1x512x128 .f32) (W10 W11 : Vec Ideal S128x512 .f32 → Vec Ideal S128x512 .f32)
    (h10 : ∀ y e (j : Fin 512), (W10 y (ix2 e j) : EReal) = y (ix2 e j) + ∑ r : Fin 512, q (ix2 r e) * dsr K q d k v r ⟨c + j.val, by omega⟩)
    (h11 : ∀ y e (j : Fin 512), (W11 y (ix2 e j) : EReal) = y (ix2 e j) + ∑ r : Fin 512, d (ix2 r e) * pr K q k r ⟨c + j.val, by omega⟩)
    (h7 : ∀ y r e, (W7 y (ix3 0 r e) : EReal) = y (ix3 0 r e) + ∑ j : Fin 512, dsr K q d k v r ⟨c + j.val, by omega⟩ * k (ix2 ⟨c + j.val, by omega⟩ e)) :
    StepAt K q d k v u x ⟨VecWindow.put x.x7 off S1x512x128.size (W7 (tile7 x.x7 off inb)),
      VecWindow.put x.x10 ![0, c] S128x512.size (W10 (VecWindow.window x.x10 ![0, c] S128x512.size inb')),
      VecWindow.put x.x11 ![0, c] S128x512.size (W11 (VecWindow.window x.x11 ![0, c] S128x512.size inb'))⟩ := by
  have H := seven hu off inb ho x.x7 W7 (fun r e => ∑ j : Fin 1024, dsr K q d k v r j * k (ix2 j e)) (fun y r e => by
    rw [h7]
    exact congrArg (y (ix3 0 r e) + ·) (half_sum c hc (fun j => dsr K q d k v r j * k (ix2 j e)) fun j hj => by
      show dsr K q d k v r j * _ = 0
      rw [dsr_out (hK r j hj), zero_mul]))
  refine ⟨fun e j => ?_, fun e j => ?_, H.1, H.2⟩
  · refine halved c hc x.x10 inb' W10 (fun e j => ∑ r : Fin 512, q (ix2 r e) * dsr K q d k v r j) (fun e j hj => Finset.sum_eq_zero fun r _ => ?_) h10 e j
    rw [dsr_out (hK r j hj), mul_zero]
  · refine halved c hc x.x11 inb' W11 (fun e j => ∑ r : Fin 512, d (ix2 r e) * pr K q k r j) (fun e j hj => Finset.sum_eq_zero fun r _ => ?_) h11 e j
    rw [pr_out (hK r j hj), mul_zero]

theorem zth (j : Fin 512) (h : 0 + j.val < 1024) : (⟨0 + j.val, h⟩ : Fin 1024) = ⟨j.val, by omega⟩ := Fin.ext (Nat.zero_add _)

theorem diag0_at (i : grid0.Coords) {u : ℕ} (hu : u < 32) (k v : Group) (q d : Tile) (ho : k0_off2 i 0#32 = ![0, 512 * u, 0]) (x : Acc Ideal) :
    StepAt (kDiag 0) q d k v u x (diag0 i k v q d x) := by
  refine half_step 0 (by omega) (fun r j h => decide_eq_false fun h' => h ⟨Nat.zero_le _, by omega⟩) q d k v hu _ (k0_off2_inb i 0) ho inb_S128x1024_S128x512_0_0 x
    (fun y => k0_pay32 k (k0_pay28 k v q d) y) (fun y => k0_pay31 q (k0_pay28 k v q d) y) (fun y => k0_pay30 d (k0_pay27 k q) y)
    (fun y e j => ?_) (fun y e j => ?_) (fun y r e => ?_)
  · unfold k0_pay31 k0_pay29
    pointwise
    exact congrArg (y (ix2 e j) + ·) (Finset.sum_congr rfl fun r _ => by rw [pay28_at k v q d r j (by omega), zth j]; rfl)
  · unfold k0_pay30
    pointwise
    exact congrArg (y (ix2 e j) + ·) (Finset.sum_congr rfl fun r _ => by rw [pay27_at k q r j (by omega), zth j]; rfl)
  · unfold k0_pay32 k0_pay29
    pointwise
    refine congrArg (y (ix3 0 r e) + ·) (Finset.sum_congr rfl fun j _ => ?_)
    rw [pay28_at k v q d r j (by omega), zth j]
    congr 5

theorem stepC_at {u : ℕ} (hu : u < 32) (k v : Group) (q d : Tile) (off : Fin 3 → ℕ) (inb) (ho : off = ![0, 512 * u, 0]) (x : Acc Ideal) :
    StepAt kHalf q d k v u x (stepC k v q d off inb x) := by
  refine half_step 512 (by omega) (fun r j h => decide_eq_false fun h' => h ⟨h', by omega⟩) q d k v hu off inb ho inb_S128x1024_S128x512_0_512 x
    (fun y => k0_pay41 (k0_pay13 k v q d) (k0_pay16 y) (k0_pay17 k) (constant S512x128 .f32 0x00000000#32)) (fun y => k0_pay15 k v q d y) (fun y => k0_pay14 k q d y)
    (fun y e j => ?_) (fun y e j => ?_) (fun y r e => ?_)
  · unfold k0_pay15
    pointwise
    simp only [pay13_at k v q d _ j (by omega)]
  · unfold k0_pay14
    pointwise
    simp only [pay12_at k q _ j (by omega)]
  · unfold k0_pay41 k0_pay16 k0_pay17
    pointwise
    refine congrArg (y (ix3 0 r e) + ·) (Finset.sum_congr rfl fun j _ => ?_)
    rw [pay13_at k v q d r j (by omega)]

end Cert.KernelIdeal.Gen
end
-- ==== Proof.Val.Fold.lean ====
/- The fold over the pairs of query blocks: what the accumulated arrays hold after the pairs below `n`, each pair with its own
   predicate of the entries that it keeps, and the sums over all rows that this makes. -/
module

public import proofs.«01_k».proof.Proof.Val.Step

@[expose] public section

set_option maxRecDepth 16384

noncomputable section

namespace Cert.KernelIdeal.Gen

open Idealize.ShloMosaic Idealize.SL.Sem

abbrev Rows := Vec Ideal S16384x128 .bf16

/-- The rows of pair `u`. -/
def tl (X : Rows) (u : ℕ) : Tile := fun y => if h : 512 * u + (y 0).val < 16384 then X (ix2 ⟨512 * u + (y 0).val, h⟩ (y 1)) else 0

theorem tl_at (X : Rows) (u : ℕ) (r : Fin 512) (e : Fin 128) (h : 512 * u + r.val < 16384) : tl X u (ix2 r e) = X (ix2 ⟨512 * u + r.val, h⟩ e) :=
  dif_pos h

theorem tile_eq (X : Rows) {u : ℕ} (hu : u < 32) (off : Fin 2 → ℕ) (inb) (ho : off = ![512 * u, 0]) : tile X off inb = tl X u := by
  subst ho
  funext y
  have hy : (y 0).val < 512 := (y 0).isLt
  unfold tl
  rw [dif_pos (by omega : 512 * u + (y 0).val < 16384)]
  show X _ = X _
  congr 1
  funext a; fin_cases a
  · exact Fin.ext (by show 512 * u + 1 * (y 0).val = 512 * u + (y 0).val; omega)
  · exact Fin.ext (by show 0 + 1 * (y 1).val = (y 1).val; omega)

/-- What the accumulated arrays hold after the pairs below `n`. -/
structure Inv (K : ℕ → Fin 512 → Fin 1024 → Bool) (q d : Rows) (k v : Group) (b : Vec Ideal S1x16384x128 .f32) (n : ℕ) (x : Acc Ideal) : Prop where
  h10 : ∀ (e : Fin 128) (j : Fin 1024), (x.x10 (ix2 e j) : EReal) = ∑ u ∈ Finset.range n, ∑ r : Fin 512, tl q u (ix2 r e) * dsr (K u) (tl q u) (tl d u) k v r j
  h11 : ∀ (e : Fin 128) (j : Fin 1024), (x.x11 (ix2 e j) : EReal) = ∑ u ∈ Finset.range n, ∑ r : Fin 512, tl d u (ix2 r e) * pr (K u) (tl q u) k r j
  h7 : ∀ (R : Fin 16384) (e : Fin 128), (x.x7 (ix3 0 R e) : EReal) = b (ix3 0 R e)
    + if R.val / 512 < n then ∑ j : Fin 1024, dsr (K (R.val / 512)) (tl q (R.val / 512)) (tl d (R.val / 512)) k v ⟨R.val % 512, Nat.mod_lt _ (by omega)⟩ j * k (ix2 j e) else 0

variable {K : ℕ → Fin 512 → Fin 1024 → Bool} {q d : Rows} {k v : Group} {b : Vec Ideal S1x16384x128 .f32}

/-- Before the first pair that is kept. -/
theorem Inv.start (n : ℕ) (hK : ∀ u < n, ∀ r j, K u r j = false) : Inv K q d k v b n ⟨b, k0_pay25 (F := Ideal), k0_pay26 (F := Ideal)⟩ := by
  refine ⟨fun e j => ?_, fun e j => ?_, fun R e => ?_⟩
  · rw [Finset.sum_eq_zero fun u hu => Finset.sum_eq_zero fun r _ => by rw [dsr_out (hK u (Finset.mem_range.mp hu) r j), mul_zero]]
    show k0_pay25 (F := Ideal) (ix2 e j) = 0
    unfold k0_pay25
    pointwise
  · rw [Finset.sum_eq_zero fun u hu => Finset.sum_eq_zero fun r _ => by rw [pr_out (hK u (Finset.mem_range.mp hu) r j), mul_zero]]
    show k0_pay26 (F := Ideal) (ix2 e j) = 0
    unfold k0_pay26
    pointwise
  · show (b (ix3 0 R e) : EReal) = _
    split
    · next h => rw [Finset.sum_eq_zero fun j _ => by rw [dsr_out (hK _ h _ j), zero_mul], add_zero]
    · rw [add_zero]

/-- One pair. -/
theorem Inv.step {n : ℕ} (hn : n < 32) {x y : Acc Ideal} (h : Inv K q d k v b n x) (s : StepAt (K n) (tl q n) (tl d n) k v n x y) : Inv K q d k v b (n + 1) y := by
  refine ⟨fun e j => ?_, fun e j => ?_, fun R e => ?_⟩
  · rw [s.h10, h.h10, Finset.sum_range_succ]
  · rw [s.h11, h.h11, Finset.sum_range_succ]
  · by_cases hR : R.val / 512 = n
    · have e' : (⟨512 * n + (⟨R.val % 512, Nat.mod_lt _ (by omega)⟩ : Fin 512).val, by show 512 * n + R.val % 512 < 16384; omega⟩ : Fin 16384) = R :=
        Fin.ext (by show 512 * n + R.val % 512 = R.val; omega)
      have := s.h7 ⟨R.val % 512, Nat.mod_lt _ (by omega)⟩ e (by show 512 * n + R.val % 512 < 16384; omega)
      rw [e'] at this
      rw [this, h.h7, if_neg (by omega), add_zero, if_pos (by omega), hR]
    · rw [s.h7' R e hR, h.h7]
      congr 1
      by_cases hl : R.val / 512 < n
      · rw [if_pos hl, if_pos (by omega)]
      · rw [if_neg hl, if_neg (by omega)]

/-- Pairs that are left out add nothing. -/
theorem Inv.rest {n : ℕ} (n' : ℕ) (hn : n ≤ n') (hK : ∀ u, n ≤ u → ∀ r j, K u r j = false) {x : Acc Ideal} (h : Inv K q d k v b n x) : Inv K q d k v b n' x := by
  induction n', hn using Nat.le_induction with
  | base => exact h
  | succ n' hn' ih =>
    refine ⟨fun e j => ?_, fun e j => ?_, fun R e => ?_⟩
    · rw [ih.h10, Finset.sum_range_succ, Finset.sum_eq_zero (s := (Finset.univ : Finset (Fin 512))) fun r _ => by rw [dsr_out (hK n' hn' r j), mul_zero], add_zero]
    · rw [ih.h11, Finset.sum_range_succ, Finset.sum_eq_zero (s := (Finset.univ : Finset (Fin 512))) fun r _ => by rw [pr_out (hK n' hn' r j), mul_zero], add_zero]
    · rw [ih.h7]
      congr 1
      by_cases hl : R.val / 512 < n'
      · rw [if_pos hl, if_pos (by omega)]
      · rw [if_neg hl]
        split
        · rw [Finset.sum_eq_zero fun j _ => by rw [dsr_out (hK _ (by omega) _ j), zero_mul]]
        · rfl

/-! ## Sums over all rows -/

/-- A sum over blocks of `b` rows is the sum over the rows. -/
theorem sum_blocks (a b : ℕ) (hb : 0 < b) (f : ℕ → Fin b → EReal) :
    ∑ u ∈ Finset.range a, ∑ r : Fin b, f u r = ∑ R : Fin (a * b), f (R.val / b) ⟨R.val % b, Nat.mod_lt _ hb⟩ := by
  rw [Finset.sum_range, ← Fintype.sum_prod_type' (fun (u : Fin a) (r : Fin b) => f u.val r)]
  refine Fintype.sum_equiv finProdFinEquiv _ _ fun p => ?_
  obtain ⟨u, r⟩ := p
  have e1 : (finProdFinEquiv (u, r)).val / b = u.val := by
    show (r.val + b * u.val) / b = u.val
    rw [Nat.add_mul_div_left _ _ hb, Nat.div_eq_of_lt r.isLt, Nat.zero_add]
  have e2 : (finProdFinEquiv (u, r)).val % b = r.val := by
    show (r.val + b * u.val) % b = r.val
    rw [Nat.add_mul_mod_self_left, Nat.mod_eq_of_lt r.isLt]
  show f u.val r = f ((finProdFinEquiv (u, r)).val / b) ⟨(finProdFinEquiv (u, r)).val % b, _⟩
  congr 1
  · exact e1.symm
  · exact Fin.ext e2.symm

/-- The probability of row `R` at key `j` of a group and the gradient of its score, where the predicate keeps the entry. -/
def prR (K : Fin 16384 → Fin 1024 → Bool) (q : Rows) (k : Group) (R : Fin 16384) (j : Fin 1024) : EReal :=
  if K R j then Ideal.exp (∑ e : Fin 128, q (ix2 R e) * k (ix2 j e)) else 0
def dsR (K : Fin 16384 → Fin 1024 → Bool) (q d : Rows) (k v : Group) (R : Fin 16384) (j : Fin 1024) : EReal :=
  prR K q k R j * ∑ e : Fin 128, d (ix2 R e) * v (ix2 j e)

/-- The predicate of all rows that the pairs' predicates make. -/
abbrev keepR (K : ℕ → Fin 512 → Fin 1024 → Bool) (R : Fin 16384) (j : Fin 1024) : Bool := K (R.val / 512) ⟨R.val % 512, Nat.mod_lt _ (by omega)⟩ j

theorem tl_row (X : Rows) (R : Fin 16384) (e : Fin 128) : tl X (R.val / 512) (ix2 ⟨R.val % 512, Nat.mod_lt _ (by omega)⟩ e) = X (ix2 R e) := by
  rw [tl_at X _ _ e (by show 512 * (R.val / 512) + R.val % 512 < 16384; omega)]
  congr 2
  exact Fin.ext (by show 512 * (R.val / 512) + R.val % 512 = R.val; omega)

theorem pr_row (R : Fin 16384) (j : Fin 1024) :
    pr (K (R.val / 512)) (tl q (R.val / 512)) k ⟨R.val % 512, Nat.mod_lt _ (by omega)⟩ j = prR (keepR K) q k R j := by
  unfold pr prR sc
  simp only [tl_row]

theorem dsr_row (R : Fin 16384) (j : Fin 1024) :
    dsr (K (R.val / 512)) (tl q (R.val / 512)) (tl d (R.val / 512)) k v ⟨R.val % 512, Nat.mod_lt _ (by omega)⟩ j = dsR (keepR K) q d k v R j := by
  unfold dsr dsR
  rw [pr_row]
  unfold sc
  simp only [tl_row]

/-- After all pairs: the three arrays as sums over all rows. -/
theorem Inv.all10 {x : Acc Ideal} (h : Inv K q d k v b 32 x) (e : Fin 128) (j : Fin 1024) :
    (x.x10 (ix2 e j) : EReal) = ∑ R : Fin 16384, q (ix2 R e) * dsR (keepR K) q d k v R j := by
  rw [h.h10, sum_blocks 32 512 (by omega) fun u r => tl q u (ix2 r e) * dsr (K u) (tl q u) (tl d u) k v r j]
  refine Finset.sum_congr rfl fun R _ => ?_
  exact congrArg₂ (fun a b : EReal => a * b) (tl_row q R e) (dsr_row R j)
theorem Inv.all11 {x : Acc Ideal} (h : Inv K q d k v b 32 x) (e : Fin 128) (j : Fin 1024) :
    (x.x11 (ix2 e j) : EReal) = ∑ R : Fin 16384, d (ix2 R e) * prR (keepR K) q k R j := by
  rw [h.h11, sum_blocks 32 512 (by omega) fun u r => tl d u (ix2 r e) * pr (K u) (tl q u) k r j]
  refine Finset.sum_congr rfl fun R _ => ?_
  exact congrArg₂ (fun a b : EReal => a * b) (tl_row d R e) (pr_row R j)
theorem Inv.all7 {x : Acc Ideal} (h : Inv K q d k v b 32 x) (R : Fin 16384) (e : Fin 128) :
    (x.x7 (ix3 0 R e) : EReal) = b (ix3 0 R e) + ∑ j : Fin 1024, dsR (keepR K) q d k v R j * k (ix2 j e) := by
  rw [h.h7, if_pos (by omega)]
  congr 1
  exact Finset.sum_congr rfl fun j _ => by rw [dsr_row]

end Cert.KernelIdeal.Gen
end
-- ==== Proof.Val.Math.lean ====
/- The gradient of attention with its weights spelled out, of one head: the queries' gradient from the keys, and the keys' and the
   values' from the queries, over the entries that a predicate keeps. And the predicate: a query sees the keys at or before it, of
   its own group of 1024 all of them, of an earlier group those halves whose last block of queries is not before the query's pair. -/
module

public import Idealize.ShloMosaic.Lib.Pointwise

@[expose] public section

noncomputable section

namespace Cert.Attn

open Idealize.ShloMosaic

/-- The rows of one head. -/
abbrev Head := Fin 16384 → Fin 128 → EReal
abbrev Keep := Fin 16384 → Fin 16384 → Bool

def score (q k : Head) (R K : Fin 16384) : EReal := ∑ e : Fin 128, q R e * k K e
def prob (κ : Keep) (q k : Head) (R K : Fin 16384) : EReal := if κ R K then Ideal.exp (score q k R K) else 0
def dscore (κ : Keep) (q d k v : Head) (R K : Fin 16384) : EReal := prob κ q k R K * score d v R K
def dQ (κ : Keep) (q d k v : Head) (R : Fin 16384) (e : Fin 128) : EReal := ∑ K : Fin 16384, dscore κ q d k v R K * k K e
def dK (κ : Keep) (q d k v : Head) (K : Fin 16384) (e : Fin 128) : EReal := ∑ R : Fin 16384, dscore κ q d k v R K * q R e
def dV (κ : Keep) (q d k : Head) (K : Fin 16384) (e : Fin 128) : EReal := ∑ R : Fin 16384, prob κ q k R K * d R e

/-- The last block of 256 queries that reaches half-group `j` of 512 keys, of a head's words `T`. -/
def last (T : ℕ → ℕ) (j : ℕ) : ℕ := max (T j) (T (2 * (j / 2)))

def keep (T : ℕ → ℕ) : Keep := fun R K =>
  decide (K.val ≤ R.val ∧ (R.val / 1024 = K.val / 1024 ∨ 2 * (R.val / 512) ≤ last T (K.val / 512)))

/-- Head `h` of an array that holds the heads side by side. -/
def head (X : Vec Ideal (⟨2, ![16384, 2048]⟩ : Shape) .bf16) (h : Fin 16) : Head := fun R e => X (ix2 R ⟨128 * h.val + e.val, by omega⟩)

/-- The words of head `h`. -/
def words (x : Vec Ideal (⟨2, ![16, 32]⟩ : Shape) .i32) (h : Fin 16) (j : ℕ) : ℕ := if hj : j < 32 then (x (ix2 h ⟨j, hj⟩) : BitVec 32).toNat else 0

end Cert.Attn
end
-- ==== Proof.Val.Group.lean ====
/- One grid point: the fold over the pairs that the body visits, with the table's two words, leaves the sums over all rows under
   the predicate of the whole attention at the group's keys. -/
module

public import proofs.«01_k».proof.Proof.Val.Fold
public import proofs.«01_k».proof.Proof.Val.Math
public import proofs.«01_k».proof.Proof.Kit.Table

@[expose] public section

set_option maxRecDepth 16384

noncomputable section

namespace Cert.KernelIdeal.Gen

open Idealize.ShloMosaic Idealize.SL.Sem Cert.Words

/-- What a pair keeps, in a group whose first loop makes `a` trips and whose second makes `b`. -/
def Kp (g a b u : ℕ) : Fin 512 → Fin 1024 → Bool := fun r j =>
  if u < 2 * g then false else if u = 2 * g then kDiag 0 r j else if u = 2 * g + 1 then kDiag 512 r j
  else if u < 2 * g + 2 + a then kAll r j else if u < 2 * g + 2 + a + b then kHalf r j else false

theorem Kp_diag0 (g a b : ℕ) : Kp g a b (2 * g) = kDiag 0 := by
  funext r j; unfold Kp; rw [if_neg (by omega), if_pos rfl]
theorem Kp_diag1 (g a b : ℕ) : Kp g a b (2 * g + 1) = kDiag 512 := by
  funext r j; unfold Kp; rw [if_neg (by omega), if_neg (by omega), if_pos rfl]
theorem Kp_all (g a b k : ℕ) (h : k < a) : Kp g a b (2 * g + 2 + k) = kAll := by
  funext r j; unfold Kp; rw [if_neg (by omega), if_neg (by omega), if_neg (by omega), if_pos (by omega)]
theorem Kp_half (g a b k : ℕ) (h : k < b) : Kp g a b (2 * g + 2 + a + k) = kHalf := by
  funext r j; unfold Kp; rw [if_neg (by omega), if_neg (by omega), if_neg (by omega), if_neg (by omega), if_pos (by omega)]

theorem row0 (g : ℕ) (hg : g < 16) : (Scalar.muli (Scalar.addi (Scalar.muli (BitVec.ofNat 32 g) 4#32) 0#32) 256#32).toNat = 512 * (2 * g) := by
  unfold Scalar.addi Scalar.muli IntOp.addi IntOp.muli
  simp only [BitVec.toNat_add, BitVec.toNat_mul, BitVec.toNat_ofNat]
  omega
theorem row2 (g : ℕ) (hg : g < 16) : (Scalar.muli (Scalar.addi (Scalar.muli (BitVec.ofNat 32 g) 4#32) 2#32) 256#32).toNat = 512 * (2 * g + 1) := by
  unfold Scalar.addi Scalar.muli IntOp.addi IntOp.muli
  simp only [BitVec.toNat_add, BitVec.toNat_mul, BitVec.toNat_ofNat]
  omega

theorem off1_0 (i : grid0.Coords) : k0_off1 i 0#32 = ![512 * (2 * (i 1).val), 0] := congrArg (fun n => ![n, 0]) (row0 _ (lt_grp i))
theorem off1_2 (i : grid0.Coords) : k0_off1 i 2#32 = ![512 * (2 * (i 1).val + 1), 0] := congrArg (fun n => ![n, 0]) (row2 _ (lt_grp i))
theorem off2_0 (i : grid0.Coords) : k0_off2 i 0#32 = ![0, 512 * (2 * (i 1).val), 0] := congrArg (fun n => ![0, n, 0]) (row0 _ (lt_grp i))
theorem off2_2 (i : grid0.Coords) : k0_off2 i 2#32 = ![0, 512 * (2 * (i 1).val + 1), 0] := congrArg (fun n => ![0, n, 0]) (row2 _ (lt_grp i))

section
variable (i : grid0.Coords) (x0 x1 : Rows) (x2 x3 : Group) (b : Vec Ideal S1x16384x128 .f32) (w1 w2 : BitVec 32) (hw1 : w1.toNat < 64) (hw2 : w2.toNat < 64)
include hw1
/-- The first loop. -/
theorem inv_first (c : ℕ) (h1 : k0_chk1 i w1) (s : Acc Ideal) (hs : Inv (Kp (i 1).val (nA (i 1).val w1.toNat) c) x0 x1 x2 x3 b (2 * (i 1).val + 2) s) (n : ℕ)
    (hn : n ≤ (k0_t1_loop i w1).trips) : Inv (Kp (i 1).val (nA (i 1).val w1.toNat) c) x0 x1 x2 x3 b (2 * (i 1).val + 2 + n) (iterA i x2 x3 x0 x1 w1 h1 s n) := by
  induction n with
  | zero => exact hs
  | succ n ih =>
    have hu := pair1_lt i w1 hw1 ⟨n, hn⟩
    have hk : n < nA (i 1).val w1.toNat := lt_of_lt_of_eq hn (loop1_trips i w1 hw1)
    rw [iterA_succ i x2 x3 x0 x1 w1 h1 s ⟨n, hn⟩]
    refine (ih (Nat.le_of_succ_le hn)).step hu ?_
    rw [tile_eq x0 hu _ _ (off4_eq i w1 ⟨n, hn⟩ (by show n < 100; have : 2 * (i 1).val + 2 + n < 32 := hu; omega)),
      tile_eq x1 hu _ _ (off4_eq i w1 ⟨n, hn⟩ (by show n < 100; have : 2 * (i 1).val + 2 + n < 32 := hu; omega)), Kp_all _ _ _ _ hk]
    exact stepA_at hu x2 x3 _ _ _ _ (off5_eq i w1 ⟨n, hn⟩ (by show n < 100; have : 2 * (i 1).val + 2 + n < 32 := hu; omega)) _

include hw2
/-- The second loop. -/
theorem inv_second (h2 : k0_chk2 i w1 w2) (s : Acc Ideal)
    (hs : Inv (Kp (i 1).val (nA (i 1).val w1.toNat) (nC (i 1).val w1.toNat w2.toNat)) x0 x1 x2 x3 b (2 * (i 1).val + 2 + nA (i 1).val w1.toNat) s) (n : ℕ)
    (hn : n ≤ (k0_t3_loop i w1 w2).trips) :
    Inv (Kp (i 1).val (nA (i 1).val w1.toNat) (nC (i 1).val w1.toNat w2.toNat)) x0 x1 x2 x3 b (2 * (i 1).val + 2 + nA (i 1).val w1.toNat + n) (iterC i x2 x3 x0 x1 w1 w2 h2 s n) := by
  induction n with
  | zero => exact hs
  | succ n ih =>
    have hu := pair3_lt i w1 w2 hw1 hw2 ⟨n, hn⟩
    have hk : n < nC (i 1).val w1.toNat w2.toNat := lt_of_lt_of_eq hn (loop3_trips i w1 w2 hw1 hw2)
    have h100 : n < 100 := by have : 2 * (i 1).val + 2 + nA (i 1).val w1.toNat + n < 32 := hu; omega
    rw [iterC_succ i x2 x3 x0 x1 w1 w2 h2 s ⟨n, hn⟩]
    refine (ih (Nat.le_of_succ_le hn)).step hu ?_
    rw [tile_eq x0 hu _ _ (off9_eq i w1 w2 hw1 ⟨n, hn⟩ h100), tile_eq x1 hu _ _ (off9_eq i w1 w2 hw1 ⟨n, hn⟩ h100), Kp_half _ _ _ _ hk]
    exact stepC_at hu x2 x3 _ _ _ _ (off10_eq i w1 w2 hw1 ⟨n, hn⟩ h100) _

theorem accEnd_inv (h1 : k0_chk1 i w1) (h2 : k0_chk2 i w1 w2) :
    Inv (Kp (i 1).val (nA (i 1).val w1.toNat) (nC (i 1).val w1.toNat w2.toNat)) x0 x1 x2 x3 b 32 (accEnd i x0 x1 x2 x3 b w1 w2 h1 h2) := by
  have hg := lt_grp i
  have s0 : Inv (Kp (i 1).val (nA (i 1).val w1.toNat) (nC (i 1).val w1.toNat w2.toNat)) x0 x1 x2 x3 b (2 * (i 1).val) ⟨b, k0_pay25 (F := Ideal), k0_pay26 (F := Ideal)⟩ :=
    Inv.start _ fun u hu r j => by unfold Kp; rw [if_pos hu]
  have s1 := s0.step (by omega) (y := diag0 i x2 x3 (tile x0 (k0_off1 i 0#32) (k0_off1_inb i 0)) (tile x1 (k0_off1 i 0#32) (k0_off1_inb i 0)) ⟨b, k0_pay25 (F := Ideal), k0_pay26 (F := Ideal)⟩) (by
    rw [tile_eq x0 (by omega : 2 * (i 1).val < 32) _ _ (off1_0 i), tile_eq x1 (by omega : 2 * (i 1).val < 32) _ _ (off1_0 i), Kp_diag0]
    exact diag0_at i (by omega) x2 x3 _ _ (off2_0 i) _)
  have s2 := s1.step (by omega) (y := diag1 i x2 x3 (tile x0 (k0_off1 i 2#32) (k0_off1_inb i 1)) (tile x1 (k0_off1 i 2#32) (k0_off1_inb i 1)) _) (by
    rw [tile_eq x0 (by omega : 2 * (i 1).val + 1 < 32) _ _ (off1_2 i), tile_eq x1 (by omega : 2 * (i 1).val + 1 < 32) _ _ (off1_2 i), Kp_diag1]
    exact diag1_at i (by omega) x2 x3 _ _ (off2_2 i) _)
  have s3 := inv_first i x0 x1 x2 x3 b w1 hw1 _ h1 _ s2 _ le_rfl
  rw [loop1_trips i w1 hw1] at s3
  have s4 := inv_second i x0 x1 x2 x3 b w1 w2 hw1 hw2 h2 _ s3 _ le_rfl
  have hle : 2 * (i 1).val + 2 + nA (i 1).val w1.toNat + (k0_t3_loop i w1 w2).trips ≤ 32 := by
    rw [loop3_trips i w1 w2 hw1 hw2]
    unfold nC nA
    omega
  have s5 := s4.rest 32 hle fun u hu r j => by
    rw [loop3_trips i w1 w2 hw1 hw2] at hu
    unfold Kp
    rw [if_neg (by omega), if_neg (by omega), if_neg (by omega), if_neg (by omega), if_neg (by omega)]
  unfold accEnd
  rw [loop1_trips i w1 hw1]
  exact s5
end

/-- The pairs' predicate is the attention's at the group's keys. -/
theorem keepR_eq (g : ℕ) (hg : g < 16) (T : ℕ → ℕ) (R : Fin 16384) (j : Fin 1024) :
    keepR (Kp g (nA g (T (2 * g))) (nC g (T (2 * g)) (T (2 * g + 1)))) R j = Cert.Attn.keep T R ⟨1024 * g + j.val, by omega⟩ := by
  have hR := R.isLt
  have hj := j.isLt
  have hl : Cert.Attn.last T ((1024 * g + j.val) / 512) = if j.val < 512 then T (2 * g) else max (T (2 * g + 1)) (T (2 * g)) := by
    unfold Cert.Attn.last
    by_cases h : j.val < 512
    · rw [if_pos h, show (1024 * g + j.val) / 512 = 2 * g by omega, show 2 * (2 * g / 2) = 2 * g by omega, max_self]
    · rw [if_neg h, show (1024 * g + j.val) / 512 = 2 * g + 1 by omega, show 2 * ((2 * g + 1) / 2) = 2 * g by omega]
  show Kp _ _ _ _ _ _ = decide (1024 * g + j.val ≤ R.val ∧ (R.val / 1024 = (1024 * g + j.val) / 1024 ∨ 2 * (R.val / 512) ≤ Cert.Attn.last T ((1024 * g + j.val) / 512)))
  rw [hl]
  generalize T (2 * g) = w
  generalize T (2 * g + 1) = w'
  by_cases c0 : R.val / 512 < 2 * g
  · unfold Kp; rw [if_pos c0]; exact (decide_eq_false (by omega)).symm
  by_cases c1 : R.val / 512 = 2 * g
  · unfold Kp; rw [if_neg c0, if_pos c1]
    show decide (j.val ≤ R.val % 512 + 0) = _
    exact decide_eq_decide.mpr (by omega)
  by_cases c2 : R.val / 512 = 2 * g + 1
  · unfold Kp; rw [if_neg c0, if_neg c1, if_pos c2]
    show decide (j.val ≤ R.val % 512 + 512) = _
    exact decide_eq_decide.mpr (by omega)
  by_cases c3 : R.val / 512 < 2 * g + 2 + nA g w
  · unfold Kp; rw [if_neg c0, if_neg c1, if_neg c2, if_pos c3]
    unfold nA at c3
    exact (decide_eq_true ⟨by omega, .inr (by split <;> omega)⟩).symm
  by_cases c4 : R.val / 512 < 2 * g + 2 + nA g w + nC g w w'
  · unfold Kp; rw [if_neg c0, if_neg c1, if_neg c2, if_neg c3, if_pos c4]
    unfold nA at c3
    unfold nC nA at c4
    show decide (512 ≤ j.val) = _
    refine decide_eq_decide.mpr ⟨fun h => ⟨by omega, .inr (by rw [if_neg (by omega)]; omega)⟩, fun h => ?_⟩
    by_contra h'
    rw [if_pos (by omega)] at h
    omega
  · unfold Kp; rw [if_neg c0, if_neg c1, if_neg c2, if_neg c3, if_neg c4]
    unfold nA at c3
    unfold nC nA at c4
    refine (decide_eq_false fun h => ?_).symm
    split at h <;> omega

end Cert.KernelIdeal.Gen
end
-- ==== Proof.Kit.Run.lean ====
/- The run of the call with what it leaves named: what each point leaves in the three output blocks, the body's obligation at
   every point, the launch, and the frame claim from it. -/
module

public import proofs.«01_k».proof.Proof.Kit.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave -/

/-- What the body has accumulated at point `t`, from the query gradient `b` that it begins with. -/
def endAt (hO : Ok m) (hH : Hyps m hO) (c : Dev nD) (t : Fin (cfgM m hO).N) (b : Vec F S1x16384x128 .f32) : Acc F :=
  accEnd (grid0.coords t) (iblk m hO c 0 t) (iblk m hO c 1 t) (iblk m hO c 2 t) (iblk m hO c 3 t) b
    (word c (tbl m 0) (k0_off3_inb (grid0.coords t))) (word c (tbl m 0) (k0_off8_inb (grid0.coords t))) (Hyps.c0 hH c t) (Hyps.c1 hH c t)

/-- The query gradient that the body begins with at point `n`: zero in the first block of a head, else what the point before left. -/
def baseAt (hO : Ok m) (hH : Hyps m hO) (c : Dev nD) : ℕ → Vec F S1x16384x128 .f32
  | 0 => k0_pay24
  | n + 1 => if (n + 1) % 16 = 0 then k0_pay24
      else if h : n < (cfgM m hO).N then (endAt m hO hH c ⟨n, h⟩ (baseAt hO hH c n)).x7 else k0_pay24

theorem baseAt_first (hO : Ok m) (hH : Hyps m hO) (c : Dev nD) (n : ℕ) (h : n % 16 = 0) : baseAt m hO hH c n = k0_pay24 := by
  cases n with
  | zero => rfl
  | succ n => unfold baseAt; rw [if_pos h]

theorem baseAt_later (hO : Ok m) (hH : Hyps m hO) (c : Dev nD) (n : ℕ) (h : ¬(n + 1) % 16 = 0) (hn : n < (cfgM m hO).N) :
    baseAt m hO hH c (n + 1) = (endAt m hO hH c ⟨n, hn⟩ (baseAt m hO hH c n)).x7 := by
  conv_lhs => unfold baseAt
  rw [if_neg h, dif_pos hn]

/-- What the body has accumulated when point `t` ends. -/
def accAt (hO : Ok m) (hH : Hyps m hO) (c : Dev nD) (t : Fin (cfgM m hO).N) : Acc F := endAt m hO hH c t (baseAt m hO hH c t.val)

/-- The proof data of the pipeline: the arrays as the region finds them, and after each point the blocks that it leaves. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (accAt m hO hH c t).x7
    | ⟨5, _⟩ => k0_pay43 (accAt m hO hH c t).x10
    | ⟨6, _⟩ => k0_pay1 (k0_pay44 (accAt m hO hH c t).x11)
  Φ _ := iprop(Pipeline.ΦA spec0 c ∗ Pipeline.ΦT pre0 (tbl m) c)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = (accAt m hO hH c t).x7 := by dsimp only [dats]; try rfl
theorem after0_5 (hO : Ok m) (hH : Hyps m hO) (c : Dev nD) (t : Fin (cfgM m hO).N) : (dats m hO hH 0 c).after 5 t = k0_pay43 (accAt m hO hH c t).x10 := by dsimp only [dats]; try rfl
theorem after0_6 (hO : Ok m) (hH : Hyps m hO) (c : Dev nD) (t : Fin (cfgM m hO).N) : (dats m hO hH 0 c).after 6 t = k0_pay1 (k0_pay44 (accAt m hO hH c t).x11) := by dsimp only [dats]; try rfl

theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-- In a later block of a head the query gradient's buffer holds what the point before left. -/
theorem before0_4 (hO : Ok m) (hH : Hyps m hO) (c : Dev nD) (t : Fin (cfgM m hO).N) (h0 : ¬t.val % 16 = 0) (d) :
    (dats m hO hH 0 c).before 4 t d = baseAt m hO hH c t.val := by
  have hN : t.val < 256 := lt_of_lt_of_eq t.isLt (show (cfgM m hO).N = 256 from N_0)
  have hfl : ((cfgM m hO).win 4).flush ⟨t.val - 1, Nat.lt_of_le_of_lt (Nat.sub_le _ _) t.isLt⟩ = false := by
    rw [← Bool.not_eq_true, flush0_4]
    show ¬(t.val - 1) % 16 = 15
    omega
  rw [Dat.before_out_kept _ 4 rfl t (by omega) hfl (fun _ => rfl) (fun _ _ => rfl), after0_4]
  obtain ⟨n, hn⟩ := t
  cases n with
  | zero => exact absurd rfl h0
  | succ n => exact (baseAt_later m hO hH c n h0 (Nat.lt_of_succ_lt hn)).symm

/-! ## The body obligation -/

/-- What the body is called with at point `t`, the windows one by one, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

set_option maxHeartbeats 1600000 in
/-- The body at any point: in the first block of a head it zeroes the query gradient, in a later one it adds to it. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6]
  rw [show (dats m hO hH 0 c).Φ t.castSucc = iprop(Pipeline.ΦA spec0 c ∗ Pipeline.ΦT pre0 (tbl m) c) from rfl, PhiT0_eq, PhiA0_eq]
  unfold accAt
  by_cases h0 : t.val % 16 = 0
  · rw [baseAt_first m hO hH c _ h0]
    iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (runA c Set.univ (grid0.coords t) (harg3 := hs0_0 m hO t) (harg4 := hs0_1 m hO t) (harg5 := hs0_2 m hO t) (harg6 := hs0_3 m hO t) (harg7 := hs0_4 m hO t) (harg8 := hs0_5 m hO t) (harg9 := hs0_6 m hO t) (harg10 := Memref.isWhole_whole cc0_scratch0) (harg11 := Memref.isWhole_whole cc0_scratch1) ((hcond0_0 t).mpr h0) (iblk m hO c 0 t) (iblk m hO c 1 t) (iblk m hO c 2 t) (iblk m hO c 3 t) (tbl m 0) (Hyps.c0 hH c t) (Hyps.c1 hH c t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HT0]; · iexact HT0
    iintro ⟨H0, H1, H2, H3, H4, H5, H6, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_4 m hO hH c t h0]
    iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (runB c Set.univ (grid0.coords t) (harg3 := hs0_0 m hO t) (harg4 := hs0_1 m hO t) (harg5 := hs0_2 m hO t) (harg6 := hs0_3 m hO t) (harg7 := hs0_4 m hO t) (harg8 := hs0_5 m hO t) (harg9 := hs0_6 m hO t) (harg10 := Memref.isWhole_whole cc0_scratch0) (harg11 := Memref.isWhole_whole cc0_scratch1) (fun h => h0 ((hcond0_0 t).mp h)) (iblk m hO c 0 t) (iblk m hO c 1 t) (iblk m hO c 2 t) (iblk m hO c 3 t) (baseAt m hO hH c t.val) (tbl m 0) (Hyps.c0 hH c t) (Hyps.c1 hH c t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HT0]; · iexact HT0
    iintro ⟨H0, H1, H2, H3, H4, H5, H6, HS0, HS1, HT0⟩
    isplitl [HS0 HS1 Hg HT0]
    · isplitl [HS0 HS1 Hg]
      · isplitl [HS0 HS1]
        · isplitl [HS0]
          · iexact HS0
          iexact HS1
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

set_option backward.isDefEq.respectTransparency.types false in
/-- The launch: it ends with every array at what the points' write-backs make of it, the other buffers at what the lines after the call
    leave, and every counter at zero. -/
theorem run_main_quiescent (hO : Ok m) (hH : Hyps m hO) : θ_run defs (onTc (τ := τ) (main (F := F))) (s₀ m ρ) (fun r =>
    Pipeline.FramePost (Pipeline.pin pcfgs fun _ => adm m hO) (dats m hO hH) 0 (Pipeline.afterTail pcfgs (fun _ => adm m hO) (dats m hO hH) 0 (V₀ m) opsOut) r ∧ r.2.sem = fun _ => 0) :=
  Pipeline.θ_run_frameP_around (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V₀ m) (opss := opsOut) (hsub := out_sub) (hfresh := out_fresh) (hkeep := out_keeps)
    (hmain := hmain m Variants.none) (hA := A_eq m hO hH) (hpf := V_pre m) (hΦ := fun _ _ => rfl)

/-- What a buffer holds at the end that is no array of the call and that the lines after the call do not write. -/
theorem post_kept (hO : Ok m) (hH : Hyps m hO) {r : PUnit × MemSt nD τ sig (Elt F)}
    (h : Pipeline.FramePost (Pipeline.pin pcfgs fun _ => adm m hO) (dats m hO hH) 0 (Pipeline.afterTail pcfgs (fun _ => adm m hO) (dats m hO hH) 0 (V₀ m) opsOut) r)
    (c : Dev nD) (b : Ref sig .tc) (hb : b ∈ Pipeline.restRefs sig spec0) (hn : ∀ w, Pipeline.arrRef spec0 w ≠ b) (h4 : b ∉ wrote4) (h5 : b ∉ wrote5) :
    r.2.mem ((c.tc : Thread nD τ).loc b) = V m c b :=
  ((h c).2 b hb).trans ((out_kept _ b h4 h5).trans (Pipeline.withArrays_of_ne _ c _ _ b hn))

/-- The six arguments at the end. -/
theorem post_args (hO : Ok m) (hH : Hyps m hO) {r : PUnit × MemSt nD τ sig (Elt F)} (h : Pipeline.FramePost (Pipeline.pin pcfgs fun _ => adm m hO) (dats m hO hH) 0 (Pipeline.afterTail pcfgs (fun _ => adm m hO) (dats m hO hH) 0 (V₀ m) opsOut) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(post_kept m hO hH h c main_arg0 (by decide) (by decide) (by decide) (by decide)).trans (V_main_arg0 m c),
    (post_kept m hO hH h c main_arg1 (by decide) (by decide) (by decide) (by decide)).trans (V_main_arg1 m c),
    (post_kept m hO hH h c main_arg2 (by decide) (by decide) (by decide) (by decide)).trans (V_main_arg2 m c),
    (post_kept m hO hH h c main_arg3 (by decide) (by decide) (by decide) (by decide)).trans (V_main_arg3 m c),
    (post_kept m hO hH h c main_arg4 (by decide) (by decide) (by decide) (by decide)).trans (V_main_arg4 m c),
    (post_kept m hO hH h c main_arg5 (by decide) (by decide) (by decide) (by decide)).trans (V_main_arg5 m c)⟩

theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨post_args m hO hH h.1, h.2⟩) (run_main_quiescent m ρ hO hH)

end Cert.KernelIdeal.Gen

end
-- ==== Proof.Val.Final.lean ====
/- The three result arrays after the run: what every grid point accumulates, the query gradient summed over the groups of a head,
   and the arrays from the blocks that are written back. -/
module

public import proofs.«01_k».proof.Proof.Val.Group
public import proofs.«01_k».proof.Proof.Kit.Run
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Words Cert.Attn
open Idealize.ShloMosaic.Pipeline (Dat Cfg Window)

variable (m : (ℓ : Loc nD τ sig) → Buf (Elt Ideal) ℓ) (hO : Ok m) (hH : Hyps m hO)

theorem N_eq : (cfgM m hO).N = 256 := N_0
theorem lt_N (t : Fin (cfgM m hO).N) : t.val < 256 := lt_of_lt_of_eq t.isLt (N_eq m hO)
theorem co0 (t : Fin grid0.N) : (grid0.coords t 0).val = t.val / 16 % 16 := Pipeline.Grid.coords_val t 0 (by decide) rfl
theorem co1 (t : Fin grid0.N) : (grid0.coords t 1).val = t.val % 16 :=
  (Pipeline.Grid.coords_val t 1 (by decide) rfl : (grid0.coords t 1).val = t.val / 1 % 16).trans (by rw [Nat.div_one])

/-- The head of a point, -/
abbrev hd (t : Fin (cfgM m hO).N) : Fin 16 := ⟨t.val / 16, by have := lt_N m hO t; omega⟩
/-- and a key of its group. -/
abbrev key (t : Fin (cfgM m hO).N) (j : Fin 1024) : Fin 16384 := ⟨1024 * (t.val % 16) + j.val, by omega⟩

theorem w0 (t : Fin grid0.N) : (BitVec.ofNat 32 (grid0.coords t 0).val).toNat = t.val / 16 := by
  have h : t.val < 256 := lt_of_lt_of_eq t.isLt N_0
  rw [BitVec.toNat_ofNat, co0]; omega
theorem w1 (t : Fin grid0.N) : (BitVec.ofNat 32 (grid0.coords t 1).val).toNat = t.val % 16 := by
  rw [BitVec.toNat_ofNat, co1]; omega

theorem emb0 (t : Fin (cfgM m hO).N) (R : Fin 16384) (e : Fin 128) : ((((cfgM m hO).win 0).blk t).view.emb (ix2 R e) : S16384x2048.Idx) = ix2 R ⟨128 * (hd m hO t).val + e.val, by have := (hd m hO t).isLt; omega⟩ := by
  funext a; fin_cases a
  · exact Fin.ext (by show 0 * 16384 + 1 * R.val = R.val; omega)
  · exact Fin.ext (by show (BitVec.ofNat 32 (grid0.coords t 0).val).toNat * 128 + 1 * e.val = 128 * (t.val / 16) + e.val; rw [w0]; omega)
theorem emb1 (t : Fin (cfgM m hO).N) (R : Fin 16384) (e : Fin 128) : ((((cfgM m hO).win 1).blk t).view.emb (ix2 R e) : S16384x2048.Idx) = ix2 R ⟨128 * (hd m hO t).val + e.val, by have := (hd m hO t).isLt; omega⟩ := emb0 m hO t R e
theorem emb2 (t : Fin (cfgM m hO).N) (j : Fin 1024) (e : Fin 128) : ((((cfgM m hO).win 2).blk t).view.emb (ix2 j e) : S16384x2048.Idx) = ix2 (key m hO t j) ⟨128 * (hd m hO t).val + e.val, by have := (hd m hO t).isLt; omega⟩ := by
  funext a; fin_cases a
  · exact Fin.ext (by show (BitVec.ofNat 32 (grid0.coords t 1).val).toNat * 1024 + 1 * j.val = 1024 * (t.val % 16) + j.val; rw [w1]; omega)
  · exact Fin.ext (by show (BitVec.ofNat 32 (grid0.coords t 0).val).toNat * 128 + 1 * e.val = 128 * (t.val / 16) + e.val; rw [w0]; omega)
theorem emb3 (t : Fin (cfgM m hO).N) (j : Fin 1024) (e : Fin 128) : ((((cfgM m hO).win 3).blk t).view.emb (ix2 j e) : S16384x2048.Idx) = ix2 (key m hO t j) ⟨128 * (hd m hO t).val + e.val, by have := (hd m hO t).isLt; omega⟩ := emb2 m hO t j e
theorem emb4 (t : Fin (cfgM m hO).N) (z : Fin 1) (R : Fin 16384) (e : Fin 128) : ((((cfgM m hO).win 4).blk t).view.emb (ix3 z R e) : S16x16384x128.Idx) = ix3 (hd m hO t) R e := by
  funext a; fin_cases a
  · exact Fin.ext (by show (BitVec.ofNat 32 (grid0.coords t 0).val).toNat * 1 + 1 * z.val = t.val / 16; rw [w0]; omega)
  · exact Fin.ext (by show 0 * 16384 + 1 * R.val = R.val; omega)
  · exact Fin.ext (by show 0 * 128 + 1 * e.val = e.val; omega)
theorem emb5 (t : Fin (cfgM m hO).N) (z : Fin 1) (j : Fin 1024) (e : Fin 128) : ((((cfgM m hO).win 5).blk t).view.emb (ix3 z j e) : S16x16384x128.Idx) = ix3 (hd m hO t) (key m hO t j) e := by
  funext a; fin_cases a
  · exact Fin.ext (by show (BitVec.ofNat 32 (grid0.coords t 0).val).toNat * 1 + 1 * z.val = t.val / 16; rw [w0]; omega)
  · exact Fin.ext (by show (BitVec.ofNat 32 (grid0.coords t 1).val).toNat * 1024 + 1 * j.val = 1024 * (t.val % 16) + j.val; rw [w1]; omega)
  · exact Fin.ext (by show 0 * 128 + 1 * e.val = e.val; omega)
theorem emb6 (t : Fin (cfgM m hO).N) (z : Fin 1) (j : Fin 1024) (e : Fin 128) : ((((cfgM m hO).win 6).blk t).view.emb (ix3 z j e) : S16x16384x128.Idx) = ix3 (hd m hO t) (key m hO t j) e := emb5 m hO t z j e

section
variable (c : Dev nD)
/-- The operands' heads. -/
abbrev Q (h : Fin 16) : Head := head (V m c main_v70) h
abbrev D (h : Fin 16) : Head := head (V m c main_v88) h
abbrev Ky (h : Fin 16) : Head := head (V m c main_v106) h
abbrev Vl (h : Fin 16) : Head := head (V m c main_v111) h
abbrev kp (h : Fin 16) : Keep := keep (words (tbl m 0) h)

theorem blk0_at (t : Fin (cfgM m hO).N) (R : Fin 16384) (e : Fin 128) : (iblk m hO c 0 t (ix2 R e) : EReal) = Q m c (hd m hO t) R e :=
  congrArg (V m c main_v70) (emb0 m hO t R e)
theorem blk1_at (t : Fin (cfgM m hO).N) (R : Fin 16384) (e : Fin 128) : (iblk m hO c 1 t (ix2 R e) : EReal) = D m c (hd m hO t) R e :=
  congrArg (V m c main_v88) (emb1 m hO t R e)
theorem blk2_at (t : Fin (cfgM m hO).N) (j : Fin 1024) (e : Fin 128) : (iblk m hO c 2 t (ix2 j e) : EReal) = Ky m c (hd m hO t) (key m hO t j) e :=
  congrArg (V m c main_v106) (emb2 m hO t j e)
theorem blk3_at (t : Fin (cfgM m hO).N) (j : Fin 1024) (e : Fin 128) : (iblk m hO c 3 t (ix2 j e) : EReal) = Vl m c (hd m hO t) (key m hO t j) e :=
  congrArg (V m c main_v111) (emb3 m hO t j e)

theorem word1 (t : Fin (cfgM m hO).N) : (word c (tbl m 0) (k0_off3_inb (grid0.coords t)) : BitVec 32) = (tbl m 0 (ix2 (hd m hO t) ⟨2 * (t.val % 16), by omega⟩) : BitVec 32) := by
  show (tbl m 0 _ : BitVec 32) = _
  congr 1
  funext a; fin_cases a
  · exact Fin.ext (by show (BitVec.ofNat 32 (grid0.coords t 0).val).toNat + 1 * 0 = t.val / 16; rw [w0]; omega)
  · refine Fin.ext ?_
    show (Scalar.muli 2#32 (BitVec.ofNat 32 (grid0.coords t 1).val)).toNat + 1 * 0 = 2 * (t.val % 16)
    unfold Scalar.muli IntOp.muli
    rw [BitVec.toNat_mul, w1]
    show 2 * (t.val % 16) % 2 ^ 32 + 1 * 0 = _
    omega
theorem word2 (t : Fin (cfgM m hO).N) : (word c (tbl m 0) (k0_off8_inb (grid0.coords t)) : BitVec 32) = (tbl m 0 (ix2 (hd m hO t) ⟨2 * (t.val % 16) + 1, by omega⟩) : BitVec 32) := by
  show (tbl m 0 _ : BitVec 32) = _
  congr 1
  funext a; fin_cases a
  · exact Fin.ext (by show (BitVec.ofNat 32 (grid0.coords t 0).val).toNat + 1 * 0 = t.val / 16; rw [w0]; omega)
  · refine Fin.ext ?_
    show (Scalar.addi (Scalar.muli 2#32 (BitVec.ofNat 32 (grid0.coords t 1).val)) 1#32).toNat + 1 * 0 = 2 * (t.val % 16) + 1
    unfold Scalar.addi Scalar.muli IntOp.addi IntOp.muli
    rw [BitVec.toNat_add, BitVec.toNat_mul, w1]
    show (2 * (t.val % 16) % 2 ^ 32 + 1) % 2 ^ 32 + 1 * 0 = _
    omega

variable (hT : ∀ j, (tbl m 0 j : BitVec 32).toNat < 64)
include hT

/-- A point's accumulated arrays. -/
theorem inv_at (t : Fin (cfgM m hO).N) (b : Vec Ideal S1x16384x128 .f32) :
    Inv (Kp (t.val % 16) (nA (t.val % 16) (words (tbl m 0) (hd m hO t) (2 * (t.val % 16)))) (nC (t.val % 16) (words (tbl m 0) (hd m hO t) (2 * (t.val % 16))) (words (tbl m 0) (hd m hO t) (2 * (t.val % 16) + 1))))
      (iblk m hO c 0 t) (iblk m hO c 1 t) (iblk m hO c 2 t) (iblk m hO c 3 t) b 32 (endAt m hO hH c t b) := by
  have h := accEnd_inv (grid0.coords t) (iblk m hO c 0 t) (iblk m hO c 1 t) (iblk m hO c 2 t) (iblk m hO c 3 t) b
    (word c (tbl m 0) (k0_off3_inb (grid0.coords t))) (word c (tbl m 0) (k0_off8_inb (grid0.coords t))) (hT _) (hT _) (Hyps.c0 hH c t) (Hyps.c1 hH c t)
  have e1 : (word c (tbl m 0) (k0_off3_inb (grid0.coords t)) : BitVec 32).toNat = words (tbl m 0) (hd m hO t) (2 * (t.val % 16)) := by
    rw [word1 m hO c t]; unfold words; rw [dif_pos (by omega)]
  have e2 : (word c (tbl m 0) (k0_off8_inb (grid0.coords t)) : BitVec 32).toNat = words (tbl m 0) (hd m hO t) (2 * (t.val % 16) + 1) := by
    rw [word2 m hO c t]; unfold words; rw [dif_pos (by omega)]
  rw [e1, e2, co1] at h
  exact h

theorem ds_at (t : Fin (cfgM m hO).N) (R : Fin 16384) (j : Fin 1024) :
    dsR (keepR (Kp (t.val % 16) (nA (t.val % 16) (words (tbl m 0) (hd m hO t) (2 * (t.val % 16)))) (nC (t.val % 16) (words (tbl m 0) (hd m hO t) (2 * (t.val % 16))) (words (tbl m 0) (hd m hO t) (2 * (t.val % 16) + 1)))))
      (iblk m hO c 0 t) (iblk m hO c 1 t) (iblk m hO c 2 t) (iblk m hO c 3 t) R j
      = dscore (kp m (hd m hO t)) (Q m c (hd m hO t)) (D m c (hd m hO t)) (Ky m c (hd m hO t)) (Vl m c (hd m hO t)) R (key m hO t j) := by
  unfold dsR prR dscore prob score
  rw [keepR_eq (t.val % 16) (by omega) (words (tbl m 0) (hd m hO t)) R j]
  simp only [blk0_at, blk1_at, blk2_at, blk3_at]

theorem pr_at (t : Fin (cfgM m hO).N) (R : Fin 16384) (j : Fin 1024) :
    prR (keepR (Kp (t.val % 16) (nA (t.val % 16) (words (tbl m 0) (hd m hO t) (2 * (t.val % 16)))) (nC (t.val % 16) (words (tbl m 0) (hd m hO t) (2 * (t.val % 16))) (words (tbl m 0) (hd m hO t) (2 * (t.val % 16) + 1)))))
      (iblk m hO c 0 t) (iblk m hO c 2 t) R j
      = prob (kp m (hd m hO t)) (Q m c (hd m hO t)) (Ky m c (hd m hO t)) R (key m hO t j) := by
  unfold prR prob score
  rw [keepR_eq (t.val % 16) (by omega) (words (tbl m 0) (hd m hO t)) R j]
  simp only [blk0_at, blk2_at]

theorem dk_end (t : Fin (cfgM m hO).N) (e : Fin 128) (j : Fin 1024) :
    ((accAt m hO hH c t).x10 (ix2 e j) : EReal) = dK (kp m (hd m hO t)) (Q m c (hd m hO t)) (D m c (hd m hO t)) (Ky m c (hd m hO t)) (Vl m c (hd m hO t)) (key m hO t j) e := by
  unfold accAt dK
  rw [(inv_at m hO hH c hT t _).all10 e j]
  refine Finset.sum_congr rfl fun R _ => ?_
  rw [ds_at m hO c hT, blk0_at m hO c, mul_comm]
theorem dv_end (t : Fin (cfgM m hO).N) (e : Fin 128) (j : Fin 1024) :
    ((accAt m hO hH c t).x11 (ix2 e j) : EReal) = dV (kp m (hd m hO t)) (Q m c (hd m hO t)) (D m c (hd m hO t)) (Ky m c (hd m hO t)) (key m hO t j) e := by
  unfold accAt dV
  rw [(inv_at m hO hH c hT t _).all11 e j]
  refine Finset.sum_congr rfl fun R _ => ?_
  rw [pr_at m hO c hT, blk1_at m hO c, mul_comm]

omit hT in
/-- One key's part of the query gradient, at any natural number. -/
def part (h : Fin 16) (R : Fin 16384) (e : Fin 128) (n : ℕ) : EReal :=
  if hn : n < 16384 then dscore (kp m h) (Q m c h) (D m c h) (Ky m c h) (Vl m c h) R ⟨n, hn⟩ * Ky m c h ⟨n, hn⟩ e else 0
omit hT in
def parts (h : Fin 16) (R : Fin 16384) (e : Fin 128) (g : ℕ) : EReal :=
  ∑ u ∈ Finset.range g, ∑ j : Fin 1024, part m c h R e (1024 * u + j.val)

omit hT in
theorem parts_all (h : Fin 16) (R : Fin 16384) (e : Fin 128) : parts m c h R e 16 = dQ (kp m h) (Q m c h) (D m c h) (Ky m c h) (Vl m c h) R e := by
  unfold parts dQ
  rw [sum_blocks 16 1024 (by omega) fun u j => part m c h R e (1024 * u + j.val)]
  show ∑ K : Fin 16384, _ = _
  refine Finset.sum_congr rfl fun K _ => ?_
  show part m c h R e (1024 * (K.val / 1024) + K.val % 1024) = _
  rw [Nat.div_add_mod]
  unfold part
  rw [dif_pos K.isLt]

theorem end7 (t : Fin (cfgM m hO).N) (b : Vec Ideal S1x16384x128 .f32) (R : Fin 16384) (e : Fin 128)
    (hb : (b (ix3 0 R e) : EReal) = parts m c (hd m hO t) R e (t.val % 16)) :
    ((endAt m hO hH c t b).x7 (ix3 0 R e) : EReal) = parts m c (hd m hO t) R e (t.val % 16 + 1) := by
  rw [(inv_at m hO hH c hT t b).all7 R e, hb]
  unfold parts
  rw [Finset.sum_range_succ]
  congr 1
  refine Finset.sum_congr rfl fun j _ => ?_
  rw [ds_at m hO c hT, blk2_at m hO c]
  unfold part
  rw [dif_pos]

omit hT in
theorem zero_at (R : Fin 16384) (e : Fin 128) : ((k0_pay24 (F := Ideal)) (ix3 0 R e) : EReal) = 0 := by
  show Ideal.ofBits .f32 0x00000000#32 = _
  exact Ideal.ofBits_zero _

theorem base_at : ∀ (n : ℕ) (hn : n < (cfgM m hO).N) (R : Fin 16384) (e : Fin 128),
    ((baseAt m hO hH c n) (ix3 0 R e) : EReal) = parts m c (hd m hO ⟨n, hn⟩) R e (n % 16) := by
  intro n
  induction n with
  | zero =>
    intro hn R e
    rw [baseAt_first m hO hH c 0 rfl, zero_at]
    rfl
  | succ n ih =>
    intro hn R e
    by_cases h : (n + 1) % 16 = 0
    · rw [baseAt_first m hO hH c _ h, zero_at, h]; rfl
    · have hn' : n < (cfgM m hO).N := Nat.lt_of_succ_lt hn
      rw [baseAt_later m hO hH c n h hn', end7 m hO hH c hT ⟨n, hn'⟩ _ R e (ih hn' R e)]
      have e1 : n % 16 + 1 = (n + 1) % 16 := by omega
      have e2 : hd m hO ⟨n, hn'⟩ = hd m hO ⟨n + 1, hn⟩ := Fin.ext (by show n / 16 = (n + 1) / 16; omega)
      rw [e2, ← e1]

theorem dq_end (t : Fin (cfgM m hO).N) (h : t.val % 16 = 15) (R : Fin 16384) (e : Fin 128) :
    ((accAt m hO hH c t).x7 (ix3 0 R e) : EReal) = dQ (kp m (hd m hO t)) (Q m c (hd m hO t)) (D m c (hd m hO t)) (Ky m c (hd m hO t)) (Vl m c (hd m hO t)) R e := by
  unfold accAt
  rw [end7 m hO hH c hT t _ R e (base_at m hO hH c hT t.val t.isLt R e), h, parts_all]

omit hT in
theorem out5 (x : Vec Ideal S128x1024 .f32) (z : Fin 1) (j : Fin 1024) (e : Fin 128) : (k0_pay43 x (ix3 z j e) : EReal) = x (ix2 e j) := by
  unfold k0_pay43; pointwise
omit hT in
theorem out6 (x : Vec Ideal S128x1024 .f32) (z : Fin 1) (j : Fin 1024) (e : Fin 128) : (k0_pay1 (k0_pay44 x) (ix3 z j e) : EReal) = x (ix2 e j) := by
  unfold k0_pay1 k0_pay44; pointwise

omit hT in
/-- The three gradients as arrays. -/
def G4 : Vec Ideal S16x16384x128 .f32 := fun i => dQ (kp m (i 0)) (Q m c (i 0)) (D m c (i 0)) (Ky m c (i 0)) (Vl m c (i 0)) (i 1) (i 2)
omit hT in
def G5 : Vec Ideal S16x16384x128 .f32 := fun i => dK (kp m (i 0)) (Q m c (i 0)) (D m c (i 0)) (Ky m c (i 0)) (Vl m c (i 0)) (i 1) (i 2)
omit hT in
def G6 : Vec Ideal S16x16384x128 .bf16 := fun i => dV (kp m (i 0)) (Q m c (i 0)) (D m c (i 0)) (Ky m c (i 0)) (i 1) (i 2)

/-- Point `g` of head `h`. -/
abbrev pt (n : ℕ) (hn : n < 256) : Fin (cfgM m hO).N := ⟨n, lt_of_lt_of_eq hn (N_eq m hO).symm⟩

theorem val4 (t : Fin (cfgM m hO).N) (ht : t.val % 16 = 15) (y : S1x16384x128.Idx) :
    ((accAt m hO hH c t).x7 y : EReal) = G4 m c ((((cfgM m hO).win 4).blk t).view.emb y : S16x16384x128.Idx) := by
  have h0 : (y 0).val = 0 := by have : (y 0).val < 1 := (y 0).isLt; omega
  have hy : y = ix3 0 (y 1) (y 2) := by
    funext a; fin_cases a
    · exact Fin.ext h0
    · rfl
    · rfl
  have e := emb4 m hO t 0 (y 1) (y 2)
  refine Eq.trans (congrArg _ hy) ((dq_end m hO hH c hT t ht (y 1) (y 2)).trans ?_)
  exact (congrArg (G4 m c) ((congrArg (fun z => (((((cfgM m hO).win 4).blk t).view.emb z) : S16x16384x128.Idx)) hy).trans e)).symm

omit hT in
theorem cov4 (i : S16x16384x128.Idx) : ∃ (t : Fin (cfgM m hO).N) (y : S1x16384x128.Idx), t.val % 16 = 15 ∧ ((((cfgM m hO).win 4).blk t).view.emb y : S16x16384x128.Idx) = i := by
  have h0 : (i 0).val < 16 := (i 0).isLt
  refine ⟨pt m hO (16 * (i 0).val + 15) (by omega), ix3 0 (i 1) (i 2), by show (16 * (i 0).val + 15) % 16 = 15; omega, (emb4 m hO _ _ _ _).trans ?_⟩
  funext a; fin_cases a
  · exact Fin.ext (by show (16 * (i 0).val + 15) / 16 = (i 0).val; omega)
  · rfl
  · rfl

theorem arr4 : (dats m hO hH 0 c).arrAt 4 (cfgM m hO).N = G4 m c := by
  refine (dats m hO hH 0 c).arrAt_eq_of_emb 4 (G4 m c) (fun t hf y => ?_) fun i => ?_
  · rw [after0_4]
    exact val4 m hO hH c hT t ((flush0_4 (adm m hO) t).mp hf) y
  · obtain ⟨t, y, ht, h⟩ := cov4 m hO i
    exact ⟨t, (flush0_4 (adm m hO) t).mpr ht, h ▸ View.emb_mem_set _ y⟩

theorem val5 (t : Fin (cfgM m hO).N) (y : S1x1024x128.Idx) :
    (k0_pay43 (accAt m hO hH c t).x10 y : EReal) = G5 m c ((((cfgM m hO).win 5).blk t).view.emb y : S16x16384x128.Idx) := by
  have hy : y = ix3 (y 0) (y 1) (y 2) := by funext a; fin_cases a <;> rfl
  have e := emb5 m hO t (y 0) (y 1) (y 2)
  refine Eq.trans (congrArg _ hy) ((out5 _ _ _ _).trans ((dk_end m hO hH c hT t (y 2) (y 1)).trans ?_))
  exact (congrArg (G5 m c) ((congrArg (fun z => (((((cfgM m hO).win 5).blk t).view.emb z) : S16x16384x128.Idx)) hy).trans e)).symm

omit hT in
theorem cov5 (i : S16x16384x128.Idx) : ∃ (t : Fin (cfgM m hO).N) (y : S1x1024x128.Idx), ((((cfgM m hO).win 5).blk t).view.emb y : S16x16384x128.Idx) = i := by
  have h0 : (i 0).val < 16 := (i 0).isLt
  have h1 : (i 1).val < 16384 := (i 1).isLt
  have hn : 16 * (i 0).val + (i 1).val / 1024 < 256 := by omega
  refine ⟨pt m hO (16 * (i 0).val + (i 1).val / 1024) hn, ix3 0 ⟨(i 1).val % 1024, Nat.mod_lt _ (by omega)⟩ (i 2), (emb5 m hO _ _ _ _).trans ?_⟩
  funext a; fin_cases a
  · exact Fin.ext (by show (16 * (i 0).val + (i 1).val / 1024) / 16 = (i 0).val; omega)
  · exact Fin.ext (by show 1024 * ((16 * (i 0).val + (i 1).val / 1024) % 16) + (i 1).val % 1024 = (i 1).val; omega)
  · rfl

theorem arr5 : (dats m hO hH 0 c).arrAt 5 (cfgM m hO).N = G5 m c := by
  refine (dats m hO hH 0 c).arrAt_eq_of_emb 5 (G5 m c) (fun t hf y => ?_) fun i => ?_
  · rw [after0_5]
    exact val5 m hO hH c hT t y
  · obtain ⟨t, y, h⟩ := cov5 m hO i
    exact ⟨t, flush0_5 (adm m hO) t, h ▸ View.emb_mem_set _ y⟩

theorem val6 (t : Fin (cfgM m hO).N) (y : S1x1024x128.Idx) :
    (k0_pay1 (k0_pay44 (accAt m hO hH c t).x11) y : EReal) = G6 m c ((((cfgM m hO).win 6).blk t).view.emb y : S16x16384x128.Idx) := by
  have hy : y = ix3 (y 0) (y 1) (y 2) := by funext a; fin_cases a <;> rfl
  have e := emb6 m hO t (y 0) (y 1) (y 2)
  refine Eq.trans (congrArg _ hy) ((out6 _ _ _ _).trans ((dv_end m hO hH c hT t (y 2) (y 1)).trans ?_))
  exact (congrArg (G6 m c) ((congrArg (fun z => (((((cfgM m hO).win 6).blk t).view.emb z) : S16x16384x128.Idx)) hy).trans e)).symm

omit hT in
theorem cov6 (i : S16x16384x128.Idx) : ∃ (t : Fin (cfgM m hO).N) (y : S1x1024x128.Idx), ((((cfgM m hO).win 6).blk t).view.emb y : S16x16384x128.Idx) = i := by
  have h0 : (i 0).val < 16 := (i 0).isLt
  have h1 : (i 1).val < 16384 := (i 1).isLt
  have hn : 16 * (i 0).val + (i 1).val / 1024 < 256 := by omega
  refine ⟨pt m hO (16 * (i 0).val + (i 1).val / 1024) hn, ix3 0 ⟨(i 1).val % 1024, Nat.mod_lt _ (by omega)⟩ (i 2), (emb6 m hO _ _ _ _).trans ?_⟩
  funext a; fin_cases a
  · exact Fin.ext (by show (16 * (i 0).val + (i 1).val / 1024) / 16 = (i 0).val; omega)
  · exact Fin.ext (by show 1024 * ((16 * (i 0).val + (i 1).val / 1024) % 16) + (i 1).val % 1024 = (i 1).val; omega)
  · rfl

theorem arr6 : (dats m hO hH 0 c).arrAt 6 (cfgM m hO).N = G6 m c := by
  refine (dats m hO hH 0 c).arrAt_eq_of_emb 6 (G6 m c) (fun t hf y => ?_) fun i => ?_
  · rw [after0_6]
    exact val6 m hO hH c hT t y
  · obtain ⟨t, y, h⟩ := cov6 m hO i
    exact ⟨t, flush0_6 (adm m hO) t, h ▸ View.emb_mem_set _ y⟩

end

end Cert.KernelIdeal.Gen
end
-- ==== Proof.Val.Host.lean ====
/- What the lines before the call hand to it: each of the four arrays as one tile of the head's features, six terms and zeros. -/
module

public import proofs.«01_k».proof.Proof.Kit.Host
public import proofs.«01_k».proof.Proof.Gen.ReferenceIdeal.Read
public import Idealize.ShloMosaic.Lib.StableHlo.RunRead

@[expose] public section

set_option maxRecDepth 16384

noncomputable section

namespace Cert.KernelIdeal.Host

open Idealize.ShloMosaic Idealize.ShloMosaic.TcCoe Cert.KernelIdeal.Gen
open Idealize.SL Idealize.SL.Sem

variable {F : FTy → Type} [FloatOps F] [Named F]

/-- A number for each head and token, one for each head and pair of tokens, and a head's rows of 64. -/
abbrev Tok (F : FTy → Type) := FVec F S16x16384 .f32
abbrev Pair (F : FTy → Type) := FVec F S16x16384x16384 .f32
abbrev Rows (F : FTy → Type) := FVec F S16x16384x64 .f32

/-- The largest score of each query, -/
def top (X : Pair F) : Tok F := Host.reduce FloatOps.maximumf X (constant S_ .f32 0xFF800000#32) reducesTo_S16x16384x16384_S16x16384_d2 h_S_
/-- a number of each query, at every key, -/
def over (t : Tok F) : Pair F :=
  broadcastInDim S16x16384x16384 ![0, 1, 2] bcast_S16x16384x1_S16x16384x16384_0_1_2 (broadcastInDim S16x16384x1 ![0, 1] bcast_S16x16384_S16x16384x1_0_1 t)
/-- the exponentials under it, -/
def expo (X : Pair F) : Pair F := Host.exp (subf X (over (top X)))
/-- their sum, -/
def total (X : Pair F) : Tok F := Host.reduceAdd (expo X) (constant S_ .f32 0x00000000#32) reducesTo_S16x16384x16384_S16x16384_d2 h_S_
/-- the logarithm of the sum of the scores' exponentials, -/
def lse (X : Pair F) : Tok F := addf (top X) (Host.log (total X))
/-- the attention's output, -/
def outs (X : Pair F) (v : Rows F) : Rows F :=
  Host.dotGeneral dot_S16x16384x16384_S16x16384x64_S16x16384x64_2_1_1_2_0_0 none (Host.divf (expo X) (over (total X))) v
/-- and its product with the gradient. -/
def delta (X : Pair F) (v d : Rows F) : Tok F :=
  Host.reduceAdd (mulf d (outs X v)) (constant S_ .f32 0x00000000#32) reducesTo_S16x16384x64_S16x16384_d2 h_S_

/-- A number in the narrow format, -/
def near (t : Tok F) : Tok F := extf .f32 (truncf .bf16 t bitsLt_bf16_f32) bitsLt_bf16_f32
/-- what is left of it, -/
def rest (t : Tok F) : Tok F := subf t (near t)
def lane (t : Tok F) : FVec F S16x16384x1 .f32 := broadcastInDim S16x16384x1 ![0, 1] bcast_S16x16384_S16x16384x1_0_1 t
/-- Three numbers in three lanes, -/
def beside (x y z : FVec F S16x16384x1 .f32) : FVec F S16x16384x3 .f32 :=
  concatenate S16x16384x3 2 [⟨S16x16384x1, x⟩, ⟨S16x16384x1, y⟩, ⟨S16x16384x1, z⟩] concatenates_S16x16384x1_S16x16384x1_S16x16384x1_S16x16384x3_d2
/-- and a number as three lanes of narrow ones. -/
def three (t : Tok F) : FVec F S16x16384x3 .f32 := beside (lane (near t)) (lane (near (rest t))) (lane (near (rest (rest t))))
def zero3 : FVec F S16x16384x3 .f32 := broadcastInDim S16x16384x3 ![] bcast_S_S16x16384x3 (constant S_ .f32 0x00000000#32)
def one3 : FVec F S16x16384x3 .f32 := broadcastInDim S16x16384x3 ![] bcast_S_S16x16384x3 (constant S_ .f32 0x3F800000#32)
def zero58 : FVec F S16x16384x58 .f32 := broadcastInDim S16x16384x58 ![] bcast_S_S16x16384x58 (constant S_ .f32 0x00000000#32)
/-- The lanes of a head: features, three terms, three more, zeros. -/
def lanes (f : Rows F) (a b : FVec F S16x16384x3 .f32) (z : FVec F S16x16384x58 .f32) : FVec F S16x16384x128 .f32 :=
  concatenate S16x16384x128 2 [⟨S16x16384x64, f⟩, ⟨S16x16384x3, a⟩, ⟨S16x16384x3, b⟩, ⟨S16x16384x58, z⟩]
    concatenates_S16x16384x64_S16x16384x3_S16x16384x3_S16x16384x58_S16x16384x128_d2
/-- The heads side by side. -/
def tile (f : Rows F) (a b : FVec F S16x16384x3 .f32) (z : FVec F S16x16384x58 .f32) : FVec F S16384x2048 .bf16 :=
  truncf .bf16 (shapeCast S16384x2048 (transpose S16384x16x128 [1, 0, 2] (lanes f a b z) transposes_S16x16384x128_S16384x16x128_1_0_2) shapeCasts_S16384x16x128_S16384x2048) bitsLt_bf16_f32
/-- The scale 1/8 at every feature. -/
def eighth : Rows F := broadcastInDim S16x16384x64 ![] bcast_S_S16x16384x64 (constant S_ .f32 0x3E000000#32)

theorem after_v70 (U : Valuation τ sig (Elt F)) : StableHlo.after hostOps0_3 U (Proc.devRef .tc main_v70)
    = tile (mulf (U (Proc.devRef .tc main_arg1)) eighth) (three (subf (U (Proc.devRef .tc main_v0)) (lse (U (Proc.devRef .tc main_v34))))) one3 zero58 := by
  have h : StableHlo.upto hostOps0_3 U 39 (Proc.devRef .tc main_v65) = three (subf (U (Proc.devRef .tc main_v0)) (lse (U (Proc.devRef .tc main_v34)))) := by
    after_reads_simp
    refine (show _ = beside (StableHlo.upto hostOps0_3 U 36 (Proc.devRef .tc main_v62)) (StableHlo.upto hostOps0_3 U 36 (Proc.devRef .tc main_v63))
      (StableHlo.upto hostOps0_3 U 36 (Proc.devRef .tc main_v64)) from rfl).trans ?_
    after_reads_simp
    rfl
  after_reads_simp
  refine (show _ = tile (StableHlo.upto hostOps0_3 U 39 (Proc.devRef .tc main_v52)) (StableHlo.upto hostOps0_3 U 39 (Proc.devRef .tc main_v65))
    (StableHlo.upto hostOps0_3 U 39 (Proc.devRef .tc main_v50)) (StableHlo.upto hostOps0_3 U 39 (Proc.devRef .tc main_v66)) from rfl).trans ?_
  rw [h]
  after_reads_simp
  rfl

theorem after_v88 (U : Valuation τ sig (Elt F)) : StableHlo.after hostOps0_3 U (Proc.devRef .tc main_v88)
    = tile (U (Proc.devRef .tc main_arg5)) (three (Host.negf (delta (U (Proc.devRef .tc main_v34)) (U (Proc.devRef .tc main_arg3)) (U (Proc.devRef .tc main_arg5))))) zero3 zero58 := by
  have h : StableHlo.upto hostOps0_3 U 58 (Proc.devRef .tc main_v83) = three (Host.negf (delta (U (Proc.devRef .tc main_v34)) (U (Proc.devRef .tc main_arg3)) (U (Proc.devRef .tc main_arg5)))) := by
    after_reads_simp
    refine (show _ = beside (StableHlo.upto hostOps0_3 U 55 (Proc.devRef .tc main_v80)) (StableHlo.upto hostOps0_3 U 55 (Proc.devRef .tc main_v81))
      (StableHlo.upto hostOps0_3 U 55 (Proc.devRef .tc main_v82)) from rfl).trans ?_
    after_reads_simp
    rfl
  after_reads_simp
  refine (show _ = tile (StableHlo.upto hostOps0_3 U 58 (Proc.devRef .tc main_arg5)) (StableHlo.upto hostOps0_3 U 58 (Proc.devRef .tc main_v83))
    (StableHlo.upto hostOps0_3 U 58 (Proc.devRef .tc main_v49)) (StableHlo.upto hostOps0_3 U 58 (Proc.devRef .tc main_v84)) from rfl).trans ?_
  rw [h]
  after_reads_simp
  rfl

theorem after_v106 (U : Valuation τ sig (Elt F)) : StableHlo.after hostOps0_3 U (Proc.devRef .tc main_v106)
    = tile (U (Proc.devRef .tc main_arg2)) one3 (three (Host.negf (U (Proc.devRef .tc main_v0)))) zero58 := by
  have h : StableHlo.upto hostOps0_3 U 77 (Proc.devRef .tc main_v101) = three (Host.negf (U (Proc.devRef .tc main_v0))) := by
    after_reads_simp
    refine (show _ = beside (StableHlo.upto hostOps0_3 U 74 (Proc.devRef .tc main_v98)) (StableHlo.upto hostOps0_3 U 74 (Proc.devRef .tc main_v99))
      (StableHlo.upto hostOps0_3 U 74 (Proc.devRef .tc main_v100)) from rfl).trans ?_
    after_reads_simp
    rfl
  after_reads_simp
  refine (show _ = tile (StableHlo.upto hostOps0_3 U 77 (Proc.devRef .tc main_arg2)) (StableHlo.upto hostOps0_3 U 77 (Proc.devRef .tc main_v50))
    (StableHlo.upto hostOps0_3 U 77 (Proc.devRef .tc main_v101)) (StableHlo.upto hostOps0_3 U 77 (Proc.devRef .tc main_v102)) from rfl).trans ?_
  rw [h]
  after_reads_simp
  rfl

theorem after_v111 (U : Valuation τ sig (Elt F)) : StableHlo.after hostOps0_3 U (Proc.devRef .tc main_v111)
    = tile (U (Proc.devRef .tc main_arg3)) one3 zero3 zero58 := by
  after_reads_simp
  refine (show _ = tile (StableHlo.upto hostOps0_3 U 83 (Proc.devRef .tc main_arg3)) (StableHlo.upto hostOps0_3 U 83 (Proc.devRef .tc main_v50))
    (StableHlo.upto hostOps0_3 U 83 (Proc.devRef .tc main_v49)) (StableHlo.upto hostOps0_3 U 83 (Proc.devRef .tc main_v107)) from rfl).trans ?_
  after_reads_simp
  rfl

variable (m : (ℓ : Loc nD τ sig) → Buf (Elt F) ℓ)

/-- The buffers before the last of the four groups of lines. -/
def U₃ (c : Dev nD) : Valuation τ sig (Elt F) :=
  StableHlo.after hostOps0_2 (StableHlo.after hostOps0_1 (StableHlo.after hostOps0 fun b => m (c, b)))

theorem V_after (c : Dev nD) (r : Ref sig .tc) : V m c r = StableHlo.after hostOps0_3 (U₃ m c) (Proc.devRef .tc r) := by
  show StableHlo.after (hostOps0 ++ (hostOps0_1 ++ (hostOps0_2 ++ (hostOps0_3 ++ [])))) _ _ = _
  rw [List.append_nil, StableHlo.after_append, StableHlo.after_append, StableHlo.after_append]
  rfl

theorem U₃_kept (c : Dev nD) (r : Ref sig .tc) (h0 : r ∉ wrote0) (h1 : r ∉ wrote1) (h2 : r ∉ wrote2) : U₃ m c (Proc.devRef .tc r) = m (c, Proc.devRef .tc r) :=
  (StableHlo.after_of_writes_sub _ _ writes2 h2).trans ((StableHlo.after_of_writes_sub _ _ writes1 h1).trans (StableHlo.after_of_writes_sub _ _ writes0 h0))

/-- The running sums, -/
theorem U₃_v0 (c : Dev nD) : U₃ m c (Proc.devRef .tc main_v0) = Cert.ReferenceIdeal.Read.val_main_v24 (F := F) (m (c, Proc.devRef .tc main_arg4)) := by
  refine (StableHlo.after_of_writes_sub _ _ writes2 (by decide)).trans ((StableHlo.after_of_writes_sub _ _ writes1 (by decide)).trans ?_)
  after_reads_simp
  rfl

/-- and the scores. -/
theorem U₃_v34 (c : Dev nD) : U₃ m c (Proc.devRef .tc main_v34)
    = Cert.ReferenceIdeal.Read.val_main_v34_0 (F := F) (m (c, Proc.devRef .tc main_arg0)) (m (c, Proc.devRef .tc main_arg1)) (m (c, Proc.devRef .tc main_arg2))
        (m (c, Proc.devRef .tc main_arg4)) := by
  unfold U₃
  after_reads_simp
  rfl

end Cert.KernelIdeal.Host

end
-- ==== Proof.Val.Real.lean ====
/- Attention of one head over the real numbers and its derivative, and the tiles of 128 lanes that carry it: a product of two tiles
   is a score less the logarithm of its query's sum, so the weights recomputed from tiles are the softmax's weights. -/
module

public import proofs.«01_k».proof.Proof.Val.Math

@[expose] public section

noncomputable section

namespace Cert.Attn

open Idealize.ShloMosaic

/-- A sum of real numbers among the extended ones. -/
theorem coe_sum {ι : Type} (s : Finset ι) (f : ι → ℝ) : ((∑ i ∈ s, f i : ℝ) : EReal) = ∑ i ∈ s, (f i : EReal) :=
  map_sum (⟨⟨fun x : ℝ => (x : EReal), rfl⟩, EReal.coe_add⟩ : ℝ →+ EReal) f s

theorem coe_sum_mul {ι : Type} [Fintype ι] (f g : ι → ℝ) : (∑ i, (f i : EReal) * (g i : EReal)) = ((∑ i, f i * g i : ℝ) : EReal) := by
  rw [coe_sum]; exact Finset.sum_congr rfl fun i _ => (EReal.coe_mul _ _).symm

/-- The largest of values that are real or absent is real when one of them is there. -/
theorem fold_real {ι : Type} [Fintype ι] (X : ι → EReal) (i : ι) (hi : ∃ r : ℝ, X i = r) (hX : ∀ j, X j < ⊤) :
    ∃ M : ℝ, Finset.univ.fold max ⊥ X = M := by
  obtain ⟨r, hr⟩ := hi
  have h1 : Finset.univ.fold max ⊥ X < ⊤ := (Finset.fold_max_lt _).2 ⟨bot_lt_top, fun j _ => hX j⟩
  have h2 : ⊥ < Finset.univ.fold max ⊥ X := (Finset.lt_fold_max _).2 (Or.inr ⟨i, Finset.mem_univ i, hr ▸ EReal.bot_lt_coe r⟩)
  exact ⟨(Finset.univ.fold max ⊥ X).toReal, (EReal.coe_toReal h1.ne h2.ne').symm⟩

/-- The tokens. -/
abbrev T := Fin 16384
/-- Rows of real numbers. -/
abbrev Rows := T → Fin 64 → ℝ

section
variable (κ : Keep) (q k v d : Rows) (c : T → ℝ) (M : T → ℝ)

/-- A score, -/
def raw (R K : T) : ℝ := (∑ e, q R e * k K e) * (1 / 8) + c R - c K
/-- absent where the predicate is false, -/
def masked (R K : T) : EReal := if κ R K then (raw q k c R K : EReal) else ⊥
/-- its exponential under a number `M` of the query, -/
def ex (R K : T) : ℝ := if κ R K then Real.exp (raw q k c R K - M R) else 0
/-- their sum, -/
def tot (R : T) : ℝ := ∑ K, ex κ q k c M R K
/-- the softmax's weight, -/
def wt (R K : T) : ℝ := ex κ q k c M R K / tot κ q k c M R
/-- the gradient of a weight, -/
def gw (R K : T) : ℝ := ∑ e, d R e * v K e
/-- its mean under the weights, -/
def mean (R : T) : ℝ := ∑ K, wt κ q k c M R K * gw v d R K
/-- and the gradient of a score. -/
def gs (R K : T) : ℝ := wt κ q k c M R K * (gw v d R K - mean κ q k v d c M R)

theorem masked_lt (R K : T) : masked κ q k c R K < ⊤ := by
  unfold masked; split
  · exact EReal.coe_lt_top _
  · exact bot_lt_top

theorem exp_masked (R K : T) : Ideal.exp (masked κ q k c R K - (M R : EReal)) = (ex κ q k c M R K : EReal) := by
  unfold masked ex
  split
  · rw [← EReal.coe_sub]; rfl
  · rw [sub_eq_add_neg, EReal.bot_add]; rfl

theorem ex_nonneg (R K : T) : 0 ≤ ex κ q k c M R K := by
  unfold ex; split
  · exact (Real.exp_pos _).le
  · exact le_rfl

theorem tot_pos (hκ : ∀ R, κ R R = true) (R : T) : 0 < tot κ q k c M R :=
  Finset.sum_pos' (fun K _ => ex_nonneg κ q k c M R K) ⟨R, Finset.mem_univ R, by unfold ex; rw [if_pos (hκ R)]; exact Real.exp_pos _⟩

/-- The weight from the logarithm of the sum. -/
theorem wt_eq (hκ : ∀ R, κ R R = true) (R K : T) :
    (if κ R K then Real.exp (raw q k c R K - (M R + Real.log (tot κ q k c M R))) else 0) = wt κ q k c M R K := by
  unfold wt
  by_cases h : κ R K = true
  · rw [if_pos h]
    unfold ex
    rw [if_pos h, ← sub_sub, Real.exp_sub, Real.exp_log (tot_pos κ q k c M hκ R)]
  · rw [if_neg h]
    unfold ex
    rw [if_neg h, zero_div]

theorem wt_off (R K : T) (h : ¬ κ R K = true) : wt κ q k c M R K = 0 := by
  unfold wt ex; rw [if_neg h, zero_div]

/-- The output's product with the gradient is the mean. -/
theorem mean_eq (R : T) : ∑ e, d R e * ∑ K, wt κ q k c M R K * v K e = mean κ q k v d c M R := by
  unfold mean gw
  simp only [Finset.mul_sum]
  rw [Finset.sum_comm]
  exact Finset.sum_congr rfl fun K _ => Finset.sum_congr rfl fun e _ => by ring

/-- The derivative as the quotient's: the gradient of a weight over the sum, less the sum's own part. -/
theorem gs_eq (R K : T) :
    (gw v d R K / tot κ q k c M R + -(∑ J, gw v d R J * (1 / (tot κ q k c M R * tot κ q k c M R)) * ex κ q k c M R J)) * ex κ q k c M R K = gs κ q k v d c M R K := by
  have h : ∑ J, gw v d R J * (1 / (tot κ q k c M R * tot κ q k c M R)) * ex κ q k c M R J = mean κ q k v d c M R / tot κ q k c M R := by
    unfold mean wt
    rw [Finset.sum_div]
    refine Finset.sum_congr rfl fun J _ => ?_
    generalize tot κ q k c M R = t
    by_cases ht : t = 0
    · rw [ht]; simp
    · field_simp
  rw [h]
  unfold gs wt
  ring
end

/-! The tiles. -/

/-- A row of 128 lanes: 64 features, three numbers, three more, zeros. -/
def spread (f : Fin 64 → ℝ) (a b : Fin 3 → ℝ) (e : Fin 128) : ℝ :=
  if h : e.val < 64 then f ⟨e.val, h⟩ else if h : e.val - 64 < 3 then a ⟨e.val - 64, h⟩ else if h : e.val - 64 - 3 < 3 then b ⟨e.val - 64 - 3, h⟩ else 0

theorem spread_mul (f g : Fin 64 → ℝ) (a b a' b' : Fin 3 → ℝ) :
    ∑ e, spread f a b e * spread g a' b' e = ∑ e, f e * g e + (∑ j, a j * a' j + ∑ j, b j * b' j) := by
  have h : ∀ F : Fin 128 → ℝ, ∑ e, F e = ∑ e : Fin 64, F ⟨e.val, by omega⟩ + (∑ j : Fin 3, F ⟨64 + j.val, by omega⟩ + (∑ j : Fin 3, F ⟨67 + j.val, by omega⟩ + ∑ j : Fin 58, F ⟨70 + j.val, by omega⟩)) := by
    intro F
    rw [show (∑ e, F e) = ∑ e : Fin (64 + (3 + (3 + 58))), F ⟨e.val, e.isLt⟩ from rfl, Fin.sum_univ_add, Fin.sum_univ_add, Fin.sum_univ_add]
    refine congrArg₂ (· + ·) rfl (congrArg₂ (· + ·) rfl (congrArg₂ (· + ·) ?_ ?_))
    · exact Finset.sum_congr rfl fun j _ => congrArg F (Fin.ext (by show 64 + (3 + j.val) = 67 + j.val; omega))
    · exact Finset.sum_congr rfl fun j _ => congrArg F (Fin.ext (by show 64 + (3 + (3 + j.val)) = 70 + j.val; omega))
  rw [h]
  have e1 : ∀ (f : Fin 64 → ℝ) (a b : Fin 3 → ℝ) (e : Fin 64), spread f a b ⟨e.val, by omega⟩ = f e := fun f a b e => by
    unfold spread; rw [dif_pos e.isLt]
  have e2 : ∀ (f : Fin 64 → ℝ) (a b : Fin 3 → ℝ) (j : Fin 3), spread f a b ⟨64 + j.val, by omega⟩ = a j := fun f a b j => by
    unfold spread; rw [dif_neg (by show ¬ 64 + j.val < 64; omega), dif_pos (by show 64 + j.val - 64 < 3; omega)]
    exact congrArg a (Fin.ext (by show 64 + j.val - 64 = j.val; omega))
  have e3 : ∀ (f : Fin 64 → ℝ) (a b : Fin 3 → ℝ) (j : Fin 3), spread f a b ⟨67 + j.val, by omega⟩ = b j := fun f a b j => by
    unfold spread; rw [dif_neg (by show ¬ 67 + j.val < 64; omega), dif_neg (by show ¬ 67 + j.val - 64 < 3; omega), dif_pos (by show 67 + j.val - 64 - 3 < 3; omega)]
    exact congrArg b (Fin.ext (by show 67 + j.val - 64 - 3 = j.val; omega))
  have e4 : ∀ (f : Fin 64 → ℝ) (a b : Fin 3 → ℝ) (j : Fin 58), spread f a b ⟨70 + j.val, by omega⟩ = 0 := fun f a b j => by
    unfold spread; rw [dif_neg (by show ¬ 70 + j.val < 64; omega), dif_neg (by show ¬ 70 + j.val - 64 < 3; omega), dif_neg (by show ¬ 70 + j.val - 64 - 3 < 3; omega)]
  simp only [e1, e2, e3, e4, mul_zero, Finset.sum_const_zero, add_zero]

/-- A number in the first of three lanes, three ones, three zeros. -/
def first (x : ℝ) (j : Fin 3) : ℝ := if j.val = 0 then x else 0
def ones (_ : Fin 3) : ℝ := 1
def noughts (_ : Fin 3) : ℝ := 0

theorem sum_first_ones (x : ℝ) : ∑ j, first x j * ones j = x := by simp [Fin.sum_univ_three, first, ones]
theorem sum_ones_first (x : ℝ) : ∑ j, ones j * first x j = x := by simp [Fin.sum_univ_three, first, ones]
theorem sum_noughts (f : Fin 3 → ℝ) : ∑ j, noughts j * f j = 0 := by simp [noughts]

section
variable (κ : Keep) (q k v d : Rows) (c : T → ℝ) (M : T → ℝ)

/-- The four tiles: the scaled queries with the number of the query's sum, the gradients with the mean, the keys, the values. -/
def tq (R : T) : Fin 128 → ℝ := spread (fun e => q R e * (1 / 8)) (first (c R - (M R + Real.log (tot κ q k c M R)))) ones
def td (R : T) : Fin 128 → ℝ := spread (d R) (first (-mean κ q k v d c M R)) noughts
def tk (K : T) : Fin 128 → ℝ := spread (k K) ones (first (-c K))
def tv (K : T) : Fin 128 → ℝ := spread (v K) ones noughts

/-- The same among the extended reals. -/
def up (t : T → Fin 128 → ℝ) : Head := fun R e => (t R e : EReal)

theorem score_up (x y : T → Fin 128 → ℝ) (R K : T) : score (up x) (up y) R K = ((∑ e, x R e * y K e : ℝ) : EReal) := coe_sum_mul _ _

theorem score_qk (R K : T) : ∑ e, tq κ q k c M R e * tk k c K e = raw q k c R K - (M R + Real.log (tot κ q k c M R)) := by
  unfold tq tk
  rw [spread_mul, sum_first_ones, sum_ones_first]
  unfold raw
  rw [Finset.sum_mul, show (∑ e, q R e * (1 / 8) * k K e) = ∑ e, q R e * k K e * (1 / 8) from Finset.sum_congr rfl fun e _ => by ring]
  ring

theorem score_dv (R K : T) : ∑ e, td κ q k v d c M R e * tv v K e = gw v d R K - mean κ q k v d c M R := by
  unfold td tv
  rw [spread_mul, sum_first_ones, sum_noughts]
  unfold gw
  ring

theorem prob_eq (hκ : ∀ R, κ R R = true) (R K : T) : prob κ (up (tq κ q k c M)) (up (tk k c)) R K = (wt κ q k c M R K : EReal) := by
  unfold prob
  rw [score_up, score_qk, ← wt_eq κ q k c M hκ]
  split
  · rfl
  · rfl

theorem dscore_eq (hκ : ∀ R, κ R R = true) (R K : T) :
    dscore κ (up (tq κ q k c M)) (up (td κ q k v d c M)) (up (tk k c)) (up (tv v)) R K = (gs κ q k v d c M R K : EReal) := by
  unfold dscore
  rw [prob_eq κ q k c M hκ, score_up, score_dv, ← EReal.coe_mul]
  rfl

/-- The kernel's three results, and so their lanes. -/
theorem dQ_eq (hκ : ∀ R, κ R R = true) (R : T) (e : Fin 128) :
    dQ κ (up (tq κ q k c M)) (up (td κ q k v d c M)) (up (tk k c)) (up (tv v)) R e = ((∑ K, gs κ q k v d c M R K * tk k c K e : ℝ) : EReal) := by
  unfold dQ
  simp only [dscore_eq κ q k v d c M hκ]
  exact coe_sum_mul _ _

theorem dK_eq (hκ : ∀ R, κ R R = true) (K : T) (e : Fin 128) :
    dK κ (up (tq κ q k c M)) (up (td κ q k v d c M)) (up (tk k c)) (up (tv v)) K e = ((∑ R, gs κ q k v d c M R K * tq κ q k c M R e : ℝ) : EReal) := by
  unfold dK
  simp only [dscore_eq κ q k v d c M hκ]
  exact coe_sum_mul _ _

theorem dV_eq (hκ : ∀ R, κ R R = true) (K : T) (e : Fin 128) :
    dV κ (up (tq κ q k c M)) (up (td κ q k v d c M)) (up (tk k c)) K e = ((∑ R, wt κ q k c M R K * td κ q k v d c M R e : ℝ) : EReal) := by
  unfold dV
  simp only [prob_eq κ q k c M hκ]
  exact coe_sum_mul _ _

theorem spread_lo (f : Fin 64 → ℝ) (a b : Fin 3 → ℝ) (e : Fin 64) : spread f a b ⟨e.val, by omega⟩ = f e := by
  unfold spread; rw [dif_pos e.isLt]
theorem tk_64 (K : T) : tk k c K 64 = 1 := rfl
theorem tq_67 (R : T) : tq κ q k c M R 67 = 1 := rfl
end

end Cert.Attn
end
-- ==== Proof.Val.Ref.lean ====
/- The reference read at an index: the predicate that the table's words make, the softmax's weights, the gradient of the scores,
   and its four results, for arguments that hold real numbers. -/
module

public import proofs.«01_k».proof.Proof.Gen.ReferenceIdeal.Read
public import proofs.«01_k».proof.Proof.Val.Real
public import Idealize.ShloMosaic.Lib.WordCmp
public import Idealize.ShloMosaic.Lib.Routing.Words

@[expose] public section

noncomputable section

namespace Cert.ReferenceIdeal.Read

open Cert.ReferenceIdeal Cert.ReferenceIdeal.Gen Idealize.ShloMosaic Cert.Attn

abbrev Arr := (⟨S16x16384x64, .f32⟩ : BufTy).Contents (Elt Ideal)
abbrev Tok := (⟨S16x16384, .f32⟩ : BufTy).Contents (Elt Ideal)
abbrev Tab := (⟨S16x32, .i32⟩ : BufTy).Contents (Elt Ideal)

theorem max_words : ∀ a b : Fin 64, IntOp.maxsi (BitVec.ofNat 32 a.val) (BitVec.ofNat 32 b.val) = BitVec.ofNat 32 (max a.val b.val) := by decide +kernel

theorem reach_at (x0 : Tab) (hT : ∀ i, (x0 i : BitVec 32).toNat < 64) (h : Fin 16) (R K : Fin 16384) :
    val_main_v20 (F := Ideal) x0 (ix3 h R K) = BitVec.ofNat 32 (last (words x0 h) (K.val / 512)) := by
  rw [val_main_v20_apply, val_main_v9_apply, val_main_v8_apply, val_main_v7_apply, val_main_v4_apply, val_main_v3_apply, val_main_v2_apply, val_main_v1_apply,
    val_main_v0_apply, val_main_v0_apply]
  have e1 : idx_main_v0 (idx_main_v4 (idx_main_v7 (idx_main_v8 (idx_main_v9 (idx_main_v20 (ix3 h R K)))))) = ix2 h ⟨K.val / 512, by omega⟩ := by
    have a1 : (idx_main_v7 (idx_main_v8 (idx_main_v9 (idx_main_v20 (ix3 h R K))))) = ix2 h ⟨K.val / 512, by omega⟩ := by
      funext a; fin_cases a
      · exact Fin.ext (by show (h.val * 16384 + K.val) / 16384 = h.val; omega)
      · exact Fin.ext (by show (h.val * 16384 + K.val) / 512 % 32 = K.val / 512; omega)
    rw [a1]
    funext a; fin_cases a
    · exact Fin.ext (by show (((h.val * 32 + K.val / 512) / 32 * 16 + (h.val * 32 + K.val / 512) / 2 % 16) * 2 + (h.val * 32 + K.val / 512) % 2) / 32 = h.val; omega)
    · exact Fin.ext (by show (((h.val * 32 + K.val / 512) / 32 * 16 + (h.val * 32 + K.val / 512) / 2 % 16) * 2 + (h.val * 32 + K.val / 512) % 2) % 32 = K.val / 512; omega)
  have e2 : idx_main_v0 (idx_main_v1 (idx_main_v2 (idx_main_v4 (idx_main_v7 (idx_main_v8 (idx_main_v9 (idx_main_v20 (ix3 h R K)))))))) = ix2 h ⟨2 * (K.val / 512 / 2), by omega⟩ := by
    have a1 : (idx_main_v7 (idx_main_v8 (idx_main_v9 (idx_main_v20 (ix3 h R K))))) = ix2 h ⟨K.val / 512, by omega⟩ := by
      funext a; fin_cases a
      · exact Fin.ext (by show (h.val * 16384 + K.val) / 16384 = h.val; omega)
      · exact Fin.ext (by show (h.val * 16384 + K.val) / 512 % 32 = K.val / 512; omega)
    rw [a1]
    funext a; fin_cases a
    · exact Fin.ext (by show (((h.val * 32 + K.val / 512) / 32 * 16 + (h.val * 32 + K.val / 512) / 2 % 16) * 2 + 0) / 32 = h.val; omega)
    · exact Fin.ext (by show (((h.val * 32 + K.val / 512) / 32 * 16 + (h.val * 32 + K.val / 512) / 2 % 16) * 2 + 0) % 32 = 2 * (K.val / 512 / 2); omega)
  rw [e1, e2]
  unfold last words
  rw [dif_pos (by omega), dif_pos (by omega)]
  have := max_words ⟨_, hT (ix2 h ⟨K.val / 512, by omega⟩)⟩ ⟨_, hT (ix2 h ⟨2 * (K.val / 512 / 2), by omega⟩)⟩
  simp only [BitVec.ofNat_toNat, BitVec.setWidth_eq] at this
  exact this

theorem last_lt (x0 : Tab) (hT : ∀ i, (x0 i : BitVec 32).toNat < 64) (h : Fin 16) (j : ℕ) : last (words x0 h) j < 64 := by
  have hw : ∀ j, words x0 h j < 64 := fun j => by unfold words; split; exact hT _; omega
  exact max_lt (hw _) (hw _)

theorem keep_at (x0 : Tab) (hT : ∀ i, (x0 i : BitVec 32).toNat < 64) (h : Fin 16) (R K : Fin 16384) :
    val_main_v23 (F := Ideal) x0 (ix3 h R K) = BitVec.ofBool (keep (words x0 h) R K) := by
  have hR := R.isLt
  have hK := K.isLt
  have hl := last_lt x0 hT h (K.val / 512)
  rw [val_main_v23_apply, val_main_v22_apply, val_main_v21_apply, reach_at x0 hT, val_main_v19_apply, val_main_v18_apply, val_main_v17_apply, val_main_v16_apply,
    val_main_v15_apply, val_main_v14_apply, val_main_v13_apply, val_main_v12_apply, val_main_v11_apply, val_main_v10_apply, val_main_v5_apply, val_main_v6_apply]
  have d1 : IntOp.divsi .host (BitVec.ofNat 32 R.val) 1024#32 = BitVec.ofNat 32 (R.val / 1024) := Routing.divsi_word .host (by omega) (by omega) (by omega)
  have d2 : IntOp.divsi .host (BitVec.ofNat 32 K.val) 1024#32 = BitVec.ofNat 32 (K.val / 1024) := Routing.divsi_word .host (by omega) (by omega) (by omega)
  have d3 : IntOp.divsi .host (BitVec.ofNat 32 R.val) 512#32 = BitVec.ofNat 32 (R.val / 512) := Routing.divsi_word .host (by omega) (by omega) (by omega)
  show IntOp.andi (IntOp.cmpi .sle (BitVec.ofNat 32 K.val) (BitVec.ofNat 32 R.val)) (IntOp.ori
    (IntOp.cmpi .eq (IntOp.divsi .host (BitVec.ofNat 32 R.val) 1024#32) (IntOp.divsi .host (BitVec.ofNat 32 K.val) 1024#32))
    (IntOp.cmpi .sle (IntOp.muli (BitVec.ofNat 32 2) (IntOp.divsi .host (BitVec.ofNat 32 R.val) 512#32)) (BitVec.ofNat 32 (last (words x0 h) (K.val / 512))))) = _
  rw [d1, d2, d3, WordCmp.muli_ofNat, WordCmp.cmpi_sle_ofNat (by omega) (by omega), WordCmp.cmpi_sle_ofNat (by omega) (by omega), WordCmp.cmpi_eq_ofNat (by omega) (by omega),
    WordCmp.ori_ofBool, WordCmp.andi_ofBool]
  unfold keep
  rw [Bool.decide_and, Bool.decide_or]

/-- A query sees itself. -/
theorem keep_self (t : ℕ → ℕ) (R : Fin 16384) : keep t R R = true := decide_eq_true ⟨le_rfl, Or.inl rfl⟩

theorem bits_eighth : Ideal.ofBits .f32 0x3E000000#32 = ((1 / 8 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_bot : Ideal.ofBits .f32 0xFF800000#32 = ⊥ := by simp [Ideal.ofBits, Ideal.ieee]

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

section
variable (x0 : Tab) (hT : ∀ i, (x0 i : BitVec 32).toNat < 64) (x1 x2 x3 x5 : Arr) (x4 : Tok) (h : Fin 16) (q k v d : Rows) (c M : T → ℝ)
  (hq : ∀ R e, (x1 (ix3 h R e) : EReal) = (q R e : EReal)) (hk : ∀ R e, (x2 (ix3 h R e) : EReal) = (k R e : EReal))
  (hv : ∀ R e, (x3 (ix3 h R e) : EReal) = (v R e : EReal)) (hd : ∀ R e, (x5 (ix3 h R e) : EReal) = (d R e : EReal))
  (hc : ∀ R, (val_main_v24 (F := Ideal) x4 (ix2 h R) : EReal) = (c R : EReal))
  (hM : ∀ R, (val_main_v35 (F := Ideal) x0 x1 x2 x4 (ix2 h R) : EReal) = (M R : EReal))

include hq hk hc in
theorem raw_at (R K : T) : (val_main_v33 (F := Ideal) x1 x2 x4 (ix3 h R K) : EReal) = (raw q k c R K : EReal) := by
  have e25 : (val_main_v25 (F := Ideal) x1 x2 (ix3 h R K) : EReal) = ((∑ e, q R e * k K e : ℝ) : EReal) := by
    rw [val_main_v25_apply, ← coe_sum_mul]
    refine Finset.sum_congr rfl fun e _ => ?_
    have e1 : lidx_main_v25 (ix3 h R K) e = ix3 h R e := by funext a; fin_cases a <;> rfl
    have e2 : ridx_main_v25 (ix3 h R K) e = ix3 h K e := by funext a; fin_cases a <;> rfl
    rw [e1, e2]
    exact congrArg₂ (fun a b : EReal => a * b) (hq R e) (hk K e)
  have e26 : (val_main_v26 (F := Ideal) (ix3 h R K) : EReal) = ((1 / 8 : ℝ) : EReal) := by
    rw [val_main_v26_apply, val_main_cst_apply]; exact bits_eighth
  have e29 : (val_main_v29 (F := Ideal) x4 (ix3 h R K) : EReal) = (c R : EReal) := by
    rw [val_main_v29_apply, val_main_v28_apply, ← hc R]
    exact congrArg _ (by funext a; fin_cases a <;> rfl)
  have e32 : (val_main_v32 (F := Ideal) x4 (ix3 h R K) : EReal) = (c K : EReal) := by
    rw [val_main_v32_apply, val_main_v31_apply, ← hc K]
    exact congrArg _ (by funext a; fin_cases a <;> rfl)
  rw [val_main_v33_apply, val_main_v30_apply, val_main_v27_apply]
  show ((_ : EReal) * _ + _) - _ = _
  rw [e25, e26, e29, e32, ← EReal.coe_mul, ← EReal.coe_add, ← EReal.coe_sub]
  rfl

include hT hq hk hc in
theorem masked_at (R K : T) : (val_main_v34_0 (F := Ideal) x0 x1 x2 x4 (ix3 h R K) : EReal) = masked (keep (words x0 h)) q k c R K := by
  rw [val_main_v34_0_apply, keep_at x0 hT, WordCmp.select_ofBool]
  unfold masked
  rw [← raw_at x1 x2 x4 h q k c hq hk hc]
  split
  · rfl
  · rw [val_main_call1_v1_apply, val_main_call1_v0_apply, val_main_cst_3_apply]; exact bits_bot

/-- The largest score of a query is a real number. -/
theorem top_fold (X : Vec Ideal S16x16384x16384 .f32) (R : T) :
    (Host.reduce (FloatOps.maximumf (F := Ideal) (φ := .f32)) X (constant (F := Ideal) S_ .f32 0xFF800000#32) reducesTo_S16x16384x16384_S16x16384_d2 h_S_ (ix2 h R))
      = Finset.univ.fold max ⊥ fun K : T => (X (ix3 h R K) : EReal) := by
  pointwise
  rw [bits_bot]

include hT hq hk hc in
theorem top_real (R : T) : ∃ M : ℝ, (val_main_v35 (F := Ideal) x0 x1 x2 x4 (ix2 h R) : EReal) = (M : EReal) := by
  obtain ⟨M, hM⟩ := fold_real (fun K : T => (val_main_v34_0 (F := Ideal) x0 x1 x2 x4 (ix3 h R K) : EReal)) R
    ⟨raw q k c R R, by rw [masked_at x0 hT x1 x2 x4 h q k c hq hk hc]; unfold masked; rw [if_pos (keep_self _ R)]⟩
    (fun K => by rw [masked_at x0 hT x1 x2 x4 h q k c hq hk hc]; exact masked_lt _ q k c R K)
  exact ⟨M, (top_fold h _ R).trans hM⟩

include hT hq hk hc hM in
theorem ex_at (R K : T) : (val_main_v55 (F := Ideal) x0 x1 x2 x4 (ix3 h R K) : EReal) = (ex (keep (words x0 h)) q k c M R K : EReal) := by
  have e42 : (val_main_v53 (F := Ideal) x0 x1 x2 x4 (ix3 h R K) : EReal) = (M R : EReal) := by
    rw [val_main_v53_apply, val_main_v52_apply, ← hM R, val_main_v42_apply, val_main_v41_apply, val_main_cst_6_apply]
    have e : idx_main_v52 (idx_main_v53 (ix3 h R K)) = ix2 h R := by funext a; fin_cases a <;> rfl
    rw [e]
    show max (Ideal.ofBits .f32 0xFF800000#32) _ = _
    rw [bits_bot]
    exact max_eq_right bot_le
  rw [val_main_v55_apply, val_main_v54_apply]
  show Ideal.exp ((_ : EReal) - _) = _
  rw [e42, masked_at x0 hT x1 x2 x4 h q k c hq hk hc, exp_masked]

include hT hq hk hc hM in
theorem tot_at (R : T) : (val_main_v56 (F := Ideal) x0 x1 x2 x4 (ix2 h R) : EReal) = (tot (keep (words x0 h)) q k c M R : EReal) := by
  rw [val_main_v56_apply, val_main_cst_12_apply]
  show Ideal.ofBits .f32 0x00000000#32 + _ = _
  rw [Ideal.ofBits_zero, zero_add]
  unfold tot
  rw [coe_sum]
  refine Finset.sum_congr rfl fun K _ => ?_
  have e : idx_main_v56 (ix2 h R) K = ix3 h R K := by funext a; fin_cases a <;> rfl
  rw [e]
  exact ex_at x0 hT x1 x2 x4 h q k c M hq hk hc hM R K

include hT hq hk hc hM in
theorem tot_row (R : T) : (val_main_v57 (F := Ideal) x0 x1 x2 x4 (ix3 h R 0) : EReal) = (tot (keep (words x0 h)) q k c M R : EReal) := by
  rw [val_main_v57_apply, ← tot_at x0 hT x1 x2 x4 h q k c M hq hk hc hM R]
  exact congrArg _ (by funext a; fin_cases a <;> rfl)

include hT hq hk hc hM in
theorem wt_at (R K : T) : (val_main_v59 (F := Ideal) x0 x1 x2 x4 (ix3 h R K) : EReal) = (wt (keep (words x0 h)) q k c M R K : EReal) := by
  rw [val_main_v59_apply, val_main_v58_apply]
  have e : idx_main_v58 (ix3 h R K) = ix3 h R 0 := by funext a; fin_cases a <;> rfl
  rw [e]
  show Ideal.div (_ : EReal) _ = _
  rw [tot_row x0 hT x1 x2 x4 h q k c M hq hk hc hM R, ex_at x0 hT x1 x2 x4 h q k c M hq hk hc hM R K, div_real _ _ (tot_pos (keep (words x0 h)) q k c M (keep_self _) R).ne']
  rfl

include hv hd in
theorem gw_at (R K : T) : (val_main_v66 (F := Ideal) x3 x5 (ix3 h R K) : EReal) = (gw v d R K : EReal) := by
  unfold gw
  rw [val_main_v66_apply, ← coe_sum_mul]
  refine Finset.sum_congr rfl fun e _ => ?_
  have e1 : lidx_main_v66 (ix3 h R K) e = ix3 h R e := by funext a; fin_cases a <;> rfl
  have e2 : ridx_main_v66 (ix3 h R K) e = ix3 h K e := by funext a; fin_cases a <;> rfl
  rw [e1, e2]
  exact congrArg₂ (fun a b : EReal => a * b) (hd R e) (hv K e)

include hT hq hk hv hd hc hM in
theorem part_at (R K : T) : (val_main_v69 (F := Ideal) x0 x1 x2 x3 x4 x5 (ix3 h R K) : EReal)
    = ((gw v d R K * (1 / (tot (keep (words x0 h)) q k c M R * tot (keep (words x0 h)) q k c M R)) * ex (keep (words x0 h)) q k c M R K : ℝ) : EReal) := by
  have ht := (tot_pos (keep (words x0 h)) q k c M (keep_self _) R).ne'
  have e67 : (val_main_v67 (F := Ideal) x0 x1 x2 x4 (ix3 h R K) : EReal) = ((1 / (tot (keep (words x0 h)) q k c M R * tot (keep (words x0 h)) q k c M R) : ℝ) : EReal) := by
    rw [val_main_v67_apply]
    have e : idx_main_v67 (ix3 h R K) = ix3 h R 0 := by funext a; fin_cases a <;> rfl
    rw [e, val_main_v62_apply, val_main_v61_apply, val_main_cst_13_apply, val_main_v60_apply]
    show Ideal.div (Ideal.ofBits .f32 0x3F800000#32) ((_ : EReal) * _) = _
    rw [tot_row x0 hT x1 x2 x4 h q k c M hq hk hc hM R, bits_one, ← EReal.coe_mul, div_real _ _ (mul_ne_zero ht ht)]
  rw [val_main_v69_apply, val_main_v68_apply]
  show ((_ : EReal) * _) * _ = _
  rw [e67, gw_at x3 x5 h v d hv hd, ex_at x0 hT x1 x2 x4 h q k c M hq hk hc hM R K, ← EReal.coe_mul, ← EReal.coe_mul]

include hT hq hk hv hd hc hM in
theorem less_at (R K : T) : (val_main_v76 (F := Ideal) x0 x1 x2 x3 x4 x5 (ix3 h R K) : EReal)
    = ((-(∑ J, gw v d R J * (1 / (tot (keep (words x0 h)) q k c M R * tot (keep (words x0 h)) q k c M R)) * ex (keep (words x0 h)) q k c M R J) : ℝ) : EReal) := by
  have e70 : (val_main_v70 (F := Ideal) x0 x1 x2 x3 x4 x5 (ix2 h R) : EReal)
      = ((∑ J, gw v d R J * (1 / (tot (keep (words x0 h)) q k c M R * tot (keep (words x0 h)) q k c M R)) * ex (keep (words x0 h)) q k c M R J : ℝ) : EReal) := by
    rw [val_main_v70_apply, val_main_cst_14_apply]
    show Ideal.ofBits .f32 0x00000000#32 + _ = _
    rw [Ideal.ofBits_zero, zero_add, coe_sum]
    refine Finset.sum_congr rfl fun J _ => ?_
    have e : idx_main_v70 (ix2 h R) J = ix3 h R J := by funext a; fin_cases a <;> rfl
    rw [e]
    exact part_at x0 hT x1 x2 x3 x5 x4 h q k v d c M hq hk hv hd hc hM R J
  have e71 : idx_main_v71 (idx_main_v75 (idx_main_v76 (ix3 h R K)) 0) = ix2 h R := by
    funext a; fin_cases a
    · exact Fin.ext (by show ((h.val * 16384 + R.val) * 1 + 0) / 16384 = h.val; omega)
    · exact Fin.ext (by show ((h.val * 16384 + R.val) * 1 + 0) % 16384 = R.val; omega)
  rw [val_main_v76_apply, val_main_v75_apply, val_main_cst_15_apply]
  show Ideal.ofBits .f32 0x00000000#32 + _ = _
  rw [Ideal.ofBits_zero, zero_add, Fin.sum_univ_one, val_main_v72_apply, val_main_v71_apply, e71]
  show -(_ : EReal) = _
  rw [e70, ← EReal.coe_neg]

include hT hq hk hv hd hc hM in
theorem gs_at (R K : T) : (val_main_v79 (F := Ideal) x0 x1 x2 x3 x4 x5 (ix3 h R K) : EReal) = (gs (keep (words x0 h)) q k v d c M R K : EReal) := by
  have e73 : (val_main_v73 (F := Ideal) x0 x1 x2 x4 (ix3 h R K) : EReal) = (tot (keep (words x0 h)) q k c M R : EReal) := by
    rw [val_main_v73_apply, ← tot_row x0 hT x1 x2 x4 h q k c M hq hk hc hM R]
    exact congrArg _ (by funext a; fin_cases a <;> rfl)
  have e78 : (val_main_v78 (F := Ideal) x0 x1 x2 x3 x4 x5 (ix3 h R K) : EReal) = (gs (keep (words x0 h)) q k v d c M R K : EReal) := by
    rw [val_main_v78_apply, val_main_v77_apply, val_main_v74_apply]
    show (Ideal.div (_ : EReal) _ + _) * _ = _
    rw [gw_at x3 x5 h v d hv hd, e73, div_real _ _ (tot_pos (keep (words x0 h)) q k c M (keep_self _) R).ne', less_at x0 hT x1 x2 x3 x5 x4 h q k v d c M hq hk hv hd hc hM R K,
      ex_at x0 hT x1 x2 x4 h q k c M hq hk hc hM R K, ← EReal.coe_add, ← EReal.coe_mul, gs_eq]
  rw [val_main_v79_apply, keep_at x0 hT, WordCmp.select_ofBool, e78]
  split
  · rfl
  · rename_i hn
    rw [show gs (keep (words x0 h)) q k v d c M R K = 0 from by unfold gs; rw [wt_off (keep (words x0 h)) q k c M R K hn, zero_mul], val_main_call2_v0_apply]
    exact Ideal.ofBits_zero .f32

include hT hq hk hv hd hc hM in
theorem scaled_at (R K : T) : (val_main_v89 (F := Ideal) x0 x1 x2 x3 x4 x5 (ix3 h R K) : EReal) = ((gs (keep (words x0 h)) q k v d c M R K * (1 / 8) : ℝ) : EReal) := by
  rw [val_main_v89_apply, val_main_v88_apply, val_main_cst_20_apply]
  show (_ : EReal) * Ideal.ofBits .f32 0x3E000000#32 = _
  rw [gs_at x0 hT x1 x2 x3 x5 x4 h q k v d c M hq hk hv hd hc hM R K, bits_eighth, ← EReal.coe_mul]

include hT hq hk hv hd hc hM in
/-- The gradient of the queries, -/
theorem dq_at (R : T) (e : Fin 64) : (val_main_v91 (F := Ideal) x0 x1 x2 x3 x4 x5 (ix3 h R e) : EReal) = ((∑ K, gs (keep (words x0 h)) q k v d c M R K * (1 / 8) * k K e : ℝ) : EReal) := by
  rw [val_main_v91_apply, ← coe_sum_mul]
  refine Finset.sum_congr rfl fun K _ => ?_
  have e1 : lidx_main_v91 (ix3 h R e) K = ix3 h R K := by funext a; fin_cases a <;> rfl
  have e2 : ridx_main_v91 (ix3 h R e) K = ix3 h K e := by funext a; fin_cases a <;> rfl
  rw [e1, e2]
  exact congrArg₂ (fun a b : EReal => a * b) (scaled_at x0 hT x1 x2 x3 x5 x4 h q k v d c M hq hk hv hd hc hM R K) (hk K e)

include hT hq hk hv hd hc hM in
/-- of the keys, -/
theorem dk_at (K : T) (e : Fin 64) : (val_main_v90 (F := Ideal) x0 x1 x2 x3 x4 x5 (ix3 h K e) : EReal) = ((∑ R, gs (keep (words x0 h)) q k v d c M R K * (1 / 8) * q R e : ℝ) : EReal) := by
  rw [val_main_v90_apply, ← coe_sum_mul]
  refine Finset.sum_congr rfl fun R _ => ?_
  have e1 : lidx_main_v90 (ix3 h K e) R = ix3 h R K := by funext a; fin_cases a <;> rfl
  have e2 : ridx_main_v90 (ix3 h K e) R = ix3 h R e := by funext a; fin_cases a <;> rfl
  rw [e1, e2]
  exact congrArg₂ (fun a b : EReal => a * b) (scaled_at x0 hT x1 x2 x3 x5 x4 h q k v d c M hq hk hv hd hc hM R K) (hq R e)

include hT hq hk hd hc hM in
/-- of the values, -/
theorem dv_at (K : T) (e : Fin 64) : (val_main_v65 (F := Ideal) x0 x1 x2 x4 x5 (ix3 h K e) : EReal) = ((∑ R, d R e * wt (keep (words x0 h)) q k c M R K : ℝ) : EReal) := by
  rw [val_main_v65_apply, val_main_v64_apply, ← coe_sum_mul]
  refine Finset.sum_congr rfl fun R _ => ?_
  have e1 : lidx_main_v64 (idx_main_v65 (ix3 h K e)) R = ix3 h R e := by funext a; fin_cases a <;> rfl
  have e2 : ridx_main_v64 (idx_main_v65 (ix3 h K e)) R = ix3 h R K := by funext a; fin_cases a <;> rfl
  rw [e1, e2]
  exact congrArg₂ (fun a b : EReal => a * b) (hd R e) (wt_at x0 hT x1 x2 x4 h q k c M hq hk hc hM R K)

include hT hq hk hv hd hc hM in
/-- and of the running sums. -/
theorem dc_at (t : T) : (val_main_v87 (F := Ideal) x0 x1 x2 x3 x4 x5 (ix2 h t) : EReal) = ((∑ K, gs (keep (words x0 h)) q k v d c M t K - ∑ R, gs (keep (words x0 h)) q k v d c M R t : ℝ) : EReal) := by
  have e84 : (val_main_v84 (F := Ideal) x0 x1 x2 x3 x4 x5 (ix2 h t) : EReal) = ((∑ K, gs (keep (words x0 h)) q k v d c M t K : ℝ) : EReal) := by
    rw [val_main_v84_apply, val_main_cst_18_apply]
    show Ideal.ofBits .f32 0x00000000#32 + _ = _
    rw [Ideal.ofBits_zero, zero_add, coe_sum]
    refine Finset.sum_congr rfl fun K _ => ?_
    have e : idx_main_v84 (ix2 h t) K = ix3 h t K := by funext a; fin_cases a <;> rfl
    rw [e]
    exact gs_at x0 hT x1 x2 x3 x5 x4 h q k v d c M hq hk hv hd hc hM t K
  have e81 : (val_main_v81 (F := Ideal) x0 x1 x2 x3 x4 x5 (ix2 h t) : EReal) = ((-∑ R, gs (keep (words x0 h)) q k v d c M R t : ℝ) : EReal) := by
    rw [val_main_v81_apply, val_main_cst_16_apply]
    show Ideal.ofBits .f32 0x00000000#32 + _ = _
    rw [Ideal.ofBits_zero, zero_add, ← Finset.sum_neg_distrib, coe_sum]
    refine Finset.sum_congr rfl fun R _ => ?_
    have e : idx_main_v81 (ix2 h t) R = ix3 h R t := by funext a; fin_cases a <;> rfl
    rw [e, val_main_v80_apply]
    show -(_ : EReal) = _
    rw [gs_at x0 hT x1 x2 x3 x5 x4 h q k v d c M hq hk hv hd hc hM R t, ← EReal.coe_neg]
  have i85 : idx_main_v85 (idx_main_v86 (ix2 h t) 0) = ix2 h t := by
    funext a; fin_cases a
    · exact Fin.ext (by show ((h.val * 16384 + t.val) * 1 + 0) / 16384 = h.val; omega)
    · exact Fin.ext (by show ((h.val * 16384 + t.val) * 1 + 0) % 16384 = t.val; omega)
  have i82 : idx_main_v82 (idx_main_v83 (ix2 h t) 0) = ix2 h t := by
    funext a; fin_cases a
    · exact Fin.ext (by show ((h.val * 1 + 0) * 16384 + t.val) / 16384 = h.val; omega)
    · exact Fin.ext (by show ((h.val * 1 + 0) * 16384 + t.val) % 16384 = t.val; omega)
  rw [val_main_v87_apply, val_main_v83_apply, val_main_v86_apply, val_main_cst_17_apply, val_main_cst_19_apply]
  show (Ideal.ofBits .f32 0x00000000#32 + _) + (Ideal.ofBits .f32 0x00000000#32 + _) = _
  rw [Ideal.ofBits_zero, zero_add, zero_add, Fin.sum_univ_one, Fin.sum_univ_one, val_main_v82_apply, val_main_v85_apply, i82, i85, e81, e84, ← EReal.coe_add]
  exact congrArg (fun r : ℝ => (r : EReal)) (neg_add_eq_sub _ _)

/-- A left fold of additions of real numbers. -/
theorem foldl_real {ι : Type} (f : ι → EReal) (hf : ∀ n, ∃ r : ℝ, f n = (r : EReal)) (l : List ι) (a : EReal) (ha : ∃ r : ℝ, a = (r : EReal)) :
    ∃ r : ℝ, l.foldl (fun b n => b + f n) a = (r : EReal) := by
  induction l generalizing a with
  | nil => exact ha
  | cons n l ih =>
    obtain ⟨r, rfl⟩ := ha
    obtain ⟨s, hs⟩ := hf n
    exact ih _ ⟨r + s, by show (r : EReal) + f n = _; rw [hs, EReal.coe_add]⟩

/-- A sum over windows of real numbers and a real filling. -/
theorem window_real {s t u : Shape} (window strides lo hi : Fin s.rank → Nat) (x : s.Idx → EReal) (init : u.Idx → EReal) (hw : s.ReduceWindows window strides lo hi t)
    (hu : 0 < u.numel) (hx : ∀ i, ∃ r : ℝ, x i = (r : EReal)) (hi0 : ∃ r : ℝ, init (Shape.Idx.first hu) = (r : EReal)) (j : t.Idx) :
    ∃ r : ℝ, Host.reduceWindow (· + ·) window strides lo hi x init hw hu j = (r : EReal) := by
  unfold Host.reduceWindow
  refine foldl_real _ (fun n => ?_) _ _ hi0
  dsimp only
  split
  · exact hx _
  · exact hi0

/-- The running sums are real numbers. -/
theorem sums_real (h4 : ∀ i, ∃ r : ℝ, (x4 i : EReal) = (r : EReal)) (i : S16x16384.Idx) : ∃ r : ℝ, (val_main_v24 (F := Ideal) x4 i : EReal) = (r : EReal) := by
  have h0 : ∃ r : ℝ, (val_main_call0_call0_v0 (F := Ideal) (Shape.Idx.first h_S_) : EReal) = (r : EReal) :=
    ⟨0, by rw [val_main_call0_call0_v0_apply, val_main_call0_call0_cst_apply]; exact Ideal.ofBits_zero .f32⟩
  unfold val_main_v24 Host.reduceWindowAdd
  rw [Ideal.hostReduceWindowAdd_def]
  unfold Ideal.hostReduceWindowAdd
  exact window_real _ _ _ _ x4 _ _ _ h4 h0 i
end

end Cert.ReferenceIdeal.Read
end
-- ==== Proof.Val.Tile.lean ====
/- The call's four operands over the real numbers: every head's tile of 128 lanes, for arguments that hold real numbers. -/
module

public import proofs.«01_k».proof.Proof.Val.Host
public import proofs.«01_k».proof.Proof.Val.Ref
public import Idealize.ShloMosaic.Lib.Pointwise

@[expose] public section

set_option maxRecDepth 16384

noncomputable section

namespace Cert.KernelIdeal.Host

open Idealize.ShloMosaic Idealize.ShloMosaic.TcCoe Cert.KernelIdeal.Gen Cert.Attn
open Cert.ReferenceIdeal.Read (bits_one bits_eighth bits_bot)

theorem tile_at (f : Host.Rows Ideal) (a b : FVec Ideal S16x16384x3 .f32) (z : FVec Ideal S16x16384x58 .f32) (h : Fin 16) (R : Fin 16384) (e : Fin 128) :
    head (tile f a b z) h R e = (lanes f a b z (ix3 h R e) : EReal) := by
  unfold head tile
  generalize lanes f a b z = X
  refine (shapeCast_apply (transpose S16384x16x128 [1, 0, 2] X transposes_S16x16384x128_S16384x16x128_1_0_2) shapeCasts_S16384x16x128_S16384x2048 _ (ix3 R h e) ?_).trans ?_
  · rw [Shape.rowMajor_val_two, Shape.rowMajor_val_three]
    show (R.val * 16 + h.val) * 128 + e.val = R.val * 2048 + (128 * h.val + e.val)
    omega
  · pointwise

theorem lanes_at (f : Host.Rows Ideal) (a b : FVec Ideal S16x16384x3 .f32) (z : FVec Ideal S16x16384x58 .f32) (h : Fin 16) (R : Fin 16384) (f' : Fin 64 → ℝ) (a' b' : Fin 3 → ℝ)
    (hf : ∀ e, (f (ix3 h R e) : EReal) = (f' e : EReal)) (ha : ∀ e, (a (ix3 h R e) : EReal) = (a' e : EReal)) (hb : ∀ e, (b (ix3 h R e) : EReal) = (b' e : EReal))
    (hz : ∀ e, (z (ix3 h R e) : EReal) = 0) (e : Fin 128) : (lanes f a b z (ix3 h R e) : EReal) = (spread f' a' b' e : EReal) := by
  unfold lanes spread
  pointwise
  split
  · exact hf _
  · split
    · exact ha _
    · split
      · exact hb _
      · exact hz _

theorem zero58_at (h : Fin 16) (R : Fin 16384) (e : Fin 58) : (zero58 (F := Ideal) (ix3 h R e) : EReal) = 0 := by
  unfold zero58; pointwise
theorem zero3_at (h : Fin 16) (R : Fin 16384) (e : Fin 3) : (zero3 (F := Ideal) (ix3 h R e) : EReal) = (noughts e : EReal) := by
  unfold zero3; pointwise; rfl
theorem one3_at (h : Fin 16) (R : Fin 16384) (e : Fin 3) : (one3 (F := Ideal) (ix3 h R e) : EReal) = (ones e : EReal) := by
  unfold one3; pointwise; rfl

theorem near_eq (t : Tok Ideal) : near t = t := rfl
theorem three_at (t : Tok Ideal) (h : Fin 16) (R : Fin 16384) (x : ℝ) (hx : (t (ix2 h R) : EReal) = (x : EReal)) (e : Fin 3) :
    (three t (ix3 h R e) : EReal) = (first x e : EReal) := by
  unfold three beside lane rest first
  simp only [near_eq]
  pointwise
  fin_cases e <;> simp [hx]

section
variable (X : Pair Ideal) (x3 x5 : Host.Rows Ideal) (h : Fin 16) (κ : Keep) (q k v d : Attn.Rows) (c M : T → ℝ) (hκ : ∀ R, κ R R = true)
  (hX : ∀ R K, (X (ix3 h R K) : EReal) = masked κ q k c R K) (hM : ∀ R, (top X (ix2 h R) : EReal) = (M R : EReal))
  (hv : ∀ R e, (x3 (ix3 h R e) : EReal) = (v R e : EReal)) (hd : ∀ R e, (x5 (ix3 h R e) : EReal) = (d R e : EReal))

theorem add_log_at (a b : Tok Ideal) (i : S16x16384.Idx) : (addf a (Host.log b) i : EReal) = (a i : EReal) + Ideal.log (b i) := rfl
theorem div_at (a b : Pair Ideal) (i : S16x16384x16384.Idx) : (Host.divf a b i : EReal) = Ideal.div (a i) (b i) := rfl
theorem over_at (t : Tok Ideal) (R K : T) : over t (ix3 h R K) = t (ix2 h R) := by
  unfold over
  refine (broadcastInDim_apply _ bcast_S16x16384x1_S16x16384x16384_0_1_2 _ (ix3 h R K) (ix3 h R 0) fun a => ?_).trans
    (broadcastInDim_apply _ bcast_S16x16384_S16x16384x1_0_1 t (ix3 h R 0) (ix2 h R) fun a => ?_)
  · match a with
    | ⟨0, _⟩ => exact (if_neg (show ¬ (16 : Nat) = 1 by decide)).symm
    | ⟨1, _⟩ => exact (if_neg (show ¬ (16384 : Nat) = 1 by decide)).symm
    | ⟨2, _⟩ => exact (if_pos rfl).symm
  · match a with
    | ⟨0, _⟩ => exact (if_neg (show ¬ (16 : Nat) = 1 by decide)).symm
    | ⟨1, _⟩ => exact (if_neg (show ¬ (16384 : Nat) = 1 by decide)).symm

include hX hM in
theorem expo_at (R K : T) : (expo X (ix3 h R K) : EReal) = (ex κ q k c M R K : EReal) := by
  rw [← exp_masked, ← hX, ← hM, ← over_at h (top X) R K]
  rfl

include hX hM in
theorem total_at (R : T) : (total X (ix2 h R) : EReal) = (tot κ q k c M R : EReal) := by
  unfold total tot
  rw [coe_sum]
  refine Eq.trans (b := ∑ K : T, (expo X (ix3 h R K) : EReal)) ?_ (Finset.sum_congr rfl fun K _ => expo_at X h κ q k c M hX hM R K)
  generalize expo X = Y
  simp only [Host.reduceAdd, Ideal.hostReduceAdd_def]
  rw [Ideal.hostReduceAdd_single reducesTo_S16x16384x16384_S16x16384_d2 (by decide)]
  refine (congrArg (· + _) (Ideal.ofBits_zero .f32)).trans ((zero_add _).trans (Finset.sum_congr rfl fun K _ => congrArg Y ?_))
  exact funext fun a => Fin.ext (by match a with | ⟨0, _⟩ => rfl | ⟨1, _⟩ => rfl | ⟨2, _⟩ => rfl)

include hκ hX hM in
theorem lse_at (R : T) : (lse X (ix2 h R) : EReal) = ((M R + Real.log (tot κ q k c M R) : ℝ) : EReal) := by
  have e : (lse X (ix2 h R) : EReal) = (top X (ix2 h R) : EReal) + Ideal.log (total X (ix2 h R)) := add_log_at _ _ _
  rw [e, hM, total_at X h κ q k c M hX hM, EReal.coe_add]
  have hp := tot_pos κ q k c M hκ R
  exact congrArg _ (if_neg (not_le.2 hp))

include hκ hX hM hv in
theorem outs_at (R : T) (e : Fin 64) : (outs X x3 (ix3 h R e) : EReal) = ((∑ K, wt κ q k c M R K * v K e : ℝ) : EReal) := by
  unfold outs
  rw [← coe_sum_mul]
  have hw : ∀ K, (Host.divf (expo X) (over (total X)) (ix3 h R K) : EReal) = (wt κ q k c M R K : EReal) := fun K => by
    rw [div_at, over_at, expo_at X h κ q k c M hX hM, total_at X h κ q k c M hX hM, Cert.ReferenceIdeal.Read.div_real _ _ (tot_pos κ q k c M hκ R).ne']
    rfl
  refine Eq.trans (b := ∑ K : T, (Host.divf (expo X) (over (total X)) (ix3 h R K) : EReal) * (x3 (ix3 h K e) : EReal)) ?_
    (Finset.sum_congr rfl fun K _ => congrArg₂ (fun a b : EReal => a * b) (hw K) (hv K e))
  generalize Host.divf (expo X) (over (total X)) = Y
  pointwise

include hκ hX hM hv hd in
theorem delta_at (R : T) : (delta X x3 x5 (ix2 h R) : EReal) = (mean κ q k v d c M R : EReal) := by
  unfold delta
  rw [← mean_eq, ← coe_sum_mul]
  refine Eq.trans (b := ∑ e : Fin 64, (x5 (ix3 h R e) : EReal) * (outs X x3 (ix3 h R e) : EReal)) ?_
    (Finset.sum_congr rfl fun e _ => congrArg₂ (fun a b : EReal => a * b) (hd R e) (outs_at X x3 h κ q k v c M hκ hX hM hv R e))
  generalize outs X x3 = Y
  pointwise
end

section
variable (m : (ℓ : Loc nD τ sig) → Buf (Elt Ideal) ℓ) (dv : Dev nD) (h : Fin 16) (κ : Keep) (q k v d : Attn.Rows) (c M : T → ℝ) (hκ : ∀ R, κ R R = true)
  (hX : ∀ R K, (U₃ m dv (Proc.devRef .tc main_v34) (ix3 h R K) : EReal) = masked κ q k c R K)
  (hM : ∀ R, (top (F := Ideal) (U₃ m dv (Proc.devRef .tc main_v34)) (ix2 h R) : EReal) = (M R : EReal))
  (hq : ∀ R e, (m (dv, Proc.devRef .tc main_arg1) (ix3 h R e) : EReal) = (q R e : EReal)) (hk : ∀ R e, (m (dv, Proc.devRef .tc main_arg2) (ix3 h R e) : EReal) = (k R e : EReal))
  (hv : ∀ R e, (m (dv, Proc.devRef .tc main_arg3) (ix3 h R e) : EReal) = (v R e : EReal)) (hd : ∀ R e, (m (dv, Proc.devRef .tc main_arg5) (ix3 h R e) : EReal) = (d R e : EReal))
  (hc : ∀ R, (U₃ m dv (Proc.devRef .tc main_v0) (ix2 h R) : EReal) = (c R : EReal))

include hκ hX hM hq hc in
theorem q_tile : head (V m dv main_v70) h = up (tq κ q k c M) := by
  funext R e
  rw [V_after, after_v70, tile_at]
  refine lanes_at _ _ _ _ h R _ _ _ (fun e => ?_) (three_at _ h R _ ?_) (one3_at h R) (zero58_at h R) e
  · rw [U₃_kept m dv main_arg1 (by decide) (by decide) (by decide), EReal.coe_mul, ← hq, ← bits_eighth]
    rfl
  · rw [EReal.coe_sub, ← hc, ← lse_at _ h κ q k c M hκ hX hM]
    rfl

include hκ hX hM hv hd in
theorem d_tile : head (V m dv main_v88) h = up (td κ q k v d c M) := by
  funext R e
  rw [V_after, after_v88, tile_at]
  refine lanes_at _ _ _ _ h R _ _ _ (fun e => ?_) (three_at _ h R _ ?_) (zero3_at h R) (zero58_at h R) e
  · rw [U₃_kept m dv main_arg5 (by decide) (by decide) (by decide), hd]
  · rw [EReal.coe_neg, ← delta_at _ _ _ h κ q k v d c M hκ hX hM hv hd, U₃_kept m dv main_arg5 (by decide) (by decide) (by decide),
      U₃_kept m dv main_arg3 (by decide) (by decide) (by decide)]
    rfl

include hk hc in
theorem k_tile : head (V m dv main_v106) h = up (tk k c) := by
  funext R e
  rw [V_after, after_v106, tile_at]
  refine lanes_at _ _ _ _ h R _ _ _ (fun e => ?_) (one3_at h R) (three_at _ h R _ ?_) (zero58_at h R) e
  · rw [U₃_kept m dv main_arg2 (by decide) (by decide) (by decide), hk]
  · rw [EReal.coe_neg, ← hc]
    rfl

include hv in
theorem v_tile : head (V m dv main_v111) h = up (tv v) := by
  funext R e
  rw [V_after, after_v111, tile_at]
  refine lanes_at _ _ _ _ h R _ _ _ (fun e => ?_) (one3_at h R) (zero3_at h R) (zero58_at h R) e
  rw [U₃_kept m dv main_arg3 (by decide) (by decide) (by decide), hv]
end

end Cert.KernelIdeal.Host

end
-- ==== Proof.Val.Tail.lean ====
/- The lines after the launch, and the four gradients they leave: the reference's, at every index. -/
module

public import proofs.«01_k».proof.Proof.Val.Final
public import proofs.«01_k».proof.Proof.Val.Tile

@[expose] public section

set_option maxRecDepth 16384

noncomputable section

namespace Cert.KernelIdeal.Host

open Idealize.ShloMosaic Idealize.ShloMosaic.TcCoe Cert.KernelIdeal.Gen Cert.Words Cert.Attn
open Idealize.SL Idealize.SL.Sem

section
variable {F : FTy → Type} [FloatOps F] [Named F]

/-- The first 64 lanes, one lane, and the sums from each token to the end. -/
def feat {φ : FTy} (X : FVec F S16x16384x128 φ) : FVec F S16x16384x64 φ := extractStridedSlice S16x16384x64 ![0, 0, 0] X slices_S16x16384x128_S16x16384x64_0_0_0
def lane64 (X : FVec F S16x16384x128 .f32) : Tok F :=
  shapeCast S16x16384 (extractStridedSlice S16x16384x1 ![0, 0, 64] X slices_S16x16384x128_S16x16384x1_0_0_64) shapeCasts_S16x16384x1_S16x16384
def lane67 (X : FVec F S16x16384x128 .f32) : Tok F :=
  shapeCast S16x16384 (extractStridedSlice S16x16384x1 ![0, 0, 67] X slices_S16x16384x128_S16x16384x1_0_0_67) shapeCasts_S16x16384x1_S16x16384
def suffix (t : Tok F) : Tok F :=
  Host.reduceWindowAdd ![1, 16384] ![1, 1] ![0, 0] ![0, 16383] t (broadcastInDim S_ ![] bcast_S_S_ (constant S_ .f32 0x00000000#32))
    reduceWindows_S16x16384_S16x16384_w1s1p0_0_w16384s1p0_16383 h_S_

theorem after_v120 (U : Valuation τ sig (Elt F)) : StableHlo.after (opsOut (F := F)).flatten U (Proc.devRef .tc main_v120)
    = mulf (feat (φ := .f32) (U (Proc.devRef .tc main_v112_0))) eighth := by
  after_reads_simp
  rfl
theorem after_v121 (U : Valuation τ sig (Elt F)) : StableHlo.after (opsOut (F := F)).flatten U (Proc.devRef .tc main_v121)
    = feat (φ := .f32) (U (Proc.devRef .tc main_v112_1)) := by
  after_reads_simp
  rfl
theorem after_v123 (U : Valuation τ sig (Elt F)) : StableHlo.after (opsOut (F := F)).flatten U (Proc.devRef .tc main_v123)
    = extf .f32 (feat (φ := .bf16) (U (Proc.devRef .tc main_v112_2))) bitsLt_bf16_f32 := by
  after_reads_simp
  rfl
theorem after_v124 (U : Valuation τ sig (Elt F)) : StableHlo.after (opsOut (F := F)).flatten U (Proc.devRef .tc main_v124)
    = suffix (subf (lane64 (U (Proc.devRef .tc main_v112_0))) (lane67 (U (Proc.devRef .tc main_v112_1)))) := by
  after_reads_simp
  rfl
end

/-- The reference's last result is the same sums, of its own terms. -/
theorem v92_eq (x0 : (⟨S16x32, .i32⟩ : BufTy).Contents (Elt Ideal)) (x1 x2 x3 : Host.Rows Ideal) (x4 : Tok Ideal) (x5 : Host.Rows Ideal) :
    Cert.ReferenceIdeal.Read.val_main_v92 (F := Ideal) x0 x1 x2 x3 x4 x5 = suffix (F := Ideal) (Cert.ReferenceIdeal.Read.val_main_v87 (F := Ideal) x0 x1 x2 x3 x4 x5) := by
  unfold Cert.ReferenceIdeal.Read.val_main_v92
  generalize Cert.ReferenceIdeal.Read.val_main_v87 (F := Ideal) x0 x1 x2 x3 x4 x5 = t
  rfl

/-- The parts at an index. -/
theorem feat_at {φ : FTy} (X : FVec Ideal S16x16384x128 φ) (h : Fin 16) (R : Fin 16384) (e : Fin 64) :
    feat X (ix3 h R e) = X (ix3 h R ⟨e.val, by omega⟩) := by unfold feat; pointwise
theorem mul_eighth_at (X : FVec Ideal S16x16384x64 .f32) (i : S16x16384x64.Idx) : (mulf X eighth i : EReal) = (X i : EReal) * Ideal.ofBits .f32 0x3E000000#32 := rfl
theorem wide_at (X : FVec Ideal S16x16384x64 .bf16) (i : S16x16384x64.Idx) : (extf .f32 X bitsLt_bf16_f32 i : EReal) = (X i : EReal) := rfl
theorem sub_at (X Y : FVec Ideal S16x16384 .f32) (i : S16x16384.Idx) : (subf X Y i : EReal) = (X i : EReal) - (Y i : EReal) := rfl
theorem lane64_at (X : FVec Ideal S16x16384x128 .f32) (h : Fin 16) (R : Fin 16384) : lane64 X (ix2 h R) = X (ix3 h R 64) := by
  unfold lane64
  refine (shapeCast_apply _ shapeCasts_S16x16384x1_S16x16384 (ix2 h R) (ix3 h R 0) ?_).trans (by pointwise)
  rw [Shape.rowMajor_val_two, Shape.rowMajor_val_three]
  show (h.val * 16384 + R.val) * 1 + 0 = h.val * 16384 + R.val
  omega
theorem lane67_at (X : FVec Ideal S16x16384x128 .f32) (h : Fin 16) (R : Fin 16384) : lane67 X (ix2 h R) = X (ix3 h R 67) := by
  unfold lane67
  refine (shapeCast_apply _ shapeCasts_S16x16384x1_S16x16384 (ix2 h R) (ix3 h R 0) ?_).trans (by pointwise)
  rw [Shape.rowMajor_val_two, Shape.rowMajor_val_three]
  show (h.val * 16384 + R.val) * 1 + 0 = h.val * 16384 + R.val
  omega

section
variable (m : (ℓ : Loc nD τ sig) → Buf (Elt Ideal) ℓ) (hO : Ok m) (hH : Hyps m hO) (c : Dev nD) (hT : ∀ j, (tbl m 0 j : BitVec 32).toNat < 64)
/-- The buffers when the launch has ended. -/
def ended : Valuation τ sig (Elt Ideal) := Pipeline.withArrays spec0 c (V₀ m c) fun w => (dats m hO hH 0 c).arrAt w (cfgM m hO).N
include hT
theorem ended_0 : ended m hO hH c (Proc.devRef .tc main_v112_0) = G4 m c :=
  (Pipeline.withArrays_arr spec0 winFacts0.arr_inj c _ _ 4).trans (arr4 m hO hH c hT)
theorem ended_1 : ended m hO hH c (Proc.devRef .tc main_v112_1) = G5 m c :=
  (Pipeline.withArrays_arr spec0 winFacts0.arr_inj c _ _ 5).trans (arr5 m hO hH c hT)
theorem ended_2 : ended m hO hH c (Proc.devRef .tc main_v112_2) = G6 m c :=
  (Pipeline.withArrays_arr spec0 winFacts0.arr_inj c _ _ 6).trans (arr6 m hO hH c hT)
end

section
variable (m : (ℓ : Loc nD τ sig) → Buf (Elt Ideal) ℓ) (hT : ∀ j, (m (0, Proc.devRef .tc main_arg0) j : BitVec 32).toNat < 64)
  (h1 : ∀ i, ∃ r : ℝ, (m (0, Proc.devRef .tc main_arg1) i : EReal) = (r : EReal)) (h2 : ∀ i, ∃ r : ℝ, (m (0, Proc.devRef .tc main_arg2) i : EReal) = (r : EReal))
  (h3 : ∀ i, ∃ r : ℝ, (m (0, Proc.devRef .tc main_arg3) i : EReal) = (r : EReal)) (h4 : ∀ i, ∃ r : ℝ, (m (0, Proc.devRef .tc main_arg4) i : EReal) = (r : EReal))
  (h5 : ∀ i, ∃ r : ℝ, (m (0, Proc.devRef .tc main_arg5) i : EReal) = (r : EReal))

/-- The forms of the four results that the launch's arrays give. -/
theorem sum_scale (f g : T → ℝ) : (∑ K, f K * g K) * (1 / 8) = ∑ K, f K * (1 / 8) * g K := by
  rw [Finset.sum_mul]; exact Finset.sum_congr rfl fun _ _ => by ring
theorem sum_scaled (f g : T → ℝ) : ∑ K, f K * (g K * (1 / 8)) = ∑ K, f K * (1 / 8) * g K := Finset.sum_congr rfl fun _ _ => by ring

include hT h1 h2 h3 h4 h5 in
/-- A head's four gradients are the reference's. -/
theorem gradients (h : Fin 16) :
    (∀ R e, (mulf (F := Ideal) (φ := .f32) (feat (φ := .f32) (G4 m 0)) eighth (ix3 h R e) : EReal) = Cert.ReferenceIdeal.Read.val_main_v91 (F := Ideal) (m (0, Proc.devRef .tc main_arg0)) (m (0, Proc.devRef .tc main_arg1)) (m (0, Proc.devRef .tc main_arg2)) (m (0, Proc.devRef .tc main_arg3)) (m (0, Proc.devRef .tc main_arg4)) (m (0, Proc.devRef .tc main_arg5)) (ix3 h R e))
    ∧ (∀ R e, (feat (F := Ideal) (φ := .f32) (G5 m 0) (ix3 h R e) : EReal) = Cert.ReferenceIdeal.Read.val_main_v90 (F := Ideal) (m (0, Proc.devRef .tc main_arg0)) (m (0, Proc.devRef .tc main_arg1)) (m (0, Proc.devRef .tc main_arg2)) (m (0, Proc.devRef .tc main_arg3)) (m (0, Proc.devRef .tc main_arg4)) (m (0, Proc.devRef .tc main_arg5)) (ix3 h R e))
    ∧ (∀ R e, (feat (F := Ideal) (φ := .bf16) (G6 m 0) (ix3 h R e) : EReal) = Cert.ReferenceIdeal.Read.val_main_v65 (F := Ideal) (m (0, Proc.devRef .tc main_arg0)) (m (0, Proc.devRef .tc main_arg1)) (m (0, Proc.devRef .tc main_arg2)) (m (0, Proc.devRef .tc main_arg4)) (m (0, Proc.devRef .tc main_arg5)) (ix3 h R e))
    ∧ (∀ R, (subf (F := Ideal) (φ := .f32) (lane64 (G4 m 0)) (lane67 (G5 m 0)) (ix2 h R) : EReal) = Cert.ReferenceIdeal.Read.val_main_v87 (F := Ideal) (m (0, Proc.devRef .tc main_arg0)) (m (0, Proc.devRef .tc main_arg1)) (m (0, Proc.devRef .tc main_arg2)) (m (0, Proc.devRef .tc main_arg3)) (m (0, Proc.devRef .tc main_arg4)) (m (0, Proc.devRef .tc main_arg5)) (ix2 h R)) := by
  obtain ⟨q, hq⟩ : ∃ q : Attn.Rows, ∀ R e, (m (0, Proc.devRef .tc main_arg1) (ix3 h R e) : EReal) = (q R e : EReal) := ⟨fun R e => (h1 (ix3 h R e)).choose, fun R e => (h1 (ix3 h R e)).choose_spec⟩
  obtain ⟨k, hk⟩ : ∃ k : Attn.Rows, ∀ R e, (m (0, Proc.devRef .tc main_arg2) (ix3 h R e) : EReal) = (k R e : EReal) := ⟨fun R e => (h2 (ix3 h R e)).choose, fun R e => (h2 (ix3 h R e)).choose_spec⟩
  obtain ⟨v, hv⟩ : ∃ v : Attn.Rows, ∀ R e, (m (0, Proc.devRef .tc main_arg3) (ix3 h R e) : EReal) = (v R e : EReal) := ⟨fun R e => (h3 (ix3 h R e)).choose, fun R e => (h3 (ix3 h R e)).choose_spec⟩
  obtain ⟨d, hd⟩ : ∃ d : Attn.Rows, ∀ R e, (m (0, Proc.devRef .tc main_arg5) (ix3 h R e) : EReal) = (d R e : EReal) := ⟨fun R e => (h5 (ix3 h R e)).choose, fun R e => (h5 (ix3 h R e)).choose_spec⟩
  have hs := fun R : T => Cert.ReferenceIdeal.Read.sums_real _ h4 (ix2 h R)
  obtain ⟨c, hc⟩ : ∃ c : T → ℝ, ∀ R : T, (Cert.ReferenceIdeal.Read.val_main_v24 (F := Ideal) (m (0, Proc.devRef .tc main_arg4)) (ix2 h R) : EReal) = (c R : EReal) := ⟨fun R => (hs R).choose, fun R => (hs R).choose_spec⟩
  have ht := fun R : T => Cert.ReferenceIdeal.Read.top_real _ hT _ _ _ h q k c hq hk hc R
  obtain ⟨M, hM⟩ : ∃ M : T → ℝ, ∀ R : T, (Cert.ReferenceIdeal.Read.val_main_v35 (F := Ideal) (m (0, Proc.devRef .tc main_arg0)) (m (0, Proc.devRef .tc main_arg1)) (m (0, Proc.devRef .tc main_arg2)) (m (0, Proc.devRef .tc main_arg4)) (ix2 h R) : EReal) = (M R : EReal) := ⟨fun R => (ht R).choose, fun R => (ht R).choose_spec⟩
  have hκ : ∀ R, keep (words (m (0, Proc.devRef .tc main_arg0)) h) R R = true := fun R => Cert.ReferenceIdeal.Read.keep_self _ R
  have eκ : kp m h = keep (words (m (0, Proc.devRef .tc main_arg0)) h) := congrArg (fun t => keep (words t h)) (V_main_arg0 m 0)
  have hX : ∀ R K, (U₃ m 0 (Proc.devRef .tc main_v34) (ix3 h R K) : EReal) = masked (keep (words (m (0, Proc.devRef .tc main_arg0)) h)) q k c R K := fun R K =>
    (congrFun (U₃_v34 m 0) _).trans (Cert.ReferenceIdeal.Read.masked_at _ hT _ _ _ h q k c hq hk hc R K)
  have hM' : ∀ R, (top (F := Ideal) (U₃ m 0 (Proc.devRef .tc main_v34)) (ix2 h R) : EReal) = (M R : EReal) := fun R =>
    (congrFun (congrArg (top (F := Ideal)) (U₃_v34 m 0)) _).trans (hM R)
  have hc' : ∀ R, (U₃ m 0 (Proc.devRef .tc main_v0) (ix2 h R) : EReal) = (c R : EReal) := fun R => (congrFun (U₃_v0 m 0) _).trans (hc R)
  have eQ := q_tile m 0 h _ q k c M hκ hX hM' hq hc'
  have eD := d_tile m 0 h _ q k v d c M hκ hX hM' hv hd
  have eK := k_tile m 0 h k c hk hc'
  have eV := v_tile m 0 h v hv
  have g4 : ∀ R e, (G4 m 0 (ix3 h R e) : EReal) = ((∑ K, gs (keep (words (m (0, Proc.devRef .tc main_arg0)) h)) q k v d c M R K * tk k c K e : ℝ) : EReal) := fun R e => by
    show dQ (kp m h) (Q m 0 h) (D m 0 h) (Ky m 0 h) (Vl m 0 h) R e = _
    rw [show Q m 0 h = _ from eQ, show D m 0 h = _ from eD, show Ky m 0 h = _ from eK, show Vl m 0 h = _ from eV, eκ]
    exact dQ_eq _ q k v d c M hκ R e
  have g5 : ∀ K e, (G5 m 0 (ix3 h K e) : EReal) = ((∑ R, gs (keep (words (m (0, Proc.devRef .tc main_arg0)) h)) q k v d c M R K * tq (keep (words (m (0, Proc.devRef .tc main_arg0)) h)) q k c M R e : ℝ) : EReal) := fun R e => by
    show dK (kp m h) (Q m 0 h) (D m 0 h) (Ky m 0 h) (Vl m 0 h) R e = _
    rw [show Q m 0 h = _ from eQ, show D m 0 h = _ from eD, show Ky m 0 h = _ from eK, show Vl m 0 h = _ from eV, eκ]
    exact dK_eq _ q k v d c M hκ R e
  have g6 : ∀ K e, (G6 m 0 (ix3 h K e) : EReal) = ((∑ R, wt (keep (words (m (0, Proc.devRef .tc main_arg0)) h)) q k c M R K * td (keep (words (m (0, Proc.devRef .tc main_arg0)) h)) q k v d c M R e : ℝ) : EReal) := fun R e => by
    show dV (kp m h) (Q m 0 h) (D m 0 h) (Ky m 0 h) R e = _
    rw [show Q m 0 h = _ from eQ, show D m 0 h = _ from eD, show Ky m 0 h = _ from eK, eκ]
    exact dV_eq _ q k v d c M hκ R e
  refine ⟨fun R e => ?_, fun R e => ?_, fun R e => ?_, fun R => ?_⟩
  · rw [Cert.ReferenceIdeal.Read.dq_at _ hT _ _ _ _ _ h q k v d c M hq hk hv hd hc hM R e, ← sum_scale, EReal.coe_mul, ← Cert.ReferenceIdeal.Read.bits_eighth]
    refine (mul_eighth_at _ _).trans (congrArg (fun a : EReal => a * Ideal.ofBits .f32 0x3E000000#32) ((feat_at (φ := .f32) (G4 m 0) h R e).trans ((g4 R _).trans ?_)))
    simp only [tk, spread_lo]
  · rw [Cert.ReferenceIdeal.Read.dk_at _ hT _ _ _ _ _ h q k v d c M hq hk hv hd hc hM R e, ← sum_scaled]
    refine (feat_at (φ := .f32) (G5 m 0) h R e).trans ((g5 R _).trans ?_)
    simp only [tq, spread_lo]
  · rw [Cert.ReferenceIdeal.Read.dv_at _ hT _ _ _ _ h q k d c M hq hk hd hc hM R e]
    refine (feat_at (φ := .bf16) (G6 m 0) h R e).trans ((g6 R _).trans ?_)
    simp only [td, spread_lo, mul_comm]
  · rw [Cert.ReferenceIdeal.Read.dc_at _ hT _ _ _ _ _ h q k v d c M hq hk hv hd hc hM R, EReal.coe_sub]
    refine (sub_at _ _ _).trans (congrArg₂ (fun a b : EReal => a - b) ((lane64_at (G4 m 0) h R).trans ((g4 R _).trans ?_)) ((lane67_at (G5 m 0) h R).trans ((g5 R _).trans ?_)))
    · simp only [tk_64, mul_one]
    · simp only [tq_67, mul_one]
end

end Cert.KernelIdeal.Host
end
-- ==== Proof.W.Sum.lean ====
/- A sum over the 16384 rows of an array, taken block by block: eight blocks of 2048 rows. -/
module

public import Idealize.ShloMosaic.Lib.Pipeline.Value
public import Idealize.ShloMosaic.Lib.Pointwise

@[expose] public section

noncomputable section

namespace Cert.Rows

/-- The row of the array that is row r of the block which point n of a run of eight takes. -/
abbrev row (n : ℕ) (r : Fin 2048) : Fin 16384 := ⟨2048 * (n % 8) + r.val, by have := r.isLt; omega⟩

/-- The eight blocks of a run are all the rows, each once. -/
theorem sum_rows {β : Type} [AddCommMonoid β] (g : Fin 16384 → β) (q : ℕ) :
    (∑ s ∈ Finset.range 8, ∑ r : Fin 2048, g (row (8 * q + s) r)) = ∑ k : Fin 16384, g k := by
  rw [Finset.sum_range, ← Fintype.sum_prod_type' (f := fun (s : Fin 8) (r : Fin 2048) => g (row (8 * q + s.val) r))]
  refine Fintype.sum_equiv (finProdFinEquiv (m := 8) (n := 2048)) _ (fun k : Fin 16384 => g k) fun x => congrArg g (Fin.ext ?_)
  show 2048 * ((8 * q + x.1.val) % 8) + x.2.val = x.2.val + 2048 * x.1.val
  have := x.1.isLt
  omega

end Cert.Rows

end
-- ==== Proof.W.In.lean ====
/- The gradient of the convolution layer's first weight: what the launch leaves in its stack of four parts is, at an index, the
   sum over the rows of the products of the two arrays' entries, which is the reference's gradient there. -/
module

public import proofs.«01_k».proof.Defs
public import proofs.«01_k».proof.Proof.Gen.KernelInIdeal
public import proofs.«01_k».proof.Proof.Gen.KernelInIdeal.Value
public import proofs.«01_k».proof.Proof.Gen.ReferenceInIdeal
public import proofs.«01_k».proof.Proof.Gen.ReferenceInIdeal.Read
public import proofs.«01_k».proof.Proof.W.Sum
public import Idealize.ShloMosaic.Lib.Quiescent

@[expose] public section

set_option maxRecDepth 16384

noncomputable section

namespace Cert.KernelInIdeal.Value

open Cert.KernelInIdeal Cert.KernelInIdeal.Gen Idealize.ShloMosaic Idealize.ShloMosaic.TcCoe Idealize.SL.Sem Cert.Rows

variable (m : (ℓ : Loc nD τ sig) → Buf (Elt Ideal) ℓ)

/-- The body's step at an index: what was there, and the product of the two blocks' columns. -/
theorem step_at (v : Vec Ideal S1x1024x1024 .f32) (a b : Vec Ideal S2048x1024 .bf16) (z : Fin 1) (d e : Fin 1024) :
    (k0_pay2 v a b (ix3 z d e) : EReal) = v (ix3 z d e) + ∑ r : Fin 2048, (a (ix2 r d) : EReal) * b (ix2 r e) := by
  obtain rfl : z = 0 := Subsingleton.elim _ _
  unfold k0_pay2
  pointwise

theorem zero_at (z : Fin 1) (d e : Fin 1024) : (k0_pay1 (F := Ideal) (ix3 z d e) : EReal) = 0 := by
  unfold k0_pay1
  pointwise

/-- The two arrays. -/
abbrev lhs (c : Dev nD) : Vec Ideal S16384x1024 .bf16 := m ((c : Thread nD τ).loc main_arg0)
abbrev rhs (c : Dev nD) : Vec Ideal S16384x4096 .bf16 := m ((c : Thread nD τ).loc main_arg1)

theorem maps_in : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

/-- A point's blocks, read at an index. -/
theorem left_at (c : Dev nD) (t : Fin cfg0.N) (r : Fin 2048) (d : Fin 1024) :
    iblk m c 0 t (ix2 r d) = lhs m c (ix2 (row t.val r) d) := by
  obtain ⟨e0, e1, -, -⟩ := maps_in t
  show V m c main_arg0 (((cfg0.win 0).blk t).view.emb (ix2 r d)) = V m c main_arg0 (ix2 (row t.val r) d)
  refine congrArg _ (funext fun a => Fin.ext ?_)
  match a with
  | ⟨0, _⟩ => show win0_0.index t (0 : Fin 2) * 2048 + 1 * r.val = 2048 * (t.val % 8) + r.val; omega
  | ⟨1, _⟩ => show win0_0.index t (1 : Fin 2) * 1024 + 1 * d.val = d.val; omega

/-- The columns of the four parts, one part a run. -/
theorem right_at (c : Dev nD) (t : Fin cfg0.N) (r : Fin 2048) (e : Fin 1024) (q : ℕ) (hq : q < 4) (ht : t.val / 8 = q) :
    iblk m c 1 t (ix2 r e) = rhs m c (ix2 (row t.val r) ⟨1024 * q + e.val, by have := e.isLt; omega⟩) := by
  obtain ⟨-, -, e0, e1⟩ := maps_in t
  show V m c main_arg1 (((cfg0.win 1).blk t).view.emb (ix2 r e)) = V m c main_arg1 _
  refine congrArg _ (funext fun a => Fin.ext ?_)
  match a with
  | ⟨0, _⟩ => show win0_1.index t (0 : Fin 2) * 2048 + 1 * r.val = 2048 * (t.val % 8) + r.val; omega
  | ⟨1, _⟩ => show win0_1.index t (1 : Fin 2) * 1024 + 1 * e.val = 1024 * q + e.val; omega

/-- The launch's result at an index. -/
theorem part_at (c : Dev nD) (q : Fin 4) (d e : Fin 1024) :
    (G2 m c (ix3 q d e) : EReal) = ∑ k : Fin 16384, (lhs m c (ix2 k d) : EReal)
      * rhs m c (ix2 k ⟨1024 * q.val + e.val, by have := e.isLt; have := q.isLt; omega⟩) := by
  have hq := q.isLt
  have hd := d.isLt
  have he := e.isLt
  have hN : cfg0.N = 32 := N_0
  have hr : run2Of (ix3 q d e) = q.val := by
    show 1 * (q.val / 1 - 0) + 1 * (d.val / 1024 - 0) + 1 * (e.val / 1024 - 0) = q.val
    omega
  have hl : loc2Of (ix3 q d e) = ix3 (0 : Fin 1) d e := by
    funext a; apply Fin.ext
    match a with
    | ⟨0, _⟩ => show q.val % 1 = 0; omega
    | ⟨1, _⟩ => show d.val % 1024 = d.val; omega
    | ⟨2, _⟩ => show e.val % 1024 = e.val; omega
  unfold G2
  rw [dif_pos (by rw [hr]; omega), hl]
  have key := Pipeline.accAt_add_apply (N := cfg0.N) (β := EReal) (reset2 m c) (step2 m c) (fun _ => 0)
    (fun n i => ∑ r : Fin 2048, (lhs m c (ix2 (row n r) (i 1)) : EReal)
      * rhs m c (ix2 (row n r) ⟨1024 * q.val + (i 2).val, by have : (i 2).val < 1024 := (i 2).isLt; omega⟩))
    (8 * run2Of (ix3 q d e)) 7 ?_ ?_ 7 (le_refl 7) (by rw [hr]; omega) (ix3 (0 : Fin 1) d e)
  · refine key.trans ((zero_add _).trans ?_)
    exact sum_rows (fun k => (lhs m c (ix2 k d) : EReal) * rhs m c (ix2 k ⟨1024 * q.val + e.val, by omega⟩)) _
  · intro h i
    rw [eq_ix3 i]
    unfold reset2
    refine (step_at ..).trans (congrArg₂ (· + ·) (zero_at ..) (Finset.sum_congr rfl fun r _ => ?_))
    exact congrArg₂ (HMul.hMul (α := EReal)) (left_at m c _ r _) (right_at m c _ r _ q.val hq (by show 8 * run2Of (ix3 q d e) / 8 = q.val; rw [hr]; omega))
  · intro n h acc i h1 h2
    rw [hr] at h1 h2
    rw [eq_ix3 i]
    unfold step2
    refine (step_at ..).trans (congrArg (_ + ·) (Finset.sum_congr rfl fun r _ => ?_))
    exact congrArg₂ (HMul.hMul (α := EReal)) (left_at m c _ r _) (right_at m c _ r _ q.val hq (by show n / 8 = q.val; omega))

end Cert.KernelInIdeal.Value

namespace Cert.Proof

open Idealize.ShloMosaic Idealize.SL.Sem

/-- The reference's gradient at an index: the columns of part q begin at 1024 q. -/
theorem in_reference (x : (⟨Cert.ReferenceInIdeal.S16384x1024, .bf16⟩ : BufTy).Contents (Elt Ideal)) (y : (⟨Cert.ReferenceInIdeal.S16384x4096, .bf16⟩ : BufTy).Contents (Elt Ideal))
    (q : Fin 4) (d e : Fin 1024) :
    (Cert.ReferenceInIdeal.Read.val_main_v7 (F := Ideal) x y (ix3 q d e) : EReal)
      = ∑ k : Fin 16384, (x (ix2 k d) : EReal) * y (ix2 k ⟨1024 * q.val + e.val, by have := e.isLt; have := q.isLt; omega⟩) := by
  have hd := d.isLt
  have he := e.isLt
  have hq := q.isLt
  open Cert.ReferenceInIdeal.Read in
  rw [val_main_v7_apply, val_main_v6_apply, val_main_v5_apply, val_main_v4_apply]
  refine Finset.sum_congr rfl fun k _ => (mul_comm _ _).trans (congrArg₂ (· * ·) ?_ ?_)
  · refine congrArg (fun i => (x i : EReal)) (funext fun a => Fin.ext ?_)
    match a with
    | ⟨0, _⟩ => rfl
    | ⟨1, _⟩ => show ((d.val * 4 + q.val) * 1024 + e.val) / 4096 = d.val; omega
  · refine congrArg (fun i => (y i : EReal)) (funext fun a => Fin.ext ?_)
    match a with
    | ⟨0, _⟩ => rfl
    | ⟨1, _⟩ => show ((d.val * 4 + q.val) * 1024 + e.val) % 4096 = 1024 * q.val + e.val; omega

theorem frame_reference_in : @Cert.quiescent_ReferenceInIdeal Cert.ReferenceInIdeal.Gen.facts := fun m g _ =>
  (θ_run Cert.ReferenceInIdeal.defs _ _).mono (fun r h => ⟨fun c => (h c).2, sem_eq_zero_of_no_sems (by decide) r.2⟩) (Cert.ReferenceInIdeal.Value.run m g)

theorem whole_in (m : (ℓ : Loc Cert.KernelInIdeal.nD Cert.KernelInIdeal.τ Cert.KernelInIdeal.sig) → Buf (Elt Ideal) ℓ) (c : Dev Cert.KernelInIdeal.nD) :
    Cert.ReferenceInIdeal.Read.val_main_v7 (F := Ideal) (Cert.KernelInIdeal.Value.lhs m c) (Cert.KernelInIdeal.Value.rhs m c) = Cert.KernelInIdeal.Value.G2 m c :=
  funext fun i => by
    rw [eq_ix3 i]
    exact (in_reference _ _ _ _ _).trans (Cert.KernelInIdeal.Value.part_at m c _ _ _).symm

theorem values_in : @Cert.algebraic_KernelInIdeal_ReferenceInIdeal Cert.KernelInIdeal.Gen.facts Cert.ReferenceInIdeal.Gen.facts := by
  intro m g m' g' _ he
  refine ⟨fun c => Cert.KernelInIdeal.Value.G2 m c, Cert.KernelInIdeal.Value.run m g, ?_⟩
  refine (θ_run Cert.ReferenceInIdeal.defs _ _).mono (fun r h c => ⟨?_, (h c).2⟩) (Cert.ReferenceInIdeal.Value.run m' g')
  refine (h c).1.trans ((Cert.ReferenceInIdeal.Read.val_main_v7_eq (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1))).trans ?_)
  exact (congrArg₂ (Cert.ReferenceInIdeal.Read.val_main_v7 (F := Ideal)) (he c).1 (he c).2).trans (whole_in m c)

end Cert.Proof

end
-- ==== Proof.W.Out.lean ====
/- The gradient of the convolution layer's last weight, which is at the same shapes that of the attention layer's last weight: at an
   index the sum over the rows of the products of the two arrays' entries. -/
module

public import proofs.«01_k».proof.Defs
public import proofs.«01_k».proof.Proof.Gen.KernelOutIdeal
public import proofs.«01_k».proof.Proof.Gen.KernelOutIdeal.Value
public import proofs.«01_k».proof.Proof.Gen.ReferenceOutIdeal
public import proofs.«01_k».proof.Proof.Gen.ReferenceOutIdeal.Read
public import proofs.«01_k».proof.Proof.W.Sum
public import Idealize.ShloMosaic.Lib.Quiescent

@[expose] public section

set_option maxRecDepth 16384

noncomputable section

namespace Cert.KernelOutIdeal.Value

open Cert.KernelOutIdeal Cert.KernelOutIdeal.Gen Idealize.ShloMosaic Idealize.ShloMosaic.TcCoe Idealize.SL.Sem Cert.Rows

variable (m : (ℓ : Loc nD τ sig) → Buf (Elt Ideal) ℓ)

/-- The body's step at an index: what was there, and the product of the two blocks' columns. -/
theorem step_at (v : Vec Ideal S1024x1024 .f32) (a : Vec Ideal S2048x1024 .bf16) (b : Vec Ideal S2048x1024 .bf16) (d : Fin 1024) (e : Fin 1024) :
    (k0_pay2 v a b (ix2 d e) : EReal) = v (ix2 d e) + ∑ r : Fin 2048, (a (ix2 r d) : EReal) * b (ix2 r e) := by
  unfold k0_pay2
  pointwise

theorem zero_at (d : Fin 1024) (e : Fin 1024) : (k0_pay1 (F := Ideal) (ix2 d e) : EReal) = 0 := by
  unfold k0_pay1
  pointwise

/-- The two arrays. -/
abbrev lhs (c : Dev nD) : Vec Ideal S16384x1024 .bf16 := m ((c : Thread nD τ).loc main_arg0)
abbrev rhs (c : Dev nD) : Vec Ideal S16384x1024 .bf16 := m ((c : Thread nD τ).loc main_arg1)

theorem maps_in : ∀ t : Fin cfg0.N, win0_0.index t (0 : Fin 2) = t.val % 8 ∧ win0_0.index t (1 : Fin 2) = 0
    ∧ win0_1.index t (0 : Fin 2) = t.val % 8 ∧ win0_1.index t (1 : Fin 2) = 0 :=
  (by decide +kernel : ∀ t : Fin grid0.N, _)

/-- A point's blocks, read at an index. -/
theorem left_at (c : Dev nD) (t : Fin cfg0.N) (r : Fin 2048) (d : Fin 1024) :
    iblk m c 0 t (ix2 r d) = lhs m c (ix2 (row t.val r) d) := by
  obtain ⟨e0, e1, -, -⟩ := maps_in t
  show V m c main_arg0 (((cfg0.win 0).blk t).view.emb (ix2 r d)) = V m c main_arg0 (ix2 (row t.val r) d)
  refine congrArg _ (funext fun a => Fin.ext ?_)
  match a with
  | ⟨0, _⟩ => show win0_0.index t (0 : Fin 2) * 2048 + 1 * r.val = 2048 * (t.val % 8) + r.val; omega
  | ⟨1, _⟩ => show win0_0.index t (1 : Fin 2) * 1024 + 1 * d.val = d.val; omega

theorem right_at (c : Dev nD) (t : Fin cfg0.N) (r : Fin 2048) (e : Fin 1024) :
    iblk m c 1 t (ix2 r e) = rhs m c (ix2 (row t.val r) e) := by
  obtain ⟨-, -, e0, e1⟩ := maps_in t
  show V m c main_arg1 (((cfg0.win 1).blk t).view.emb (ix2 r e)) = V m c main_arg1 _
  refine congrArg _ (funext fun a => Fin.ext ?_)
  match a with
  | ⟨0, _⟩ => show win0_1.index t (0 : Fin 2) * 2048 + 1 * r.val = 2048 * (t.val % 8) + r.val; omega
  | ⟨1, _⟩ => show win0_1.index t (1 : Fin 2) * 1024 + 1 * e.val = e.val; omega

/-- The launch's result at an index. -/
theorem part_at (c : Dev nD) (d : Fin 1024) (e : Fin 1024) :
    (G2 m c (ix2 d e) : EReal) = ∑ k : Fin 16384, (lhs m c (ix2 k d) : EReal) * rhs m c (ix2 k e) := by
  have hd := d.isLt
  have he := e.isLt
  have hN : cfg0.N = 8 := N_0
  have hr : run2Of (ix2 d e) = 0 := by
    show 1 * (d.val / 1024 - 0) + 1 * (e.val / 1024 - 0) = 0
    omega
  have hl : loc2Of (ix2 d e) = ix2 d e := by
    funext a; apply Fin.ext
    match a with
    | ⟨0, _⟩ => show d.val % 1024 = d.val; omega
    | ⟨1, _⟩ => show e.val % 1024 = e.val; omega
  unfold G2
  rw [dif_pos (by rw [hr]; omega), hl]
  have key := Pipeline.accAt_add_apply (N := cfg0.N) (β := EReal) (reset2 m c) (step2 m c) (fun _ => 0)
    (fun n i => ∑ r : Fin 2048, (lhs m c (ix2 (row n r) (i 0)) : EReal) * rhs m c (ix2 (row n r) (i 1)))
    (8 * run2Of (ix2 d e)) 7 ?_ ?_ 7 (le_refl 7) (by rw [hr]; omega) (ix2 d e)
  · refine key.trans ((zero_add _).trans ?_)
    exact sum_rows (fun k => (lhs m c (ix2 k d) : EReal) * rhs m c (ix2 k e)) _
  · intro h i
    rw [eq_ix2 i]
    unfold reset2
    refine (step_at ..).trans (congrArg₂ (· + ·) (zero_at ..) (Finset.sum_congr rfl fun r _ => ?_))
    exact congrArg₂ (HMul.hMul (α := EReal)) (left_at m c _ r _) (right_at m c _ r _)
  · intro n h acc i h1 h2
    rw [eq_ix2 i]
    unfold step2
    refine (step_at ..).trans (congrArg (_ + ·) (Finset.sum_congr rfl fun r _ => ?_))
    exact congrArg₂ (HMul.hMul (α := EReal)) (left_at m c _ r _) (right_at m c _ r _)

end Cert.KernelOutIdeal.Value

namespace Cert.Proof

open Idealize.ShloMosaic Idealize.SL.Sem

/-- The reference's gradient at an index. -/
theorem out_reference (x : (⟨Cert.ReferenceOutIdeal.S16384x1024, .bf16⟩ : BufTy).Contents (Elt Ideal)) (y : (⟨Cert.ReferenceOutIdeal.S16384x1024, .bf16⟩ : BufTy).Contents (Elt Ideal))
    (d : Fin 1024) (e : Fin 1024) :
    (Cert.ReferenceOutIdeal.Read.val_main_v5 (F := Ideal) x y (ix2 d e) : EReal) = ∑ k : Fin 16384, (x (ix2 k d) : EReal) * y (ix2 k e) := by
  open Cert.ReferenceOutIdeal.Read in
  rw [val_main_v5_apply, val_main_v4_apply]
  refine Finset.sum_congr rfl fun k _ => (mul_comm _ _).trans (congrArg₂ (· * ·) ?_ ?_)
  · refine congrArg (fun i => (x i : EReal)) (funext fun a => Fin.ext ?_)
    match a with
    | ⟨0, _⟩ => rfl
    | ⟨1, _⟩ => rfl
  · refine congrArg (fun i => (y i : EReal)) (funext fun a => Fin.ext ?_)
    match a with
    | ⟨0, _⟩ => rfl
    | ⟨1, _⟩ => rfl

theorem frame_reference_out : @Cert.quiescent_ReferenceOutIdeal Cert.ReferenceOutIdeal.Gen.facts := fun m g _ =>
  (θ_run Cert.ReferenceOutIdeal.defs _ _).mono (fun r h => ⟨fun c => (h c).2, sem_eq_zero_of_no_sems (by decide) r.2⟩) (Cert.ReferenceOutIdeal.Value.run m g)

theorem whole_out (m : (ℓ : Loc Cert.KernelOutIdeal.nD Cert.KernelOutIdeal.τ Cert.KernelOutIdeal.sig) → Buf (Elt Ideal) ℓ) (c : Dev Cert.KernelOutIdeal.nD) :
    Cert.ReferenceOutIdeal.Read.val_main_v5 (F := Ideal) (Cert.KernelOutIdeal.Value.lhs m c) (Cert.KernelOutIdeal.Value.rhs m c) = Cert.KernelOutIdeal.Value.G2 m c :=
  funext fun i => by
    rw [eq_ix2 i]
    exact (out_reference _ _ _ _).trans (Cert.KernelOutIdeal.Value.part_at m c _ _).symm

theorem values_out : @Cert.algebraic_KernelOutIdeal_ReferenceOutIdeal Cert.KernelOutIdeal.Gen.facts Cert.ReferenceOutIdeal.Gen.facts := by
  intro m g m' g' _ he
  refine ⟨fun c => Cert.KernelOutIdeal.Value.G2 m c, Cert.KernelOutIdeal.Value.run m g, ?_⟩
  refine (θ_run Cert.ReferenceOutIdeal.defs _ _).mono (fun r h c => ⟨?_, (h c).2⟩) (Cert.ReferenceOutIdeal.Value.run m' g')
  refine (h c).1.trans ((Cert.ReferenceOutIdeal.Read.val_main_v5_eq (F := Ideal) (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1))).trans ?_)
  exact (congrArg₂ (Cert.ReferenceOutIdeal.Read.val_main_v5 (F := Ideal)) (he c).1 (he c).2).trans (whole_out m c)

end Cert.Proof

end
-- ==== Proof.W.Attn.lean ====
/- The gradient of the attention layer's first weight in the columns of q, k, v and the gate: two runs of eight points, one for each half of
   the 4096 columns. After a run the launch holds, at an index, the sum over all the rows of the products of the two arrays' entries. -/
module

public import proofs.«01_k».proof.Defs
public import proofs.«01_k».proof.Proof.Gen.KernelAttnIdeal
public import proofs.«01_k».proof.Proof.Gen.KernelAttnIdeal.Value
public import proofs.«01_k».proof.Proof.Gen.ReferenceAttnIdeal
public import proofs.«01_k».proof.Proof.Gen.ReferenceAttnIdeal.Read
public import proofs.«01_k».proof.Proof.W.Sum
public import Idealize.ShloMosaic.Lib.Quiescent

@[expose] public section

set_option maxRecDepth 16384

noncomputable section

namespace Cert.KernelAttnIdeal.Value

open Cert.KernelAttnIdeal Cert.KernelAttnIdeal.Gen Idealize.ShloMosaic Idealize.ShloMosaic.TcCoe Idealize.SL.Sem Cert.Rows

variable (m : (ℓ : Loc nD τ sig) → Buf (Elt Ideal) ℓ)

/-- The body's step at an index: what was there, and the product of the two blocks' columns. -/
theorem step_at (v : Vec Ideal S1024x2048 .f32) (a : Vec Ideal S2048x1024 .bf16) (b : Vec Ideal S2048x2048 .bf16) (d : Fin 1024) (e : Fin 2048) :
    (k0_pay2 v a b (ix2 d e) : EReal) = v (ix2 d e) + ∑ r : Fin 2048, (a (ix2 r d) : EReal) * b (ix2 r e) := by
  unfold k0_pay2
  pointwise

theorem zero_at (d : Fin 1024) (e : Fin 2048) : (k0_pay1 (F := Ideal) (ix2 d e) : EReal) = 0 := by
  unfold k0_pay1
  pointwise

theorem origin : (![0, 0] : Fin 2 → Nat) = fun _ => 0 := by funext a; fin_cases a <;> rfl

/-- What the first point of a run leaves in the result's buffer, -/
theorem first_point (c : Dev nD) (i : grid0.Coords) (arg2 : Memref sig .tc .vmem S2048x1024 .bf16) (h2 : arg2.IsWhole) (arg3 : Memref sig .tc .vmem S2048x2048 .bf16)
    (h3 : arg3.IsWhole) (arg4 : Memref sig .tc .vmem S1024x2048 .f32) (h4 : arg4.IsWhole) (hc : cond0_0 i) (a : Vec Ideal S2048x1024 .bf16) (b : Vec Ideal S2048x2048 .bf16) :
    out0_A_2 c i arg2 h2 arg3 h3 arg4 h4 hc a b = k0_pay2 (k0_pay1 (F := Ideal)) a b := by
  rw [out0_A_2, View.read_writes_eq_canon _ _ _ (cover0_A_2 c i arg2 h2 arg3 h3 arg4 h4 hc a b)]
  unfold kernelRun0_A
  dsimp only
  try sl_unfold_words
  rw [View.canon_cons_unit_zero (S := S1024x2048) origin, View.readCov_unit_zero (S := S1024x2048) _ origin]
  simp only [View.readAt_eq_ld, h2.read_unread, h3.read_unread, h4.read_unread, View.ld_unit_zero (S := S1024x2048) origin,
    View.ld_unit_zero (S := S2048x1024) origin, View.ld_unit_zero (S := S2048x2048) origin, shapeCast_self]

/-- and a later point, over what the one before left. -/
theorem later_point (c : Dev nD) (i : grid0.Coords) (arg2 : Memref sig .tc .vmem S2048x1024 .bf16) (h2 : arg2.IsWhole) (arg3 : Memref sig .tc .vmem S2048x2048 .bf16)
    (h3 : arg3.IsWhole) (arg4 : Memref sig .tc .vmem S1024x2048 .f32) (h4 : arg4.IsWhole) (hc : ¬cond0_0 i) (a : Vec Ideal S2048x1024 .bf16) (b : Vec Ideal S2048x2048 .bf16)
    (o : Vec Ideal S1024x2048 .f32) :
    out0_B_2 c i arg2 h2 arg3 h3 arg4 h4 hc a b o = k0_pay2 o a b := by
  rw [out0_B_2, View.read_writes_eq_canon _ _ _ (cover0_B_2 c i arg2 h2 arg3 h3 arg4 h4 hc a b o)]
  unfold kernelRun0_B
  dsimp only
  try sl_unfold_words
  rw [View.canon_unit_zero origin]
  simp only [View.readAt_eq_ld, h2.read_unread, h3.read_unread, h4.read_unread, View.ld_unit_zero (S := S1024x2048) origin,
    View.ld_unit_zero (S := S2048x1024) origin, View.ld_unit_zero (S := S2048x2048) origin, shapeCast_self]

/-- The two arrays. -/
abbrev lhs (c : Dev nD) : Vec Ideal S16384x1024 .bf16 := m ((c : Thread nD τ).loc main_arg0)
abbrev rhs (c : Dev nD) : Vec Ideal S16384x4224 .bf16 := m ((c : Thread nD τ).loc main_arg1)

theorem maps_in : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

/-- A point's blocks, read at an index. -/
theorem left_at (c : Dev nD) (t : Fin cfg0.N) (r : Fin 2048) (d : Fin 1024) :
    iblk m c 0 t (ix2 r d) = lhs m c (ix2 (row t.val r) d) := by
  obtain ⟨e0, e1, -⟩ := maps_in t
  show V m c main_arg0 (((cfg0.win 0).blk t).view.emb (ix2 r d)) = V m c main_arg0 (ix2 (row t.val r) d)
  refine congrArg _ (funext fun a => Fin.ext ?_)
  match a with
  | ⟨0, _⟩ => show win0_0.index t (0 : Fin 2) * 2048 + 1 * r.val = 2048 * (t.val % 8) + r.val; omega
  | ⟨1, _⟩ => show win0_0.index t (1 : Fin 2) * 1024 + 1 * d.val = d.val; omega

/-- Column e of the half a point is in. -/
abbrev col (n : ℕ) (e : Fin 2048) : Fin 4224 := ⟨2048 * (n / 8 % 2) + e.val, by have := e.isLt; omega⟩

theorem right_at (c : Dev nD) (t : Fin cfg0.N) (r : Fin 2048) (e : Fin 2048) :
    X0_1 m c t (ix2 r e) = rhs m c (ix2 (row t.val r) (col t.val e)) := by
  obtain ⟨-, -, e0, e1, -⟩ := maps_in t
  have hN : cfg0.N = 16 := N_0
  have ht := t.isLt
  unfold X0_1 Pipeline.Window.fill
  rw [dif_pos (moved0_1 t _)]
  show V m c main_arg1 (((cfg0.win 1).blk t).view.emb _) = V m c main_arg1 _
  refine congrArg _ (funext fun a => Fin.ext ?_)
  match a with
  | ⟨0, _⟩ => show win0_1.index t (0 : Fin 2) * 2048 + 1 * r.val = 2048 * (t.val % 8) + r.val; omega
  | ⟨1, _⟩ => show win0_1.index t (1 : Fin 2) * 2048 + 1 * e.val = 2048 * (t.val / 8 % 2) + e.val; omega

/-- What point n adds. -/
def adds (c : Dev nD) (n : ℕ) (d : Fin 1024) (e : Fin 2048) : EReal :=
  ∑ r : Fin 2048, (lhs m c (ix2 (row n r) d) : EReal) * rhs m c (ix2 (row n r) (col n e))

/-- A point's two blocks. -/
abbrev left (c : Dev nD) (t : Fin cfg0.N) : Vec Ideal S2048x1024 .bf16 := iblk m c 0 t
abbrev right (c : Dev nD) (t : Fin cfg0.N) : Vec Ideal S2048x2048 .bf16 := X0_1 m c t

theorem adds_eq (c : Dev nD) (t : Fin cfg0.N) (d : Fin 1024) (e : Fin 2048) :
    ∑ r : Fin 2048, (left m c t (ix2 r d) : EReal) * (right m c t (ix2 r e) : EReal) = adds m c t.val d e :=
  Finset.sum_congr rfl fun r _ => congrArg₂ (HMul.hMul (α := EReal)) (left_at m c t r d) (right_at m c t r e)

theorem begin_at (c : Dev nD) (t : Fin cfg0.N) (h : t.val % 8 = 0) (d : Fin 1024) (e : Fin 2048) :
    (outsAt0 m c t.val t.isLt (ix2 d e) : EReal) = adds m c t.val d e := by
  rw [outsAt0_A m c t h]
  refine (congrFun (first_point c (grid0.coords t) _ _ _ _ _ _ _ (left m c t) (right m c t)) (ix2 d e)).trans ?_
  refine (step_at (k0_pay1 (F := Ideal)) (left m c t) (right m c t) d e).trans ?_
  rw [zero_at, adds_eq, zero_add]

theorem next_at (c : Dev nD) (t : Fin cfg0.N) (h : ¬t.val % 8 = 0) (d : Fin 1024) (e : Fin 2048) :
    (outsAt0 m c t.val t.isLt (ix2 d e) : EReal) = (outsAt0 m c (t.val - 1) (Nat.lt_of_le_of_lt (Nat.sub_le _ _) t.isLt) (ix2 d e) : EReal) + adds m c t.val d e := by
  rw [outsAt0_B m c t h]
  refine (congrFun (later_point c (grid0.coords t) _ _ _ _ _ _ _ (left m c t) (right m c t) _) (ix2 d e)).trans ?_
  refine (step_at _ (left m c t) (right m c t) d e).trans ?_
  rw [adds_eq]

/-- What the result's buffer holds after point n: what the points of its run have added so far. -/
theorem held (c : Dev nD) (n : ℕ) : ∀ (h : n < cfg0.N) (d : Fin 1024) (e : Fin 2048),
    (outsAt0 m c n h (ix2 d e) : EReal) = ∑ s ∈ Finset.range (n % 8 + 1), adds m c (8 * (n / 8) + s) d e := by
  induction n with
  | zero =>
    intro h d e
    refine (begin_at m c ⟨0, h⟩ rfl d e).trans ?_
    rw [show 0 % 8 + 1 = 1 by rfl, Finset.sum_range_one, show 8 * (0 / 8) + 0 = 0 by rfl]
  | succ n ih =>
    intro h d e
    by_cases h0 : (n + 1) % 8 = 0
    · refine (begin_at m c ⟨n + 1, h⟩ h0 d e).trans ?_
      rw [h0, Finset.sum_range_one, show 8 * ((n + 1) / 8) + 0 = n + 1 by omega]
    · refine (next_at m c ⟨n + 1, h⟩ h0 d e).trans ((congrArg (· + adds m c (n + 1) d e) (ih (Nat.lt_of_succ_lt h) d e)).trans ?_)
      rw [show (n + 1) % 8 = n % 8 + 1 by omega, show (n + 1) / 8 = n / 8 by omega, Finset.sum_range_succ _ (n % 8 + 1),
        show 8 * (n / 8) + (n % 8 + 1) = n + 1 by omega]

/-- The launch's result. -/
def G2 (c : Dev nD) : Vec Ideal S1024x4096 .f32 := fun i =>
  (∑ k : Fin 16384, (lhs m c (ix2 k (i 0)) : EReal) * rhs m c (ix2 k ⟨(i 1).val, (i 1).isLt.trans (by decide)⟩) : EReal)

/-- Column e of the half a point writes. -/
abbrev place (t : Fin cfg0.N) (e : Fin 2048) : Fin 4096 :=
  ⟨2048 * (t.val / 8) + e.val, by have := e.isLt; have := t.isLt; have : cfg0.N = 16 := N_0; omega⟩

/-- A run's last point writes its half of whatever array holds the run's sums there. -/
theorem written_of (c : Dev nD) (t : Fin cfg0.N) (g : Buf (Elt Ideal) ((c : Thread nD τ).loc main_v0)) (o : Vec Ideal S1024x2048 .f32)
    (ho : outsAt0 m c t.val t.isLt = o) (hg : ∀ (d : Fin 1024) (e : Fin 2048), o (ix2 d e) = g (ix2 d (place t e))) :
    (dats m 0 c).flushed 2 t = ((cfg0.win 2).blk t).view.read (Elt Ideal) g := by
  obtain ⟨-, -, -, -, e0, e1⟩ := maps_in t
  rw [flushed2, ho]
  funext y
  have hy0 : (y 0).val < 1024 := (y 0).isLt
  have hy1 : (y 1).val < 2048 := (y 1).isLt
  have hx : (cfg0.win 2).xinj (grid0.coords t) y = ix2 (⟨(y 0).val, hy0⟩ : Fin 1024) (⟨(y 1).val, hy1⟩ : Fin 2048) := by
    funext a; apply Fin.ext
    match a with
    | ⟨0, _⟩ => rfl
    | ⟨1, _⟩ => rfl
  have hb : ((cfg0.win 2).blk t).view.emb y = ix2 (⟨(y 0).val, hy0⟩ : Fin 1024) (place t ⟨(y 1).val, hy1⟩) := by
    funext a; apply Fin.ext
    match a with
    | ⟨0, _⟩ => show win0_2.index t (0 : Fin 2) * 1024 + 1 * (y 0).val = (y 0).val; omega
    | ⟨1, _⟩ => show win0_2.index t (1 : Fin 2) * 2048 + 1 * (y 1).val = 2048 * (t.val / 8) + (y 1).val; omega
  show o ((cfg0.win 2).xinj (grid0.coords t) y) = g (((cfg0.win 2).blk t).view.emb y)
  rw [hx, hb]
  exact hg _ _

theorem sums (c : Dev nD) (t : Fin cfg0.N) (h7 : t.val % 8 = 7) (d : Fin 1024) (e : Fin 2048) :
    (outsAt0 m c t.val t.isLt (ix2 d e) : EReal) = G2 m c (ix2 d (place t e)) := by
  have hN : cfg0.N = 16 := N_0
  have ht := t.isLt
  refine (held m c t.val t.isLt _ _).trans ?_
  rw [h7]
  refine Eq.trans ?_ (sum_rows (fun k => (lhs m c (ix2 k d) : EReal) * rhs m c (ix2 k ⟨2048 * (t.val / 8) + e.val, by have := e.isLt; omega⟩)) (t.val / 8))
  refine Finset.sum_congr rfl fun s hs => Finset.sum_congr rfl fun r _ => ?_
  have hs8 := Finset.mem_range.mp hs
  refine congrArg (fun x => (lhs m c (ix2 _ d) : EReal) * rhs m c (ix2 _ x)) (Fin.ext ?_)
  show 2048 * ((8 * (t.val / 8) + s) / 8 % 2) + e.val = 2048 * (t.val / 8) + e.val
  omega

theorem written (c : Dev nD) (t : Fin cfg0.N) (hf : (cfg0.win 2).flush t = true) :
    (dats m 0 c).flushed 2 t = ((cfg0.win 2).blk t).view.read (Elt Ideal) (G2 m c) :=
  written_of m c t (G2 m c) _ rfl (sums m c t ((flush0_2 t).mp hf))

theorem mem_half (t : Fin cfg0.N) (i : S1024x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- The two halves make the whole. -/
theorem whole_array (c : Dev nD) : (dats m 0 c).arrAt 2 cfg0.N = G2 m c :=
  (dats m 0 c).arrAt_eq_of_cover 2 _ (fun t hf => written m c t hf) (fun i => by
    have h0 : (i 0).val < 1024 := (i 0).isLt
    have h1 : (i 1).val < 4096 := (i 1).isLt
    have hN : cfg0.N = 16 := N_0
    have hlt : 8 * ((i 1).val / 2048) + 7 < cfg0.N := by omega
    obtain ⟨-, -, -, -, e0, e1⟩ := maps_in ⟨8 * ((i 1).val / 2048) + 7, hlt⟩
    refine ⟨⟨8 * ((i 1).val / 2048) + 7, hlt⟩, (flush0_2 _).mpr (by show (8 * ((i 1).val / 2048) + 7) % 8 = 7; omega), (mem_half _ _).mpr fun a => ?_⟩
    have e1' : win0_2.index ⟨8 * ((i 1).val / 2048) + 7, hlt⟩ (1 : Fin 2) = (8 * ((i 1).val / 2048) + 7) / 8 := e1
    match a with
    | ⟨0, _⟩ => show win0_2.index _ (0 : Fin 2) * 1024 ≤ (i 0).val ∧ (i 0).val < win0_2.index _ (0 : Fin 2) * 1024 + 1024; rw [e0]; omega
    | ⟨1, _⟩ => show win0_2.index _ (1 : Fin 2) * 2048 ≤ (i 1).val ∧ (i 1).val < win0_2.index _ (1 : Fin 2) * 2048 + 2048; rw [e1']; omega)

theorem run (ρ : Dev nD → PrngReg) : θ_run defs (onTc (τ := τ) (main (F := Ideal))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (whole_array m c), (h c).2⟩) (run_blocks m ρ)

end Cert.KernelAttnIdeal.Value

namespace Cert.Proof

open Idealize.ShloMosaic Idealize.SL.Sem

/-- The reference's gradient at an index. -/
theorem attn_reference (x : (⟨Cert.ReferenceAttnIdeal.S16384x1024, .bf16⟩ : BufTy).Contents (Elt Ideal)) (y : (⟨Cert.ReferenceAttnIdeal.S16384x4224, .bf16⟩ : BufTy).Contents (Elt Ideal))
    (d : Fin 1024) (e : Fin 4096) :
    (Cert.ReferenceAttnIdeal.Read.val_main_v6 (F := Ideal) x y (ix2 d e) : EReal) = ∑ k : Fin 16384, (x (ix2 k d) : EReal) * y (ix2 k ⟨e.val, by have := e.isLt; omega⟩) := by
  open Cert.ReferenceAttnIdeal.Read in
  rw [val_main_v6_apply, val_main_v5_apply, val_main_v4_apply]
  refine Finset.sum_congr rfl fun k _ => (mul_comm _ _).trans (congrArg₂ (· * ·) ?_ ?_)
  · refine congrArg (fun i => (x i : EReal)) (funext fun a => Fin.ext ?_)
    match a with
    | ⟨0, _⟩ => rfl
    | ⟨1, _⟩ => rfl
  · refine congrArg (fun i => (y i : EReal)) (funext fun a => Fin.ext ?_)
    match a with
    | ⟨0, _⟩ => rfl
    | ⟨1, _⟩ => rfl

theorem frame_reference_attn : @Cert.quiescent_ReferenceAttnIdeal Cert.ReferenceAttnIdeal.Gen.facts := fun m g _ =>
  (θ_run Cert.ReferenceAttnIdeal.defs _ _).mono (fun r h => ⟨fun c => (h c).2, sem_eq_zero_of_no_sems (by decide) r.2⟩) (Cert.ReferenceAttnIdeal.Value.run m g)

theorem whole_attn (m : (ℓ : Loc Cert.KernelAttnIdeal.nD Cert.KernelAttnIdeal.τ Cert.KernelAttnIdeal.sig) → Buf (Elt Ideal) ℓ) (c : Dev Cert.KernelAttnIdeal.nD) :
    Cert.ReferenceAttnIdeal.Read.val_main_v6 (F := Ideal) (Cert.KernelAttnIdeal.Value.lhs m c) (Cert.KernelAttnIdeal.Value.rhs m c) = Cert.KernelAttnIdeal.Value.G2 m c :=
  funext fun i => by
    rw [eq_ix2 i]
    exact attn_reference _ _ _ _

theorem values_attn : @Cert.algebraic_KernelAttnIdeal_ReferenceAttnIdeal Cert.KernelAttnIdeal.Gen.facts Cert.ReferenceAttnIdeal.Gen.facts := by
  intro m g m' g' _ he
  refine ⟨fun c => Cert.KernelAttnIdeal.Value.G2 m c, Cert.KernelAttnIdeal.Value.run m g, ?_⟩
  refine (θ_run Cert.ReferenceAttnIdeal.defs _ _).mono (fun r h c => ⟨?_, (h c).2⟩) (Cert.ReferenceAttnIdeal.Value.run m' g')
  refine (h c).1.trans ((Cert.ReferenceAttnIdeal.Read.val_main_v6_eq (F := Ideal) (m' ((c.tc : Thread Cert.ReferenceAttnIdeal.nD Cert.ReferenceAttnIdeal.τ).loc Cert.ReferenceAttnIdeal.main_arg0)) (m' ((c.tc : Thread Cert.ReferenceAttnIdeal.nD Cert.ReferenceAttnIdeal.τ).loc Cert.ReferenceAttnIdeal.main_arg1))).trans ?_)
  exact (congrArg₂ (Cert.ReferenceAttnIdeal.Read.val_main_v6 (F := Ideal)) (he c).1 (he c).2).trans (whole_attn m c)

end Cert.Proof

end
-- ==== Proof.W.Forget.lean ====
/- The gradient of the forget gates' columns of the attention layer's first weight: at an index the sum over the rows of the products of
   the two arrays' entries, the columns of the second from 4096 on. -/
module

public import proofs.«01_k».proof.Defs
public import proofs.«01_k».proof.Proof.Gen.KernelForgetIdeal
public import proofs.«01_k».proof.Proof.Gen.KernelForgetIdeal.Value
public import proofs.«01_k».proof.Proof.Gen.ReferenceForgetIdeal
public import proofs.«01_k».proof.Proof.Gen.ReferenceForgetIdeal.Read
public import proofs.«01_k».proof.Proof.W.Sum
public import Idealize.ShloMosaic.Lib.Quiescent

@[expose] public section

set_option maxRecDepth 16384

noncomputable section

namespace Cert.KernelForgetIdeal.Value

open Cert.KernelForgetIdeal Cert.KernelForgetIdeal.Gen Idealize.ShloMosaic Idealize.ShloMosaic.TcCoe Idealize.SL.Sem Cert.Rows

variable (m : (ℓ : Loc nD τ sig) → Buf (Elt Ideal) ℓ)

/-- The body's step at an index: what was there, and the product of the two blocks' columns. -/
theorem step_at (v : Vec Ideal S1024x128 .f32) (a : Vec Ideal S2048x1024 .bf16) (b : Vec Ideal S2048x128 .bf16) (d : Fin 1024) (e : Fin 128) :
    (k0_pay2 v a b (ix2 d e) : EReal) = v (ix2 d e) + ∑ r : Fin 2048, (a (ix2 r d) : EReal) * b (ix2 r e) := by
  unfold k0_pay2
  pointwise

theorem zero_at (d : Fin 1024) (e : Fin 128) : (k0_pay1 (F := Ideal) (ix2 d e) : EReal) = 0 := by
  unfold k0_pay1
  pointwise

/-- The two arrays. -/
abbrev lhs (c : Dev nD) : Vec Ideal S16384x1024 .bf16 := m ((c : Thread nD τ).loc main_arg0)
abbrev rhs (c : Dev nD) : Vec Ideal S16384x4224 .bf16 := m ((c : Thread nD τ).loc main_arg1)

theorem maps_in : ∀ t : Fin cfg0.N, win0_0.index t (0 : Fin 2) = t.val % 8 ∧ win0_0.index t (1 : Fin 2) = 0
    ∧ win0_1.index t (0 : Fin 2) = t.val % 8 ∧ win0_1.index t (1 : Fin 2) = 32 :=
  (by decide +kernel : ∀ t : Fin grid0.N, _)

/-- A point's blocks, read at an index. -/
theorem left_at (c : Dev nD) (t : Fin cfg0.N) (r : Fin 2048) (d : Fin 1024) :
    iblk m c 0 t (ix2 r d) = lhs m c (ix2 (row t.val r) d) := by
  obtain ⟨e0, e1, -, -⟩ := maps_in t
  show V m c main_arg0 (((cfg0.win 0).blk t).view.emb (ix2 r d)) = V m c main_arg0 (ix2 (row t.val r) d)
  refine congrArg _ (funext fun a => Fin.ext ?_)
  match a with
  | ⟨0, _⟩ => show win0_0.index t (0 : Fin 2) * 2048 + 1 * r.val = 2048 * (t.val % 8) + r.val; omega
  | ⟨1, _⟩ => show win0_0.index t (1 : Fin 2) * 1024 + 1 * d.val = d.val; omega

theorem right_at (c : Dev nD) (t : Fin cfg0.N) (r : Fin 2048) (e : Fin 128) :
    iblk m c 1 t (ix2 r e) = rhs m c (ix2 (row t.val r) ⟨4096 + e.val, by have := e.isLt; omega⟩) := by
  obtain ⟨-, -, e0, e1⟩ := maps_in t
  show V m c main_arg1 (((cfg0.win 1).blk t).view.emb (ix2 r e)) = V m c main_arg1 _
  refine congrArg _ (funext fun a => Fin.ext ?_)
  match a with
  | ⟨0, _⟩ => show win0_1.index t (0 : Fin 2) * 2048 + 1 * r.val = 2048 * (t.val % 8) + r.val; omega
  | ⟨1, _⟩ => show win0_1.index t (1 : Fin 2) * 128 + 1 * e.val = 4096 + e.val; omega

/-- The launch's result at an index. -/
theorem part_at (c : Dev nD) (d : Fin 1024) (e : Fin 128) :
    (G2 m c (ix2 d e) : EReal) = ∑ k : Fin 16384, (lhs m c (ix2 k d) : EReal) * rhs m c (ix2 k ⟨4096 + e.val, by have := e.isLt; omega⟩) := by
  have hd := d.isLt
  have he := e.isLt
  have hN : cfg0.N = 8 := N_0
  have hr : run2Of (ix2 d e) = 0 := by
    show 1 * (d.val / 1024 - 0) + 1 * (e.val / 128 - 0) = 0
    omega
  have hl : loc2Of (ix2 d e) = ix2 d e := by
    funext a; apply Fin.ext
    match a with
    | ⟨0, _⟩ => show d.val % 1024 = d.val; omega
    | ⟨1, _⟩ => show e.val % 128 = e.val; omega
  unfold G2
  rw [dif_pos (by rw [hr]; omega), hl]
  have key := Pipeline.accAt_add_apply (N := cfg0.N) (β := EReal) (reset2 m c) (step2 m c) (fun _ => 0)
    (fun n i => ∑ r : Fin 2048, (lhs m c (ix2 (row n r) (i 0)) : EReal) * rhs m c (ix2 (row n r) ⟨4096 + (i 1).val, by have : (i 1).val < 128 := (i 1).isLt; omega⟩))
    (8 * run2Of (ix2 d e)) 7 ?_ ?_ 7 (le_refl 7) (by rw [hr]; omega) (ix2 d e)
  · refine key.trans ((zero_add _).trans ?_)
    exact sum_rows (fun k => (lhs m c (ix2 k d) : EReal) * rhs m c (ix2 k ⟨4096 + e.val, by have := e.isLt; omega⟩)) _
  · intro h i
    rw [eq_ix2 i]
    unfold reset2
    refine (step_at ..).trans (congrArg₂ (· + ·) (zero_at ..) (Finset.sum_congr rfl fun r _ => ?_))
    exact congrArg₂ (HMul.hMul (α := EReal)) (left_at m c _ r _) (right_at m c _ r _)
  · intro n h acc i h1 h2
    rw [eq_ix2 i]
    unfold step2
    refine (step_at ..).trans (congrArg (_ + ·) (Finset.sum_congr rfl fun r _ => ?_))
    exact congrArg₂ (HMul.hMul (α := EReal)) (left_at m c _ r _) (right_at m c _ r _)

end Cert.KernelForgetIdeal.Value

namespace Cert.Proof

open Idealize.ShloMosaic Idealize.SL.Sem

/-- The reference's gradient at an index. -/
theorem forget_reference (x : (⟨Cert.ReferenceForgetIdeal.S16384x1024, .bf16⟩ : BufTy).Contents (Elt Ideal)) (y : (⟨Cert.ReferenceForgetIdeal.S16384x4224, .bf16⟩ : BufTy).Contents (Elt Ideal))
    (d : Fin 1024) (e : Fin 128) :
    (Cert.ReferenceForgetIdeal.Read.val_main_v6 (F := Ideal) x y (ix2 d e) : EReal) = ∑ k : Fin 16384, (x (ix2 k d) : EReal) * y (ix2 k ⟨4096 + e.val, by have := e.isLt; omega⟩) := by
  open Cert.ReferenceForgetIdeal.Read in
  rw [val_main_v6_apply, val_main_v5_apply, val_main_v4_apply]
  refine Finset.sum_congr rfl fun k _ => (mul_comm _ _).trans (congrArg₂ (· * ·) ?_ ?_)
  · refine congrArg (fun i => (x i : EReal)) (funext fun a => Fin.ext ?_)
    match a with
    | ⟨0, _⟩ => rfl
    | ⟨1, _⟩ => rfl
  · refine congrArg (fun i => (y i : EReal)) (funext fun a => Fin.ext ?_)
    match a with
    | ⟨0, _⟩ => rfl
    | ⟨1, _⟩ => rfl

theorem frame_reference_forget : @Cert.quiescent_ReferenceForgetIdeal Cert.ReferenceForgetIdeal.Gen.facts := fun m g _ =>
  (θ_run Cert.ReferenceForgetIdeal.defs _ _).mono (fun r h => ⟨fun c => (h c).2, sem_eq_zero_of_no_sems (by decide) r.2⟩) (Cert.ReferenceForgetIdeal.Value.run m g)

theorem whole_forget (m : (ℓ : Loc Cert.KernelForgetIdeal.nD Cert.KernelForgetIdeal.τ Cert.KernelForgetIdeal.sig) → Buf (Elt Ideal) ℓ) (c : Dev Cert.KernelForgetIdeal.nD) :
    Cert.ReferenceForgetIdeal.Read.val_main_v6 (F := Ideal) (Cert.KernelForgetIdeal.Value.lhs m c) (Cert.KernelForgetIdeal.Value.rhs m c) = Cert.KernelForgetIdeal.Value.G2 m c :=
  funext fun i => by
    rw [eq_ix2 i]
    exact (forget_reference _ _ _ _).trans (Cert.KernelForgetIdeal.Value.part_at m c _ _).symm

theorem values_forget : @Cert.algebraic_KernelForgetIdeal_ReferenceForgetIdeal Cert.KernelForgetIdeal.Gen.facts Cert.ReferenceForgetIdeal.Gen.facts := by
  intro m g m' g' _ he
  refine ⟨fun c => Cert.KernelForgetIdeal.Value.G2 m c, Cert.KernelForgetIdeal.Value.run m g, ?_⟩
  refine (θ_run Cert.ReferenceForgetIdeal.defs _ _).mono (fun r h c => ⟨?_, (h c).2⟩) (Cert.ReferenceForgetIdeal.Value.run m' g')
  refine (h c).1.trans ((Cert.ReferenceForgetIdeal.Read.val_main_v6_eq (F := Ideal) (m' ((c.tc : Thread Cert.ReferenceForgetIdeal.nD Cert.ReferenceForgetIdeal.τ).loc Cert.ReferenceForgetIdeal.main_arg0)) (m' ((c.tc : Thread Cert.ReferenceForgetIdeal.nD Cert.ReferenceForgetIdeal.τ).loc Cert.ReferenceForgetIdeal.main_arg1))).trans ?_)
  exact (congrArg₂ (Cert.ReferenceForgetIdeal.Read.val_main_v6 (F := Ideal)) (he c).1 (he c).2).trans (whole_forget m c)

end Cert.Proof

end
-- ==== Proof.W.Step.lean ====
/- The optimiser's step on one entry: the gradient picked from one of two halves, the two moments and the update. -/
module

public import Idealize.ShloMosaic.PureOps.Ideal
public import Idealize.ShloMosaic.Lib.Pipeline.Value
public import Idealize.ShloMosaic.Lib.Pointwise

@[expose] public section

noncomputable section

namespace Cert.Step

open Idealize.ShloMosaic

/-- The entry of the device's own half if the row's half is the one that the word names, of the other half if not. -/
def pick (q w : BitVec 32) (x y : Ideal .f32) : Ideal .f32 := Scalar.select (IntOp.cmpi .eq q w) x y

theorem pick_eq {q q' w w' : BitVec 32} {x x' y y' : Ideal .f32} (hq : q = q') (hw : w = w') (hx : x = x') (hy : y = y') :
    Scalar.select (IntOp.cmpi .eq q w) x y = pick q' w' x' y' := by
  subst hq hw hx hy; rfl

theorem select_at {S : Shape} (b : BitVec 1) (x y : Vec Ideal S .f32) (i : S.Idx) : (Scalar.select b x y : Vec Ideal S .f32) i = Scalar.select b (x i) (y i) := by
  unfold Scalar.select; split <;> rfl

/-- The first moment, -/
def first (g m : Ideal .f32) : Ideal .f32 :=
  FloatOps.addf (FloatOps.mulf (Scalar.ofBits .f32 0x3F666666#32) m) (FloatOps.mulf (Scalar.ofBits .f32 0x3DCCCCCD#32) g)
/-- the second moment -/
def second (g v : Ideal .f32) : Ideal .f32 :=
  FloatOps.addf (FloatOps.mulf (Scalar.ofBits .f32 0x3F7FBE77#32) v) (FloatOps.mulf (Scalar.ofBits .f32 0x3A83126F#32) (FloatOps.mulf g g))
/-- and the update, from the two moments and the weight. -/
def delta (m v w : Ideal .f32) : Ideal .f32 :=
  FloatOps.mulf (Scalar.ofBits .f32 0xBA83126F#32) (FloatOps.addf (FloatOps.divf (FloatOps.divf m (Scalar.ofBits .f32 0x3F26BD02#32))
    (FloatOps.addf (FloatOps.sqrt (FloatOps.divf v (Scalar.ofBits .f32 0x3C231ACC#32))) (Scalar.ofBits .f32 0x322BCC77#32))) (FloatOps.mulf (Scalar.ofBits .f32 0x3C23D70A#32) w))

theorem delta_eq {m m' v v' w w' : Ideal .f32} (hm : m = m') (hv : v = v') (hw : w = w') : delta m v w = delta m' v' w' := by
  subst hm hv hw; rfl

end Cert.Step

end
-- ==== Proof.W.HalfIn.lean ====
/- The optimiser's step on the convolution's first weight: a device holds its own half of the rows of the reduced
   gradient and the other core's, and a word says which half its own is. The launch's four results are, entry by entry, the reference's
   gradient, update, first moment and second moment. -/
module

public import proofs.«01_k».proof.Defs
public import proofs.«01_k».proof.Proof.Gen.KernelHalfInIdeal
public import proofs.«01_k».proof.Proof.Gen.KernelHalfInIdeal.Frame
public import proofs.«01_k».proof.Proof.Gen.ReferenceHalfInIdeal
public import proofs.«01_k».proof.Proof.Gen.ReferenceHalfInIdeal.Run
public import proofs.«01_k».proof.Proof.Gen.ReferenceHalfInIdeal.Read
public import proofs.«01_k».proof.Proof.W.Step
public import Idealize.ShloMosaic.Lib.Quiescent
public import Idealize.ShloMosaic.Lib.Pipeline.ValueKit

@[expose] public section

set_option maxRecDepth 16384

noncomputable section

namespace Cert.KernelHalfInIdeal.Whole

open Cert.KernelHalfInIdeal Cert.KernelHalfInIdeal.Gen Idealize.ShloMosaic Idealize.ShloMosaic.TcCoe Idealize.SL.Sem Cert.Step

variable (m : (ℓ : Loc nD τ sig) → Buf (Elt Ideal) ℓ)

/-- The half of the rows that a point is in, as the body computes it. -/
def half (i : grid0.Coords) : BitVec 32 :=
  let n : BitVec 32 := BitVec.ofNat 32 (i 0).val
  let q : BitVec 32 := Scalar.divsi n 2#32
  Scalar.select (Scalar.andi (Scalar.cmpi .ne (Scalar.subi (Scalar.extui (Scalar.cmpi .sgt n 0#32)) (Scalar.extui (Scalar.cmpi .slt n 0#32)) : BitVec 32)
      (Scalar.subi (Scalar.extui (Scalar.cmpi .sgt 2#32 0#32)) (Scalar.extui (Scalar.cmpi .slt 2#32 0#32)) : BitVec 32))
    (Scalar.cmpi .ne (Scalar.remsi n 2#32) 0#32)) (Scalar.subi q 1#32) q

theorem half_eq : ∀ t : Fin grid0.N, half (grid0.coords t) = BitVec.ofNat 32 (t.val / 2) := by decide +kernel

/-- The four payloads at an index. -/
theorem pick_at (t : Fin grid0.N) (w : BitVec 32) (x y : Vec Ideal S256x1024 .f32) (i : S256x1024.Idx) :
    k0_pay2 (grid0.coords t) w x y i = pick (BitVec.ofNat 32 (t.val / 2)) w (x i) (y i) := by
  rw [← half_eq t]
  show (Scalar.select (Scalar.cmpi .eq (half (grid0.coords t)) w) x y : Vec Ideal S256x1024 .f32) i = _
  exact select_at _ _ _ i

theorem first_at (t : Fin grid0.N) (w : BitVec 32) (x y v : Vec Ideal S256x1024 .f32) (i : S256x1024.Idx) :
    k0_pay3 (grid0.coords t) w x y v i = first (pick (BitVec.ofNat 32 (t.val / 2)) w (x i) (y i)) (v i) := by
  rw [← pick_at]; rfl

theorem second_at (t : Fin grid0.N) (w : BitVec 32) (x y v : Vec Ideal S256x1024 .f32) (i : S256x1024.Idx) :
    k0_pay4 (grid0.coords t) w x y v i = second (pick (BitVec.ofNat 32 (t.val / 2)) w (x i) (y i)) (v i) := by
  rw [← pick_at]; rfl

theorem delta_at (a b v : Vec Ideal S256x1024 .f32) (i : S256x1024.Idx) : k0_pay1 a b v i = delta (a i) (b i) (v i) := rfl

theorem origin : (![0, 0] : Fin 2 → Nat) = fun _ => 0 := by funext a; fin_cases a <;> rfl

/-- The word, -/
abbrev word (c : Dev nD) (w : TbBuf0 (F := Ideal) c tbM0_0) : BitVec 32 := w (ix1 (0 : Fin 1))

theorem word_read (c : Dev nD) (w : TbBuf0 (F := Ideal) c tbM0_0) (j : (Rect.unit (s := S1) ![0] S1.size inb_S1_S1_0).shape.Idx) :
    View.ld ((View.whole main_arg0).read (Elt Ideal) w) (Rect.unit (s := S1) ![0] S1.size inb_S1_S1_0) j = word c w := by
  refine congrArg w (funext fun a => Fin.ext ?_)
  match a with
  | ⟨0, _⟩ =>
    have hj : (j 0).val < 1 := (j 0).isLt
    show 0 + 1 * (j 0).val = 0
    omega

/-- and what a point leaves in each result's buffer. -/
theorem left5 (c : Dev nD) (i : grid0.Coords) (arg2 : Memref sig .tc .vmem S256x1024 .f32) (h2 : arg2.IsWhole) (arg3 : Memref sig .tc .vmem S256x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .f32) (h6 : arg6.IsWhole) (arg7 : Memref sig .tc .vmem S256x1024 .f32) (h7 : arg7.IsWhole) (arg8 : Memref sig .tc .vmem S256x1024 .f32) (h8 : arg8.IsWhole) (arg9 : Memref sig .tc .vmem S256x1024 .f32) (h9 : arg9.IsWhole) (arg10 : Memref sig .tc .vmem S256x1024 .f32) (h10 : arg10.IsWhole)
    (x0 x1 x2 x3 x4 : Vec Ideal S256x1024 .f32) (w : TbBuf0 (F := Ideal) c tbM0_0) :
    out0_A_5 c i arg2 h2 arg3 h3 arg4 h4 arg5 h5 arg6 h6 arg7 h7 arg8 h8 arg9 h9 arg10 h10 x0 x1 x2 x3 x4 w = k0_pay2 i (word c w) x1 x2 := by
  rw [out0_A_5, View.read_writes_eq_canon _ _ _ (cover0_A_5 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1024) origin, shapeCast_self]
  exact congrArg (fun z => k0_pay2 i z x1 x2) (word_read c w _)

theorem left6 (c : Dev nD) (i : grid0.Coords) (arg2 : Memref sig .tc .vmem S256x1024 .f32) (h2 : arg2.IsWhole) (arg3 : Memref sig .tc .vmem S256x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .f32) (h6 : arg6.IsWhole) (arg7 : Memref sig .tc .vmem S256x1024 .f32) (h7 : arg7.IsWhole) (arg8 : Memref sig .tc .vmem S256x1024 .f32) (h8 : arg8.IsWhole) (arg9 : Memref sig .tc .vmem S256x1024 .f32) (h9 : arg9.IsWhole) (arg10 : Memref sig .tc .vmem S256x1024 .f32) (h10 : arg10.IsWhole)
    (x0 x1 x2 x3 x4 : Vec Ideal S256x1024 .f32) (w : TbBuf0 (F := Ideal) c tbM0_0) :
    out0_A_6 c i arg2 h2 arg3 h3 arg4 h4 arg5 h5 arg6 h6 arg7 h7 arg8 h8 arg9 h9 arg10 h10 x0 x1 x2 x3 x4 w = k0_pay1 (k0_pay3 i (word c w) x1 x2 x3) (k0_pay4 i (word c w) x1 x2 x4) x0 := by
  rw [out0_A_6, View.read_writes_eq_canon _ _ _ (cover0_A_6 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1024) origin, shapeCast_self]
  exact congrArg (fun z => k0_pay1 (k0_pay3 i z x1 x2 x3) (k0_pay4 i z x1 x2 x4) x0) (word_read c w _)

theorem left7 (c : Dev nD) (i : grid0.Coords) (arg2 : Memref sig .tc .vmem S256x1024 .f32) (h2 : arg2.IsWhole) (arg3 : Memref sig .tc .vmem S256x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .f32) (h6 : arg6.IsWhole) (arg7 : Memref sig .tc .vmem S256x1024 .f32) (h7 : arg7.IsWhole) (arg8 : Memref sig .tc .vmem S256x1024 .f32) (h8 : arg8.IsWhole) (arg9 : Memref sig .tc .vmem S256x1024 .f32) (h9 : arg9.IsWhole) (arg10 : Memref sig .tc .vmem S256x1024 .f32) (h10 : arg10.IsWhole)
    (x0 x1 x2 x3 x4 : Vec Ideal S256x1024 .f32) (w : TbBuf0 (F := Ideal) c tbM0_0) :
    out0_A_7 c i arg2 h2 arg3 h3 arg4 h4 arg5 h5 arg6 h6 arg7 h7 arg8 h8 arg9 h9 arg10 h10 x0 x1 x2 x3 x4 w = k0_pay3 i (word c w) x1 x2 x3 := by
  rw [out0_A_7, View.read_writes_eq_canon _ _ _ (cover0_A_7 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1024) origin, shapeCast_self]
  exact congrArg (fun z => k0_pay3 i z x1 x2 x3) (word_read c w _)

theorem left8 (c : Dev nD) (i : grid0.Coords) (arg2 : Memref sig .tc .vmem S256x1024 .f32) (h2 : arg2.IsWhole) (arg3 : Memref sig .tc .vmem S256x1024 .f32) (h3 : arg3.IsWhole) (arg4 : Memref sig .tc .vmem S256x1024 .f32) (h4 : arg4.IsWhole) (arg5 : Memref sig .tc .vmem S256x1024 .f32) (h5 : arg5.IsWhole) (arg6 : Memref sig .tc .vmem S256x1024 .f32) (h6 : arg6.IsWhole) (arg7 : Memref sig .tc .vmem S256x1024 .f32) (h7 : arg7.IsWhole) (arg8 : Memref sig .tc .vmem S256x1024 .f32) (h8 : arg8.IsWhole) (arg9 : Memref sig .tc .vmem S256x1024 .f32) (h9 : arg9.IsWhole) (arg10 : Memref sig .tc .vmem S256x1024 .f32) (h10 : arg10.IsWhole)
    (x0 x1 x2 x3 x4 : Vec Ideal S256x1024 .f32) (w : TbBuf0 (F := Ideal) c tbM0_0) :
    out0_A_8 c i arg2 h2 arg3 h3 arg4 h4 arg5 h5 arg6 h6 arg7 h7 arg8 h8 arg9 h9 arg10 h10 x0 x1 x2 x3 x4 w = k0_pay4 i (word c w) x1 x2 x4 := by
  rw [out0_A_8, View.read_writes_eq_canon _ _ _ (cover0_A_8 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1024) origin, shapeCast_self]
  exact congrArg (fun z => k0_pay4 i z x1 x2 x4) (word_read c w _)

/-- The five arrays and the word, -/
abbrev weight (c : Dev nD) : Vec Ideal S1024x1024 .f32 := m ((c : Thread nD τ).loc main_arg1)
abbrev mine (c : Dev nD) : Vec Ideal S512x1024 .f32 := m ((c : Thread nD τ).loc main_arg2)
abbrev other (c : Dev nD) : Vec Ideal S512x1024 .f32 := m ((c : Thread nD τ).loc main_arg3)
abbrev mom (c : Dev nD) : Vec Ideal S1024x1024 .f32 := m ((c : Thread nD τ).loc main_arg4)
abbrev sq (c : Dev nD) : Vec Ideal S1024x1024 .f32 := m ((c : Thread nD τ).loc main_arg5)
abbrev core (c : Dev nD) : Vec Ideal S1 .i32 := m ((c : Thread nD τ).loc main_arg0)

theorem ok : Ok m := trivial

/-- The row of the array that is row r of a point's block, -/
abbrev place (t : Fin (cfgM m (ok m)).N) (r : Fin 256) : Fin 1024 := ⟨256 * t.val + r.val, by have := r.isLt; have := t.isLt; have : (cfgM m (ok m)).N = 4 := N_0; omega⟩
/-- and of the half. -/
abbrev within (t : Fin (cfgM m (ok m)).N) (r : Fin 256) : Fin 512 := ⟨256 * (t.val % 2) + r.val, by have := r.isLt; omega⟩

theorem maps : ∀ t : Fin grid0.N, (cc0_transform_0 (grid0.coords t) (0 : Fin 2) = t.val ∧ cc0_transform_0 (grid0.coords t) (1 : Fin 2) = 0)
    ∧ (cc0_transform_1 (grid0.coords t) (0 : Fin 2) = t.val % 2 ∧ cc0_transform_1 (grid0.coords t) (1 : Fin 2) = 0)
    ∧ (cc0_transform_2 (grid0.coords t) (0 : Fin 2) = t.val % 2 ∧ cc0_transform_2 (grid0.coords t) (1 : Fin 2) = 0) := by decide +kernel

theorem whole_at (t : Fin (cfgM m (ok m)).N) (r : Fin 256) (d : Fin 1024) : ((((cfgM m (ok m)).win 0).blk t).view.emb (ix2 r d) : S1024x1024.Idx) = ix2 (place m t r) d := by
  obtain ⟨⟨e0, e1⟩, -⟩ := maps t
  funext a; fin_cases a
  · exact Fin.ext (by show cc0_transform_0 (grid0.coords t) (0 : Fin 2) * 256 + 1 * r.val = 256 * t.val + r.val; rw [e0]; omega)
  · exact Fin.ext (by show cc0_transform_0 (grid0.coords t) (1 : Fin 2) * 1024 + 1 * d.val = d.val; rw [e1]; omega)

theorem covered (i : S1024x1024.Idx) : ∃ (t : Fin (cfgM m (ok m)).N) (y : S256x1024.Idx), ((((cfgM m (ok m)).win 0).blk t).view.emb y : S1024x1024.Idx) = i := by
  have h0 : (i 0).val < 1024 := (i 0).isLt
  have hn : (i 0).val / 256 < (cfgM m (ok m)).N := by rw [show (cfgM m (ok m)).N = 4 from N_0]; omega
  refine ⟨⟨(i 0).val / 256, hn⟩, ix2 ⟨(i 0).val % 256, Nat.mod_lt _ (by omega)⟩ (i 1), (whole_at m _ _ _).trans ?_⟩
  funext a; fin_cases a
  · exact Fin.ext (by show 256 * ((i 0).val / 256) + (i 0).val % 256 = (i 0).val; omega)
  · rfl

theorem half_at (t : Fin (cfgM m (ok m)).N) (r : Fin 256) (d : Fin 1024) : ((((cfgM m (ok m)).win 1).blk t).view.emb (ix2 r d) : S512x1024.Idx) = ix2 (within m t r) d := by
  obtain ⟨-, ⟨e0, e1⟩, -⟩ := maps t
  funext a; fin_cases a
  · exact Fin.ext (by show cc0_transform_1 (grid0.coords t) (0 : Fin 2) * 256 + 1 * r.val = 256 * (t.val % 2) + r.val; rw [e0]; omega)
  · exact Fin.ext (by show cc0_transform_1 (grid0.coords t) (1 : Fin 2) * 1024 + 1 * d.val = d.val; rw [e1]; omega)

theorem blk0 (c : Dev nD) (t : Fin (cfgM m (ok m)).N) (r : Fin 256) (d : Fin 1024) : iblk m (ok m) c 0 t (ix2 r d) = weight m c (ix2 (place m t r) d) :=
  congrArg (V m c main_arg1) (whole_at m t r d)
theorem blk1 (c : Dev nD) (t : Fin (cfgM m (ok m)).N) (r : Fin 256) (d : Fin 1024) : iblk m (ok m) c 1 t (ix2 r d) = mine m c (ix2 (within m t r) d) :=
  congrArg (V m c main_arg2) (half_at m t r d)
theorem blk2 (c : Dev nD) (t : Fin (cfgM m (ok m)).N) (r : Fin 256) (d : Fin 1024) : iblk m (ok m) c 2 t (ix2 r d) = other m c (ix2 (within m t r) d) :=
  congrArg (V m c main_arg3) (half_at m t r d)
theorem blk3 (c : Dev nD) (t : Fin (cfgM m (ok m)).N) (r : Fin 256) (d : Fin 1024) : iblk m (ok m) c 3 t (ix2 r d) = mom m c (ix2 (place m t r) d) :=
  congrArg (V m c main_arg4) (whole_at m t r d)
theorem blk4 (c : Dev nD) (t : Fin (cfgM m (ok m)).N) (r : Fin 256) (d : Fin 1024) : iblk m (ok m) c 4 t (ix2 r d) = sq m c (ix2 (place m t r) d) :=
  congrArg (V m c main_arg5) (whole_at m t r d)

/-- The table's word is the argument's. -/
theorem word_eq (c : Dev nD) : word c (tbl m 0) = core m c (ix1 (0 : Fin 1)) := by
  obtain rfl : c = 0 := Subsingleton.elim _ _; rfl

/-- The gradient's entry in a row: of the device's own half, or of the other. -/
def grad (c : Dev nD) (r : Fin 1024) (d : Fin 1024) : Ideal .f32 :=
  pick (BitVec.ofNat 32 (r.val / 512)) (core m c (ix1 (0 : Fin 1))) (mine m c (ix2 (⟨r.val % 512, Nat.mod_lt _ (by decide)⟩ : Fin 512) d)) (other m c (ix2 (⟨r.val % 512, Nat.mod_lt _ (by decide)⟩ : Fin 512) d))

theorem grad_at (c : Dev nD) (t : Fin (cfgM m (ok m)).N) (r : Fin 256) (d : Fin 1024) :
    pick (BitVec.ofNat 32 (t.val / 2)) (word c (tbl m 0)) (iblk m (ok m) c 1 t (ix2 r d)) (iblk m (ok m) c 2 t (ix2 r d)) = grad m c (place m t r) d := by
  have hr := r.isLt
  have e : (place m t r).val / 512 = t.val / 2 := by show (256 * t.val + r.val) / 512 = t.val / 2; omega
  have e' : (⟨(place m t r).val % 512, Nat.mod_lt _ (by decide)⟩ : Fin 512) = within m t r := Fin.ext (by show (256 * t.val + r.val) % 512 = 256 * (t.val % 2) + r.val; omega)
  unfold grad
  rw [blk1, blk2, word_eq, e, e']

/-- The four results. -/
def G5 (c : Dev nD) : Vec Ideal S1024x1024 .f32 := fun i => grad m c (i 0) (i 1)
def G6 (c : Dev nD) : Vec Ideal S1024x1024 .f32 := fun i => delta (first (grad m c (i 0) (i 1)) (mom m c i)) (second (grad m c (i 0) (i 1)) (sq m c i)) (weight m c i)
def G7 (c : Dev nD) : Vec Ideal S1024x1024 .f32 := fun i => first (grad m c (i 0) (i 1)) (mom m c i)
def G8 (c : Dev nD) : Vec Ideal S1024x1024 .f32 := fun i => second (grad m c (i 0) (i 1)) (sq m c i)

/-- Window 5: what a point leaves is its block of the result, -/
theorem sums5 (c : Dev nD) (t : Fin (cfgM m (ok m)).N) (r : Fin 256) (d : Fin 1024) :
    (outsAt0 m (ok m) c t).1 (ix2 r d) = G5 m c (ix2 (place m t r) d) := by
  unfold outsAt0
  dsimp only
  refine (congrFun (left5 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (pick_at t _ _ _ _).trans ?_
  exact grad_at m c t r d

theorem block5 (c : Dev nD) (t : Fin (cfgM m (ok m)).N) (y : S256x1024.Idx) :
    (outsAt0 m (ok m) c t).1 y = G5 m c ((((cfgM m (ok m)).win 5).blk t).view.emb y : S1024x1024.Idx) := by
  have hy : y = ix2 (y 0) (y 1) := eq_ix2 y
  have e : ((((cfgM m (ok m)).win 5).blk t).view.emb (ix2 (y 0) (y 1)) : S1024x1024.Idx) = ix2 (place m t (y 0)) (y 1) := whole_at m t (y 0) (y 1)
  refine Eq.trans (congrArg _ hy) ((sums5 m c t (y 0) (y 1)).trans ?_)
  exact (congrArg (G5 m c) ((congrArg (fun z => (((((cfgM m (ok m)).win 5).blk t).view.emb z) : S1024x1024.Idx)) hy).trans e)).symm

/-- and the blocks make the whole. -/
theorem whole5 (c : Dev nD) : (dats m (ok m) 0 c).arrAt 5 (cfgM m (ok m)).N = G5 m c := by
  refine (dats m (ok m) 0 c).arrAt_eq_of_emb 5 (G5 m c) (fun t _ y => ?_) fun i => ?_
  · rw [after0_5]
    exact block5 m c t y
  · obtain ⟨t, y, h⟩ := covered m i
    exact ⟨t, flush0_5 (adm m (ok m)) t, h ▸ View.emb_mem_set _ y⟩

/-- Window 6: what a point leaves is its block of the result, -/
theorem sums6 (c : Dev nD) (t : Fin (cfgM m (ok m)).N) (r : Fin 256) (d : Fin 1024) :
    (outsAt0 m (ok m) c t).2.1 (ix2 r d) = G6 m c (ix2 (place m t r) d) := by
  unfold outsAt0
  dsimp only
  refine (congrFun (left6 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (delta_at _ _ _ _).trans ?_
  exact delta_eq ((first_at t _ _ _ _ _).trans (congrArg₂ first (grad_at m c t r d) (blk3 m c t r d)))
    ((second_at t _ _ _ _ _).trans (congrArg₂ second (grad_at m c t r d) (blk4 m c t r d))) (blk0 m c t r d)

theorem block6 (c : Dev nD) (t : Fin (cfgM m (ok m)).N) (y : S256x1024.Idx) :
    (outsAt0 m (ok m) c t).2.1 y = G6 m c ((((cfgM m (ok m)).win 6).blk t).view.emb y : S1024x1024.Idx) := by
  have hy : y = ix2 (y 0) (y 1) := eq_ix2 y
  have e : ((((cfgM m (ok m)).win 6).blk t).view.emb (ix2 (y 0) (y 1)) : S1024x1024.Idx) = ix2 (place m t (y 0)) (y 1) := whole_at m t (y 0) (y 1)
  refine Eq.trans (congrArg _ hy) ((sums6 m c t (y 0) (y 1)).trans ?_)
  exact (congrArg (G6 m c) ((congrArg (fun z => (((((cfgM m (ok m)).win 6).blk t).view.emb z) : S1024x1024.Idx)) hy).trans e)).symm

/-- and the blocks make the whole. -/
theorem whole6 (c : Dev nD) : (dats m (ok m) 0 c).arrAt 6 (cfgM m (ok m)).N = G6 m c := by
  refine (dats m (ok m) 0 c).arrAt_eq_of_emb 6 (G6 m c) (fun t _ y => ?_) fun i => ?_
  · rw [after0_6]
    exact block6 m c t y
  · obtain ⟨t, y, h⟩ := covered m i
    exact ⟨t, flush0_6 (adm m (ok m)) t, h ▸ View.emb_mem_set _ y⟩

/-- Window 7: what a point leaves is its block of the result, -/
theorem sums7 (c : Dev nD) (t : Fin (cfgM m (ok m)).N) (r : Fin 256) (d : Fin 1024) :
    (outsAt0 m (ok m) c t).2.2.1 (ix2 r d) = G7 m c (ix2 (place m t r) d) := by
  unfold outsAt0
  dsimp only
  refine (congrFun (left7 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (first_at t _ _ _ _ _).trans ?_
  rw [grad_at m c t r d, blk3]
  rfl

theorem block7 (c : Dev nD) (t : Fin (cfgM m (ok m)).N) (y : S256x1024.Idx) :
    (outsAt0 m (ok m) c t).2.2.1 y = G7 m c ((((cfgM m (ok m)).win 7).blk t).view.emb y : S1024x1024.Idx) := by
  have hy : y = ix2 (y 0) (y 1) := eq_ix2 y
  have e : ((((cfgM m (ok m)).win 7).blk t).view.emb (ix2 (y 0) (y 1)) : S1024x1024.Idx) = ix2 (place m t (y 0)) (y 1) := whole_at m t (y 0) (y 1)
  refine Eq.trans (congrArg _ hy) ((sums7 m c t (y 0) (y 1)).trans ?_)
  exact (congrArg (G7 m c) ((congrArg (fun z => (((((cfgM m (ok m)).win 7).blk t).view.emb z) : S1024x1024.Idx)) hy).trans e)).symm

/-- and the blocks make the whole. -/
theorem whole7 (c : Dev nD) : (dats m (ok m) 0 c).arrAt 7 (cfgM m (ok m)).N = G7 m c := by
  refine (dats m (ok m) 0 c).arrAt_eq_of_emb 7 (G7 m c) (fun t _ y => ?_) fun i => ?_
  · rw [after0_7]
    exact block7 m c t y
  · obtain ⟨t, y, h⟩ := covered m i
    exact ⟨t, flush0_7 (adm m (ok m)) t, h ▸ View.emb_mem_set _ y⟩

/-- Window 8: what a point leaves is its block of the result, -/
theorem sums8 (c : Dev nD) (t : Fin (cfgM m (ok m)).N) (r : Fin 256) (d : Fin 1024) :
    (outsAt0 m (ok m) c t).2.2.2 (ix2 r d) = G8 m c (ix2 (place m t r) d) := by
  unfold outsAt0
  dsimp only
  refine (congrFun (left8 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (second_at t _ _ _ _ _).trans ?_
  rw [grad_at m c t r d, blk4]
  rfl

theorem block8 (c : Dev nD) (t : Fin (cfgM m (ok m)).N) (y : S256x1024.Idx) :
    (outsAt0 m (ok m) c t).2.2.2 y = G8 m c ((((cfgM m (ok m)).win 8).blk t).view.emb y : S1024x1024.Idx) := by
  have hy : y = ix2 (y 0) (y 1) := eq_ix2 y
  have e : ((((cfgM m (ok m)).win 8).blk t).view.emb (ix2 (y 0) (y 1)) : S1024x1024.Idx) = ix2 (place m t (y 0)) (y 1) := whole_at m t (y 0) (y 1)
  refine Eq.trans (congrArg _ hy) ((sums8 m c t (y 0) (y 1)).trans ?_)
  exact (congrArg (G8 m c) ((congrArg (fun z => (((((cfgM m (ok m)).win 8).blk t).view.emb z) : S1024x1024.Idx)) hy).trans e)).symm

/-- and the blocks make the whole. -/
theorem whole8 (c : Dev nD) : (dats m (ok m) 0 c).arrAt 8 (cfgM m (ok m)).N = G8 m c := by
  refine (dats m (ok m) 0 c).arrAt_eq_of_emb 8 (G8 m c) (fun t _ y => ?_) fun i => ?_
  · rw [after0_8]
    exact block8 m c t y
  · obtain ⟨t, y, h⟩ := covered m i
    exact ⟨t, flush0_8 (adm m (ok m)) t, h ▸ View.emb_mem_set _ y⟩

theorem run (ρ : Dev nD → PrngReg) : θ_run defs (onTc (τ := τ) (main (F := Ideal))) ⟨m, fun _ => 0, ρ⟩ fun r => ∀ c : Dev nD,
      r.2.mem ((c : Thread nD τ).loc main_v0_0) = G5 m c ∧ r.2.mem ((c : Thread nD τ).loc main_v0_1) = G6 m c
      ∧ r.2.mem ((c : Thread nD τ).loc main_v0_2) = G7 m c ∧ r.2.mem ((c : Thread nD τ).loc main_v0_3) = G8 m c :=
  (θ_run defs _ _).mono (fun _ h c => ⟨((h c).1 5).trans (whole5 m c), ((h c).1 6).trans (whole6 m c), ((h c).1 7).trans (whole7 m c), ((h c).1 8).trans (whole8 m c)⟩)
    (run_main m ρ (ok m))

end Cert.KernelHalfInIdeal.Whole

namespace Cert.Proof

open Idealize.ShloMosaic Idealize.SL.Sem Cert.Step

theorem frame_reference_half_in : @Cert.quiescent_ReferenceHalfInIdeal Cert.ReferenceHalfInIdeal.Gen.facts := fun m g _ =>
  (θ_run Cert.ReferenceHalfInIdeal.defs _ _).mono (fun r h => ⟨fun c => (h c).2.2.2.2, sem_eq_zero_of_no_sems (by decide) r.2⟩) (Cert.ReferenceHalfInIdeal.Value.run m g)

section
variable (m : (ℓ : Loc Cert.KernelHalfInIdeal.nD Cert.KernelHalfInIdeal.τ Cert.KernelHalfInIdeal.sig) → Buf (Elt Ideal) ℓ) (c : Dev Cert.KernelHalfInIdeal.nD)
open Cert.KernelHalfInIdeal.Whole Cert.ReferenceHalfInIdeal.Read

theorem half_in_grad (i : Cert.ReferenceHalfInIdeal.S1024x1024.Idx) : val_main_v7 (F := Ideal) (core m c) (mine m c) (other m c) i = grad m c (i 0) (i 1) := by
  have h0 : (i 0).val < 1024 := (i 0).isLt
  have h1 : (i 1).val < 1024 := (i 1).isLt
  have e0 : ((i 0).val * 1024 + (i 1).val) / 524288 = (i 0).val / 512 := by omega
  have e1 : ((i 0).val * 1024 + (i 1).val) / 1024 % 512 = (i 0).val % 512 := by omega
  have e2 : ((i 0).val * 1024 + (i 1).val) % 1024 = (i 1).val := by omega
  rw [val_main_v7_apply, val_main_v6_apply, val_main_call0_v0_apply, val_main_call0_v1_apply, val_main_call0_v2_apply, val_main_v3_apply, val_main_v4_apply, val_main_v5_apply,
    val_main_v2_apply, val_main_v0_apply, val_main_v1_apply]
  unfold grad
  refine pick_eq ?_ ?_ ?_ ?_
  · exact congrArg (BitVec.ofNat 32) e0
  · refine congrArg (core m c) (funext fun a => Fin.ext ?_)
    match a with
    | ⟨0, _⟩ => rfl
  · refine congrArg (mine m c) (funext fun a => Fin.ext ?_)
    match a with
    | ⟨0, _⟩ => exact e1
    | ⟨1, _⟩ => exact e2
  · refine congrArg (other m c) (funext fun a => Fin.ext ?_)
    match a with
    | ⟨0, _⟩ => exact e1
    | ⟨1, _⟩ => exact e2

theorem half_in_first (i : Cert.ReferenceHalfInIdeal.S1024x1024.Idx) : val_main_v12 (F := Ideal) (core m c) (mine m c) (other m c) (mom m c) i = G7 m c i := by
  simp only [val_main_v12_apply, val_main_v11_apply, val_main_v10_apply, val_main_v9_apply, val_main_v8_apply, val_main_cst_apply, val_main_cst_0_apply, half_in_grad]
  rfl

theorem half_in_second (i : Cert.ReferenceHalfInIdeal.S1024x1024.Idx) : val_main_v18 (F := Ideal) (core m c) (mine m c) (other m c) (sq m c) i = G8 m c i := by
  simp only [val_main_v18_apply, val_main_v17_apply, val_main_v16_apply, val_main_v15_apply, val_main_v14_apply, val_main_v13_apply, val_main_cst_1_apply, val_main_cst_2_apply, half_in_grad]
  rfl

theorem half_in_delta (i : Cert.ReferenceHalfInIdeal.S1024x1024.Idx) : val_main_v31 (F := Ideal) (core m c) (weight m c) (mine m c) (other m c) (mom m c) (sq m c) i = G6 m c i := by
  simp only [val_main_v31_apply, val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_cst_3_apply, val_main_cst_4_apply, val_main_cst_5_apply,
    val_main_cst_6_apply, val_main_cst_7_apply, half_in_first, half_in_second]
  rfl
end

theorem values_half_in : @Cert.algebraic_KernelHalfInIdeal_ReferenceHalfInIdeal Cert.KernelHalfInIdeal.Gen.facts Cert.ReferenceHalfInIdeal.Gen.facts := by
  intro m g m' g' _ he
  refine ⟨fun c => Cert.KernelHalfInIdeal.Whole.G5 m c, fun c => Cert.KernelHalfInIdeal.Whole.G6 m c, fun c => Cert.KernelHalfInIdeal.Whole.G7 m c, fun c => Cert.KernelHalfInIdeal.Whole.G8 m c, ?_, ?_⟩
  · refine (θ_run Cert.KernelHalfInIdeal.defs _ _).mono (fun r h c => ?_) (θ_run_and (Cert.KernelHalfInIdeal.Whole.run m g) (Cert.KernelHalfInIdeal.Gen.unchanged m g (Cert.KernelHalfInIdeal.Whole.ok m)))
    obtain ⟨h0, h1, h2, h3⟩ := h.1 c
    exact ⟨h0, h1, h2, h3, h.2 c⟩
  refine (θ_run Cert.ReferenceHalfInIdeal.defs _ _).mono (fun r h c => ?_) (Cert.ReferenceHalfInIdeal.Value.run m' g')
  obtain ⟨e0, e1, e2, e3, e4, e5⟩ := he c
  obtain ⟨h0, h1, h2, h3, ha⟩ := h c
  refine ⟨(h0.trans (Cert.ReferenceHalfInIdeal.Read.val_main_v7_eq ..)).trans ?_, (h1.trans (Cert.ReferenceHalfInIdeal.Read.val_main_v31_eq ..)).trans ?_,
    (h2.trans (Cert.ReferenceHalfInIdeal.Read.val_main_v12_eq ..)).trans ?_, (h3.trans (Cert.ReferenceHalfInIdeal.Read.val_main_v18_eq ..)).trans ?_, ha⟩
  · rw [e0, e2, e3]; exact funext fun i => half_in_grad m c i
  · rw [e0, e1, e2, e3, e4, e5]; exact funext fun i => half_in_delta m c i
  · rw [e0, e2, e3, e4]; exact funext fun i => half_in_first m c i
  · rw [e0, e2, e3, e5]; exact funext fun i => half_in_second m c i

end Cert.Proof

end
-- ==== Proof.W.HalfAttn.lean ====
/- The optimiser's step on the attention's first weight: a device holds its own half of the rows of the reduced
   gradient and the other core's, and a word says which half its own is. The launch's four results are, entry by entry, the reference's
   gradient, update, first moment and second moment. -/
module

public import proofs.«01_k».proof.Defs
public import proofs.«01_k».proof.Proof.Gen.KernelHalfAttnIdeal
public import proofs.«01_k».proof.Proof.Gen.KernelHalfAttnIdeal.Frame
public import proofs.«01_k».proof.Proof.Gen.ReferenceHalfAttnIdeal
public import proofs.«01_k».proof.Proof.Gen.ReferenceHalfAttnIdeal.Run
public import proofs.«01_k».proof.Proof.Gen.ReferenceHalfAttnIdeal.Read
public import proofs.«01_k».proof.Proof.W.Step
public import Idealize.ShloMosaic.Lib.Quiescent
public import Idealize.ShloMosaic.Lib.Pipeline.ValueKit

@[expose] public section

set_option maxRecDepth 16384

noncomputable section

namespace Cert.KernelHalfAttnIdeal.Whole

open Cert.KernelHalfAttnIdeal Cert.KernelHalfAttnIdeal.Gen Idealize.ShloMosaic Idealize.ShloMosaic.TcCoe Idealize.SL.Sem Cert.Step

variable (m : (ℓ : Loc nD τ sig) → Buf (Elt Ideal) ℓ)

/-- The half of the rows that a point is in, as the body computes it. -/
def half (i : grid0.Coords) : BitVec 32 :=
  let n : BitVec 32 := BitVec.ofNat 32 (i 0).val
  let q : BitVec 32 := Scalar.divsi n 2#32
  Scalar.select (Scalar.andi (Scalar.cmpi .ne (Scalar.subi (Scalar.extui (Scalar.cmpi .sgt n 0#32)) (Scalar.extui (Scalar.cmpi .slt n 0#32)) : BitVec 32)
      (Scalar.subi (Scalar.extui (Scalar.cmpi .sgt 2#32 0#32)) (Scalar.extui (Scalar.cmpi .slt 2#32 0#32)) : BitVec 32))
    (Scalar.cmpi .ne (Scalar.remsi n 2#32) 0#32)) (Scalar.subi q 1#32) q

theorem half_eq : ∀ t : Fin grid0.N, half (grid0.coords t) = BitVec.ofNat 32 (t.val / 2) := by decide +kernel

/-- The four payloads at an index. -/
theorem pick_at (t : Fin grid0.N) (w : BitVec 32) (x y : Vec Ideal S256x1028 .f32) (i : S256x1028.Idx) :
    k0_pay2 (grid0.coords t) w x y i = pick (BitVec.ofNat 32 (t.val / 2)) w (x i) (y i) := by
  rw [← half_eq t]
  show (Scalar.select (Scalar.cmpi .eq (half (grid0.coords t)) w) x y : Vec Ideal S256x1028 .f32) i = _
  exact select_at _ _ _ i

theorem first_at (t : Fin grid0.N) (w : BitVec 32) (x y v : Vec Ideal S256x1028 .f32) (i : S256x1028.Idx) :
    k0_pay3 (grid0.coords t) w x y v i = first (pick (BitVec.ofNat 32 (t.val / 2)) w (x i) (y i)) (v i) := by
  rw [← pick_at]; rfl

theorem second_at (t : Fin grid0.N) (w : BitVec 32) (x y v : Vec Ideal S256x1028 .f32) (i : S256x1028.Idx) :
    k0_pay4 (grid0.coords t) w x y v i = second (pick (BitVec.ofNat 32 (t.val / 2)) w (x i) (y i)) (v i) := by
  rw [← pick_at]; rfl

theorem delta_at (a b v : Vec Ideal S256x1028 .f32) (i : S256x1028.Idx) : k0_pay1 a b v i = delta (a i) (b i) (v i) := rfl

theorem origin : (![0, 0] : Fin 2 → Nat) = fun _ => 0 := by funext a; fin_cases a <;> rfl

/-- The word, -/
abbrev word (c : Dev nD) (w : TbBuf0 (F := Ideal) c tbM0_0) : BitVec 32 := w (ix1 (0 : Fin 1))

theorem word_read (c : Dev nD) (w : TbBuf0 (F := Ideal) c tbM0_0) (j : (Rect.unit (s := S1) ![0] S1.size inb_S1_S1_0).shape.Idx) :
    View.ld ((View.whole main_arg0).read (Elt Ideal) w) (Rect.unit (s := S1) ![0] S1.size inb_S1_S1_0) j = word c w := by
  refine congrArg w (funext fun a => Fin.ext ?_)
  match a with
  | ⟨0, _⟩ =>
    have hj : (j 0).val < 1 := (j 0).isLt
    show 0 + 1 * (j 0).val = 0
    omega

/-- and what a point leaves in each result's buffer. -/
theorem left5 (c : Dev nD) (i : grid0.Coords) (arg2 : Memref sig .tc .vmem S256x1028 .f32) (h2 : arg2.IsWhole) (arg3 : Memref sig .tc .vmem S256x1028 .f32) (h3 : arg3.IsWhole) (arg4 : Memref sig .tc .vmem S256x1028 .f32) (h4 : arg4.IsWhole) (arg5 : Memref sig .tc .vmem S256x1028 .f32) (h5 : arg5.IsWhole) (arg6 : Memref sig .tc .vmem S256x1028 .f32) (h6 : arg6.IsWhole) (arg7 : Memref sig .tc .vmem S256x1028 .f32) (h7 : arg7.IsWhole) (arg8 : Memref sig .tc .vmem S256x1028 .f32) (h8 : arg8.IsWhole) (arg9 : Memref sig .tc .vmem S256x1028 .f32) (h9 : arg9.IsWhole) (arg10 : Memref sig .tc .vmem S256x1028 .f32) (h10 : arg10.IsWhole)
    (x0 x1 x2 x3 x4 : Vec Ideal S256x1028 .f32) (w : TbBuf0 (F := Ideal) c tbM0_0) :
    out0_A_5 c i arg2 h2 arg3 h3 arg4 h4 arg5 h5 arg6 h6 arg7 h7 arg8 h8 arg9 h9 arg10 h10 x0 x1 x2 x3 x4 w = k0_pay2 i (word c w) x1 x2 := by
  rw [out0_A_5, View.read_writes_eq_canon _ _ _ (cover0_A_5 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1028) origin, shapeCast_self]
  exact congrArg (fun z => k0_pay2 i z x1 x2) (word_read c w _)

theorem left6 (c : Dev nD) (i : grid0.Coords) (arg2 : Memref sig .tc .vmem S256x1028 .f32) (h2 : arg2.IsWhole) (arg3 : Memref sig .tc .vmem S256x1028 .f32) (h3 : arg3.IsWhole) (arg4 : Memref sig .tc .vmem S256x1028 .f32) (h4 : arg4.IsWhole) (arg5 : Memref sig .tc .vmem S256x1028 .f32) (h5 : arg5.IsWhole) (arg6 : Memref sig .tc .vmem S256x1028 .f32) (h6 : arg6.IsWhole) (arg7 : Memref sig .tc .vmem S256x1028 .f32) (h7 : arg7.IsWhole) (arg8 : Memref sig .tc .vmem S256x1028 .f32) (h8 : arg8.IsWhole) (arg9 : Memref sig .tc .vmem S256x1028 .f32) (h9 : arg9.IsWhole) (arg10 : Memref sig .tc .vmem S256x1028 .f32) (h10 : arg10.IsWhole)
    (x0 x1 x2 x3 x4 : Vec Ideal S256x1028 .f32) (w : TbBuf0 (F := Ideal) c tbM0_0) :
    out0_A_6 c i arg2 h2 arg3 h3 arg4 h4 arg5 h5 arg6 h6 arg7 h7 arg8 h8 arg9 h9 arg10 h10 x0 x1 x2 x3 x4 w = k0_pay1 (k0_pay3 i (word c w) x1 x2 x3) (k0_pay4 i (word c w) x1 x2 x4) x0 := by
  rw [out0_A_6, View.read_writes_eq_canon _ _ _ (cover0_A_6 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1028) origin, shapeCast_self]
  exact congrArg (fun z => k0_pay1 (k0_pay3 i z x1 x2 x3) (k0_pay4 i z x1 x2 x4) x0) (word_read c w _)

theorem left7 (c : Dev nD) (i : grid0.Coords) (arg2 : Memref sig .tc .vmem S256x1028 .f32) (h2 : arg2.IsWhole) (arg3 : Memref sig .tc .vmem S256x1028 .f32) (h3 : arg3.IsWhole) (arg4 : Memref sig .tc .vmem S256x1028 .f32) (h4 : arg4.IsWhole) (arg5 : Memref sig .tc .vmem S256x1028 .f32) (h5 : arg5.IsWhole) (arg6 : Memref sig .tc .vmem S256x1028 .f32) (h6 : arg6.IsWhole) (arg7 : Memref sig .tc .vmem S256x1028 .f32) (h7 : arg7.IsWhole) (arg8 : Memref sig .tc .vmem S256x1028 .f32) (h8 : arg8.IsWhole) (arg9 : Memref sig .tc .vmem S256x1028 .f32) (h9 : arg9.IsWhole) (arg10 : Memref sig .tc .vmem S256x1028 .f32) (h10 : arg10.IsWhole)
    (x0 x1 x2 x3 x4 : Vec Ideal S256x1028 .f32) (w : TbBuf0 (F := Ideal) c tbM0_0) :
    out0_A_7 c i arg2 h2 arg3 h3 arg4 h4 arg5 h5 arg6 h6 arg7 h7 arg8 h8 arg9 h9 arg10 h10 x0 x1 x2 x3 x4 w = k0_pay3 i (word c w) x1 x2 x3 := by
  rw [out0_A_7, View.read_writes_eq_canon _ _ _ (cover0_A_7 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1028) origin, shapeCast_self]
  exact congrArg (fun z => k0_pay3 i z x1 x2 x3) (word_read c w _)

theorem left8 (c : Dev nD) (i : grid0.Coords) (arg2 : Memref sig .tc .vmem S256x1028 .f32) (h2 : arg2.IsWhole) (arg3 : Memref sig .tc .vmem S256x1028 .f32) (h3 : arg3.IsWhole) (arg4 : Memref sig .tc .vmem S256x1028 .f32) (h4 : arg4.IsWhole) (arg5 : Memref sig .tc .vmem S256x1028 .f32) (h5 : arg5.IsWhole) (arg6 : Memref sig .tc .vmem S256x1028 .f32) (h6 : arg6.IsWhole) (arg7 : Memref sig .tc .vmem S256x1028 .f32) (h7 : arg7.IsWhole) (arg8 : Memref sig .tc .vmem S256x1028 .f32) (h8 : arg8.IsWhole) (arg9 : Memref sig .tc .vmem S256x1028 .f32) (h9 : arg9.IsWhole) (arg10 : Memref sig .tc .vmem S256x1028 .f32) (h10 : arg10.IsWhole)
    (x0 x1 x2 x3 x4 : Vec Ideal S256x1028 .f32) (w : TbBuf0 (F := Ideal) c tbM0_0) :
    out0_A_8 c i arg2 h2 arg3 h3 arg4 h4 arg5 h5 arg6 h6 arg7 h7 arg8 h8 arg9 h9 arg10 h10 x0 x1 x2 x3 x4 w = k0_pay4 i (word c w) x1 x2 x4 := by
  rw [out0_A_8, View.read_writes_eq_canon _ _ _ (cover0_A_8 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S256x1028) origin, shapeCast_self]
  exact congrArg (fun z => k0_pay4 i z x1 x2 x4) (word_read c w _)

/-- The five arrays and the word, -/
abbrev weight (c : Dev nD) : Vec Ideal S1024x1028 .f32 := m ((c : Thread nD τ).loc main_arg1)
abbrev mine (c : Dev nD) : Vec Ideal S512x1028 .f32 := m ((c : Thread nD τ).loc main_arg2)
abbrev other (c : Dev nD) : Vec Ideal S512x1028 .f32 := m ((c : Thread nD τ).loc main_arg3)
abbrev mom (c : Dev nD) : Vec Ideal S1024x1028 .f32 := m ((c : Thread nD τ).loc main_arg4)
abbrev sq (c : Dev nD) : Vec Ideal S1024x1028 .f32 := m ((c : Thread nD τ).loc main_arg5)
abbrev core (c : Dev nD) : Vec Ideal S1 .i32 := m ((c : Thread nD τ).loc main_arg0)

theorem ok : Ok m := trivial

/-- The row of the array that is row r of a point's block, -/
abbrev place (t : Fin (cfgM m (ok m)).N) (r : Fin 256) : Fin 1024 := ⟨256 * t.val + r.val, by have := r.isLt; have := t.isLt; have : (cfgM m (ok m)).N = 4 := N_0; omega⟩
/-- and of the half. -/
abbrev within (t : Fin (cfgM m (ok m)).N) (r : Fin 256) : Fin 512 := ⟨256 * (t.val % 2) + r.val, by have := r.isLt; omega⟩

theorem maps : ∀ t : Fin grid0.N, (cc0_transform_0 (grid0.coords t) (0 : Fin 2) = t.val ∧ cc0_transform_0 (grid0.coords t) (1 : Fin 2) = 0)
    ∧ (cc0_transform_1 (grid0.coords t) (0 : Fin 2) = t.val % 2 ∧ cc0_transform_1 (grid0.coords t) (1 : Fin 2) = 0)
    ∧ (cc0_transform_2 (grid0.coords t) (0 : Fin 2) = t.val % 2 ∧ cc0_transform_2 (grid0.coords t) (1 : Fin 2) = 0) := by decide +kernel

theorem whole_at (t : Fin (cfgM m (ok m)).N) (r : Fin 256) (d : Fin 1028) : ((((cfgM m (ok m)).win 0).blk t).view.emb (ix2 r d) : S1024x1028.Idx) = ix2 (place m t r) d := by
  obtain ⟨⟨e0, e1⟩, -⟩ := maps t
  funext a; fin_cases a
  · exact Fin.ext (by show cc0_transform_0 (grid0.coords t) (0 : Fin 2) * 256 + 1 * r.val = 256 * t.val + r.val; rw [e0]; omega)
  · exact Fin.ext (by show cc0_transform_0 (grid0.coords t) (1 : Fin 2) * 1028 + 1 * d.val = d.val; rw [e1]; omega)

theorem covered (i : S1024x1028.Idx) : ∃ (t : Fin (cfgM m (ok m)).N) (y : S256x1028.Idx), ((((cfgM m (ok m)).win 0).blk t).view.emb y : S1024x1028.Idx) = i := by
  have h0 : (i 0).val < 1024 := (i 0).isLt
  have hn : (i 0).val / 256 < (cfgM m (ok m)).N := by rw [show (cfgM m (ok m)).N = 4 from N_0]; omega
  refine ⟨⟨(i 0).val / 256, hn⟩, ix2 ⟨(i 0).val % 256, Nat.mod_lt _ (by omega)⟩ (i 1), (whole_at m _ _ _).trans ?_⟩
  funext a; fin_cases a
  · exact Fin.ext (by show 256 * ((i 0).val / 256) + (i 0).val % 256 = (i 0).val; omega)
  · rfl

theorem half_at (t : Fin (cfgM m (ok m)).N) (r : Fin 256) (d : Fin 1028) : ((((cfgM m (ok m)).win 1).blk t).view.emb (ix2 r d) : S512x1028.Idx) = ix2 (within m t r) d := by
  obtain ⟨-, ⟨e0, e1⟩, -⟩ := maps t
  funext a; fin_cases a
  · exact Fin.ext (by show cc0_transform_1 (grid0.coords t) (0 : Fin 2) * 256 + 1 * r.val = 256 * (t.val % 2) + r.val; rw [e0]; omega)
  · exact Fin.ext (by show cc0_transform_1 (grid0.coords t) (1 : Fin 2) * 1028 + 1 * d.val = d.val; rw [e1]; omega)

theorem blk0 (c : Dev nD) (t : Fin (cfgM m (ok m)).N) (r : Fin 256) (d : Fin 1028) : iblk m (ok m) c 0 t (ix2 r d) = weight m c (ix2 (place m t r) d) :=
  congrArg (V m c main_arg1) (whole_at m t r d)
theorem blk1 (c : Dev nD) (t : Fin (cfgM m (ok m)).N) (r : Fin 256) (d : Fin 1028) : iblk m (ok m) c 1 t (ix2 r d) = mine m c (ix2 (within m t r) d) :=
  congrArg (V m c main_arg2) (half_at m t r d)
theorem blk2 (c : Dev nD) (t : Fin (cfgM m (ok m)).N) (r : Fin 256) (d : Fin 1028) : iblk m (ok m) c 2 t (ix2 r d) = other m c (ix2 (within m t r) d) :=
  congrArg (V m c main_arg3) (half_at m t r d)
theorem blk3 (c : Dev nD) (t : Fin (cfgM m (ok m)).N) (r : Fin 256) (d : Fin 1028) : iblk m (ok m) c 3 t (ix2 r d) = mom m c (ix2 (place m t r) d) :=
  congrArg (V m c main_arg4) (whole_at m t r d)
theorem blk4 (c : Dev nD) (t : Fin (cfgM m (ok m)).N) (r : Fin 256) (d : Fin 1028) : iblk m (ok m) c 4 t (ix2 r d) = sq m c (ix2 (place m t r) d) :=
  congrArg (V m c main_arg5) (whole_at m t r d)

/-- The table's word is the argument's. -/
theorem word_eq (c : Dev nD) : word c (tbl m 0) = core m c (ix1 (0 : Fin 1)) := by
  obtain rfl : c = 0 := Subsingleton.elim _ _; rfl

/-- The gradient's entry in a row: of the device's own half, or of the other. -/
def grad (c : Dev nD) (r : Fin 1024) (d : Fin 1028) : Ideal .f32 :=
  pick (BitVec.ofNat 32 (r.val / 512)) (core m c (ix1 (0 : Fin 1))) (mine m c (ix2 (⟨r.val % 512, Nat.mod_lt _ (by decide)⟩ : Fin 512) d)) (other m c (ix2 (⟨r.val % 512, Nat.mod_lt _ (by decide)⟩ : Fin 512) d))

theorem grad_at (c : Dev nD) (t : Fin (cfgM m (ok m)).N) (r : Fin 256) (d : Fin 1028) :
    pick (BitVec.ofNat 32 (t.val / 2)) (word c (tbl m 0)) (iblk m (ok m) c 1 t (ix2 r d)) (iblk m (ok m) c 2 t (ix2 r d)) = grad m c (place m t r) d := by
  have hr := r.isLt
  have e : (place m t r).val / 512 = t.val / 2 := by show (256 * t.val + r.val) / 512 = t.val / 2; omega
  have e' : (⟨(place m t r).val % 512, Nat.mod_lt _ (by decide)⟩ : Fin 512) = within m t r := Fin.ext (by show (256 * t.val + r.val) % 512 = 256 * (t.val % 2) + r.val; omega)
  unfold grad
  rw [blk1, blk2, word_eq, e, e']

/-- The four results. -/
def G5 (c : Dev nD) : Vec Ideal S1024x1028 .f32 := fun i => grad m c (i 0) (i 1)
def G6 (c : Dev nD) : Vec Ideal S1024x1028 .f32 := fun i => delta (first (grad m c (i 0) (i 1)) (mom m c i)) (second (grad m c (i 0) (i 1)) (sq m c i)) (weight m c i)
def G7 (c : Dev nD) : Vec Ideal S1024x1028 .f32 := fun i => first (grad m c (i 0) (i 1)) (mom m c i)
def G8 (c : Dev nD) : Vec Ideal S1024x1028 .f32 := fun i => second (grad m c (i 0) (i 1)) (sq m c i)

/-- Window 5: what a point leaves is its block of the result, -/
theorem sums5 (c : Dev nD) (t : Fin (cfgM m (ok m)).N) (r : Fin 256) (d : Fin 1028) :
    (outsAt0 m (ok m) c t).1 (ix2 r d) = G5 m c (ix2 (place m t r) d) := by
  unfold outsAt0
  dsimp only
  refine (congrFun (left5 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (pick_at t _ _ _ _).trans ?_
  exact grad_at m c t r d

theorem block5 (c : Dev nD) (t : Fin (cfgM m (ok m)).N) (y : S256x1028.Idx) :
    (outsAt0 m (ok m) c t).1 y = G5 m c ((((cfgM m (ok m)).win 5).blk t).view.emb y : S1024x1028.Idx) := by
  have hy : y = ix2 (y 0) (y 1) := eq_ix2 y
  have e : ((((cfgM m (ok m)).win 5).blk t).view.emb (ix2 (y 0) (y 1)) : S1024x1028.Idx) = ix2 (place m t (y 0)) (y 1) := whole_at m t (y 0) (y 1)
  refine Eq.trans (congrArg _ hy) ((sums5 m c t (y 0) (y 1)).trans ?_)
  exact (congrArg (G5 m c) ((congrArg (fun z => (((((cfgM m (ok m)).win 5).blk t).view.emb z) : S1024x1028.Idx)) hy).trans e)).symm

/-- and the blocks make the whole. -/
theorem whole5 (c : Dev nD) : (dats m (ok m) 0 c).arrAt 5 (cfgM m (ok m)).N = G5 m c := by
  refine (dats m (ok m) 0 c).arrAt_eq_of_emb 5 (G5 m c) (fun t _ y => ?_) fun i => ?_
  · rw [after0_5]
    exact block5 m c t y
  · obtain ⟨t, y, h⟩ := covered m i
    exact ⟨t, flush0_5 (adm m (ok m)) t, h ▸ View.emb_mem_set _ y⟩

/-- Window 6: what a point leaves is its block of the result, -/
theorem sums6 (c : Dev nD) (t : Fin (cfgM m (ok m)).N) (r : Fin 256) (d : Fin 1028) :
    (outsAt0 m (ok m) c t).2.1 (ix2 r d) = G6 m c (ix2 (place m t r) d) := by
  unfold outsAt0
  dsimp only
  refine (congrFun (left6 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (delta_at _ _ _ _).trans ?_
  exact delta_eq ((first_at t _ _ _ _ _).trans (congrArg₂ first (grad_at m c t r d) (blk3 m c t r d)))
    ((second_at t _ _ _ _ _).trans (congrArg₂ second (grad_at m c t r d) (blk4 m c t r d))) (blk0 m c t r d)

theorem block6 (c : Dev nD) (t : Fin (cfgM m (ok m)).N) (y : S256x1028.Idx) :
    (outsAt0 m (ok m) c t).2.1 y = G6 m c ((((cfgM m (ok m)).win 6).blk t).view.emb y : S1024x1028.Idx) := by
  have hy : y = ix2 (y 0) (y 1) := eq_ix2 y
  have e : ((((cfgM m (ok m)).win 6).blk t).view.emb (ix2 (y 0) (y 1)) : S1024x1028.Idx) = ix2 (place m t (y 0)) (y 1) := whole_at m t (y 0) (y 1)
  refine Eq.trans (congrArg _ hy) ((sums6 m c t (y 0) (y 1)).trans ?_)
  exact (congrArg (G6 m c) ((congrArg (fun z => (((((cfgM m (ok m)).win 6).blk t).view.emb z) : S1024x1028.Idx)) hy).trans e)).symm

/-- and the blocks make the whole. -/
theorem whole6 (c : Dev nD) : (dats m (ok m) 0 c).arrAt 6 (cfgM m (ok m)).N = G6 m c := by
  refine (dats m (ok m) 0 c).arrAt_eq_of_emb 6 (G6 m c) (fun t _ y => ?_) fun i => ?_
  · rw [after0_6]
    exact block6 m c t y
  · obtain ⟨t, y, h⟩ := covered m i
    exact ⟨t, flush0_6 (adm m (ok m)) t, h ▸ View.emb_mem_set _ y⟩

/-- Window 7: what a point leaves is its block of the result, -/
theorem sums7 (c : Dev nD) (t : Fin (cfgM m (ok m)).N) (r : Fin 256) (d : Fin 1028) :
    (outsAt0 m (ok m) c t).2.2.1 (ix2 r d) = G7 m c (ix2 (place m t r) d) := by
  unfold outsAt0
  dsimp only
  refine (congrFun (left7 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (first_at t _ _ _ _ _).trans ?_
  rw [grad_at m c t r d, blk3]
  rfl

theorem block7 (c : Dev nD) (t : Fin (cfgM m (ok m)).N) (y : S256x1028.Idx) :
    (outsAt0 m (ok m) c t).2.2.1 y = G7 m c ((((cfgM m (ok m)).win 7).blk t).view.emb y : S1024x1028.Idx) := by
  have hy : y = ix2 (y 0) (y 1) := eq_ix2 y
  have e : ((((cfgM m (ok m)).win 7).blk t).view.emb (ix2 (y 0) (y 1)) : S1024x1028.Idx) = ix2 (place m t (y 0)) (y 1) := whole_at m t (y 0) (y 1)
  refine Eq.trans (congrArg _ hy) ((sums7 m c t (y 0) (y 1)).trans ?_)
  exact (congrArg (G7 m c) ((congrArg (fun z => (((((cfgM m (ok m)).win 7).blk t).view.emb z) : S1024x1028.Idx)) hy).trans e)).symm

/-- and the blocks make the whole. -/
theorem whole7 (c : Dev nD) : (dats m (ok m) 0 c).arrAt 7 (cfgM m (ok m)).N = G7 m c := by
  refine (dats m (ok m) 0 c).arrAt_eq_of_emb 7 (G7 m c) (fun t _ y => ?_) fun i => ?_
  · rw [after0_7]
    exact block7 m c t y
  · obtain ⟨t, y, h⟩ := covered m i
    exact ⟨t, flush0_7 (adm m (ok m)) t, h ▸ View.emb_mem_set _ y⟩

/-- Window 8: what a point leaves is its block of the result, -/
theorem sums8 (c : Dev nD) (t : Fin (cfgM m (ok m)).N) (r : Fin 256) (d : Fin 1028) :
    (outsAt0 m (ok m) c t).2.2.2 (ix2 r d) = G8 m c (ix2 (place m t r) d) := by
  unfold outsAt0
  dsimp only
  refine (congrFun (left8 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (second_at t _ _ _ _ _).trans ?_
  rw [grad_at m c t r d, blk4]
  rfl

theorem block8 (c : Dev nD) (t : Fin (cfgM m (ok m)).N) (y : S256x1028.Idx) :
    (outsAt0 m (ok m) c t).2.2.2 y = G8 m c ((((cfgM m (ok m)).win 8).blk t).view.emb y : S1024x1028.Idx) := by
  have hy : y = ix2 (y 0) (y 1) := eq_ix2 y
  have e : ((((cfgM m (ok m)).win 8).blk t).view.emb (ix2 (y 0) (y 1)) : S1024x1028.Idx) = ix2 (place m t (y 0)) (y 1) := whole_at m t (y 0) (y 1)
  refine Eq.trans (congrArg _ hy) ((sums8 m c t (y 0) (y 1)).trans ?_)
  exact (congrArg (G8 m c) ((congrArg (fun z => (((((cfgM m (ok m)).win 8).blk t).view.emb z) : S1024x1028.Idx)) hy).trans e)).symm

/-- and the blocks make the whole. -/
theorem whole8 (c : Dev nD) : (dats m (ok m) 0 c).arrAt 8 (cfgM m (ok m)).N = G8 m c := by
  refine (dats m (ok m) 0 c).arrAt_eq_of_emb 8 (G8 m c) (fun t _ y => ?_) fun i => ?_
  · rw [after0_8]
    exact block8 m c t y
  · obtain ⟨t, y, h⟩ := covered m i
    exact ⟨t, flush0_8 (adm m (ok m)) t, h ▸ View.emb_mem_set _ y⟩

theorem run (ρ : Dev nD → PrngReg) : θ_run defs (onTc (τ := τ) (main (F := Ideal))) ⟨m, fun _ => 0, ρ⟩ fun r => ∀ c : Dev nD,
      r.2.mem ((c : Thread nD τ).loc main_v0_0) = G5 m c ∧ r.2.mem ((c : Thread nD τ).loc main_v0_1) = G6 m c
      ∧ r.2.mem ((c : Thread nD τ).loc main_v0_2) = G7 m c ∧ r.2.mem ((c : Thread nD τ).loc main_v0_3) = G8 m c :=
  (θ_run defs _ _).mono (fun _ h c => ⟨((h c).1 5).trans (whole5 m c), ((h c).1 6).trans (whole6 m c), ((h c).1 7).trans (whole7 m c), ((h c).1 8).trans (whole8 m c)⟩)
    (run_main m ρ (ok m))

end Cert.KernelHalfAttnIdeal.Whole

namespace Cert.Proof

open Idealize.ShloMosaic Idealize.SL.Sem Cert.Step

theorem frame_reference_half_attn : @Cert.quiescent_ReferenceHalfAttnIdeal Cert.ReferenceHalfAttnIdeal.Gen.facts := fun m g _ =>
  (θ_run Cert.ReferenceHalfAttnIdeal.defs _ _).mono (fun r h => ⟨fun c => (h c).2.2.2.2, sem_eq_zero_of_no_sems (by decide) r.2⟩) (Cert.ReferenceHalfAttnIdeal.Value.run m g)

section
variable (m : (ℓ : Loc Cert.KernelHalfAttnIdeal.nD Cert.KernelHalfAttnIdeal.τ Cert.KernelHalfAttnIdeal.sig) → Buf (Elt Ideal) ℓ) (c : Dev Cert.KernelHalfAttnIdeal.nD)
open Cert.KernelHalfAttnIdeal.Whole Cert.ReferenceHalfAttnIdeal.Read

theorem half_attn_grad (i : Cert.ReferenceHalfAttnIdeal.S1024x1028.Idx) : val_main_v7 (F := Ideal) (core m c) (mine m c) (other m c) i = grad m c (i 0) (i 1) := by
  have h0 : (i 0).val < 1024 := (i 0).isLt
  have h1 : (i 1).val < 1028 := (i 1).isLt
  have e0 : ((i 0).val * 1028 + (i 1).val) / 526336 = (i 0).val / 512 := by omega
  have e1 : ((i 0).val * 1028 + (i 1).val) / 1028 % 512 = (i 0).val % 512 := by omega
  have e2 : ((i 0).val * 1028 + (i 1).val) % 1028 = (i 1).val := by omega
  rw [val_main_v7_apply, val_main_v6_apply, val_main_call0_v0_apply, val_main_call0_v1_apply, val_main_call0_v2_apply, val_main_v3_apply, val_main_v4_apply, val_main_v5_apply,
    val_main_v2_apply, val_main_v0_apply, val_main_v1_apply]
  unfold grad
  refine pick_eq ?_ ?_ ?_ ?_
  · exact congrArg (BitVec.ofNat 32) e0
  · refine congrArg (core m c) (funext fun a => Fin.ext ?_)
    match a with
    | ⟨0, _⟩ => rfl
  · refine congrArg (mine m c) (funext fun a => Fin.ext ?_)
    match a with
    | ⟨0, _⟩ => exact e1
    | ⟨1, _⟩ => exact e2
  · refine congrArg (other m c) (funext fun a => Fin.ext ?_)
    match a with
    | ⟨0, _⟩ => exact e1
    | ⟨1, _⟩ => exact e2

theorem half_attn_first (i : Cert.ReferenceHalfAttnIdeal.S1024x1028.Idx) : val_main_v12 (F := Ideal) (core m c) (mine m c) (other m c) (mom m c) i = G7 m c i := by
  simp only [val_main_v12_apply, val_main_v11_apply, val_main_v10_apply, val_main_v9_apply, val_main_v8_apply, val_main_cst_apply, val_main_cst_0_apply, half_attn_grad]
  rfl

theorem half_attn_second (i : Cert.ReferenceHalfAttnIdeal.S1024x1028.Idx) : val_main_v18 (F := Ideal) (core m c) (mine m c) (other m c) (sq m c) i = G8 m c i := by
  simp only [val_main_v18_apply, val_main_v17_apply, val_main_v16_apply, val_main_v15_apply, val_main_v14_apply, val_main_v13_apply, val_main_cst_1_apply, val_main_cst_2_apply, half_attn_grad]
  rfl

theorem half_attn_delta (i : Cert.ReferenceHalfAttnIdeal.S1024x1028.Idx) : val_main_v31 (F := Ideal) (core m c) (weight m c) (mine m c) (other m c) (mom m c) (sq m c) i = G6 m c i := by
  simp only [val_main_v31_apply, val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_cst_3_apply, val_main_cst_4_apply, val_main_cst_5_apply,
    val_main_cst_6_apply, val_main_cst_7_apply, half_attn_first, half_attn_second]
  rfl
end

theorem values_half_attn : @Cert.algebraic_KernelHalfAttnIdeal_ReferenceHalfAttnIdeal Cert.KernelHalfAttnIdeal.Gen.facts Cert.ReferenceHalfAttnIdeal.Gen.facts := by
  intro m g m' g' _ he
  refine ⟨fun c => Cert.KernelHalfAttnIdeal.Whole.G5 m c, fun c => Cert.KernelHalfAttnIdeal.Whole.G6 m c, fun c => Cert.KernelHalfAttnIdeal.Whole.G7 m c, fun c => Cert.KernelHalfAttnIdeal.Whole.G8 m c, ?_, ?_⟩
  · refine (θ_run Cert.KernelHalfAttnIdeal.defs _ _).mono (fun r h c => ?_) (θ_run_and (Cert.KernelHalfAttnIdeal.Whole.run m g) (Cert.KernelHalfAttnIdeal.Gen.unchanged m g (Cert.KernelHalfAttnIdeal.Whole.ok m)))
    obtain ⟨h0, h1, h2, h3⟩ := h.1 c
    exact ⟨h0, h1, h2, h3, h.2 c⟩
  refine (θ_run Cert.ReferenceHalfAttnIdeal.defs _ _).mono (fun r h c => ?_) (Cert.ReferenceHalfAttnIdeal.Value.run m' g')
  obtain ⟨e0, e1, e2, e3, e4, e5⟩ := he c
  obtain ⟨h0, h1, h2, h3, ha⟩ := h c
  refine ⟨(h0.trans (Cert.ReferenceHalfAttnIdeal.Read.val_main_v7_eq ..)).trans ?_, (h1.trans (Cert.ReferenceHalfAttnIdeal.Read.val_main_v31_eq ..)).trans ?_,
    (h2.trans (Cert.ReferenceHalfAttnIdeal.Read.val_main_v12_eq ..)).trans ?_, (h3.trans (Cert.ReferenceHalfAttnIdeal.Read.val_main_v18_eq ..)).trans ?_, ha⟩
  · rw [e0, e2, e3]; exact funext fun i => half_attn_grad m c i
  · rw [e0, e1, e2, e3, e4, e5]; exact funext fun i => half_attn_delta m c i
  · rw [e0, e2, e3, e4]; exact funext fun i => half_attn_first m c i
  · rw [e0, e2, e3, e5]; exact funext fun i => half_attn_second m c i

end Cert.Proof

end
-- ==== Proof.W.HalfOut.lean ====
/- The optimiser's step on the weight after the convolution or the attention: a device holds its own half of the rows of the reduced
   gradient and the other core's, and a word says which half its own is. The launch's four results are, entry by entry, the reference's
   gradient, update, first moment and second moment. -/
module

public import proofs.«01_k».proof.Defs
public import proofs.«01_k».proof.Proof.Gen.KernelHalfOutIdeal
public import proofs.«01_k».proof.Proof.Gen.KernelHalfOutIdeal.Frame
public import proofs.«01_k».proof.Proof.Gen.ReferenceHalfOutIdeal
public import proofs.«01_k».proof.Proof.Gen.ReferenceHalfOutIdeal.Run
public import proofs.«01_k».proof.Proof.Gen.ReferenceHalfOutIdeal.Read
public import proofs.«01_k».proof.Proof.W.Step
public import Idealize.ShloMosaic.Lib.Quiescent
public import Idealize.ShloMosaic.Lib.Pipeline.ValueKit

@[expose] public section

set_option maxRecDepth 16384

noncomputable section

namespace Cert.KernelHalfOutIdeal.Whole

open Cert.KernelHalfOutIdeal Cert.KernelHalfOutIdeal.Gen Idealize.ShloMosaic Idealize.ShloMosaic.TcCoe Idealize.SL.Sem Cert.Step

variable (m : (ℓ : Loc nD τ sig) → Buf (Elt Ideal) ℓ)

/-- The half of the rows that a point is in, as the body computes it. -/
def half (i : grid0.Coords) : BitVec 32 :=
  let n : BitVec 32 := BitVec.ofNat 32 (i 0).val
  let q : BitVec 32 := Scalar.divsi n 1#32
  Scalar.select (Scalar.andi (Scalar.cmpi .ne (Scalar.subi (Scalar.extui (Scalar.cmpi .sgt n 0#32)) (Scalar.extui (Scalar.cmpi .slt n 0#32)) : BitVec 32)
      (Scalar.subi (Scalar.extui (Scalar.cmpi .sgt 1#32 0#32)) (Scalar.extui (Scalar.cmpi .slt 1#32 0#32)) : BitVec 32))
    (Scalar.cmpi .ne (Scalar.remsi n 1#32) 0#32)) (Scalar.subi q 1#32) q

theorem half_eq : ∀ t : Fin grid0.N, half (grid0.coords t) = BitVec.ofNat 32 (t.val / 1) := by decide +kernel

/-- The four payloads at an index. -/
theorem pick_at (t : Fin grid0.N) (w : BitVec 32) (x y : Vec Ideal S128x1024 .f32) (i : S128x1024.Idx) :
    k0_pay2 (grid0.coords t) w x y i = pick (BitVec.ofNat 32 (t.val / 1)) w (x i) (y i) := by
  rw [← half_eq t]
  show (Scalar.select (Scalar.cmpi .eq (half (grid0.coords t)) w) x y : Vec Ideal S128x1024 .f32) i = _
  exact select_at _ _ _ i

theorem first_at (t : Fin grid0.N) (w : BitVec 32) (x y v : Vec Ideal S128x1024 .f32) (i : S128x1024.Idx) :
    k0_pay3 (grid0.coords t) w x y v i = first (pick (BitVec.ofNat 32 (t.val / 1)) w (x i) (y i)) (v i) := by
  rw [← pick_at]; rfl

theorem second_at (t : Fin grid0.N) (w : BitVec 32) (x y v : Vec Ideal S128x1024 .f32) (i : S128x1024.Idx) :
    k0_pay4 (grid0.coords t) w x y v i = second (pick (BitVec.ofNat 32 (t.val / 1)) w (x i) (y i)) (v i) := by
  rw [← pick_at]; rfl

theorem delta_at (a b v : Vec Ideal S128x1024 .f32) (i : S128x1024.Idx) : k0_pay1 a b v i = delta (a i) (b i) (v i) := rfl

theorem origin : (![0, 0] : Fin 2 → Nat) = fun _ => 0 := by funext a; fin_cases a <;> rfl

/-- The word, -/
abbrev word (c : Dev nD) (w : TbBuf0 (F := Ideal) c tbM0_0) : BitVec 32 := w (ix1 (0 : Fin 1))

theorem word_read (c : Dev nD) (w : TbBuf0 (F := Ideal) c tbM0_0) (j : (Rect.unit (s := S1) ![0] S1.size inb_S1_S1_0).shape.Idx) :
    View.ld ((View.whole main_arg0).read (Elt Ideal) w) (Rect.unit (s := S1) ![0] S1.size inb_S1_S1_0) j = word c w := by
  refine congrArg w (funext fun a => Fin.ext ?_)
  match a with
  | ⟨0, _⟩ =>
    have hj : (j 0).val < 1 := (j 0).isLt
    show 0 + 1 * (j 0).val = 0
    omega

/-- and what a point leaves in each result's buffer. -/
theorem left5 (c : Dev nD) (i : grid0.Coords) (arg2 : Memref sig .tc .vmem S128x1024 .f32) (h2 : arg2.IsWhole) (arg3 : Memref sig .tc .vmem S128x1024 .f32) (h3 : arg3.IsWhole) (arg4 : Memref sig .tc .vmem S128x1024 .f32) (h4 : arg4.IsWhole) (arg5 : Memref sig .tc .vmem S128x1024 .f32) (h5 : arg5.IsWhole) (arg6 : Memref sig .tc .vmem S128x1024 .f32) (h6 : arg6.IsWhole) (arg7 : Memref sig .tc .vmem S128x1024 .f32) (h7 : arg7.IsWhole) (arg8 : Memref sig .tc .vmem S128x1024 .f32) (h8 : arg8.IsWhole) (arg9 : Memref sig .tc .vmem S128x1024 .f32) (h9 : arg9.IsWhole) (arg10 : Memref sig .tc .vmem S128x1024 .f32) (h10 : arg10.IsWhole)
    (x0 x1 x2 x3 x4 : Vec Ideal S128x1024 .f32) (w : TbBuf0 (F := Ideal) c tbM0_0) :
    out0_A_5 c i arg2 h2 arg3 h3 arg4 h4 arg5 h5 arg6 h6 arg7 h7 arg8 h8 arg9 h9 arg10 h10 x0 x1 x2 x3 x4 w = k0_pay2 i (word c w) x1 x2 := by
  rw [out0_A_5, View.read_writes_eq_canon _ _ _ (cover0_A_5 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S128x1024) origin, shapeCast_self]
  exact congrArg (fun z => k0_pay2 i z x1 x2) (word_read c w _)

theorem left6 (c : Dev nD) (i : grid0.Coords) (arg2 : Memref sig .tc .vmem S128x1024 .f32) (h2 : arg2.IsWhole) (arg3 : Memref sig .tc .vmem S128x1024 .f32) (h3 : arg3.IsWhole) (arg4 : Memref sig .tc .vmem S128x1024 .f32) (h4 : arg4.IsWhole) (arg5 : Memref sig .tc .vmem S128x1024 .f32) (h5 : arg5.IsWhole) (arg6 : Memref sig .tc .vmem S128x1024 .f32) (h6 : arg6.IsWhole) (arg7 : Memref sig .tc .vmem S128x1024 .f32) (h7 : arg7.IsWhole) (arg8 : Memref sig .tc .vmem S128x1024 .f32) (h8 : arg8.IsWhole) (arg9 : Memref sig .tc .vmem S128x1024 .f32) (h9 : arg9.IsWhole) (arg10 : Memref sig .tc .vmem S128x1024 .f32) (h10 : arg10.IsWhole)
    (x0 x1 x2 x3 x4 : Vec Ideal S128x1024 .f32) (w : TbBuf0 (F := Ideal) c tbM0_0) :
    out0_A_6 c i arg2 h2 arg3 h3 arg4 h4 arg5 h5 arg6 h6 arg7 h7 arg8 h8 arg9 h9 arg10 h10 x0 x1 x2 x3 x4 w = k0_pay1 (k0_pay3 i (word c w) x1 x2 x3) (k0_pay4 i (word c w) x1 x2 x4) x0 := by
  rw [out0_A_6, View.read_writes_eq_canon _ _ _ (cover0_A_6 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S128x1024) origin, shapeCast_self]
  exact congrArg (fun z => k0_pay1 (k0_pay3 i z x1 x2 x3) (k0_pay4 i z x1 x2 x4) x0) (word_read c w _)

theorem left7 (c : Dev nD) (i : grid0.Coords) (arg2 : Memref sig .tc .vmem S128x1024 .f32) (h2 : arg2.IsWhole) (arg3 : Memref sig .tc .vmem S128x1024 .f32) (h3 : arg3.IsWhole) (arg4 : Memref sig .tc .vmem S128x1024 .f32) (h4 : arg4.IsWhole) (arg5 : Memref sig .tc .vmem S128x1024 .f32) (h5 : arg5.IsWhole) (arg6 : Memref sig .tc .vmem S128x1024 .f32) (h6 : arg6.IsWhole) (arg7 : Memref sig .tc .vmem S128x1024 .f32) (h7 : arg7.IsWhole) (arg8 : Memref sig .tc .vmem S128x1024 .f32) (h8 : arg8.IsWhole) (arg9 : Memref sig .tc .vmem S128x1024 .f32) (h9 : arg9.IsWhole) (arg10 : Memref sig .tc .vmem S128x1024 .f32) (h10 : arg10.IsWhole)
    (x0 x1 x2 x3 x4 : Vec Ideal S128x1024 .f32) (w : TbBuf0 (F := Ideal) c tbM0_0) :
    out0_A_7 c i arg2 h2 arg3 h3 arg4 h4 arg5 h5 arg6 h6 arg7 h7 arg8 h8 arg9 h9 arg10 h10 x0 x1 x2 x3 x4 w = k0_pay3 i (word c w) x1 x2 x3 := by
  rw [out0_A_7, View.read_writes_eq_canon _ _ _ (cover0_A_7 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S128x1024) origin, shapeCast_self]
  exact congrArg (fun z => k0_pay3 i z x1 x2 x3) (word_read c w _)

theorem left8 (c : Dev nD) (i : grid0.Coords) (arg2 : Memref sig .tc .vmem S128x1024 .f32) (h2 : arg2.IsWhole) (arg3 : Memref sig .tc .vmem S128x1024 .f32) (h3 : arg3.IsWhole) (arg4 : Memref sig .tc .vmem S128x1024 .f32) (h4 : arg4.IsWhole) (arg5 : Memref sig .tc .vmem S128x1024 .f32) (h5 : arg5.IsWhole) (arg6 : Memref sig .tc .vmem S128x1024 .f32) (h6 : arg6.IsWhole) (arg7 : Memref sig .tc .vmem S128x1024 .f32) (h7 : arg7.IsWhole) (arg8 : Memref sig .tc .vmem S128x1024 .f32) (h8 : arg8.IsWhole) (arg9 : Memref sig .tc .vmem S128x1024 .f32) (h9 : arg9.IsWhole) (arg10 : Memref sig .tc .vmem S128x1024 .f32) (h10 : arg10.IsWhole)
    (x0 x1 x2 x3 x4 : Vec Ideal S128x1024 .f32) (w : TbBuf0 (F := Ideal) c tbM0_0) :
    out0_A_8 c i arg2 h2 arg3 h3 arg4 h4 arg5 h5 arg6 h6 arg7 h7 arg8 h8 arg9 h9 arg10 h10 x0 x1 x2 x3 x4 w = k0_pay4 i (word c w) x1 x2 x4 := by
  rw [out0_A_8, View.read_writes_eq_canon _ _ _ (cover0_A_8 c i arg2 h2 arg3 h3 arg4 h4 arg5 h5 arg6 h6 arg7 h7 arg8 h8 arg9 h9 arg10 h10 x0 x1 x2 x3 x4 w)]
  unfold kernelRun0_A
  dsimp only
  try sl_unfold_words
  rw [View.canon_unit_zero origin]
  simp only [View.readAt_eq_ld, h2.read_unread, h3.read_unread, h4.read_unread, h5.read_unread, h6.read_unread, View.ld_unit_zero (S := S128x1024) origin, shapeCast_self]
  exact congrArg (fun z => k0_pay4 i z x1 x2 x4) (word_read c w _)

/-- The five arrays and the word, -/
abbrev weight (c : Dev nD) : Vec Ideal S256x1024 .f32 := m ((c : Thread nD τ).loc main_arg1)
abbrev mine (c : Dev nD) : Vec Ideal S128x1024 .f32 := m ((c : Thread nD τ).loc main_arg2)
abbrev other (c : Dev nD) : Vec Ideal S128x1024 .f32 := m ((c : Thread nD τ).loc main_arg3)
abbrev mom (c : Dev nD) : Vec Ideal S256x1024 .f32 := m ((c : Thread nD τ).loc main_arg4)
abbrev sq (c : Dev nD) : Vec Ideal S256x1024 .f32 := m ((c : Thread nD τ).loc main_arg5)
abbrev core (c : Dev nD) : Vec Ideal S1 .i32 := m ((c : Thread nD τ).loc main_arg0)

theorem ok : Ok m := trivial

/-- The row of the array that is row r of a point's block, -/
abbrev place (t : Fin (cfgM m (ok m)).N) (r : Fin 128) : Fin 256 := ⟨128 * t.val + r.val, by have := r.isLt; have := t.isLt; have : (cfgM m (ok m)).N = 2 := N_0; omega⟩
/-- and of the half. -/
abbrev within (t : Fin (cfgM m (ok m)).N) (r : Fin 128) : Fin 128 := ⟨128 * (t.val % 1) + r.val, by have := r.isLt; omega⟩

theorem maps : ∀ t : Fin grid0.N, (cc0_transform_0 (grid0.coords t) (0 : Fin 2) = t.val ∧ cc0_transform_0 (grid0.coords t) (1 : Fin 2) = 0)
    ∧ (cc0_transform_1 (grid0.coords t) (0 : Fin 2) = t.val % 1 ∧ cc0_transform_1 (grid0.coords t) (1 : Fin 2) = 0)
    ∧ (cc0_transform_2 (grid0.coords t) (0 : Fin 2) = t.val % 1 ∧ cc0_transform_2 (grid0.coords t) (1 : Fin 2) = 0) := by decide +kernel

theorem whole_at (t : Fin (cfgM m (ok m)).N) (r : Fin 128) (d : Fin 1024) : ((((cfgM m (ok m)).win 0).blk t).view.emb (ix2 r d) : S256x1024.Idx) = ix2 (place m t r) d := by
  obtain ⟨⟨e0, e1⟩, -⟩ := maps t
  funext a; fin_cases a
  · exact Fin.ext (by show cc0_transform_0 (grid0.coords t) (0 : Fin 2) * 128 + 1 * r.val = 128 * t.val + r.val; rw [e0]; omega)
  · exact Fin.ext (by show cc0_transform_0 (grid0.coords t) (1 : Fin 2) * 1024 + 1 * d.val = d.val; rw [e1]; omega)

theorem covered (i : S256x1024.Idx) : ∃ (t : Fin (cfgM m (ok m)).N) (y : S128x1024.Idx), ((((cfgM m (ok m)).win 0).blk t).view.emb y : S256x1024.Idx) = i := by
  have h0 : (i 0).val < 256 := (i 0).isLt
  have hn : (i 0).val / 128 < (cfgM m (ok m)).N := by rw [show (cfgM m (ok m)).N = 2 from N_0]; omega
  refine ⟨⟨(i 0).val / 128, hn⟩, ix2 ⟨(i 0).val % 128, Nat.mod_lt _ (by omega)⟩ (i 1), (whole_at m _ _ _).trans ?_⟩
  funext a; fin_cases a
  · exact Fin.ext (by show 128 * ((i 0).val / 128) + (i 0).val % 128 = (i 0).val; omega)
  · rfl

theorem half_at (t : Fin (cfgM m (ok m)).N) (r : Fin 128) (d : Fin 1024) : ((((cfgM m (ok m)).win 1).blk t).view.emb (ix2 r d) : S128x1024.Idx) = ix2 (within m t r) d := by
  obtain ⟨-, ⟨e0, e1⟩, -⟩ := maps t
  funext a; fin_cases a
  · exact Fin.ext (by show cc0_transform_1 (grid0.coords t) (0 : Fin 2) * 128 + 1 * r.val = 128 * (t.val % 1) + r.val; rw [e0]; omega)
  · exact Fin.ext (by show cc0_transform_1 (grid0.coords t) (1 : Fin 2) * 1024 + 1 * d.val = d.val; rw [e1]; omega)

theorem blk0 (c : Dev nD) (t : Fin (cfgM m (ok m)).N) (r : Fin 128) (d : Fin 1024) : iblk m (ok m) c 0 t (ix2 r d) = weight m c (ix2 (place m t r) d) :=
  congrArg (V m c main_arg1) (whole_at m t r d)
theorem blk1 (c : Dev nD) (t : Fin (cfgM m (ok m)).N) (r : Fin 128) (d : Fin 1024) : iblk m (ok m) c 1 t (ix2 r d) = mine m c (ix2 (within m t r) d) :=
  congrArg (V m c main_arg2) (half_at m t r d)
theorem blk2 (c : Dev nD) (t : Fin (cfgM m (ok m)).N) (r : Fin 128) (d : Fin 1024) : iblk m (ok m) c 2 t (ix2 r d) = other m c (ix2 (within m t r) d) :=
  congrArg (V m c main_arg3) (half_at m t r d)
theorem blk3 (c : Dev nD) (t : Fin (cfgM m (ok m)).N) (r : Fin 128) (d : Fin 1024) : iblk m (ok m) c 3 t (ix2 r d) = mom m c (ix2 (place m t r) d) :=
  congrArg (V m c main_arg4) (whole_at m t r d)
theorem blk4 (c : Dev nD) (t : Fin (cfgM m (ok m)).N) (r : Fin 128) (d : Fin 1024) : iblk m (ok m) c 4 t (ix2 r d) = sq m c (ix2 (place m t r) d) :=
  congrArg (V m c main_arg5) (whole_at m t r d)

/-- The table's word is the argument's. -/
theorem word_eq (c : Dev nD) : word c (tbl m 0) = core m c (ix1 (0 : Fin 1)) := by
  obtain rfl : c = 0 := Subsingleton.elim _ _; rfl

/-- The gradient's entry in a row: of the device's own half, or of the other. -/
def grad (c : Dev nD) (r : Fin 256) (d : Fin 1024) : Ideal .f32 :=
  pick (BitVec.ofNat 32 (r.val / 128)) (core m c (ix1 (0 : Fin 1))) (mine m c (ix2 (⟨r.val % 128, Nat.mod_lt _ (by decide)⟩ : Fin 128) d)) (other m c (ix2 (⟨r.val % 128, Nat.mod_lt _ (by decide)⟩ : Fin 128) d))

theorem grad_at (c : Dev nD) (t : Fin (cfgM m (ok m)).N) (r : Fin 128) (d : Fin 1024) :
    pick (BitVec.ofNat 32 (t.val / 1)) (word c (tbl m 0)) (iblk m (ok m) c 1 t (ix2 r d)) (iblk m (ok m) c 2 t (ix2 r d)) = grad m c (place m t r) d := by
  have hr := r.isLt
  have e : (place m t r).val / 128 = t.val / 1 := by show (128 * t.val + r.val) / 128 = t.val / 1; omega
  have e' : (⟨(place m t r).val % 128, Nat.mod_lt _ (by decide)⟩ : Fin 128) = within m t r := Fin.ext (by show (128 * t.val + r.val) % 128 = 128 * (t.val % 1) + r.val; omega)
  unfold grad
  rw [blk1, blk2, word_eq, e, e']

/-- The four results. -/
def G5 (c : Dev nD) : Vec Ideal S256x1024 .f32 := fun i => grad m c (i 0) (i 1)
def G6 (c : Dev nD) : Vec Ideal S256x1024 .f32 := fun i => delta (first (grad m c (i 0) (i 1)) (mom m c i)) (second (grad m c (i 0) (i 1)) (sq m c i)) (weight m c i)
def G7 (c : Dev nD) : Vec Ideal S256x1024 .f32 := fun i => first (grad m c (i 0) (i 1)) (mom m c i)
def G8 (c : Dev nD) : Vec Ideal S256x1024 .f32 := fun i => second (grad m c (i 0) (i 1)) (sq m c i)

/-- Window 5: what a point leaves is its block of the result, -/
theorem sums5 (c : Dev nD) (t : Fin (cfgM m (ok m)).N) (r : Fin 128) (d : Fin 1024) :
    (outsAt0 m (ok m) c t).1 (ix2 r d) = G5 m c (ix2 (place m t r) d) := by
  unfold outsAt0
  dsimp only
  refine (congrFun (left5 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (pick_at t _ _ _ _).trans ?_
  exact grad_at m c t r d

theorem block5 (c : Dev nD) (t : Fin (cfgM m (ok m)).N) (y : S128x1024.Idx) :
    (outsAt0 m (ok m) c t).1 y = G5 m c ((((cfgM m (ok m)).win 5).blk t).view.emb y : S256x1024.Idx) := by
  have hy : y = ix2 (y 0) (y 1) := eq_ix2 y
  have e : ((((cfgM m (ok m)).win 5).blk t).view.emb (ix2 (y 0) (y 1)) : S256x1024.Idx) = ix2 (place m t (y 0)) (y 1) := whole_at m t (y 0) (y 1)
  refine Eq.trans (congrArg _ hy) ((sums5 m c t (y 0) (y 1)).trans ?_)
  exact (congrArg (G5 m c) ((congrArg (fun z => (((((cfgM m (ok m)).win 5).blk t).view.emb z) : S256x1024.Idx)) hy).trans e)).symm

/-- and the blocks make the whole. -/
theorem whole5 (c : Dev nD) : (dats m (ok m) 0 c).arrAt 5 (cfgM m (ok m)).N = G5 m c := by
  refine (dats m (ok m) 0 c).arrAt_eq_of_emb 5 (G5 m c) (fun t _ y => ?_) fun i => ?_
  · rw [after0_5]
    exact block5 m c t y
  · obtain ⟨t, y, h⟩ := covered m i
    exact ⟨t, flush0_5 (adm m (ok m)) t, h ▸ View.emb_mem_set _ y⟩

/-- Window 6: what a point leaves is its block of the result, -/
theorem sums6 (c : Dev nD) (t : Fin (cfgM m (ok m)).N) (r : Fin 128) (d : Fin 1024) :
    (outsAt0 m (ok m) c t).2.1 (ix2 r d) = G6 m c (ix2 (place m t r) d) := by
  unfold outsAt0
  dsimp only
  refine (congrFun (left6 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (delta_at _ _ _ _).trans ?_
  exact delta_eq ((first_at t _ _ _ _ _).trans (congrArg₂ first (grad_at m c t r d) (blk3 m c t r d)))
    ((second_at t _ _ _ _ _).trans (congrArg₂ second (grad_at m c t r d) (blk4 m c t r d))) (blk0 m c t r d)

theorem block6 (c : Dev nD) (t : Fin (cfgM m (ok m)).N) (y : S128x1024.Idx) :
    (outsAt0 m (ok m) c t).2.1 y = G6 m c ((((cfgM m (ok m)).win 6).blk t).view.emb y : S256x1024.Idx) := by
  have hy : y = ix2 (y 0) (y 1) := eq_ix2 y
  have e : ((((cfgM m (ok m)).win 6).blk t).view.emb (ix2 (y 0) (y 1)) : S256x1024.Idx) = ix2 (place m t (y 0)) (y 1) := whole_at m t (y 0) (y 1)
  refine Eq.trans (congrArg _ hy) ((sums6 m c t (y 0) (y 1)).trans ?_)
  exact (congrArg (G6 m c) ((congrArg (fun z => (((((cfgM m (ok m)).win 6).blk t).view.emb z) : S256x1024.Idx)) hy).trans e)).symm

/-- and the blocks make the whole. -/
theorem whole6 (c : Dev nD) : (dats m (ok m) 0 c).arrAt 6 (cfgM m (ok m)).N = G6 m c := by
  refine (dats m (ok m) 0 c).arrAt_eq_of_emb 6 (G6 m c) (fun t _ y => ?_) fun i => ?_
  · rw [after0_6]
    exact block6 m c t y
  · obtain ⟨t, y, h⟩ := covered m i
    exact ⟨t, flush0_6 (adm m (ok m)) t, h ▸ View.emb_mem_set _ y⟩

/-- Window 7: what a point leaves is its block of the result, -/
theorem sums7 (c : Dev nD) (t : Fin (cfgM m (ok m)).N) (r : Fin 128) (d : Fin 1024) :
    (outsAt0 m (ok m) c t).2.2.1 (ix2 r d) = G7 m c (ix2 (place m t r) d) := by
  unfold outsAt0
  dsimp only
  refine (congrFun (left7 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (first_at t _ _ _ _ _).trans ?_
  rw [grad_at m c t r d, blk3]
  rfl

theorem block7 (c : Dev nD) (t : Fin (cfgM m (ok m)).N) (y : S128x1024.Idx) :
    (outsAt0 m (ok m) c t).2.2.1 y = G7 m c ((((cfgM m (ok m)).win 7).blk t).view.emb y : S256x1024.Idx) := by
  have hy : y = ix2 (y 0) (y 1) := eq_ix2 y
  have e : ((((cfgM m (ok m)).win 7).blk t).view.emb (ix2 (y 0) (y 1)) : S256x1024.Idx) = ix2 (place m t (y 0)) (y 1) := whole_at m t (y 0) (y 1)
  refine Eq.trans (congrArg _ hy) ((sums7 m c t (y 0) (y 1)).trans ?_)
  exact (congrArg (G7 m c) ((congrArg (fun z => (((((cfgM m (ok m)).win 7).blk t).view.emb z) : S256x1024.Idx)) hy).trans e)).symm

/-- and the blocks make the whole. -/
theorem whole7 (c : Dev nD) : (dats m (ok m) 0 c).arrAt 7 (cfgM m (ok m)).N = G7 m c := by
  refine (dats m (ok m) 0 c).arrAt_eq_of_emb 7 (G7 m c) (fun t _ y => ?_) fun i => ?_
  · rw [after0_7]
    exact block7 m c t y
  · obtain ⟨t, y, h⟩ := covered m i
    exact ⟨t, flush0_7 (adm m (ok m)) t, h ▸ View.emb_mem_set _ y⟩

/-- Window 8: what a point leaves is its block of the result, -/
theorem sums8 (c : Dev nD) (t : Fin (cfgM m (ok m)).N) (r : Fin 128) (d : Fin 1024) :
    (outsAt0 m (ok m) c t).2.2.2 (ix2 r d) = G8 m c (ix2 (place m t r) d) := by
  unfold outsAt0
  dsimp only
  refine (congrFun (left8 c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)) (ix2 r d)).trans ?_
  refine (second_at t _ _ _ _ _).trans ?_
  rw [grad_at m c t r d, blk4]
  rfl

theorem block8 (c : Dev nD) (t : Fin (cfgM m (ok m)).N) (y : S128x1024.Idx) :
    (outsAt0 m (ok m) c t).2.2.2 y = G8 m c ((((cfgM m (ok m)).win 8).blk t).view.emb y : S256x1024.Idx) := by
  have hy : y = ix2 (y 0) (y 1) := eq_ix2 y
  have e : ((((cfgM m (ok m)).win 8).blk t).view.emb (ix2 (y 0) (y 1)) : S256x1024.Idx) = ix2 (place m t (y 0)) (y 1) := whole_at m t (y 0) (y 1)
  refine Eq.trans (congrArg _ hy) ((sums8 m c t (y 0) (y 1)).trans ?_)
  exact (congrArg (G8 m c) ((congrArg (fun z => (((((cfgM m (ok m)).win 8).blk t).view.emb z) : S256x1024.Idx)) hy).trans e)).symm

/-- and the blocks make the whole. -/
theorem whole8 (c : Dev nD) : (dats m (ok m) 0 c).arrAt 8 (cfgM m (ok m)).N = G8 m c := by
  refine (dats m (ok m) 0 c).arrAt_eq_of_emb 8 (G8 m c) (fun t _ y => ?_) fun i => ?_
  · rw [after0_8]
    exact block8 m c t y
  · obtain ⟨t, y, h⟩ := covered m i
    exact ⟨t, flush0_8 (adm m (ok m)) t, h ▸ View.emb_mem_set _ y⟩

theorem run (ρ : Dev nD → PrngReg) : θ_run defs (onTc (τ := τ) (main (F := Ideal))) ⟨m, fun _ => 0, ρ⟩ fun r => ∀ c : Dev nD,
      r.2.mem ((c : Thread nD τ).loc main_v0_0) = G5 m c ∧ r.2.mem ((c : Thread nD τ).loc main_v0_1) = G6 m c
      ∧ r.2.mem ((c : Thread nD τ).loc main_v0_2) = G7 m c ∧ r.2.mem ((c : Thread nD τ).loc main_v0_3) = G8 m c :=
  (θ_run defs _ _).mono (fun _ h c => ⟨((h c).1 5).trans (whole5 m c), ((h c).1 6).trans (whole6 m c), ((h c).1 7).trans (whole7 m c), ((h c).1 8).trans (whole8 m c)⟩)
    (run_main m ρ (ok m))

end Cert.KernelHalfOutIdeal.Whole

namespace Cert.Proof

open Idealize.ShloMosaic Idealize.SL.Sem Cert.Step

theorem frame_reference_half_out : @Cert.quiescent_ReferenceHalfOutIdeal Cert.ReferenceHalfOutIdeal.Gen.facts := fun m g _ =>
  (θ_run Cert.ReferenceHalfOutIdeal.defs _ _).mono (fun r h => ⟨fun c => (h c).2.2.2.2, sem_eq_zero_of_no_sems (by decide) r.2⟩) (Cert.ReferenceHalfOutIdeal.Value.run m g)

section
variable (m : (ℓ : Loc Cert.KernelHalfOutIdeal.nD Cert.KernelHalfOutIdeal.τ Cert.KernelHalfOutIdeal.sig) → Buf (Elt Ideal) ℓ) (c : Dev Cert.KernelHalfOutIdeal.nD)
open Cert.KernelHalfOutIdeal.Whole Cert.ReferenceHalfOutIdeal.Read

theorem half_out_grad (i : Cert.ReferenceHalfOutIdeal.S256x1024.Idx) : val_main_v7 (F := Ideal) (core m c) (mine m c) (other m c) i = grad m c (i 0) (i 1) := by
  have h0 : (i 0).val < 256 := (i 0).isLt
  have h1 : (i 1).val < 1024 := (i 1).isLt
  have e0 : ((i 0).val * 1024 + (i 1).val) / 131072 = (i 0).val / 128 := by omega
  have e1 : ((i 0).val * 1024 + (i 1).val) / 1024 % 128 = (i 0).val % 128 := by omega
  have e2 : ((i 0).val * 1024 + (i 1).val) % 1024 = (i 1).val := by omega
  rw [val_main_v7_apply, val_main_v6_apply, val_main_call0_v0_apply, val_main_call0_v1_apply, val_main_call0_v2_apply, val_main_v3_apply, val_main_v4_apply, val_main_v5_apply,
    val_main_v2_apply, val_main_v0_apply, val_main_v1_apply]
  unfold grad
  refine pick_eq ?_ ?_ ?_ ?_
  · exact congrArg (BitVec.ofNat 32) e0
  · refine congrArg (core m c) (funext fun a => Fin.ext ?_)
    match a with
    | ⟨0, _⟩ => rfl
  · refine congrArg (mine m c) (funext fun a => Fin.ext ?_)
    match a with
    | ⟨0, _⟩ => exact e1
    | ⟨1, _⟩ => exact e2
  · refine congrArg (other m c) (funext fun a => Fin.ext ?_)
    match a with
    | ⟨0, _⟩ => exact e1
    | ⟨1, _⟩ => exact e2

theorem half_out_first (i : Cert.ReferenceHalfOutIdeal.S256x1024.Idx) : val_main_v12 (F := Ideal) (core m c) (mine m c) (other m c) (mom m c) i = G7 m c i := by
  simp only [val_main_v12_apply, val_main_v11_apply, val_main_v10_apply, val_main_v9_apply, val_main_v8_apply, val_main_cst_apply, val_main_cst_0_apply, half_out_grad]
  rfl

theorem half_out_second (i : Cert.ReferenceHalfOutIdeal.S256x1024.Idx) : val_main_v18 (F := Ideal) (core m c) (mine m c) (other m c) (sq m c) i = G8 m c i := by
  simp only [val_main_v18_apply, val_main_v17_apply, val_main_v16_apply, val_main_v15_apply, val_main_v14_apply, val_main_v13_apply, val_main_cst_1_apply, val_main_cst_2_apply, half_out_grad]
  rfl

theorem half_out_delta (i : Cert.ReferenceHalfOutIdeal.S256x1024.Idx) : val_main_v31 (F := Ideal) (core m c) (weight m c) (mine m c) (other m c) (mom m c) (sq m c) i = G6 m c i := by
  simp only [val_main_v31_apply, val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_cst_3_apply, val_main_cst_4_apply, val_main_cst_5_apply,
    val_main_cst_6_apply, val_main_cst_7_apply, half_out_first, half_out_second]
  rfl
end

theorem values_half_out : @Cert.algebraic_KernelHalfOutIdeal_ReferenceHalfOutIdeal Cert.KernelHalfOutIdeal.Gen.facts Cert.ReferenceHalfOutIdeal.Gen.facts := by
  intro m g m' g' _ he
  refine ⟨fun c => Cert.KernelHalfOutIdeal.Whole.G5 m c, fun c => Cert.KernelHalfOutIdeal.Whole.G6 m c, fun c => Cert.KernelHalfOutIdeal.Whole.G7 m c, fun c => Cert.KernelHalfOutIdeal.Whole.G8 m c, ?_, ?_⟩
  · refine (θ_run Cert.KernelHalfOutIdeal.defs _ _).mono (fun r h c => ?_) (θ_run_and (Cert.KernelHalfOutIdeal.Whole.run m g) (Cert.KernelHalfOutIdeal.Gen.unchanged m g (Cert.KernelHalfOutIdeal.Whole.ok m)))
    obtain ⟨h0, h1, h2, h3⟩ := h.1 c
    exact ⟨h0, h1, h2, h3, h.2 c⟩
  refine (θ_run Cert.ReferenceHalfOutIdeal.defs _ _).mono (fun r h c => ?_) (Cert.ReferenceHalfOutIdeal.Value.run m' g')
  obtain ⟨e0, e1, e2, e3, e4, e5⟩ := he c
  obtain ⟨h0, h1, h2, h3, ha⟩ := h c
  refine ⟨(h0.trans (Cert.ReferenceHalfOutIdeal.Read.val_main_v7_eq ..)).trans ?_, (h1.trans (Cert.ReferenceHalfOutIdeal.Read.val_main_v31_eq ..)).trans ?_,
    (h2.trans (Cert.ReferenceHalfOutIdeal.Read.val_main_v12_eq ..)).trans ?_, (h3.trans (Cert.ReferenceHalfOutIdeal.Read.val_main_v18_eq ..)).trans ?_, ha⟩
  · rw [e0, e2, e3]; exact funext fun i => half_out_grad m c i
  · rw [e0, e1, e2, e3, e4, e5]; exact funext fun i => half_out_delta m c i
  · rw [e0, e2, e3, e4]; exact funext fun i => half_out_first m c i
  · rw [e0, e2, e3, e5]; exact funext fun i => half_out_second m c i

end Cert.Proof

end
-- ==== Proof.W.Adam.lean ====
/- The optimiser's step on one array, at each of the five shapes the step meets on a device: the launch's three results are, entry by
   entry, the reference's update, first moment and second moment. The two write the same operations in the same order; over the
   extended reals the host's division and square root are the kernel's. -/
module

public import proofs.«01_k».proof.Defs
public import proofs.«01_k».proof.Proof.Gen.KernelAdamNormIdeal
public import proofs.«01_k».proof.Proof.Gen.KernelAdamNormIdeal.Value
public import proofs.«01_k».proof.Proof.Gen.ReferenceAdamNormIdeal
public import proofs.«01_k».proof.Proof.Gen.ReferenceAdamNormIdeal.Run
public import proofs.«01_k».proof.Proof.Gen.ReferenceAdamNormIdeal.Read
public import proofs.«01_k».proof.Proof.Gen.KernelAdamConvIdeal
public import proofs.«01_k».proof.Proof.Gen.KernelAdamConvIdeal.Value
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Gen.KernelAdamAttnNormIdeal
public import proofs.«01_k».proof.Proof.Gen.KernelAdamAttnNormIdeal.Value
public import proofs.«01_k».proof.Proof.Gen.ReferenceAdamAttnNormIdeal
public import proofs.«01_k».proof.Proof.Gen.ReferenceAdamAttnNormIdeal.Run
public import proofs.«01_k».proof.Proof.Gen.ReferenceAdamAttnNormIdeal.Read
public import proofs.«01_k».proof.Proof.Gen.KernelAdamForgetIdeal
public import proofs.«01_k».proof.Proof.Gen.KernelAdamForgetIdeal.Value
public import proofs.«01_k».proof.Proof.Gen.ReferenceAdamForgetIdeal
public import proofs.«01_k».proof.Proof.Gen.ReferenceAdamForgetIdeal.Run
public import proofs.«01_k».proof.Proof.Gen.ReferenceAdamForgetIdeal.Read
public import proofs.«01_k».proof.Proof.Gen.KernelAdamHeadIdeal
public import proofs.«01_k».proof.Proof.Gen.KernelAdamHeadIdeal.Value
public import proofs.«01_k».proof.Proof.Gen.ReferenceAdamHeadIdeal
public import proofs.«01_k».proof.Proof.Gen.ReferenceAdamHeadIdeal.Run
public import proofs.«01_k».proof.Proof.Gen.ReferenceAdamHeadIdeal.Read
public import Idealize.ShloMosaic.Lib.Quiescent

@[expose] public section

set_option maxRecDepth 16384

noncomputable section

namespace Cert.Proof

open Idealize.ShloMosaic Idealize.SL.Sem

theorem frame_reference_norm : @Cert.quiescent_ReferenceAdamNormIdeal Cert.ReferenceAdamNormIdeal.Gen.facts := fun m g _ =>
  (θ_run Cert.ReferenceAdamNormIdeal.defs _ _).mono (fun r h => ⟨fun c => (h c).2.2.2, sem_eq_zero_of_no_sems (by decide) r.2⟩) (Cert.ReferenceAdamNormIdeal.Value.run m g)

theorem delta_norm (w g m v : (⟨Cert.ReferenceAdamNormIdeal.S1x1024, .f32⟩ : BufTy).Contents (Elt Ideal)) :
    Cert.ReferenceAdamNormIdeal.Read.val_main_v23 (F := Ideal) w g m v = Cert.KernelAdamNormIdeal.Value.G4 (F := Ideal) g m v w := by
  funext i
  open Cert.ReferenceAdamNormIdeal.Read in
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    val_main_cst_3_apply, val_main_cst_4_apply, val_main_cst_5_apply, val_main_cst_6_apply, val_main_cst_7_apply]
  rfl

theorem first_norm (g m : (⟨Cert.ReferenceAdamNormIdeal.S1x1024, .f32⟩ : BufTy).Contents (Elt Ideal)) :
    Cert.ReferenceAdamNormIdeal.Read.val_main_v4 (F := Ideal) g m = Cert.KernelAdamNormIdeal.Value.G5 (F := Ideal) g m := by
  funext i
  open Cert.ReferenceAdamNormIdeal.Read in
  simp only [val_main_v4_apply, val_main_v3_apply, val_main_v2_apply, val_main_v1_apply, val_main_v0_apply, val_main_cst_apply, val_main_cst_0_apply]

theorem second_norm (g v : (⟨Cert.ReferenceAdamNormIdeal.S1x1024, .f32⟩ : BufTy).Contents (Elt Ideal)) :
    Cert.ReferenceAdamNormIdeal.Read.val_main_v10 (F := Ideal) g v = Cert.KernelAdamNormIdeal.Value.G6 (F := Ideal) g v := by
  funext i
  open Cert.ReferenceAdamNormIdeal.Read in
  simp only [val_main_v10_apply, val_main_v9_apply, val_main_v8_apply, val_main_v7_apply, val_main_v6_apply, val_main_v5_apply, val_main_cst_1_apply,
    val_main_cst_2_apply]

theorem values_norm : @Cert.algebraic_KernelAdamNormIdeal_ReferenceAdamNormIdeal Cert.KernelAdamNormIdeal.Gen.facts Cert.ReferenceAdamNormIdeal.Gen.facts := by
  intro m g m' g' _ he
  refine ⟨_, _, _, Cert.KernelAdamNormIdeal.Value.run m g, ?_⟩
  refine (θ_run Cert.ReferenceAdamNormIdeal.defs _ _).mono (fun r h c => ?_) (Cert.ReferenceAdamNormIdeal.Value.run m' g')
  obtain ⟨e0, e1, e2, e3⟩ := he c
  obtain ⟨h0, h1, h2, ha⟩ := h c
  refine ⟨(h0.trans (Cert.ReferenceAdamNormIdeal.Read.val_main_v23_eq ..)).trans ?_, (h1.trans (Cert.ReferenceAdamNormIdeal.Read.val_main_v4_eq ..)).trans ?_,
    (h2.trans (Cert.ReferenceAdamNormIdeal.Read.val_main_v10_eq ..)).trans ?_, ha⟩
  · rw [e0, e1, e2, e3]; exact delta_norm _ _ _ _
  · rw [e1, e2]; exact first_norm _ _
  · rw [e1, e3]; exact second_norm _ _

theorem frame_reference_conv : @Cert.quiescent_ReferenceAdamConvIdeal Cert.ReferenceAdamConvIdeal.Gen.facts := fun m g _ =>
  (θ_run Cert.ReferenceAdamConvIdeal.defs _ _).mono (fun r h => ⟨fun c => (h c).2.2.2, sem_eq_zero_of_no_sems (by decide) r.2⟩) (Cert.ReferenceAdamConvIdeal.Value.run m g)

theorem delta_conv (w g m v : (⟨Cert.ReferenceAdamConvIdeal.S3x256, .f32⟩ : BufTy).Contents (Elt Ideal)) :
    Cert.ReferenceAdamConvIdeal.Read.val_main_v23 (F := Ideal) w g m v = Cert.KernelAdamConvIdeal.Value.G4 (F := Ideal) g m v w := by
  funext i
  open Cert.ReferenceAdamConvIdeal.Read in
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    val_main_cst_3_apply, val_main_cst_4_apply, val_main_cst_5_apply, val_main_cst_6_apply, val_main_cst_7_apply]
  rfl

theorem first_conv (g m : (⟨Cert.ReferenceAdamConvIdeal.S3x256, .f32⟩ : BufTy).Contents (Elt Ideal)) :
    Cert.ReferenceAdamConvIdeal.Read.val_main_v4 (F := Ideal) g m = Cert.KernelAdamConvIdeal.Value.G5 (F := Ideal) g m := by
  funext i
  open Cert.ReferenceAdamConvIdeal.Read in
  simp only [val_main_v4_apply, val_main_v3_apply, val_main_v2_apply, val_main_v1_apply, val_main_v0_apply, val_main_cst_apply, val_main_cst_0_apply]

theorem second_conv (g v : (⟨Cert.ReferenceAdamConvIdeal.S3x256, .f32⟩ : BufTy).Contents (Elt Ideal)) :
    Cert.ReferenceAdamConvIdeal.Read.val_main_v10 (F := Ideal) g v = Cert.KernelAdamConvIdeal.Value.G6 (F := Ideal) g v := by
  funext i
  open Cert.ReferenceAdamConvIdeal.Read in
  simp only [val_main_v10_apply, val_main_v9_apply, val_main_v8_apply, val_main_v7_apply, val_main_v6_apply, val_main_v5_apply, val_main_cst_1_apply,
    val_main_cst_2_apply]

theorem values_conv : @Cert.algebraic_KernelAdamConvIdeal_ReferenceAdamConvIdeal Cert.KernelAdamConvIdeal.Gen.facts Cert.ReferenceAdamConvIdeal.Gen.facts := by
  intro m g m' g' _ he
  refine ⟨_, _, _, Cert.KernelAdamConvIdeal.Value.run m g, ?_⟩
  refine (θ_run Cert.ReferenceAdamConvIdeal.defs _ _).mono (fun r h c => ?_) (Cert.ReferenceAdamConvIdeal.Value.run m' g')
  obtain ⟨e0, e1, e2, e3⟩ := he c
  obtain ⟨h0, h1, h2, ha⟩ := h c
  refine ⟨(h0.trans (Cert.ReferenceAdamConvIdeal.Read.val_main_v23_eq ..)).trans ?_, (h1.trans (Cert.ReferenceAdamConvIdeal.Read.val_main_v4_eq ..)).trans ?_,
    (h2.trans (Cert.ReferenceAdamConvIdeal.Read.val_main_v10_eq ..)).trans ?_, ha⟩
  · rw [e0, e1, e2, e3]; exact delta_conv _ _ _ _
  · rw [e1, e2]; exact first_conv _ _
  · rw [e1, e3]; exact second_conv _ _

theorem frame_reference_attn_norm : @Cert.quiescent_ReferenceAdamAttnNormIdeal Cert.ReferenceAdamAttnNormIdeal.Gen.facts := fun m g _ =>
  (θ_run Cert.ReferenceAdamAttnNormIdeal.defs _ _).mono (fun r h => ⟨fun c => (h c).2.2.2, sem_eq_zero_of_no_sems (by decide) r.2⟩) (Cert.ReferenceAdamAttnNormIdeal.Value.run m g)

theorem delta_attn_norm (w g m v : (⟨Cert.ReferenceAdamAttnNormIdeal.S1x256, .f32⟩ : BufTy).Contents (Elt Ideal)) :
    Cert.ReferenceAdamAttnNormIdeal.Read.val_main_v23 (F := Ideal) w g m v = Cert.KernelAdamAttnNormIdeal.Value.G4 (F := Ideal) g m v w := by
  funext i
  open Cert.ReferenceAdamAttnNormIdeal.Read in
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    val_main_cst_3_apply, val_main_cst_4_apply, val_main_cst_5_apply, val_main_cst_6_apply, val_main_cst_7_apply]
  rfl

theorem first_attn_norm (g m : (⟨Cert.ReferenceAdamAttnNormIdeal.S1x256, .f32⟩ : BufTy).Contents (Elt Ideal)) :
    Cert.ReferenceAdamAttnNormIdeal.Read.val_main_v4 (F := Ideal) g m = Cert.KernelAdamAttnNormIdeal.Value.G5 (F := Ideal) g m := by
  funext i
  open Cert.ReferenceAdamAttnNormIdeal.Read in
  simp only [val_main_v4_apply, val_main_v3_apply, val_main_v2_apply, val_main_v1_apply, val_main_v0_apply, val_main_cst_apply, val_main_cst_0_apply]

theorem second_attn_norm (g v : (⟨Cert.ReferenceAdamAttnNormIdeal.S1x256, .f32⟩ : BufTy).Contents (Elt Ideal)) :
    Cert.ReferenceAdamAttnNormIdeal.Read.val_main_v10 (F := Ideal) g v = Cert.KernelAdamAttnNormIdeal.Value.G6 (F := Ideal) g v := by
  funext i
  open Cert.ReferenceAdamAttnNormIdeal.Read in
  simp only [val_main_v10_apply, val_main_v9_apply, val_main_v8_apply, val_main_v7_apply, val_main_v6_apply, val_main_v5_apply, val_main_cst_1_apply,
    val_main_cst_2_apply]

theorem values_attn_norm : @Cert.algebraic_KernelAdamAttnNormIdeal_ReferenceAdamAttnNormIdeal Cert.KernelAdamAttnNormIdeal.Gen.facts Cert.ReferenceAdamAttnNormIdeal.Gen.facts := by
  intro m g m' g' _ he
  refine ⟨_, _, _, Cert.KernelAdamAttnNormIdeal.Value.run m g, ?_⟩
  refine (θ_run Cert.ReferenceAdamAttnNormIdeal.defs _ _).mono (fun r h c => ?_) (Cert.ReferenceAdamAttnNormIdeal.Value.run m' g')
  obtain ⟨e0, e1, e2, e3⟩ := he c
  obtain ⟨h0, h1, h2, ha⟩ := h c
  refine ⟨(h0.trans (Cert.ReferenceAdamAttnNormIdeal.Read.val_main_v23_eq ..)).trans ?_, (h1.trans (Cert.ReferenceAdamAttnNormIdeal.Read.val_main_v4_eq ..)).trans ?_,
    (h2.trans (Cert.ReferenceAdamAttnNormIdeal.Read.val_main_v10_eq ..)).trans ?_, ha⟩
  · rw [e0, e1, e2, e3]; exact delta_attn_norm _ _ _ _
  · rw [e1, e2]; exact first_attn_norm _ _
  · rw [e1, e3]; exact second_attn_norm _ _

theorem frame_reference_forget_bias : @Cert.quiescent_ReferenceAdamForgetIdeal Cert.ReferenceAdamForgetIdeal.Gen.facts := fun m g _ =>
  (θ_run Cert.ReferenceAdamForgetIdeal.defs _ _).mono (fun r h => ⟨fun c => (h c).2.2.2, sem_eq_zero_of_no_sems (by decide) r.2⟩) (Cert.ReferenceAdamForgetIdeal.Value.run m g)

theorem delta_forget_bias (w g m v : (⟨Cert.ReferenceAdamForgetIdeal.S1x16, .f32⟩ : BufTy).Contents (Elt Ideal)) :
    Cert.ReferenceAdamForgetIdeal.Read.val_main_v23 (F := Ideal) w g m v = Cert.KernelAdamForgetIdeal.Value.G4 (F := Ideal) g m v w := by
  funext i
  open Cert.ReferenceAdamForgetIdeal.Read in
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    val_main_cst_3_apply, val_main_cst_4_apply, val_main_cst_5_apply, val_main_cst_6_apply, val_main_cst_7_apply]
  rfl

theorem first_forget_bias (g m : (⟨Cert.ReferenceAdamForgetIdeal.S1x16, .f32⟩ : BufTy).Contents (Elt Ideal)) :
    Cert.ReferenceAdamForgetIdeal.Read.val_main_v4 (F := Ideal) g m = Cert.KernelAdamForgetIdeal.Value.G5 (F := Ideal) g m := by
  funext i
  open Cert.ReferenceAdamForgetIdeal.Read in
  simp only [val_main_v4_apply, val_main_v3_apply, val_main_v2_apply, val_main_v1_apply, val_main_v0_apply, val_main_cst_apply, val_main_cst_0_apply]

theorem second_forget_bias (g v : (⟨Cert.ReferenceAdamForgetIdeal.S1x16, .f32⟩ : BufTy).Contents (Elt Ideal)) :
    Cert.ReferenceAdamForgetIdeal.Read.val_main_v10 (F := Ideal) g v = Cert.KernelAdamForgetIdeal.Value.G6 (F := Ideal) g v := by
  funext i
  open Cert.ReferenceAdamForgetIdeal.Read in
  simp only [val_main_v10_apply, val_main_v9_apply, val_main_v8_apply, val_main_v7_apply, val_main_v6_apply, val_main_v5_apply, val_main_cst_1_apply,
    val_main_cst_2_apply]

theorem values_forget_bias : @Cert.algebraic_KernelAdamForgetIdeal_ReferenceAdamForgetIdeal Cert.KernelAdamForgetIdeal.Gen.facts Cert.ReferenceAdamForgetIdeal.Gen.facts := by
  intro m g m' g' _ he
  refine ⟨_, _, _, Cert.KernelAdamForgetIdeal.Value.run m g, ?_⟩
  refine (θ_run Cert.ReferenceAdamForgetIdeal.defs _ _).mono (fun r h c => ?_) (Cert.ReferenceAdamForgetIdeal.Value.run m' g')
  obtain ⟨e0, e1, e2, e3⟩ := he c
  obtain ⟨h0, h1, h2, ha⟩ := h c
  refine ⟨(h0.trans (Cert.ReferenceAdamForgetIdeal.Read.val_main_v23_eq ..)).trans ?_, (h1.trans (Cert.ReferenceAdamForgetIdeal.Read.val_main_v4_eq ..)).trans ?_,
    (h2.trans (Cert.ReferenceAdamForgetIdeal.Read.val_main_v10_eq ..)).trans ?_, ha⟩
  · rw [e0, e1, e2, e3]; exact delta_forget_bias _ _ _ _
  · rw [e1, e2]; exact first_forget_bias _ _
  · rw [e1, e3]; exact second_forget_bias _ _

theorem frame_reference_head : @Cert.quiescent_ReferenceAdamHeadIdeal Cert.ReferenceAdamHeadIdeal.Gen.facts := fun m g _ =>
  (θ_run Cert.ReferenceAdamHeadIdeal.defs _ _).mono (fun r h => ⟨fun c => (h c).2.2.2, sem_eq_zero_of_no_sems (by decide) r.2⟩) (Cert.ReferenceAdamHeadIdeal.Value.run m g)

theorem delta_head (w g m v : (⟨Cert.ReferenceAdamHeadIdeal.S1x64, .f32⟩ : BufTy).Contents (Elt Ideal)) :
    Cert.ReferenceAdamHeadIdeal.Read.val_main_v23 (F := Ideal) w g m v = Cert.KernelAdamHeadIdeal.Value.G4 (F := Ideal) g m v w := by
  funext i
  open Cert.ReferenceAdamHeadIdeal.Read in
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    val_main_cst_3_apply, val_main_cst_4_apply, val_main_cst_5_apply, val_main_cst_6_apply, val_main_cst_7_apply]
  rfl

theorem first_head (g m : (⟨Cert.ReferenceAdamHeadIdeal.S1x64, .f32⟩ : BufTy).Contents (Elt Ideal)) :
    Cert.ReferenceAdamHeadIdeal.Read.val_main_v4 (F := Ideal) g m = Cert.KernelAdamHeadIdeal.Value.G5 (F := Ideal) g m := by
  funext i
  open Cert.ReferenceAdamHeadIdeal.Read in
  simp only [val_main_v4_apply, val_main_v3_apply, val_main_v2_apply, val_main_v1_apply, val_main_v0_apply, val_main_cst_apply, val_main_cst_0_apply]

theorem second_head (g v : (⟨Cert.ReferenceAdamHeadIdeal.S1x64, .f32⟩ : BufTy).Contents (Elt Ideal)) :
    Cert.ReferenceAdamHeadIdeal.Read.val_main_v10 (F := Ideal) g v = Cert.KernelAdamHeadIdeal.Value.G6 (F := Ideal) g v := by
  funext i
  open Cert.ReferenceAdamHeadIdeal.Read in
  simp only [val_main_v10_apply, val_main_v9_apply, val_main_v8_apply, val_main_v7_apply, val_main_v6_apply, val_main_v5_apply, val_main_cst_1_apply,
    val_main_cst_2_apply]

theorem values_head : @Cert.algebraic_KernelAdamHeadIdeal_ReferenceAdamHeadIdeal Cert.KernelAdamHeadIdeal.Gen.facts Cert.ReferenceAdamHeadIdeal.Gen.facts := by
  intro m g m' g' _ he
  refine ⟨_, _, _, Cert.KernelAdamHeadIdeal.Value.run m g, ?_⟩
  refine (θ_run Cert.ReferenceAdamHeadIdeal.defs _ _).mono (fun r h c => ?_) (Cert.ReferenceAdamHeadIdeal.Value.run m' g')
  obtain ⟨e0, e1, e2, e3⟩ := he c
  obtain ⟨h0, h1, h2, ha⟩ := h c
  refine ⟨(h0.trans (Cert.ReferenceAdamHeadIdeal.Read.val_main_v23_eq ..)).trans ?_, (h1.trans (Cert.ReferenceAdamHeadIdeal.Read.val_main_v4_eq ..)).trans ?_,
    (h2.trans (Cert.ReferenceAdamHeadIdeal.Read.val_main_v10_eq ..)).trans ?_, ha⟩
  · rw [e0, e1, e2, e3]; exact delta_head _ _ _ _
  · rw [e1, e2]; exact first_head _ _
  · rw [e1, e3]; exact second_head _ _

end Cert.Proof

end
-- ==== Proof.lean ====
/- The proof of the claims about the attention's backward pass: the kernel's frame at both instances from its body's run, the
   reference's from its straight-line program, the named constant from its rule, and the equation of the four gradients from
   the lines after the launch (Val/Tail.lean), read with the launch's arrays (Val/Final.lean), its operands (Val/Tile.lean) and the
   reference's results at an index (Val/Ref.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_table
public import proofs.«01_k».proof.Proof.Gen.Pre_within
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelAttn
public import proofs.«01_k».proof.Proof.Gen.KernelAttn.Frame
public import proofs.«01_k».proof.Proof.Gen.KernelAttnIdeal
public import proofs.«01_k».proof.Proof.Gen.KernelAttnIdeal.Frame
public import proofs.«01_k».proof.Proof.Gen.KernelAttnIdeal.Value
public import proofs.«01_k».proof.Proof.Gen.ReferenceAttnIdeal
public import proofs.«01_k».proof.Proof.Gen.ReferenceAttnIdeal.Run
public import proofs.«01_k».proof.Proof.Gen.ReferenceAttnIdeal.Read
public import proofs.«01_k».proof.Proof.Gen.KernelForget
public import proofs.«01_k».proof.Proof.Gen.KernelForget.Frame
public import proofs.«01_k».proof.Proof.Gen.KernelForgetIdeal
public import proofs.«01_k».proof.Proof.Gen.KernelForgetIdeal.Frame
public import proofs.«01_k».proof.Proof.Gen.KernelForgetIdeal.Value
public import proofs.«01_k».proof.Proof.Gen.ReferenceForgetIdeal
public import proofs.«01_k».proof.Proof.Gen.ReferenceForgetIdeal.Run
public import proofs.«01_k».proof.Proof.Gen.ReferenceForgetIdeal.Read
public import proofs.«01_k».proof.Proof.Gen.KernelAdamNorm
public import proofs.«01_k».proof.Proof.Gen.KernelAdamNorm.Frame
public import proofs.«01_k».proof.Proof.Gen.KernelAdamNormIdeal
public import proofs.«01_k».proof.Proof.Gen.KernelAdamNormIdeal.Frame
public import proofs.«01_k».proof.Proof.Gen.KernelAdamNormIdeal.Value
public import proofs.«01_k».proof.Proof.Gen.ReferenceAdamNormIdeal
public import proofs.«01_k».proof.Proof.Gen.ReferenceAdamNormIdeal.Run
public import proofs.«01_k».proof.Proof.Gen.ReferenceAdamNormIdeal.Read
public import proofs.«01_k».proof.Proof.Gen.KernelAdamConv
public import proofs.«01_k».proof.Proof.Gen.KernelAdamConv.Frame
public import proofs.«01_k».proof.Proof.Gen.KernelAdamConvIdeal
public import proofs.«01_k».proof.Proof.Gen.KernelAdamConvIdeal.Frame
public import proofs.«01_k».proof.Proof.Gen.KernelAdamConvIdeal.Value
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Gen.KernelAdamAttnNorm
public import proofs.«01_k».proof.Proof.Gen.KernelAdamAttnNorm.Frame
public import proofs.«01_k».proof.Proof.Gen.KernelAdamAttnNormIdeal
public import proofs.«01_k».proof.Proof.Gen.KernelAdamAttnNormIdeal.Frame
public import proofs.«01_k».proof.Proof.Gen.KernelAdamAttnNormIdeal.Value
public import proofs.«01_k».proof.Proof.Gen.ReferenceAdamAttnNormIdeal
public import proofs.«01_k».proof.Proof.Gen.ReferenceAdamAttnNormIdeal.Run
public import proofs.«01_k».proof.Proof.Gen.ReferenceAdamAttnNormIdeal.Read
public import proofs.«01_k».proof.Proof.Gen.KernelAdamForget
public import proofs.«01_k».proof.Proof.Gen.KernelAdamForget.Frame
public import proofs.«01_k».proof.Proof.Gen.KernelAdamForgetIdeal
public import proofs.«01_k».proof.Proof.Gen.KernelAdamForgetIdeal.Frame
public import proofs.«01_k».proof.Proof.Gen.KernelAdamForgetIdeal.Value
public import proofs.«01_k».proof.Proof.Gen.ReferenceAdamForgetIdeal
public import proofs.«01_k».proof.Proof.Gen.ReferenceAdamForgetIdeal.Run
public import proofs.«01_k».proof.Proof.Gen.ReferenceAdamForgetIdeal.Read
public import proofs.«01_k».proof.Proof.Gen.KernelAdamHead
public import proofs.«01_k».proof.Proof.Gen.KernelAdamHead.Frame
public import proofs.«01_k».proof.Proof.Gen.KernelAdamHeadIdeal
public import proofs.«01_k».proof.Proof.Gen.KernelAdamHeadIdeal.Frame
public import proofs.«01_k».proof.Proof.Gen.KernelAdamHeadIdeal.Value
public import proofs.«01_k».proof.Proof.Gen.ReferenceAdamHeadIdeal
public import proofs.«01_k».proof.Proof.Gen.ReferenceAdamHeadIdeal.Run
public import proofs.«01_k».proof.Proof.Gen.ReferenceAdamHeadIdeal.Read
public import proofs.«01_k».proof.Proof.Gen.KernelHalfIn
public import proofs.«01_k».proof.Proof.Gen.KernelHalfIn.Frame
public import proofs.«01_k».proof.Proof.Gen.KernelHalfInIdeal
public import proofs.«01_k».proof.Proof.Gen.KernelHalfInIdeal.Frame
public import proofs.«01_k».proof.Proof.Gen.ReferenceHalfInIdeal
public import proofs.«01_k».proof.Proof.Gen.ReferenceHalfInIdeal.Run
public import proofs.«01_k».proof.Proof.Gen.ReferenceHalfInIdeal.Read
public import proofs.«01_k».proof.Proof.Gen.KernelHalfAttn
public import proofs.«01_k».proof.Proof.Gen.KernelHalfAttn.Frame
public import proofs.«01_k».proof.Proof.Gen.KernelHalfAttnIdeal
public import proofs.«01_k».proof.Proof.Gen.KernelHalfAttnIdeal.Frame
public import proofs.«01_k».proof.Proof.Gen.ReferenceHalfAttnIdeal
public import proofs.«01_k».proof.Proof.Gen.ReferenceHalfAttnIdeal.Run
public import proofs.«01_k».proof.Proof.Gen.ReferenceHalfAttnIdeal.Read
public import proofs.«01_k».proof.Proof.Gen.KernelHalfOut
public import proofs.«01_k».proof.Proof.Gen.KernelHalfOut.Frame
public import proofs.«01_k».proof.Proof.Gen.KernelHalfOutIdeal
public import proofs.«01_k».proof.Proof.Gen.KernelHalfOutIdeal.Frame
public import proofs.«01_k».proof.Proof.Gen.ReferenceHalfOutIdeal
public import proofs.«01_k».proof.Proof.Gen.ReferenceHalfOutIdeal.Run
public import proofs.«01_k».proof.Proof.Gen.ReferenceHalfOutIdeal.Read
public import proofs.«01_k».proof.Proof.Gen.ReferenceIdeal.Run
public import proofs.«01_k».proof.Proof.Gen.ReferenceIdeal.Read
public import proofs.«01_k».proof.Proof.Frame.Frame
public import proofs.«01_k».proof.Proof.Frame.Table
public import proofs.«01_k».proof.Proof.Kit.Table
public import proofs.«01_k».proof.Proof.Kit.Within
public import proofs.«01_k».proof.Proof.Val.Tail
public import proofs.«01_k».proof.Proof.W.In
public import proofs.«01_k».proof.Proof.W.Out
public import proofs.«01_k».proof.Proof.W.Attn
public import proofs.«01_k».proof.Proof.W.Forget
public import proofs.«01_k».proof.Proof.W.HalfIn
public import proofs.«01_k».proof.Proof.W.HalfAttn
public import proofs.«01_k».proof.Proof.W.HalfOut
public import proofs.«01_k».proof.Proof.W.Adam
public import Idealize.ShloMosaic.Lib.Quiescent

@[expose] public section

set_option maxRecDepth 16384

noncomputable section

namespace Cert.Proof

open Idealize.ShloMosaic Idealize.SL.Sem Cert.Words

/-- Every word of the table is below 64, at the word instance, -/
theorem kernel_lt (m : (ℓ : Loc Cert.Kernel.nD Cert.Kernel.τ Cert.Kernel.sig) → Buf (Elt Bits) ℓ)
    (h : @Cert.Pre_Kernel Cert.Pre_table.Gen.facts m) (j) : (Cert.Kernel.Gen.tbl m 0 j : BitVec 32).toNat < 64 :=
  (congrArg BitVec.toNat (congrFun (Cert.Kernel.Gen.V_main_arg0 m 0) j)).trans_lt (table_lt _ _ _ _ _ _ (h 0) j)

/-- at the ideal one, -/
theorem ideal_lt (m : (ℓ : Loc Cert.KernelIdeal.nD Cert.KernelIdeal.τ Cert.KernelIdeal.sig) → Buf (Elt Ideal) ℓ)
    (h : @Cert.Pre_KernelIdeal Cert.Pre_table.Gen.facts m) (j) : (Cert.KernelIdeal.Gen.tbl m 0 j : BitVec 32).toNat < 64 :=
  (congrArg BitVec.toNat (congrFun (Cert.KernelIdeal.Gen.V_main_arg0 m 0) j)).trans_lt (table_lt _ _ _ _ _ _ (h 0) j)

/-- and from the precondition of the values. -/
theorem ideal_lt_within (m : (ℓ : Loc Cert.KernelIdeal.nD Cert.KernelIdeal.τ Cert.KernelIdeal.sig) → Buf (Elt Ideal) ℓ)
    (h : @Cert.Pre_KernelIdeal_within Cert.Pre_within.Gen.facts m) (j) : (Cert.KernelIdeal.Gen.tbl m 0 j : BitVec 32).toNat < 64 :=
  (congrArg BitVec.toNat (congrFun (Cert.KernelIdeal.Gen.V_main_arg0 m 0) j)).trans_lt (within_lt _ _ _ _ _ _ (h 0) j)

theorem frame_kernel : @Cert.quiescent_Kernel Cert.Kernel.Gen.facts Cert.Pre_table.Gen.facts := fun m g h =>
  Cert.Kernel.Gen.frame m g trivial (Cert.Kernel.Gen.hyps_of m trivial (kernel_lt m h))

theorem frame_ideal : @Cert.quiescent_KernelIdeal Cert.KernelIdeal.Gen.facts Cert.Pre_table.Gen.facts := fun m g h =>
  Cert.KernelIdeal.Gen.frame m g trivial (Cert.KernelIdeal.Gen.hyps_of m trivial (ideal_lt m h))

theorem frame_ideal_within : @Cert.quiescent_KernelIdeal_pre_within Cert.KernelIdeal.Gen.facts Cert.Pre_within.Gen.facts := fun m g h =>
  Cert.KernelIdeal.Gen.frame m g trivial (Cert.KernelIdeal.Gen.hyps_of m trivial (ideal_lt_within m h))

/-- The reference has no semaphore at all. -/
theorem frame_reference : @Cert.quiescent_ReferenceIdeal Cert.ReferenceIdeal.Gen.facts := fun m g _ =>
  (θ_run Cert.ReferenceIdeal.defs _ _).mono (fun r h => ⟨fun c => (h c).2.2.2.2, sem_eq_zero_of_no_sems (by decide) r.2⟩) (Cert.ReferenceIdeal.Value.run m g)

/-- An index by its coordinates. -/
theorem eta3 (i : Cert.ReferenceIdeal.S16x16384x64.Idx) : i = ix3 (i 0) (i 1) (i 2) := by funext a; fin_cases a <;> rfl
theorem eta2 (i : Cert.ReferenceIdeal.S16x16384.Idx) : i = ix2 (i 0) (i 1) := by funext a; fin_cases a <;> rfl

theorem values : @Cert.algebraic_KernelIdeal_ReferenceIdeal_pre_within Cert.KernelIdeal.Gen.facts Cert.ReferenceIdeal.Gen.facts Cert.Pre_within.Gen.facts := by
  intro m g m' g' hp he
  have hT := ideal_lt_within m hp
  have hH := Cert.KernelIdeal.Gen.hyps_of m trivial hT
  obtain ⟨r1, r2, r3, r4, r5⟩ := within_real _ _ _ _ _ _ (hp 0)
  have G := Cert.KernelIdeal.Host.gradients m (fun j => within_lt _ _ _ _ _ _ (hp 0) j) r1 r2 r3 r4 r5
  refine ⟨fun c => mulf (F := Ideal) (φ := .f32) (Cert.KernelIdeal.Host.feat (F := Ideal) (φ := .f32) (Cert.KernelIdeal.Gen.G4 m c)) Cert.KernelIdeal.Host.eighth,
    fun c => Cert.KernelIdeal.Host.feat (F := Ideal) (φ := .f32) (Cert.KernelIdeal.Gen.G5 m c),
    fun c => extf (F := Ideal) .f32 (Cert.KernelIdeal.Host.feat (F := Ideal) (φ := .bf16) (Cert.KernelIdeal.Gen.G6 m c)) Cert.KernelIdeal.Gen.facts.bitsLt_bf16_f32,
    fun c => Cert.KernelIdeal.Host.suffix (subf (F := Ideal) (φ := .f32) (Cert.KernelIdeal.Host.lane64 (Cert.KernelIdeal.Gen.G4 m c)) (Cert.KernelIdeal.Host.lane67 (Cert.KernelIdeal.Gen.G5 m c))), ?_, ?_⟩
  · refine (θ_run Cert.KernelIdeal.defs _ _).mono (fun r h c => ?_) (Cert.KernelIdeal.Gen.run_main_quiescent m g trivial hH)
    have E0 := Cert.KernelIdeal.Host.ended_0 m trivial hH c hT
    have E1 := Cert.KernelIdeal.Host.ended_1 m trivial hH c hT
    have E2 := Cert.KernelIdeal.Host.ended_2 m trivial hH c hT
    refine ⟨?_, ?_, ?_, ?_, Cert.KernelIdeal.Gen.post_args m trivial hH h.1 c⟩
    · refine ((h.1 c).2 Cert.KernelIdeal.main_v120 (show _ ∈ Pipeline.restRefs Cert.KernelIdeal.sig Cert.KernelIdeal.spec0 by decide)).trans ((Cert.KernelIdeal.Host.after_v120 (Cert.KernelIdeal.Host.ended m trivial hH c)).trans ?_)
      rw [E0]
    · refine ((h.1 c).2 Cert.KernelIdeal.main_v121 (show _ ∈ Pipeline.restRefs Cert.KernelIdeal.sig Cert.KernelIdeal.spec0 by decide)).trans ((Cert.KernelIdeal.Host.after_v121 (Cert.KernelIdeal.Host.ended m trivial hH c)).trans ?_)
      rw [E1]
    · refine ((h.1 c).2 Cert.KernelIdeal.main_v123 (show _ ∈ Pipeline.restRefs Cert.KernelIdeal.sig Cert.KernelIdeal.spec0 by decide)).trans ((Cert.KernelIdeal.Host.after_v123 (Cert.KernelIdeal.Host.ended m trivial hH c)).trans ?_)
      rw [E2]
    · refine ((h.1 c).2 Cert.KernelIdeal.main_v124 (show _ ∈ Pipeline.restRefs Cert.KernelIdeal.sig Cert.KernelIdeal.spec0 by decide)).trans ((Cert.KernelIdeal.Host.after_v124 (Cert.KernelIdeal.Host.ended m trivial hH c)).trans ?_)
      rw [E0, E1]
  · refine (θ_run Cert.ReferenceIdeal.defs _ _).mono (fun r h c => ?_) (Cert.ReferenceIdeal.Value.run m' g')
    obtain ⟨e0, e1, e2, e3, e4, e5⟩ := he c
    obtain ⟨h0, h1, h2, h3, ha⟩ := h c
    have hc : c = 0 := Subsingleton.elim _ _
    subst hc
    refine ⟨?_, ?_, ?_, ?_, ha⟩
    · refine (h0.trans (Cert.ReferenceIdeal.Read.val_main_v91_eq ..)).trans (funext fun i => ?_)
      rw [e0, e1, e2, e3, e4, e5, eta3 i]
      exact ((G (i 0)).1 (i 1) (i 2)).symm
    · refine (h1.trans (Cert.ReferenceIdeal.Read.val_main_v90_eq ..)).trans (funext fun i => ?_)
      rw [e0, e1, e2, e3, e4, e5, eta3 i]
      exact ((G (i 0)).2.1 (i 1) (i 2)).symm
    · refine (h2.trans (Cert.ReferenceIdeal.Read.val_main_v65_eq ..)).trans (funext fun i => ?_)
      rw [e0, e1, e2, e4, e5, eta3 i]
      exact ((Cert.KernelIdeal.Host.wide_at _ _).trans ((G (i 0)).2.2.1 (i 1) (i 2))).symm
    · refine (h3.trans (Cert.ReferenceIdeal.Read.val_main_v92_eq ..)).trans ?_
      rw [e0, e1, e2, e3, e4, e5]
      refine (Cert.KernelIdeal.Host.v92_eq _ _ _ _ _ _).trans (congrArg (Cert.KernelIdeal.Host.suffix (F := Ideal)) (funext fun i => ?_))
      rw [eta2 i]
      exact ((G (i 0)).2.2.2 (i 1)).symm

theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelAttn.Gen.facts, Cert.KernelAttnIdeal.Gen.facts, Cert.ReferenceAttnIdeal.Gen.facts,
    Cert.KernelForget.Gen.facts, Cert.KernelForgetIdeal.Gen.facts, Cert.ReferenceForgetIdeal.Gen.facts,
    Cert.KernelAdamNorm.Gen.facts, Cert.KernelAdamNormIdeal.Gen.facts, Cert.ReferenceAdamNormIdeal.Gen.facts,
    Cert.KernelAdamConv.Gen.facts, Cert.KernelAdamConvIdeal.Gen.facts, Cert.ReferenceAdamConvIdeal.Gen.facts,
    Cert.KernelAdamAttnNorm.Gen.facts, Cert.KernelAdamAttnNormIdeal.Gen.facts, Cert.ReferenceAdamAttnNormIdeal.Gen.facts,
    Cert.KernelAdamForget.Gen.facts, Cert.KernelAdamForgetIdeal.Gen.facts, Cert.ReferenceAdamForgetIdeal.Gen.facts,
    Cert.KernelAdamHead.Gen.facts, Cert.KernelAdamHeadIdeal.Gen.facts, Cert.ReferenceAdamHeadIdeal.Gen.facts,
    Cert.KernelHalfIn.Gen.facts, Cert.KernelHalfInIdeal.Gen.facts, Cert.ReferenceHalfInIdeal.Gen.facts,
    Cert.KernelHalfAttn.Gen.facts, Cert.KernelHalfAttnIdeal.Gen.facts, Cert.ReferenceHalfAttnIdeal.Gen.facts,
    Cert.KernelHalfOut.Gen.facts, Cert.KernelHalfOutIdeal.Gen.facts, Cert.ReferenceHalfOutIdeal.Gen.facts,
    Cert.Pre_table.Gen.facts, Cert.Pre_within.Gen.facts,
    frame_kernel, frame_ideal, frame_ideal_within, frame_reference, fun m g _ => frame_reference m g trivial,
    fun m g _ => Cert.KernelIn.Gen.frame m g, fun m g _ => Cert.KernelInIdeal.Gen.frame m g, frame_reference_in,
    fun m g _ => Cert.KernelOut.Gen.frame m g, fun m g _ => Cert.KernelOutIdeal.Gen.frame m g, frame_reference_out,
    fun m g _ => Cert.KernelAttn.Gen.frame m g, fun m g _ => Cert.KernelAttnIdeal.Gen.frame m g, frame_reference_attn,
    fun m g _ => Cert.KernelForget.Gen.frame m g, fun m g _ => Cert.KernelForgetIdeal.Gen.frame m g, frame_reference_forget,
    fun m g _ => Cert.KernelAdamNorm.Gen.frame m g, fun m g _ => Cert.KernelAdamNormIdeal.Gen.frame m g, frame_reference_norm,
    fun m g _ => Cert.KernelAdamConv.Gen.frame m g, fun m g _ => Cert.KernelAdamConvIdeal.Gen.frame m g, frame_reference_conv,
    fun m g _ => Cert.KernelAdamAttnNorm.Gen.frame m g, fun m g _ => Cert.KernelAdamAttnNormIdeal.Gen.frame m g, frame_reference_attn_norm,
    fun m g _ => Cert.KernelAdamForget.Gen.frame m g, fun m g _ => Cert.KernelAdamForgetIdeal.Gen.frame m g, frame_reference_forget_bias,
    fun m g _ => Cert.KernelAdamHead.Gen.frame m g, fun m g _ => Cert.KernelAdamHeadIdeal.Gen.frame m g, frame_reference_head,
    fun m g _ => Cert.KernelHalfIn.Gen.frame m g trivial, fun m g _ => Cert.KernelHalfInIdeal.Gen.frame m g trivial, frame_reference_half_in,
    fun m g _ => Cert.KernelHalfAttn.Gen.frame m g trivial, fun m g _ => Cert.KernelHalfAttnIdeal.Gen.frame m g trivial, frame_reference_half_attn,
    fun m g _ => Cert.KernelHalfOut.Gen.frame m g trivial, fun m g _ => Cert.KernelHalfOutIdeal.Gen.frame m g trivial, frame_reference_half_out,
    IdealRules.named_const.statement Cert.KernelIdeal.κ "mask" .f32 0xF149F2CA#32 ⊥ rfl, values,
    trivial, values_in, trivial, values_out, trivial, values_attn, trivial, values_forget, trivial, values_norm, trivial, values_conv, trivial, values_attn_norm, trivial, values_forget_bias, trivial, values_head,
    trivial, values_half_in, trivial, values_half_attn, trivial, values_half_out⟩

end Cert.Proof

end
